-- ==== Defs.lean ====
def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dwqkv (m : (ℓ : Loc Cert.Dwqkv.nD Cert.Dwqkv.τ Cert.Dwqkv.sig) → Buf (Elt Bits) ℓ) : Prop :=
  True

def Pre_DwqkvIdeal (m : (ℓ : Loc Cert.DwqkvIdeal.nD Cert.DwqkvIdeal.τ Cert.DwqkvIdeal.sig) → Buf (Elt Ideal) ℓ) : Prop :=
  True

def Pre_DwqkvRefIdeal (m : (ℓ : Loc Cert.DwqkvRefIdeal.nD Cert.DwqkvRefIdeal.τ Cert.DwqkvRefIdeal.sig) → Buf (Elt Ideal) ℓ) : Prop :=
  True

def Pre_Dyn (m : (ℓ : Loc Cert.Dyn.nD Cert.Dyn.τ Cert.Dyn.sig) → Buf (Elt Bits) ℓ) : Prop :=
  True

def Pre_DynIdeal (m : (ℓ : Loc Cert.DynIdeal.nD Cert.DynIdeal.τ Cert.DynIdeal.sig) → Buf (Elt Ideal) ℓ) : Prop :=
  True

def Pre_DynIdeal_scales_normal [hPre_scales_normal : Cert.Pre_scales_normal.Facts] (m : (ℓ : Loc Cert.DynIdeal.nD Cert.DynIdeal.τ Cert.DynIdeal.sig) → Buf (Elt Ideal) ℓ) : Prop :=
  ∀ c : Dev Cert.DynIdeal.nD,
    (Cert.Pre_scales_normal.fn (F := Ideal) (m ((c.tc : Thread Cert.DynIdeal.nD Cert.DynIdeal.τ).loc Cert.DynIdeal.main_arg0)) (m ((c.tc : Thread Cert.DynIdeal.nD Cert.DynIdeal.τ).loc Cert.DynIdeal.main_arg1)) (m ((c.tc : Thread Cert.DynIdeal.nD Cert.DynIdeal.τ).loc Cert.DynIdeal.main_arg2))) = (fun _ => 1#1)

def Pre_DynRefIdeal (m : (ℓ : Loc Cert.DynRefIdeal.nD Cert.DynRefIdeal.τ Cert.DynRefIdeal.sig) → Buf (Elt Ideal) ℓ) : Prop :=
  True

def Pre_DynRefIdeal_scales_normal [hPre_scales_normal : Cert.Pre_scales_normal.Facts] (m : (ℓ : Loc Cert.DynRefIdeal.nD Cert.DynRefIdeal.τ Cert.DynRefIdeal.sig) → Buf (Elt Ideal) ℓ) : Prop :=
  ∀ c : Dev Cert.DynRefIdeal.nD,
    (Cert.Pre_scales_normal.fn (F := Ideal) (m ((c.tc : Thread Cert.DynRefIdeal.nD Cert.DynRefIdeal.τ).loc Cert.DynRefIdeal.main_arg0)) (m ((c.tc : Thread Cert.DynRefIdeal.nD Cert.DynRefIdeal.τ).loc Cert.DynRefIdeal.main_arg1)) (m ((c.tc : Thread Cert.DynRefIdeal.nD Cert.DynRefIdeal.τ).loc Cert.DynRefIdeal.main_arg2))) = (fun _ => 1#1)

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1)
      ∧ r.2.mem ((c.tc : Thread Cert.Dwout.nD Cert.Dwout.τ).loc Cert.Dwout.main_arg2) = m ((c.tc : Thread Cert.Dwout.nD Cert.Dwout.τ).loc Cert.Dwout.main_arg2)
      ∧ r.2.mem ((c.tc : Thread Cert.Dwout.nD Cert.Dwout.τ).loc Cert.Dwout.main_arg3) = m ((c.tc : Thread Cert.Dwout.nD Cert.Dwout.τ).loc Cert.Dwout.main_arg3))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
      ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2)
      ∧ r.2.mem ((c.tc : Thread Cert.DwoutIdeal.nD Cert.DwoutIdeal.τ).loc Cert.DwoutIdeal.main_arg3) = m ((c.tc : Thread Cert.DwoutIdeal.nD Cert.DwoutIdeal.τ).loc Cert.DwoutIdeal.main_arg3))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1)
      ∧ r.2.mem ((c.tc : Thread Cert.DwoutRefIdeal.nD Cert.DwoutRefIdeal.τ).loc Cert.DwoutRefIdeal.main_arg2) = m ((c.tc : Thread Cert.DwoutRefIdeal.nD Cert.DwoutRefIdeal.τ).loc Cert.DwoutRefIdeal.main_arg2)
      ∧ r.2.mem ((c.tc : Thread Cert.DwoutRefIdeal.nD Cert.DwoutRefIdeal.τ).loc Cert.DwoutRefIdeal.main_arg3) = m ((c.tc : Thread Cert.DwoutRefIdeal.nD Cert.DwoutRefIdeal.τ).loc Cert.DwoutRefIdeal.main_arg3))
      ∧ r.2.sem = fun _ => 0)

def quiescent_Dwqkv [hDwqkv : Cert.Dwqkv.Facts] : Prop :=
  ∀ (m : (ℓ : Loc Cert.Dwqkv.nD Cert.Dwqkv.τ Cert.Dwqkv.sig) → Buf (Elt Bits) ℓ) (g : Dev Cert.Dwqkv.nD → PrngReg), Pre_Dwqkv m →
    θ_run (Cert.Dwqkv.defs (F := Bits)) (onTc (τ := Cert.Dwqkv.τ) (Cert.Dwqkv.main (F := Bits))) ⟨m, fun _ => 0, g⟩ (fun r => (∀ c : Dev Cert.Dwqkv.nD,
      r.2.mem ((c.tc : Thread Cert.Dwqkv.nD Cert.Dwqkv.τ).loc Cert.Dwqkv.main_arg0) = m ((c.tc : Thread Cert.Dwqkv.nD Cert.Dwqkv.τ).loc Cert.Dwqkv.main_arg0)
      ∧ r.2.mem ((c.tc : Thread Cert.Dwqkv.nD Cert.Dwqkv.τ).loc Cert.Dwqkv.main_arg1) = m ((c.tc : Thread Cert.Dwqkv.nD Cert.Dwqkv.τ).loc Cert.Dwqkv.main_arg1)
      ∧ r.2.mem ((c.tc : Thread Cert.Dwqkv.nD Cert.Dwqkv.τ).loc Cert.Dwqkv.main_arg2) = m ((c.tc : Thread Cert.Dwqkv.nD Cert.Dwqkv.τ).loc Cert.Dwqkv.main_arg2)
      ∧ r.2.mem ((c.tc : Thread Cert.Dwqkv.nD Cert.Dwqkv.τ).loc Cert.Dwqkv.main_arg3) = m ((c.tc : Thread Cert.Dwqkv.nD Cert.Dwqkv.τ).loc Cert.Dwqkv.main_arg3))
      ∧ r.2.sem = fun _ => 0)

def quiescent_DwqkvIdeal [hDwqkvIdeal : Cert.DwqkvIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg), Pre_DwqkvIdeal m →
    θ_run (Cert.DwqkvIdeal.defs (F := Ideal)) (onTc (τ := Cert.DwqkvIdeal.τ) (Cert.DwqkvIdeal.main (F := Ideal))) ⟨m, fun _ => 0, g⟩ (fun r => (∀ c : Dev Cert.DwqkvIdeal.nD,
      r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
      ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1)
      ∧ r.2.mem ((c.tc : Thread Cert.DwqkvIdeal.nD Cert.DwqkvIdeal.τ).loc Cert.DwqkvIdeal.main_arg2) = m ((c.tc : Thread Cert.DwqkvIdeal.nD Cert.DwqkvIdeal.τ).loc Cert.DwqkvIdeal.main_arg2)
      ∧ r.2.mem ((c.tc : Thread Cert.DwqkvIdeal.nD Cert.DwqkvIdeal.τ).loc Cert.DwqkvIdeal.main_arg3) = m ((c.tc : Thread Cert.DwqkvIdeal.nD Cert.DwqkvIdeal.τ).loc Cert.DwqkvIdeal.main_arg3))
      ∧ r.2.sem = fun _ => 0)

def quiescent_DwqkvRefIdeal [hDwqkvRefIdeal : Cert.DwqkvRefIdeal.Facts] : Prop :=
  ∀ (m : (ℓ : Loc Cert.DwqkvRefIdeal.nD Cert.DwqkvRefIdeal.τ Cert.DwqkvRefIdeal.sig) → Buf (Elt Ideal) ℓ) (g : Dev Cert.DwqkvRefIdeal.nD → PrngReg), Pre_DwqkvRefIdeal m →
    θ_run (Cert.DwqkvRefIdeal.defs (F := Ideal)) (onTc (τ := Cert.DwqkvRefIdeal.τ) (Cert.DwqkvRefIdeal.main (F := Ideal))) ⟨m, fun _ => 0, g⟩ (fun r => (∀ c : Dev Cert.DwqkvRefIdeal.nD,
      r.2.mem ((c.tc : Thread Cert.DwqkvRefIdeal.nD Cert.DwqkvRefIdeal.τ).loc Cert.DwqkvRefIdeal.main_arg0) = m ((c.tc : Thread Cert.DwqkvRefIdeal.nD Cert.DwqkvRefIdeal.τ).loc Cert.DwqkvRefIdeal.main_arg0)
      ∧ r.2.mem ((c.tc : Thread Cert.DwqkvRefIdeal.nD Cert.DwqkvRefIdeal.τ).loc Cert.DwqkvRefIdeal.main_arg1) = m ((c.tc : Thread Cert.DwqkvRefIdeal.nD Cert.DwqkvRefIdeal.τ).loc Cert.DwqkvRefIdeal.main_arg1)
      ∧ r.2.mem ((c.tc : Thread Cert.DwqkvRefIdeal.nD Cert.DwqkvRefIdeal.τ).loc Cert.DwqkvRefIdeal.main_arg2) = m ((c.tc : Thread Cert.DwqkvRefIdeal.nD Cert.DwqkvRefIdeal.τ).loc Cert.DwqkvRefIdeal.main_arg2)
      ∧ r.2.mem ((c.tc : Thread Cert.DwqkvRefIdeal.nD Cert.DwqkvRefIdeal.τ).loc Cert.DwqkvRefIdeal.main_arg3) = m ((c.tc : Thread Cert.DwqkvRefIdeal.nD Cert.DwqkvRefIdeal.τ).loc Cert.DwqkvRefIdeal.main_arg3))
      ∧ r.2.sem = fun _ => 0)

def quiescent_Dyn [hDyn : Cert.Dyn.Facts] : Prop :=
  ∀ (m : (ℓ : Loc Cert.Dyn.nD Cert.Dyn.τ Cert.Dyn.sig) → Buf (Elt Bits) ℓ) (g : Dev Cert.Dyn.nD → PrngReg), Pre_Dyn m →
    θ_run (Cert.Dyn.defs (F := Bits)) (onTc (τ := Cert.Dyn.τ) (Cert.Dyn.main (F := Bits))) ⟨m, fun _ => 0, g⟩ (fun r => (∀ c : Dev Cert.Dyn.nD,
      r.2.mem ((c.tc : Thread Cert.Dyn.nD Cert.Dyn.τ).loc Cert.Dyn.main_arg0) = m ((c.tc : Thread Cert.Dyn.nD Cert.Dyn.τ).loc Cert.Dyn.main_arg0)
      ∧ r.2.mem ((c.tc : Thread Cert.Dyn.nD Cert.Dyn.τ).loc Cert.Dyn.main_arg1) = m ((c.tc : Thread Cert.Dyn.nD Cert.Dyn.τ).loc Cert.Dyn.main_arg1)
      ∧ r.2.mem ((c.tc : Thread Cert.Dyn.nD Cert.Dyn.τ).loc Cert.Dyn.main_arg2) = m ((c.tc : Thread Cert.Dyn.nD Cert.Dyn.τ).loc Cert.Dyn.main_arg2))
      ∧ r.2.sem = fun _ => 0)

def quiescent_DynIdeal [hDynIdeal : Cert.DynIdeal.Facts] : Prop :=
  ∀ (m : (ℓ : Loc Cert.DynIdeal.nD Cert.DynIdeal.τ Cert.DynIdeal.sig) → Buf (Elt Ideal) ℓ) (g : Dev Cert.DynIdeal.nD → PrngReg), Pre_DynIdeal m →
    θ_run (Cert.DynIdeal.defs (F := Ideal)) (onTc (τ := Cert.DynIdeal.τ) (Cert.DynIdeal.main (F := Ideal))) ⟨m, fun _ => 0, g⟩ (fun r => (∀ c : Dev Cert.DynIdeal.nD,
      r.2.mem ((c.tc : Thread Cert.DynIdeal.nD Cert.DynIdeal.τ).loc Cert.DynIdeal.main_arg0) = m ((c.tc : Thread Cert.DynIdeal.nD Cert.DynIdeal.τ).loc Cert.DynIdeal.main_arg0)
      ∧ r.2.mem ((c.tc : Thread Cert.DynIdeal.nD Cert.DynIdeal.τ).loc Cert.DynIdeal.main_arg1) = m ((c.tc : Thread Cert.DynIdeal.nD Cert.DynIdeal.τ).loc Cert.DynIdeal.main_arg1)
      ∧ r.2.mem ((c.tc : Thread Cert.DynIdeal.nD Cert.DynIdeal.τ).loc Cert.DynIdeal.main_arg2) = m ((c.tc : Thread Cert.DynIdeal.nD Cert.DynIdeal.τ).loc Cert.DynIdeal.main_arg2))
      ∧ r.2.sem = fun _ => 0)

def quiescent_DynIdeal_pre_scales_normal [hDynIdeal : Cert.DynIdeal.Facts] [hPre_scales_normal : Cert.Pre_scales_normal.Facts] : Prop :=
  ∀ (m : (ℓ : Loc Cert.DynIdeal.nD Cert.DynIdeal.τ Cert.DynIdeal.sig) → Buf (Elt Ideal) ℓ) (g : Dev Cert.DynIdeal.nD → PrngReg), Pre_DynIdeal_scales_normal m →
    θ_run (Cert.DynIdeal.defs (F := Ideal)) (onTc (τ := Cert.DynIdeal.τ) (Cert.DynIdeal.main (F := Ideal))) ⟨m, fun _ => 0, g⟩ (fun r => (∀ c : Dev Cert.DynIdeal.nD,
      r.2.mem ((c.tc : Thread Cert.DynIdeal.nD Cert.DynIdeal.τ).loc Cert.DynIdeal.main_arg0) = m ((c.tc : Thread Cert.DynIdeal.nD Cert.DynIdeal.τ).loc Cert.DynIdeal.main_arg0)
      ∧ r.2.mem ((c.tc : Thread Cert.DynIdeal.nD Cert.DynIdeal.τ).loc Cert.DynIdeal.main_arg1) = m ((c.tc : Thread Cert.DynIdeal.nD Cert.DynIdeal.τ).loc Cert.DynIdeal.main_arg1)
      ∧ r.2.mem ((c.tc : Thread Cert.DynIdeal.nD Cert.DynIdeal.τ).loc Cert.DynIdeal.main_arg2) = m ((c.tc : Thread Cert.DynIdeal.nD Cert.DynIdeal.τ).loc Cert.DynIdeal.main_arg2))
      ∧ r.2.sem = fun _ => 0)

def quiescent_DynRefIdeal [hDynRefIdeal : Cert.DynRefIdeal.Facts] : Prop :=
  ∀ (m : (ℓ : Loc Cert.DynRefIdeal.nD Cert.DynRefIdeal.τ Cert.DynRefIdeal.sig) → Buf (Elt Ideal) ℓ) (g : Dev Cert.DynRefIdeal.nD → PrngReg), Pre_DynRefIdeal m →
    θ_run (Cert.DynRefIdeal.defs (F := Ideal)) (onTc (τ := Cert.DynRefIdeal.τ) (Cert.DynRefIdeal.main (F := Ideal))) ⟨m, fun _ => 0, g⟩ (fun r => (∀ c : Dev Cert.DynRefIdeal.nD,
      r.2.mem ((c.tc : Thread Cert.DynRefIdeal.nD Cert.DynRefIdeal.τ).loc Cert.DynRefIdeal.main_arg0) = m ((c.tc : Thread Cert.DynRefIdeal.nD Cert.DynRefIdeal.τ).loc Cert.DynRefIdeal.main_arg0)
      ∧ r.2.mem ((c.tc : Thread Cert.DynRefIdeal.nD Cert.DynRefIdeal.τ).loc Cert.DynRefIdeal.main_arg1) = m ((c.tc : Thread Cert.DynRefIdeal.nD Cert.DynRefIdeal.τ).loc Cert.DynRefIdeal.main_arg1)
      ∧ r.2.mem ((c.tc : Thread Cert.DynRefIdeal.nD Cert.DynRefIdeal.τ).loc Cert.DynRefIdeal.main_arg2) = m ((c.tc : Thread Cert.DynRefIdeal.nD Cert.DynRefIdeal.τ).loc Cert.DynRefIdeal.main_arg2))
      ∧ r.2.sem = fun _ => 0)

def quiescent_DynRefIdeal_pre_scales_normal [hDynRefIdeal : Cert.DynRefIdeal.Facts] [hPre_scales_normal : Cert.Pre_scales_normal.Facts] : Prop :=
  ∀ (m : (ℓ : Loc Cert.DynRefIdeal.nD Cert.DynRefIdeal.τ Cert.DynRefIdeal.sig) → Buf (Elt Ideal) ℓ) (g : Dev Cert.DynRefIdeal.nD → PrngReg), Pre_DynRefIdeal_scales_normal m →
    θ_run (Cert.DynRefIdeal.defs (F := Ideal)) (onTc (τ := Cert.DynRefIdeal.τ) (Cert.DynRefIdeal.main (F := Ideal))) ⟨m, fun _ => 0, g⟩ (fun r => (∀ c : Dev Cert.DynRefIdeal.nD,
      r.2.mem ((c.tc : Thread Cert.DynRefIdeal.nD Cert.DynRefIdeal.τ).loc Cert.DynRefIdeal.main_arg0) = m ((c.tc : Thread Cert.DynRefIdeal.nD Cert.DynRefIdeal.τ).loc Cert.DynRefIdeal.main_arg0)
      ∧ r.2.mem ((c.tc : Thread Cert.DynRefIdeal.nD Cert.DynRefIdeal.τ).loc Cert.DynRefIdeal.main_arg1) = m ((c.tc : Thread Cert.DynRefIdeal.nD Cert.DynRefIdeal.τ).loc Cert.DynRefIdeal.main_arg1)
      ∧ r.2.mem ((c.tc : Thread Cert.DynRefIdeal.nD Cert.DynRefIdeal.τ).loc Cert.DynRefIdeal.main_arg2) = m ((c.tc : Thread Cert.DynRefIdeal.nD Cert.DynRefIdeal.τ).loc Cert.DynRefIdeal.main_arg2))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6)
      ∧ r.2.mem ((c.tc : Thread Cert.Gdn.nD Cert.Gdn.τ).loc Cert.Gdn.main_arg7) = m ((c.tc : Thread Cert.Gdn.nD Cert.Gdn.τ).loc Cert.Gdn.main_arg7)
      ∧ r.2.mem ((c.tc : Thread Cert.Gdn.nD Cert.Gdn.τ).loc Cert.Gdn.main_arg8) = m ((c.tc : Thread Cert.Gdn.nD Cert.Gdn.τ).loc Cert.Gdn.main_arg8)
      ∧ r.2.mem ((c.tc : Thread Cert.Gdn.nD Cert.Gdn.τ).loc Cert.Gdn.main_arg9) = m ((c.tc : Thread Cert.Gdn.nD Cert.Gdn.τ).loc Cert.Gdn.main_arg9))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
      ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7)
      ∧ r.2.mem ((c.tc : Thread Cert.GdnIdeal.nD Cert.GdnIdeal.τ).loc Cert.GdnIdeal.main_arg8) = m ((c.tc : Thread Cert.GdnIdeal.nD Cert.GdnIdeal.τ).loc Cert.GdnIdeal.main_arg8)
      ∧ r.2.mem ((c.tc : Thread Cert.GdnIdeal.nD Cert.GdnIdeal.τ).loc Cert.GdnIdeal.main_arg9) = m ((c.tc : Thread Cert.GdnIdeal.nD Cert.GdnIdeal.τ).loc Cert.GdnIdeal.main_arg9))
      ∧ r.2.sem = fun _ => 0)

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)) →
    ∃ (v0 : (c : Dev Cert.DxIdeal.nD) → Buf (Elt Ideal) ((c.tc : Thread Cert.DxIdeal.nD Cert.DxIdeal.τ).loc Cert.DxIdeal.main_v3_0)) (v1 : (c : Dev Cert.DxIdeal.nD) → Buf (Elt Ideal) ((c.tc : Thread Cert.DxIdeal.nD Cert.DxIdeal.τ).loc Cert.DxIdeal.main_v3_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v3_0) = v0 c
          ∧ r.2.mem ((c.tc : Thread Cert.DxIdeal.nD Cert.DxIdeal.τ).loc Cert.DxIdeal.main_v3_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v5_0) = v0 c
          ∧ r.2.mem ((c.tc : Thread Cert.DxRefIdeal.nD Cert.DxRefIdeal.τ).loc Cert.DxRefIdeal.main_v5_1) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)
      ∧ m' ((c.tc : Thread Cert.DwoutRefIdeal.nD Cert.DwoutRefIdeal.τ).loc Cert.DwoutRefIdeal.main_arg2) = m ((c.tc : Thread Cert.DwoutIdeal.nD Cert.DwoutIdeal.τ).loc Cert.DwoutIdeal.main_arg2)
      ∧ m' ((c.tc : Thread Cert.DwoutRefIdeal.nD Cert.DwoutRefIdeal.τ).loc Cert.DwoutRefIdeal.main_arg3) = m ((c.tc : Thread Cert.DwoutIdeal.nD Cert.DwoutIdeal.τ).loc Cert.DwoutIdeal.main_arg3)) →
    ∃ (v0 : (c : Dev Cert.DwoutIdeal.nD) → Buf (Elt Ideal) ((c.tc : Thread Cert.DwoutIdeal.nD Cert.DwoutIdeal.τ).loc Cert.DwoutIdeal.main_v1_0)) (v1 : (c : Dev Cert.DwoutIdeal.nD) → Buf (Elt Ideal) ((c.tc : Thread Cert.DwoutIdeal.nD Cert.DwoutIdeal.τ).loc Cert.DwoutIdeal.main_v1_1)) (v2 : (c : Dev Cert.DwoutIdeal.nD) → Buf (Elt Ideal) ((c.tc : Thread Cert.DwoutIdeal.nD Cert.DwoutIdeal.τ).loc Cert.DwoutIdeal.main_v1_2)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v1_0) = v0 c
          ∧ r.2.mem ((c.tc : Thread Cert.DwoutIdeal.nD Cert.DwoutIdeal.τ).loc Cert.DwoutIdeal.main_v1_1) = v1 c
          ∧ r.2.mem ((c.tc : Thread Cert.DwoutIdeal.nD Cert.DwoutIdeal.τ).loc Cert.DwoutIdeal.main_v1_2) = v2 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
          ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2)
          ∧ r.2.mem ((c.tc : Thread Cert.DwoutIdeal.nD Cert.DwoutIdeal.τ).loc Cert.DwoutIdeal.main_arg3) = m ((c.tc : Thread Cert.DwoutIdeal.nD Cert.DwoutIdeal.τ).loc Cert.DwoutIdeal.main_arg3))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v2_0) = v0 c
          ∧ r.2.mem ((c.tc : Thread Cert.DwoutRefIdeal.nD Cert.DwoutRefIdeal.τ).loc Cert.DwoutRefIdeal.main_v2_1) = v1 c
          ∧ r.2.mem ((c.tc : Thread Cert.DwoutRefIdeal.nD Cert.DwoutRefIdeal.τ).loc Cert.DwoutRefIdeal.main_v2_2) = v2 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1)
          ∧ r.2.mem ((c.tc : Thread Cert.DwoutRefIdeal.nD Cert.DwoutRefIdeal.τ).loc Cert.DwoutRefIdeal.main_arg2) = m' ((c.tc : Thread Cert.DwoutRefIdeal.nD Cert.DwoutRefIdeal.τ).loc Cert.DwoutRefIdeal.main_arg2)
          ∧ r.2.mem ((c.tc : Thread Cert.DwoutRefIdeal.nD Cert.DwoutRefIdeal.τ).loc Cert.DwoutRefIdeal.main_arg3) = m' ((c.tc : Thread Cert.DwoutRefIdeal.nD Cert.DwoutRefIdeal.τ).loc Cert.DwoutRefIdeal.main_arg3))

def preserves_Dwqkv_DwqkvIdeal : Prop :=
  True

def algebraic_DwqkvIdeal_DwqkvRefIdeal [hDwqkvIdeal : Cert.DwqkvIdeal.Facts] [hDwqkvRefIdeal : Cert.DwqkvRefIdeal.Facts] : Prop :=
  ∀ (m : (ℓ : Loc Cert.DwqkvIdeal.nD Cert.DwqkvIdeal.τ Cert.DwqkvIdeal.sig) → Buf (Elt Ideal) ℓ) (g : Dev Cert.DwqkvIdeal.nD → PrngReg)
    (m' : (ℓ : Loc Cert.DwqkvRefIdeal.nD Cert.DwqkvRefIdeal.τ Cert.DwqkvRefIdeal.sig) → Buf (Elt Ideal) ℓ) (g' : Dev Cert.DwqkvRefIdeal.nD → PrngReg), Pre_DwqkvIdeal m →
    (∀ c : Dev Cert.DwqkvIdeal.nD,
      m' ((c.tc : Thread Cert.DwqkvRefIdeal.nD Cert.DwqkvRefIdeal.τ).loc Cert.DwqkvRefIdeal.main_arg0) = m ((c.tc : Thread Cert.DwqkvIdeal.nD Cert.DwqkvIdeal.τ).loc Cert.DwqkvIdeal.main_arg0)
      ∧ m' ((c.tc : Thread Cert.DwqkvRefIdeal.nD Cert.DwqkvRefIdeal.τ).loc Cert.DwqkvRefIdeal.main_arg1) = m ((c.tc : Thread Cert.DwqkvIdeal.nD Cert.DwqkvIdeal.τ).loc Cert.DwqkvIdeal.main_arg1)
      ∧ m' ((c.tc : Thread Cert.DwqkvRefIdeal.nD Cert.DwqkvRefIdeal.τ).loc Cert.DwqkvRefIdeal.main_arg2) = m ((c.tc : Thread Cert.DwqkvIdeal.nD Cert.DwqkvIdeal.τ).loc Cert.DwqkvIdeal.main_arg2)
      ∧ m' ((c.tc : Thread Cert.DwqkvRefIdeal.nD Cert.DwqkvRefIdeal.τ).loc Cert.DwqkvRefIdeal.main_arg3) = m ((c.tc : Thread Cert.DwqkvIdeal.nD Cert.DwqkvIdeal.τ).loc Cert.DwqkvIdeal.main_arg3)) →
    ∃ (v0 : (c : Dev Cert.DwqkvIdeal.nD) → Buf (Elt Ideal) ((c.tc : Thread Cert.DwqkvIdeal.nD Cert.DwqkvIdeal.τ).loc Cert.DwqkvIdeal.main_v4_0)) (v1 : (c : Dev Cert.DwqkvIdeal.nD) → Buf (Elt Ideal) ((c.tc : Thread Cert.DwqkvIdeal.nD Cert.DwqkvIdeal.τ).loc Cert.DwqkvIdeal.main_v4_1)) (v2 : (c : Dev Cert.DwqkvIdeal.nD) → Buf (Elt Ideal) ((c.tc : Thread Cert.DwqkvIdeal.nD Cert.DwqkvIdeal.τ).loc Cert.DwqkvIdeal.main_v4_2)),
      θ_run (Cert.DwqkvIdeal.defs (F := Ideal)) (onTc (τ := Cert.DwqkvIdeal.τ) (Cert.DwqkvIdeal.main (F := Ideal))) ⟨m, fun _ => 0, g⟩ (fun r => ∀ c : Dev Cert.DwqkvIdeal.nD,
          r.2.mem ((c.tc : Thread Cert.DwqkvIdeal.nD Cert.DwqkvIdeal.τ).loc Cert.DwqkvIdeal.main_v4_0) = v0 c
          ∧ r.2.mem ((c.tc : Thread Cert.DwqkvIdeal.nD Cert.DwqkvIdeal.τ).loc Cert.DwqkvIdeal.main_v4_1) = v1 c
          ∧ r.2.mem ((c.tc : Thread Cert.DwqkvIdeal.nD Cert.DwqkvIdeal.τ).loc Cert.DwqkvIdeal.main_v4_2) = v2 c
          ∧ r.2.mem ((c.tc : Thread Cert.DwqkvIdeal.nD Cert.DwqkvIdeal.τ).loc Cert.DwqkvIdeal.main_arg0) = m ((c.tc : Thread Cert.DwqkvIdeal.nD Cert.DwqkvIdeal.τ).loc Cert.DwqkvIdeal.main_arg0)
          ∧ r.2.mem ((c.tc : Thread Cert.DwqkvIdeal.nD Cert.DwqkvIdeal.τ).loc Cert.DwqkvIdeal.main_arg1) = m ((c.tc : Thread Cert.DwqkvIdeal.nD Cert.DwqkvIdeal.τ).loc Cert.DwqkvIdeal.main_arg1)
          ∧ r.2.mem ((c.tc : Thread Cert.DwqkvIdeal.nD Cert.DwqkvIdeal.τ).loc Cert.DwqkvIdeal.main_arg2) = m ((c.tc : Thread Cert.DwqkvIdeal.nD Cert.DwqkvIdeal.τ).loc Cert.DwqkvIdeal.main_arg2)
          ∧ r.2.mem ((c.tc : Thread Cert.DwqkvIdeal.nD Cert.DwqkvIdeal.τ).loc Cert.DwqkvIdeal.main_arg3) = m ((c.tc : Thread Cert.DwqkvIdeal.nD Cert.DwqkvIdeal.τ).loc Cert.DwqkvIdeal.main_arg3))
      ∧ θ_run (Cert.DwqkvRefIdeal.defs (F := Ideal)) (onTc (τ := Cert.DwqkvRefIdeal.τ) (Cert.DwqkvRefIdeal.main (F := Ideal))) ⟨m', fun _ => 0, g'⟩ (fun r => ∀ c : Dev Cert.DwqkvRefIdeal.nD,
          r.2.mem ((c.tc : Thread Cert.DwqkvRefIdeal.nD Cert.DwqkvRefIdeal.τ).loc Cert.DwqkvRefIdeal.main_v3_0) = v0 c
          ∧ r.2.mem ((c.tc : Thread Cert.DwqkvRefIdeal.nD Cert.DwqkvRefIdeal.τ).loc Cert.DwqkvRefIdeal.main_v3_1) = v1 c
          ∧ r.2.mem ((c.tc : Thread Cert.DwqkvRefIdeal.nD Cert.DwqkvRefIdeal.τ).loc Cert.DwqkvRefIdeal.main_v3_2) = v2 c
          ∧ r.2.mem ((c.tc : Thread Cert.DwqkvRefIdeal.nD Cert.DwqkvRefIdeal.τ).loc Cert.DwqkvRefIdeal.main_arg0) = m' ((c.tc : Thread Cert.DwqkvRefIdeal.nD Cert.DwqkvRefIdeal.τ).loc Cert.DwqkvRefIdeal.main_arg0)
          ∧ r.2.mem ((c.tc : Thread Cert.DwqkvRefIdeal.nD Cert.DwqkvRefIdeal.τ).loc Cert.DwqkvRefIdeal.main_arg1) = m' ((c.tc : Thread Cert.DwqkvRefIdeal.nD Cert.DwqkvRefIdeal.τ).loc Cert.DwqkvRefIdeal.main_arg1)
          ∧ r.2.mem ((c.tc : Thread Cert.DwqkvRefIdeal.nD Cert.DwqkvRefIdeal.τ).loc Cert.DwqkvRefIdeal.main_arg2) = m' ((c.tc : Thread Cert.DwqkvRefIdeal.nD Cert.DwqkvRefIdeal.τ).loc Cert.DwqkvRefIdeal.main_arg2)
          ∧ r.2.mem ((c.tc : Thread Cert.DwqkvRefIdeal.nD Cert.DwqkvRefIdeal.τ).loc Cert.DwqkvRefIdeal.main_arg3) = m' ((c.tc : Thread Cert.DwqkvRefIdeal.nD Cert.DwqkvRefIdeal.τ).loc Cert.DwqkvRefIdeal.main_arg3))

def preserves_Dyn_DynIdeal : Prop :=
  True

def algebraic_DynIdeal_DynRefIdeal_pre_scales_normal [hDynIdeal : Cert.DynIdeal.Facts] [hDynRefIdeal : Cert.DynRefIdeal.Facts] [hPre_scales_normal : Cert.Pre_scales_normal.Facts] : Prop :=
  ∀ (m : (ℓ : Loc Cert.DynIdeal.nD Cert.DynIdeal.τ Cert.DynIdeal.sig) → Buf (Elt Ideal) ℓ) (g : Dev Cert.DynIdeal.nD → PrngReg)
    (m' : (ℓ : Loc Cert.DynRefIdeal.nD Cert.DynRefIdeal.τ Cert.DynRefIdeal.sig) → Buf (Elt Ideal) ℓ) (g' : Dev Cert.DynRefIdeal.nD → PrngReg), Pre_DynIdeal_scales_normal m →
    (∀ c : Dev Cert.DynIdeal.nD,
      m' ((c.tc : Thread Cert.DynRefIdeal.nD Cert.DynRefIdeal.τ).loc Cert.DynRefIdeal.main_arg0) = m ((c.tc : Thread Cert.DynIdeal.nD Cert.DynIdeal.τ).loc Cert.DynIdeal.main_arg0)
      ∧ m' ((c.tc : Thread Cert.DynRefIdeal.nD Cert.DynRefIdeal.τ).loc Cert.DynRefIdeal.main_arg1) = m ((c.tc : Thread Cert.DynIdeal.nD Cert.DynIdeal.τ).loc Cert.DynIdeal.main_arg1)
      ∧ m' ((c.tc : Thread Cert.DynRefIdeal.nD Cert.DynRefIdeal.τ).loc Cert.DynRefIdeal.main_arg2) = m ((c.tc : Thread Cert.DynIdeal.nD Cert.DynIdeal.τ).loc Cert.DynIdeal.main_arg2)) →
    ∃ (v0 : (c : Dev Cert.DynIdeal.nD) → Buf (Elt Ideal) ((c.tc : Thread Cert.DynIdeal.nD Cert.DynIdeal.τ).loc Cert.DynIdeal.main_v2_0)) (v1 : (c : Dev Cert.DynIdeal.nD) → Buf (Elt Ideal) ((c.tc : Thread Cert.DynIdeal.nD Cert.DynIdeal.τ).loc Cert.DynIdeal.main_v2_1)) (v2 : (c : Dev Cert.DynIdeal.nD) → Buf (Elt Ideal) ((c.tc : Thread Cert.DynIdeal.nD Cert.DynIdeal.τ).loc Cert.DynIdeal.main_v2_2)),
      θ_run (Cert.DynIdeal.defs (F := Ideal)) (onTc (τ := Cert.DynIdeal.τ) (Cert.DynIdeal.main (F := Ideal))) ⟨m, fun _ => 0, g⟩ (fun r => ∀ c : Dev Cert.DynIdeal.nD,
          r.2.mem ((c.tc : Thread Cert.DynIdeal.nD Cert.DynIdeal.τ).loc Cert.DynIdeal.main_v2_0) = v0 c
          ∧ r.2.mem ((c.tc : Thread Cert.DynIdeal.nD Cert.DynIdeal.τ).loc Cert.DynIdeal.main_v2_1) = v1 c
          ∧ r.2.mem ((c.tc : Thread Cert.DynIdeal.nD Cert.DynIdeal.τ).loc Cert.DynIdeal.main_v2_2) = v2 c
          ∧ r.2.mem ((c.tc : Thread Cert.DynIdeal.nD Cert.DynIdeal.τ).loc Cert.DynIdeal.main_arg0) = m ((c.tc : Thread Cert.DynIdeal.nD Cert.DynIdeal.τ).loc Cert.DynIdeal.main_arg0)
          ∧ r.2.mem ((c.tc : Thread Cert.DynIdeal.nD Cert.DynIdeal.τ).loc Cert.DynIdeal.main_arg1) = m ((c.tc : Thread Cert.DynIdeal.nD Cert.DynIdeal.τ).loc Cert.DynIdeal.main_arg1)
          ∧ r.2.mem ((c.tc : Thread Cert.DynIdeal.nD Cert.DynIdeal.τ).loc Cert.DynIdeal.main_arg2) = m ((c.tc : Thread Cert.DynIdeal.nD Cert.DynIdeal.τ).loc Cert.DynIdeal.main_arg2))
      ∧ θ_run (Cert.DynRefIdeal.defs (F := Ideal)) (onTc (τ := Cert.DynRefIdeal.τ) (Cert.DynRefIdeal.main (F := Ideal))) ⟨m', fun _ => 0, g'⟩ (fun r => ∀ c : Dev Cert.DynRefIdeal.nD,
          r.2.mem ((c.tc : Thread Cert.DynRefIdeal.nD Cert.DynRefIdeal.τ).loc Cert.DynRefIdeal.main_v2_0) = v0 c
          ∧ r.2.mem ((c.tc : Thread Cert.DynRefIdeal.nD Cert.DynRefIdeal.τ).loc Cert.DynRefIdeal.main_v2_1) = v1 c
          ∧ r.2.mem ((c.tc : Thread Cert.DynRefIdeal.nD Cert.DynRefIdeal.τ).loc Cert.DynRefIdeal.main_v2_2) = v2 c
          ∧ r.2.mem ((c.tc : Thread Cert.DynRefIdeal.nD Cert.DynRefIdeal.τ).loc Cert.DynRefIdeal.main_arg0) = m' ((c.tc : Thread Cert.DynRefIdeal.nD Cert.DynRefIdeal.τ).loc Cert.DynRefIdeal.main_arg0)
          ∧ r.2.mem ((c.tc : Thread Cert.DynRefIdeal.nD Cert.DynRefIdeal.τ).loc Cert.DynRefIdeal.main_arg1) = m' ((c.tc : Thread Cert.DynRefIdeal.nD Cert.DynRefIdeal.τ).loc Cert.DynRefIdeal.main_arg1)
          ∧ r.2.mem ((c.tc : Thread Cert.DynRefIdeal.nD Cert.DynRefIdeal.τ).loc Cert.DynRefIdeal.main_arg2) = m' ((c.tc : Thread Cert.DynRefIdeal.nD Cert.DynRefIdeal.τ).loc Cert.DynRefIdeal.main_arg2))

def preserves_Gdn_GdnIdeal : Prop :=
  True

def Claim : Prop :=
  ∃ (hDx : Cert.Dx.Facts) (hDxIdeal : Cert.DxIdeal.Facts) (hDxRefIdeal : Cert.DxRefIdeal.Facts) (hDwout : Cert.Dwout.Facts) (hDwoutIdeal : Cert.DwoutIdeal.Facts) (hDwoutRefIdeal : Cert.DwoutRefIdeal.Facts) (hDwqkv : Cert.Dwqkv.Facts) (hDwqkvIdeal : Cert.DwqkvIdeal.Facts) (hDwqkvRefIdeal : Cert.DwqkvRefIdeal.Facts) (hDyn : Cert.Dyn.Facts) (hDynIdeal : Cert.DynIdeal.Facts) (hDynRefIdeal : Cert.DynRefIdeal.Facts) (hGdn : Cert.Gdn.Facts) (hGdnIdeal : Cert.GdnIdeal.Facts) (hPre_scales_normal : Cert.Pre_scales_normal.Facts),
    quiescent_Dx (hDx := hDx)
    ∧ quiescent_DxIdeal (hDxIdeal := hDxIdeal)
    ∧ quiescent_DxRefIdeal (hDxRefIdeal := hDxRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dwqkv (hDwqkv := hDwqkv)
    ∧ quiescent_DwqkvIdeal (hDwqkvIdeal := hDwqkvIdeal)
    ∧ quiescent_DwqkvRefIdeal (hDwqkvRefIdeal := hDwqkvRefIdeal)
    ∧ quiescent_Dyn (hDyn := hDyn)
    ∧ quiescent_DynIdeal (hDynIdeal := hDynIdeal)
    ∧ quiescent_DynIdeal_pre_scales_normal (hDynIdeal := hDynIdeal) (hPre_scales_normal := hPre_scales_normal)
    ∧ quiescent_DynRefIdeal (hDynRefIdeal := hDynRefIdeal)
    ∧ quiescent_DynRefIdeal_pre_scales_normal (hDynRefIdeal := hDynRefIdeal) (hPre_scales_normal := hPre_scales_normal)
    ∧ quiescent_Gdn (hGdn := hGdn)
    ∧ quiescent_GdnIdeal (hGdnIdeal := hGdnIdeal)
    ∧ preserves_Dx_DxIdeal
    ∧ algebraic_DxIdeal_DxRefIdeal (hDxIdeal := hDxIdeal) (hDxRefIdeal := hDxRefIdeal)
    ∧ preserves_Dwout_DwoutIdeal
    ∧ algebraic_DwoutIdeal_DwoutRefIdeal (hDwoutIdeal := hDwoutIdeal) (hDwoutRefIdeal := hDwoutRefIdeal)
    ∧ preserves_Dwqkv_DwqkvIdeal
    ∧ algebraic_DwqkvIdeal_DwqkvRefIdeal (hDwqkvIdeal := hDwqkvIdeal) (hDwqkvRefIdeal := hDwqkvRefIdeal)
    ∧ preserves_Dyn_DynIdeal
    ∧ algebraic_DynIdeal_DynRefIdeal_pre_scales_normal (hDynIdeal := hDynIdeal) (hDynRefIdeal := hDynRefIdeal) (hPre_scales_normal := hPre_scales_normal)
    ∧ preserves_Gdn_GdnIdeal
-- ==== Pre_scales_normal.lean ====
abbrev S2x3072x5120 : Shape := ⟨3, ![2, 3072, 5120]⟩
abbrev S4096x5120 : Shape := ⟨2, ![4096, 5120]⟩
abbrev S_ : Shape := ⟨0, ![]⟩
abbrev S2x3072 : Shape := ⟨2, ![2, 3072]⟩

class Facts : Prop where
  bitsLt_bf16_f32 : FTy.bits .bf16 < FTy.bits .f32
  reducesTo_S2x3072x5120_S2x3072_d2 : S2x3072x5120.ReducesTo [2] S2x3072
  h_S_ : 0 < S_.numel
  bcast_S_S2x3072 : S_.BroadcastsInDim S2x3072 (![] : Fin 0 → Fin S2x3072.rank)

variable [Facts]

def fn {F : FTy → Type} [FloatOps F] (main_arg0 : FVec F S2x3072x5120 .bf16) (main_arg1 : FVec F S4096x5120 .fp8e4m3) (main_arg2 : FVec F S_ .f32) : IVec S2x3072 1 :=
  let main_v0 : FVec F S2x3072x5120 .f32 := (extf .f32 · bitsLt_bf16_f32) main_arg0
  let main_v1 : FVec F S2x3072x5120 .f32 := Host.absf main_v0
  let main_cst : FVec F S_ .f32 := constant S_ .f32 0xFF800000#32
  let main_v2 : FVec F S2x3072 .f32 := (fun x v => Host.reduce FloatOps.maximumf x v reducesTo_S2x3072x5120_S2x3072_d2 h_S_) main_v1 main_cst
  let main_cst_0 : FVec F S_ .f32 := constant S_ .f32 0x37924925#32
  let main_v3 : FVec F S2x3072 .f32 := broadcastInDim S2x3072 ![] bcast_S_S2x3072 main_cst_0
  let main_v4 : FVec F S2x3072 .f32 := mulf main_v2 main_v3
  let main_cst_1 : FVec F S_ .f32 := constant S_ .f32 0x00000000#32
  let main_v5 : FVec F S2x3072 .f32 := broadcastInDim S2x3072 ![] bcast_S_S2x3072 main_cst_1
  let main_v6 : IVec S2x3072 1 := cmpf .oeq main_v4 main_v5
  let main_cst_2 : FVec F S_ .f32 := constant S_ .f32 0x00800000#32
  let main_v7 : FVec F S2x3072 .f32 := broadcastInDim S2x3072 ![] bcast_S_S2x3072 main_cst_2
  let main_v8 : IVec S2x3072 1 := cmpf .oge main_v4 main_v7
  let main_cst_3 : FVec F S_ .f32 := constant S_ .f32 0x7E800000#32
  let main_v9 : FVec F S2x3072 .f32 := broadcastInDim S2x3072 ![] bcast_S_S2x3072 main_cst_3
  let main_v10 : IVec S2x3072 1 := cmpf .olt main_v4 main_v9
  let main_v11 : IVec S2x3072 1 := andi main_v8 main_v10
  let main_v12 : IVec S2x3072 1 := ori main_v6 main_v11
  main_v12
-- ==== Dx.lean ====
abbrev S2x3072x8192 : Shape := ⟨3, ![2, 3072, 8192]⟩
abbrev S2x3072x128 : Shape := ⟨3, ![2, 3072, 128]⟩
abbrev S5120x8192 : Shape := ⟨2, ![5120, 8192]⟩
abbrev S_ : Shape := ⟨0, ![]⟩
abbrev S1x1 : Shape := ⟨2, ![1, 1]⟩
abbrev S6144x8192 : Shape := ⟨2, ![6144, 8192]⟩
abbrev S6144x128 : Shape := ⟨2, ![6144, 128]⟩
abbrev S6144x5120 : Shape := ⟨2, ![6144, 5120]⟩
abbrev S1024x8192 : Shape := ⟨2, ![1024, 8192]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 9
  | .vmem => 10
  | .smem => 1
  | _ => 0

abbrev bufTy : (tb : Table) → Fin (tcTables nBuf tb) → BufTy
  | .hbm, ⟨0, _⟩ => ⟨S2x3072x8192, .fp8e5m2⟩
  | .hbm, ⟨1, _⟩ => ⟨S2x3072x128, .f32⟩
  | .hbm, ⟨2, _⟩ => ⟨S5120x8192, .fp8e4m3⟩
  | .hbm, ⟨3, _⟩ => ⟨S_, .f32⟩
  | .hbm, ⟨4, _⟩ => ⟨S1x1, .f32⟩
  | .hbm, ⟨5, _⟩ => ⟨S6144x8192, .fp8e5m2⟩
  | .hbm, ⟨6, _⟩ => ⟨S6144x128, .f32⟩
  | .hbm, ⟨7, _⟩ => ⟨S6144x5120, .f32⟩
  | .hbm, ⟨8, _⟩ => ⟨S6144x5120, .bf16⟩
  | .local _ .vmem, ⟨0, _⟩ => ⟨S1024x8192, .fp8e5m2⟩
  | .local _ .vmem, ⟨1, _⟩ => ⟨S1024x8192, .fp8e5m2⟩
  | .local _ .vmem, ⟨2, _⟩ => ⟨S1024x128, .f32⟩
  | .local _ .vmem, ⟨3, _⟩ => ⟨S1024x128, .f32⟩
  | .local _ .vmem, ⟨4, _⟩ => ⟨S1024x8192, .fp8e4m3⟩
  | .local _ .vmem, ⟨5, _⟩ => ⟨S1024x8192, .fp8e4m3⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .smem, ⟨0, _⟩ => ⟨S1x1, .f32⟩
  | _, _ => ⟨S2x3072x8192, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![6, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x8192 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DxRefIdeal.lean ====
abbrev S2x3072x8192 : Shape := ⟨3, ![2, 3072, 8192]⟩
abbrev S2x3072x128 : Shape := ⟨3, ![2, 3072, 128]⟩
abbrev S5120x8192 : Shape := ⟨2, ![5120, 8192]⟩
abbrev S_ : Shape := ⟨0, ![]⟩
abbrev S2x3072x1 : Shape := ⟨3, ![2, 3072, 1]⟩
abbrev S2x3072 : Shape := ⟨2, ![2, 3072]⟩
abbrev S6144x8192 : Shape := ⟨2, ![6144, 8192]⟩
abbrev S6144x1 : Shape := ⟨2, ![6144, 1]⟩
abbrev S1x1 : Shape := ⟨2, ![1, 1]⟩
abbrev S6144x5120 : Shape := ⟨2, ![6144, 5120]⟩

abbrev nBuf : Space → Nat
  | .hbm => 11
  | .vmem => 6
  | .smem => 0
  | _ => 0

abbrev bufTy : (tb : Table) → Fin (tcTables nBuf tb) → BufTy
  | .hbm, ⟨0, _⟩ => ⟨S2x3072x8192, .fp8e5m2⟩
  | .hbm, ⟨1, _⟩ => ⟨S2x3072x128, .f32⟩
  | .hbm, ⟨2, _⟩ => ⟨S5120x8192, .fp8e4m3⟩
  | .hbm, ⟨3, _⟩ => ⟨S_, .f32⟩
  | .hbm, ⟨4, _⟩ => ⟨S2x3072x1, .f32⟩
  | .hbm, ⟨5, _⟩ => ⟨S2x3072, .f32⟩
  | .hbm, ⟨6, _⟩ => ⟨S6144x8192, .fp8e5m2⟩
  | .hbm, ⟨7, _⟩ => ⟨S6144x1, .f32⟩
  | .hbm, ⟨8, _⟩ => ⟨S1x1, .f32⟩
  | .hbm, ⟨9, _⟩ => ⟨S6144x5120, .f32⟩
  | .hbm, ⟨10, _⟩ => ⟨S6144x5120, .bf16⟩
  | .local _ .vmem, ⟨0, _⟩ => ⟨S6144x8192, .fp8e5m2⟩
  | .local _ .vmem, ⟨1, _⟩ => ⟨S6144x1, .f32⟩
  | .local _ .vmem, ⟨2, _⟩ => ⟨S5120x8192, .fp8e4m3⟩
  | .local _ .vmem, ⟨3, _⟩ => ⟨S1x1, .f32⟩
  | .local _ .vmem, ⟨4, _⟩ => ⟨S6144x5120, .f32⟩
  | .local _ .vmem, ⟨5, _⟩ => ⟨S6144x5120, .bf16⟩
  | _, _ => ⟨S2x3072x8192, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x8192 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Dwout.lean ====
abbrev S2x3072x4096 : Shape := ⟨3, ![2, 3072, 4096]⟩
abbrev S8x4096 : Shape := ⟨2, ![8, 4096]⟩
abbrev S6144x5120 : Shape := ⟨2, ![6144, 5120]⟩
abbrev S6144x128 : Shape := ⟨2, ![6144, 128]⟩
abbrev S6144x4096 : Shape := ⟨2, ![6144, 4096]⟩
abbrev S1x4096 : Shape := ⟨2, ![1, 4096]⟩
abbrev S4096x5120 : Shape := ⟨2, ![4096, 5120]⟩
abbrev S6144x256 : Shape := ⟨2, ![6144, 256]⟩
abbrev S8x256 : Shape := ⟨2, ![8, 256]⟩
abbrev S6144x1280 : Shape := ⟨2, ![6144, 1280]⟩
abbrev S1x256 : Shape := ⟨2, ![1, 256]⟩
abbrev S256x1280 : Shape := ⟨2, ![256, 1280]⟩
abbrev S256 : Shape := ⟨1, ![256]⟩
abbrev S128x256 : Shape := ⟨2, ![128, 256]⟩
abbrev S128x1 : Shape := ⟨2, ![128, 1]⟩
abbrev S256x128 : Shape := ⟨2, ![256, 128]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S2x3072x4096, .f32⟩
  | .hbm, ⟨1, _⟩ => ⟨S8x4096, .f32⟩
  | .hbm, ⟨2, _⟩ => ⟨S6144x5120, .fp8e5m2⟩
  | .hbm, ⟨3, _⟩ => ⟨S6144x128, .f32⟩
  | .hbm, ⟨4, _⟩ => ⟨S6144x4096, .f32⟩
  | .hbm, ⟨5, _⟩ => ⟨S6144x4096, .fp8e4m3⟩
  | .hbm, ⟨6, _⟩ => ⟨S1x4096, .f32⟩
  | .hbm, ⟨7, _⟩ => ⟨S4096x5120, .f32⟩
  | .local _ .vmem, ⟨0, _⟩ => ⟨S6144x256, .f32⟩
  | .local _ .vmem, ⟨1, _⟩ => ⟨S6144x256, .f32⟩
  | .local _ .vmem, ⟨2, _⟩ => ⟨S8x256, .f32⟩
  | .local _ .vmem, ⟨3, _⟩ => ⟨S8x256, .f32⟩
  | .local _ .vmem, ⟨4, _⟩ => ⟨S6144x1280, .fp8e5m2⟩
  | .local _ .vmem, ⟨5, _⟩ => ⟨S6144x1280, .fp8e5m2⟩
  | .local _ .vmem, ⟨6, _⟩ => ⟨S6144x128, .f32⟩
  | .local _ .vmem, ⟨7, _⟩ => ⟨S6144x256, .fp8e4m3⟩
  | .local _ .vmem, ⟨8, _⟩ => ⟨S6144x256, .fp8e4m3⟩
  | .local _ .vmem, ⟨9, _⟩ => ⟨S1x256, .f32⟩
  | .local _ .vmem, ⟨10, _⟩ => ⟨S1x256, .f32⟩
  | .local _ .vmem, ⟨11, _⟩ => ⟨S256x1280, .f32⟩
  | .local _ .vmem, ⟨12, _⟩ => ⟨S256x1280, .f32⟩
  | .local _ .vmem, ⟨13, _⟩ => ⟨S6144x256, .bf16⟩
  | _, _ => ⟨S2x3072x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_4 : BitVec 32 := 0#32
  let v11 : BitVec 1 := Scalar.cmpi .ne v10 c0_i32_4
  v11

@[reducible] def k0_t1_loop : Scf.Loop 32 :=
  let c0_i32_14 : BitVec 32 := 0#32
  let c48_i32 : BitVec 32 := 48#32
  let v24 : BitVec 32 := Scalar.addi c0_i32_14 c48_i32
  let c1_i32 : BitVec 32 := 1#32
  ⟨c0_i32_14, v24, c1_i32⟩
def k0_mult1 (k0_t1 : Fin k0_t1_loop.trips) : BitVec 32 :=
  let c0_i32_14 : BitVec 32 := 0#32
  let c1_i32 : BitVec 32 := 1#32
  let arg10 : BitVec 32 := Scf.iv c0_i32_14 c1_i32 k0_t1
  let c128_i32 : BitVec 32 := 128#32
  let v25 : BitVec 32 := Scalar.muli arg10 c128_i32
  v25
def k0_off1 (k0_t1 : Fin k0_t1_loop.trips) : Fin 2 → Nat :=
  let c0_i32_14 : BitVec 32 := 0#32
  let c1_i32 : BitVec 32 := 1#32
  let arg10 : BitVec 32 := Scf.iv c0_i32_14 c1_i32 k0_t1
  let c128_i32 : BitVec 32 := 128#32
  let v25 : BitVec 32 := Scalar.muli arg10 c128_i32
  let v26 : BitVec 32 := v25
  let v27 : Index := Scalar.indexCast v26
  let c0_16 : Index := 0#32
  ![v27.toNat, 0]
def k0_off2 (k0_t1 : Fin k0_t1_loop.trips) : Fin 2 → Nat :=
  let c0_i32_14 : BitVec 32 := 0#32
  let c1_i32 : BitVec 32 := 1#32
  let arg10 : BitVec 32 := Scf.iv c0_i32_14 c1_i32 k0_t1
  let c128_i32 : BitVec 32 := 128#32
  let v25 : BitVec 32 := Scalar.muli arg10 c128_i32
  let v26 : BitVec 32 := v25
  let v40 : Index := Scalar.indexCast v26
  let c0_20 : Index := 0#32
  ![v40.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S6144x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6144x1280 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S6144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S6144x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DwoutRefIdeal.lean ====
abbrev S2x3072x4096 : Shape := ⟨3, ![2, 3072, 4096]⟩
abbrev S8x4096 : Shape := ⟨2, ![8, 4096]⟩
abbrev S6144x5120 : Shape := ⟨2, ![6144, 5120]⟩
abbrev S6144x128 : Shape := ⟨2, ![6144, 128]⟩
abbrev S6144x4096 : Shape := ⟨2, ![6144, 4096]⟩
abbrev S6144x1 : Shape := ⟨2, ![6144, 1]⟩
abbrev S1x4096 : Shape := ⟨2, ![1, 4096]⟩
abbrev S4096x5120 : Shape := ⟨2, ![4096, 5120]⟩
abbrev S4096 : Shape := ⟨1, ![4096]⟩
abbrev S4096x1 : Shape := ⟨2, ![4096, 1]⟩

abbrev nBuf : Space → Nat
  | .hbm => 9
  | .vmem => 7
  | .smem => 0
  | _ => 0

abbrev bufTy : (tb : Table) → Fin (tcTables nBuf tb) → BufTy
  | .hbm, ⟨0, _⟩ => ⟨S2x3072x4096, .f32⟩
  | .hbm, ⟨1, _⟩ => ⟨S8x4096, .f32⟩
  | .hbm, ⟨2, _⟩ => ⟨S6144x5120, .fp8e5m2⟩
  | .hbm, ⟨3, _⟩ => ⟨S6144x128, .f32⟩
  | .hbm, ⟨4, _⟩ => ⟨S6144x4096, .f32⟩
  | .hbm, ⟨5, _⟩ => ⟨S6144x1, .f32⟩
  | .hbm, ⟨6, _⟩ => ⟨S6144x4096, .fp8e4m3⟩
  | .hbm, ⟨7, _⟩ => ⟨S1x4096, .f32⟩
  | .hbm, ⟨8, _⟩ => ⟨S4096x5120, .f32⟩
  | .local _ .vmem, ⟨0, _⟩ => ⟨S6144x4096, .f32⟩
  | .local _ .vmem, ⟨1, _⟩ => ⟨S8x4096, .f32⟩
  | .local _ .vmem, ⟨2, _⟩ => ⟨S6144x5120, .fp8e5m2⟩
  | .local _ .vmem, ⟨3, _⟩ => ⟨S6144x1, .f32⟩
  | .local _ .vmem, ⟨4, _⟩ => ⟨S6144x4096, .fp8e4m3⟩
  | .local _ .vmem, ⟨5, _⟩ => ⟨S1x4096, .f32⟩
  | .local _ .vmem, ⟨6, _⟩ => ⟨S4096x5120, .f32⟩
  | _, _ => ⟨S2x3072x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x5120 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Dwqkv.lean ====
abbrev S2x3072x8192 : Shape := ⟨3, ![2, 3072, 8192]⟩
abbrev S8x8192 : Shape := ⟨2, ![8, 8192]⟩
abbrev S2x3072x5120 : Shape := ⟨3, ![2, 3072, 5120]⟩
abbrev S2x3072 : Shape := ⟨2, ![2, 3072]⟩
abbrev S6144x8192 : Shape := ⟨2, ![6144, 8192]⟩
abbrev S6144x5120 : Shape := ⟨2, ![6144, 5120]⟩
abbrev S6144x1 : Shape := ⟨2, ![6144, 1]⟩
abbrev S6144x128 : Shape := ⟨2, ![6144, 128]⟩
abbrev S1x8192 : Shape := ⟨2, ![1, 8192]⟩
abbrev S5120x8192 : Shape := ⟨2, ![5120, 8192]⟩
abbrev S1024x1024 : Shape := ⟨2, ![1024, 1024]⟩
abbrev S8x1024 : Shape := ⟨2, ![8, 1024]⟩
abbrev S1024x2560 : Shape := ⟨2, ![1024, 2560]⟩
abbrev S1024x128 : Shape := ⟨2, ![1024, 128]⟩
abbrev S1x1024 : Shape := ⟨2, ![1, 1024]⟩
abbrev S2560x1024 : Shape := ⟨2, ![2560, 1024]⟩
abbrev S6x1024x1024 : Shape := ⟨3, ![6, 1024, 1024]⟩
abbrev S1024 : Shape := ⟨1, ![1024]⟩
abbrev S128x1024 : Shape := ⟨2, ![128, 1024]⟩
abbrev S1x128x1024 : Shape := ⟨3, ![1, 128, 1024]⟩
abbrev S1024x1 : Shape := ⟨2, ![1024, 1]⟩
abbrev S1x1024x1024 : Shape := ⟨3, ![1, 1024, 1024]⟩

abbrev nBuf : Space → Nat
  | .hbm => 11
  | .vmem => 15
  | .smem => 0
  | _ => 0

abbrev bufTy : (tb : Table) → Fin (tcTables nBuf tb) → BufTy
  | .hbm, ⟨0, _⟩ => ⟨S2x3072x8192, .f32⟩
  | .hbm, ⟨1, _⟩ => ⟨S8x8192, .f32⟩
  | .hbm, ⟨2, _⟩ => ⟨S2x3072x5120, .fp8e4m3⟩
  | .hbm, ⟨3, _⟩ => ⟨S2x3072, .f32⟩
  | .hbm, ⟨4, _⟩ => ⟨S6144x8192, .f32⟩
  | .hbm, ⟨5, _⟩ => ⟨S6144x5120, .fp8e4m3⟩
  | .hbm, ⟨6, _⟩ => ⟨S6144x1, .f32⟩
  | .hbm, ⟨7, _⟩ => ⟨S6144x128, .f32⟩
  | .hbm, ⟨8, _⟩ => ⟨S6144x8192, .fp8e5m2⟩
  | .hbm, ⟨9, _⟩ => ⟨S1x8192, .f32⟩
  | .hbm, ⟨10, _⟩ => ⟨S5120x8192, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S1024x2560, .fp8e4m3⟩
  | .local _ .vmem, ⟨5, _⟩ => ⟨S1024x2560, .fp8e4m3⟩
  | .local _ .vmem, ⟨6, _⟩ => ⟨S1024x128, .f32⟩
  | .local _ .vmem, ⟨7, _⟩ => ⟨S1024x128, .f32⟩
  | .local _ .vmem, ⟨8, _⟩ => ⟨S1024x1024, .fp8e5m2⟩
  | .local _ .vmem, ⟨9, _⟩ => ⟨S1024x1024, .fp8e5m2⟩
  | .local _ .vmem, ⟨10, _⟩ => ⟨S1x1024, .f32⟩
  | .local _ .vmem, ⟨11, _⟩ => ⟨S1x1024, .f32⟩
  | .local _ .vmem, ⟨12, _⟩ => ⟨S2560x1024, .f32⟩
  | .local _ .vmem, ⟨13, _⟩ => ⟨S2560x1024, .f32⟩
  | .local _ .vmem, ⟨14, _⟩ => ⟨S6x1024x1024, .fp8e5m2⟩
  | _, _ => ⟨S2x3072x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 6], ![false, false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_4 : BitVec 32 := 0#32
  let v11 : BitVec 1 := Scalar.cmpi .ne v10 c0_i32_4
  v11

@[reducible] def k0_t1_loop : Scf.Loop 32 :=
  let c0_i32_21 : BitVec 32 := 0#32
  let c8_i32 : BitVec 32 := 8#32
  let v36 : BitVec 32 := Scalar.addi c0_i32_21 c8_i32
  let c1_i32 : BitVec 32 := 1#32
  ⟨c0_i32_21, v36, c1_i32⟩
def k0_mult1 (k0_t1 : Fin k0_t1_loop.trips) : BitVec 32 :=
  let c0_i32_21 : BitVec 32 := 0#32
  let c1_i32 : BitVec 32 := 1#32
  let arg11 : BitVec 32 := Scf.iv c0_i32_21 c1_i32 k0_t1
  let c128_i32 : BitVec 32 := 128#32
  let v37 : BitVec 32 := Scalar.muli arg11 c128_i32
  v37
def k0_off1 (k0_t1 : Fin k0_t1_loop.trips) : Fin 2 → Nat :=
  let c0_i32_21 : BitVec 32 := 0#32
  let c1_i32 : BitVec 32 := 1#32
  let arg11 : BitVec 32 := Scf.iv c0_i32_21 c1_i32 k0_t1
  let c128_i32 : BitVec 32 := 128#32
  let v37 : BitVec 32 := Scalar.muli arg11 c128_i32
  let v38 : BitVec 32 := v37
  let v39 : Index := Scalar.indexCast v38
  let c0_23 : Index := 0#32
  ![v39.toNat, 0]
def k0_off2 (i : grid0.Coords) (k0_t1 : Fin k0_t1_loop.trips) : Fin 3 → Nat :=
  let arg2 : BitVec 32 := BitVec.ofNat 32 (i 2).val
  let v51 : Index := Scalar.indexCast arg2
  let c0_i32_21 : BitVec 32 := 0#32
  let c1_i32 : BitVec 32 := 1#32
  let arg11 : BitVec 32 := Scf.iv c0_i32_21 c1_i32 k0_t1
  let c128_i32 : BitVec 32 := 128#32
  let v37 : BitVec 32 := Scalar.muli arg11 c128_i32
  let v38 : BitVec 32 := v37
  let v52 : Index := Scalar.indexCast v38
  let c0_27 : Index := 0#32
  ![v51.toNat, v52.toNat, 0]
def k0_off3 (i : grid0.Coords) : Fin 3 → Nat :=
  let arg2 : BitVec 32 := BitVec.ofNat 32 (i 2).val
  let v25 : Index := Scalar.indexCast arg2
  let c0_13 : Index := 0#32
  let c0_14 : Index := 0#32
  ![v25.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c5_i32 : BitVec 32 := 5#32
  let v1 : BitVec 32 := Scalar.select v0 arg2 c5_i32
  let c0_i32_0 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c5_i32 : BitVec 32 := 5#32
  let v1 : BitVec 32 := Scalar.select v0 arg2 c5_i32
  let c0_i32_0 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2560x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== DwqkvRefIdeal.lean ====
abbrev S2x3072x8192 : Shape := ⟨3, ![2, 3072, 8192]⟩
abbrev S8x8192 : Shape := ⟨2, ![8, 8192]⟩
abbrev S2x3072x5120 : Shape := ⟨3, ![2, 3072, 5120]⟩
abbrev S2x3072 : Shape := ⟨2, ![2, 3072]⟩
abbrev S6144x8192 : Shape := ⟨2, ![6144, 8192]⟩
abbrev S6144x5120 : Shape := ⟨2, ![6144, 5120]⟩
abbrev S6144x1 : Shape := ⟨2, ![6144, 1]⟩
abbrev S1x8192 : Shape := ⟨2, ![1, 8192]⟩
abbrev S5120x8192 : Shape := ⟨2, ![5120, 8192]⟩
abbrev S8192 : Shape := ⟨1, ![8192]⟩

abbrev nBuf : Space → Nat
  | .hbm => 10
  | .vmem => 7
  | .smem => 0
  | _ => 0

abbrev bufTy : (tb : Table) → Fin (tcTables nBuf tb) → BufTy
  | .hbm, ⟨0, _⟩ => ⟨S2x3072x8192, .f32⟩
  | .hbm, ⟨1, _⟩ => ⟨S8x8192, .f32⟩
  | .hbm, ⟨2, _⟩ => ⟨S2x3072x5120, .fp8e4m3⟩
  | .hbm, ⟨3, _⟩ => ⟨S2x3072, .f32⟩
  | .hbm, ⟨4, _⟩ => ⟨S6144x8192, .f32⟩
  | .hbm, ⟨5, _⟩ => ⟨S6144x5120, .fp8e4m3⟩
  | .hbm, ⟨6, _⟩ => ⟨S6144x1, .f32⟩
  | .hbm, ⟨7, _⟩ => ⟨S6144x8192, .fp8e5m2⟩
  | .hbm, ⟨8, _⟩ => ⟨S1x8192, .f32⟩
  | .hbm, ⟨9, _⟩ => ⟨S5120x8192, .f32⟩
  | .local _ .vmem, ⟨0, _⟩ => ⟨S6144x8192, .f32⟩
  | .local _ .vmem, ⟨1, _⟩ => ⟨S8x8192, .f32⟩
  | .local _ .vmem, ⟨2, _⟩ => ⟨S6144x5120, .fp8e4m3⟩
  | .local _ .vmem, ⟨3, _⟩ => ⟨S6144x1, .f32⟩
  | .local _ .vmem, ⟨4, _⟩ => ⟨S6144x8192, .fp8e5m2⟩
  | .local _ .vmem, ⟨5, _⟩ => ⟨S1x8192, .f32⟩
  | .local _ .vmem, ⟨6, _⟩ => ⟨S5120x8192, .f32⟩
  | _, _ => ⟨S2x3072x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x8192 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Dyn.lean ====
abbrev S2x3072x5120 : Shape := ⟨3, ![2, 3072, 5120]⟩
abbrev S4096x5120 : Shape := ⟨2, ![4096, 5120]⟩
abbrev S_ : Shape := ⟨0, ![]⟩
abbrev S1x1 : Shape := ⟨2, ![1, 1]⟩
abbrev S6144x5120 : Shape := ⟨2, ![6144, 5120]⟩
abbrev S6144x128 : Shape := ⟨2, ![6144, 128]⟩
abbrev S6144x4096 : Shape := ⟨2, ![6144, 4096]⟩
abbrev S384x5120 : Shape := ⟨2, ![384, 5120]⟩
abbrev S384x128 : Shape := ⟨2, ![384, 128]⟩
abbrev S384x4096 : Shape := ⟨2, ![384, 4096]⟩
abbrev S384 : Shape := ⟨1, ![384]⟩
abbrev S384x1 : Shape := ⟨2, ![384, 1]⟩
abbrev S384x256 : Shape := ⟨2, ![384, 256]⟩
abbrev S512x5120 : Shape := ⟨2, ![512, 5120]⟩
abbrev S384x512 : Shape := ⟨2, ![384, 512]⟩

abbrev nBuf : Space → Nat
  | .hbm => 8
  | .vmem => 9
  | .smem => 1
  | _ => 0

abbrev bufTy : (tb : Table) → Fin (tcTables nBuf tb) → BufTy
  | .hbm, ⟨0, _⟩ => ⟨S2x3072x5120, .bf16⟩
  | .hbm, ⟨1, _⟩ => ⟨S4096x5120, .fp8e4m3⟩
  | .hbm, ⟨2, _⟩ => ⟨S_, .f32⟩
  | .hbm, ⟨3, _⟩ => ⟨S1x1, .f32⟩
  | .hbm, ⟨4, _⟩ => ⟨S6144x5120, .bf16⟩
  | .hbm, ⟨5, _⟩ => ⟨S6144x5120, .fp8e5m2⟩
  | .hbm, ⟨6, _⟩ => ⟨S6144x128, .f32⟩
  | .hbm, ⟨7, _⟩ => ⟨S6144x4096, .f32⟩
  | .local _ .vmem, ⟨0, _⟩ => ⟨S384x5120, .bf16⟩
  | .local _ .vmem, ⟨1, _⟩ => ⟨S384x5120, .bf16⟩
  | .local _ .vmem, ⟨2, _⟩ => ⟨S4096x5120, .fp8e4m3⟩
  | .local _ .vmem, ⟨3, _⟩ => ⟨S384x5120, .fp8e5m2⟩
  | .local _ .vmem, ⟨4, _⟩ => ⟨S384x5120, .fp8e5m2⟩
  | .local _ .vmem, ⟨5, _⟩ => ⟨S384x128, .f32⟩
  | .local _ .vmem, ⟨6, _⟩ => ⟨S384x128, .f32⟩
  | .local _ .vmem, ⟨7, _⟩ => ⟨S384x4096, .f32⟩
  | .local _ .vmem, ⟨8, _⟩ => ⟨S384x4096, .f32⟩
  | .local _ .smem, ⟨0, _⟩ => ⟨S1x1, .f32⟩
  | _, _ => ⟨S2x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S384x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x5120 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DynRefIdeal.lean ====
abbrev S2x3072x5120 : Shape := ⟨3, ![2, 3072, 5120]⟩
abbrev S4096x5120 : Shape := ⟨2, ![4096, 5120]⟩
abbrev S_ : Shape := ⟨0, ![]⟩
abbrev S6144x5120 : Shape := ⟨2, ![6144, 5120]⟩
abbrev S1x1 : Shape := ⟨2, ![1, 1]⟩
abbrev S6144x128 : Shape := ⟨2, ![6144, 128]⟩
abbrev S6144x4096 : Shape := ⟨2, ![6144, 4096]⟩
abbrev S6144 : Shape := ⟨1, ![6144]⟩
abbrev S6144x1 : Shape := ⟨2, ![6144, 1]⟩

abbrev nBuf : Space → Nat
  | .hbm => 8
  | .vmem => 6
  | .smem => 0
  | _ => 0

abbrev bufTy : (tb : Table) → Fin (tcTables nBuf tb) → BufTy
  | .hbm, ⟨0, _⟩ => ⟨S2x3072x5120, .bf16⟩
  | .hbm, ⟨1, _⟩ => ⟨S4096x5120, .fp8e4m3⟩
  | .hbm, ⟨2, _⟩ => ⟨S_, .f32⟩
  | .hbm, ⟨3, _⟩ => ⟨S6144x5120, .bf16⟩
  | .hbm, ⟨4, _⟩ => ⟨S1x1, .f32⟩
  | .hbm, ⟨5, _⟩ => ⟨S6144x5120, .fp8e5m2⟩
  | .hbm, ⟨6, _⟩ => ⟨S6144x128, .f32⟩
  | .hbm, ⟨7, _⟩ => ⟨S6144x4096, .f32⟩
  | .local _ .vmem, ⟨0, _⟩ => ⟨S6144x5120, .bf16⟩
  | .local _ .vmem, ⟨1, _⟩ => ⟨S4096x5120, .fp8e4m3⟩
  | .local _ .vmem, ⟨2, _⟩ => ⟨S1x1, .f32⟩
  | .local _ .vmem, ⟨3, _⟩ => ⟨S6144x5120, .fp8e5m2⟩
  | .local _ .vmem, ⟨4, _⟩ => ⟨S6144x128, .f32⟩
  | .local _ .vmem, ⟨5, _⟩ => ⟨S6144x4096, .f32⟩
  | _, _ => ⟨S2x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x5120 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Gdn.lean ====
abbrev S2x3072x8192 : Shape := ⟨3, ![2, 3072, 8192]⟩
abbrev S2x3072x128 : Shape := ⟨3, ![2, 3072, 128]⟩
abbrev S8192x4 : Shape := ⟨2, ![8192, 4]⟩
abbrev S16 : Shape := ⟨1, ![16]⟩
abbrev S2x24x16x128x256 : Shape := ⟨5, ![2, 24, 16, 128, 256]⟩
abbrev S2x24x16 : Shape := ⟨3, ![2, 24, 16]⟩
abbrev S2x3072x16x256 : Shape := ⟨4, ![2, 3072, 16, 256]⟩
abbrev S256 : Shape := ⟨1, ![256]⟩
abbrev S6144x4096 : Shape := ⟨2, ![6144, 4096]⟩
abbrev S32 : Shape := ⟨1, ![32]⟩
abbrev S32x1 : Shape := ⟨2, ![32, 1]⟩
abbrev S32x128 : Shape := ⟨2, ![32, 128]⟩
abbrev S4x8192 : Shape := ⟨2, ![4, 8192]⟩
abbrev S_ : Shape := ⟨0, ![]⟩
abbrev S8x8192 : Shape := ⟨2, ![8, 8192]⟩
abbrev S48x16 : Shape := ⟨2, ![48, 16]⟩
abbrev S2x3072x4096 : Shape := ⟨3, ![2, 3072, 4096]⟩
abbrev S1x256 : Shape := ⟨2, ![1, 256]⟩
abbrev S2x16x128x256 : Shape := ⟨4, ![2, 16, 128, 256]⟩
abbrev S8x4096 : Shape := ⟨2, ![8, 4096]⟩
abbrev S4x8x8192 : Shape := ⟨3, ![4, 8, 8192]⟩
abbrev S8x256 : Shape := ⟨2, ![8, 256]⟩
abbrev S1x128x8192 : Shape := ⟨3, ![1, 128, 8192]⟩
abbrev S1x32x8192 : Shape := ⟨3, ![1, 32, 8192]⟩
abbrev S1x128x128 : Shape := ⟨3, ![1, 128, 128]⟩
abbrev S1x8x128 : Shape := ⟨3, ![1, 8, 128]⟩
abbrev S1x1x16x128x256 : Shape := ⟨5, ![1, 1, 16, 128, 256]⟩
abbrev S1x128x4096 : Shape := ⟨3, ![1, 128, 4096]⟩
abbrev S1x16x128x256 : Shape := ⟨4, ![1, 16, 128, 256]⟩
abbrev S4x136x128 : Shape := ⟨3, ![4, 136, 128]⟩
abbrev S5x16x128 : Shape := ⟨3, ![5, 16, 128]⟩
abbrev S3x16x128 : Shape := ⟨3, ![3, 16, 128]⟩
abbrev S16x128 : Shape := ⟨2, ![16, 128]⟩
abbrev S128x128 : Shape := ⟨2, ![128, 128]⟩
abbrev S1x16x128 : Shape := ⟨3, ![1, 16, 128]⟩
abbrev S8x128 : Shape := ⟨2, ![8, 128]⟩
abbrev S120x128 : Shape := ⟨2, ![120, 128]⟩
abbrev S1x1x128 : Shape := ⟨3, ![1, 1, 128]⟩
abbrev S1x128 : Shape := ⟨2, ![1, 128]⟩
abbrev S1x32x128 : Shape := ⟨3, ![1, 32, 128]⟩
abbrev S128x256 : Shape := ⟨2, ![128, 256]⟩
abbrev S128 : Shape := ⟨1, ![128]⟩
abbrev S128x1 : Shape := ⟨2, ![128, 1]⟩
abbrev S1x1x1x128x256 : Shape := ⟨5, ![1, 1, 1, 128, 256]⟩
abbrev S1x1 : Shape := ⟨2, ![1, 1]⟩
abbrev S1x128x256 : Shape := ⟨3, ![1, 128, 256]⟩
abbrev S16x8x256 : Shape := ⟨3, ![16, 8, 256]⟩
abbrev S1x1x128x256 : Shape := ⟨4, ![1, 1, 128, 256]⟩
abbrev S16x8x128 : Shape := ⟨3, ![16, 8, 128]⟩
abbrev S16x1 : Shape := ⟨2, ![16, 1]⟩
abbrev S96x128 : Shape := ⟨2, ![96, 128]⟩

abbrev nBuf : Space → Nat
  | .hbm => 31
  | .vmem => 43
  | .smem => 1
  | _ => 0

abbrev bufTy : (tb : Table) → Fin (tcTables nBuf tb) → BufTy
  | .hbm, ⟨0, _⟩ => ⟨S2x3072x8192, .fp8e4m3⟩
  | .hbm, ⟨1, _⟩ => ⟨S2x3072x128, .f32⟩
  | .hbm, ⟨2, _⟩ => ⟨S8192x4, .f32⟩
  | .hbm, ⟨3, _⟩ => ⟨S16, .f32⟩
  | .hbm, ⟨4, _⟩ => ⟨S16, .f32⟩
  | .hbm, ⟨5, _⟩ => ⟨S2x24x16x128x256, .fp8e4m3⟩
  | .hbm, ⟨6, _⟩ => ⟨S2x24x16, .f32⟩
  | .hbm, ⟨7, _⟩ => ⟨S2x3072x16x256, .bf16⟩
  | .hbm, ⟨8, _⟩ => ⟨S256, .f32⟩
  | .hbm, ⟨9, _⟩ => ⟨S6144x4096, .f32⟩
  | .hbm, ⟨10, _⟩ => ⟨S32, .f32⟩
  | .hbm, ⟨11, _⟩ => ⟨S32x1, .f32⟩
  | .hbm, ⟨12, _⟩ => ⟨S32x128, .f32⟩
  | .hbm, ⟨13, _⟩ => ⟨S4x8192, .f32⟩
  | .hbm, ⟨14, _⟩ => ⟨S_, .i32⟩
  | .hbm, ⟨15, _⟩ => ⟨S_, .f32⟩
  | .hbm, ⟨16, _⟩ => ⟨S8x8192, .f32⟩
  | .hbm, ⟨17, _⟩ => ⟨S48x16, .f32⟩
  | .hbm, ⟨18, _⟩ => ⟨S2x3072x4096, .bf16⟩
  | .hbm, ⟨19, _⟩ => ⟨S2x3072x4096, .f32⟩
  | .hbm, ⟨20, _⟩ => ⟨S1x256, .f32⟩
  | .hbm, ⟨21, _⟩ => ⟨S2x3072x4096, .bf16⟩
  | .hbm, ⟨22, _⟩ => ⟨S2x3072x4096, .f32⟩
  | .hbm, ⟨23, _⟩ => ⟨S2x3072x8192, .f32⟩
  | .hbm, ⟨24, _⟩ => ⟨S2x3072x8192, .fp8e5m2⟩
  | .hbm, ⟨25, _⟩ => ⟨S2x3072x128, .f32⟩
  | .hbm, ⟨26, _⟩ => ⟨S2x16x128x256, .f32⟩
  | .hbm, ⟨27, _⟩ => ⟨S8x4096, .f32⟩
  | .hbm, ⟨28, _⟩ => ⟨S8x8192, .f32⟩
  | .hbm, ⟨29, _⟩ => ⟨S4x8x8192, .f32⟩
  | .hbm, ⟨30, _⟩ => ⟨S8x256, .f32⟩
  | .local _ .vmem, ⟨0, _⟩ => ⟨S1x128x8192, .fp8e4m3⟩
  | .local _ .vmem, ⟨1, _⟩ => ⟨S1x128x8192, .fp8e4m3⟩
  | .local _ .vmem, ⟨2, _⟩ => ⟨S1x32x8192, .fp8e4m3⟩
  | .local _ .vmem, ⟨3, _⟩ => ⟨S1x32x8192, .fp8e4m3⟩
  | .local _ .vmem, ⟨4, _⟩ => ⟨S1x128x128, .f32⟩
  | .local _ .vmem, ⟨5, _⟩ => ⟨S1x128x128, .f32⟩
  | .local _ .vmem, ⟨6, _⟩ => ⟨S1x8x128, .f32⟩
  | .local _ .vmem, ⟨7, _⟩ => ⟨S1x8x128, .f32⟩
  | .local _ .vmem, ⟨8, _⟩ => ⟨S8x8192, .f32⟩
  | .local _ .vmem, ⟨9, _⟩ => ⟨S32x128, .f32⟩
  | .local _ .vmem, ⟨10, _⟩ => ⟨S1x1x16x128x256, .fp8e4m3⟩
  | .local _ .vmem, ⟨11, _⟩ => ⟨S1x1x16x128x256, .fp8e4m3⟩
  | .local _ .vmem, ⟨12, _⟩ => ⟨S1x128x4096, .bf16⟩
  | .local _ .vmem, ⟨13, _⟩ => ⟨S1x128x4096, .bf16⟩
  | .local _ .vmem, ⟨14, _⟩ => ⟨S1x128x4096, .f32⟩
  | .local _ .vmem, ⟨15, _⟩ => ⟨S1x128x4096, .f32⟩
  | .local _ .vmem, ⟨16, _⟩ => ⟨S1x256, .f32⟩
  | .local _ .vmem, ⟨17, _⟩ => ⟨S1x128x4096, .bf16⟩
  | .local _ .vmem, ⟨18, _⟩ => ⟨S1x128x4096, .bf16⟩
  | .local _ .vmem, ⟨19, _⟩ => ⟨S1x128x4096, .f32⟩
  | .local _ .vmem, ⟨20, _⟩ => ⟨S1x128x4096, .f32⟩
  | .local _ .vmem, ⟨21, _⟩ => ⟨S1x128x8192, .f32⟩
  | .local _ .vmem, ⟨22, _⟩ => ⟨S1x128x8192, .f32⟩
  | .local _ .vmem, ⟨23, _⟩ => ⟨S1x128x8192, .fp8e5m2⟩
  | .local _ .vmem, ⟨24, _⟩ => ⟨S1x128x8192, .fp8e5m2⟩
  | .local _ .vmem, ⟨25, _⟩ => ⟨S1x128x128, .f32⟩
  | .local _ .vmem, ⟨26, _⟩ => ⟨S1x128x128, .f32⟩
  | .local _ .vmem, ⟨27, _⟩ => ⟨S1x16x128x256, .f32⟩
  | .local _ .vmem, ⟨28, _⟩ => ⟨S1x16x128x256, .f32⟩
  | .local _ .vmem, ⟨29, _⟩ => ⟨S8x4096, .f32⟩
  | .local _ .vmem, ⟨30, _⟩ => ⟨S8x8192, .f32⟩
  | .local _ .vmem, ⟨31, _⟩ => ⟨S4x8x8192, .f32⟩
  | .local _ .vmem, ⟨32, _⟩ => ⟨S8x256, .f32⟩
  | .local _ .vmem, ⟨33, _⟩ => ⟨S4x136x128, .f32⟩
  | .local _ .vmem, ⟨34, _⟩ => ⟨S4x136x128, .f32⟩
  | .local _ .vmem, ⟨35, _⟩ => ⟨S8x8192, .f32⟩
  | .local _ .vmem, ⟨36, _⟩ => ⟨S5x16x128, .f32⟩
  | .local _ .vmem, ⟨37, _⟩ => ⟨S3x16x128, .f32⟩
  | .local _ .vmem, ⟨38, _⟩ => ⟨S16x128, .f32⟩
  | .local _ .vmem, ⟨39, _⟩ => ⟨S16x128, .f32⟩
  | .local _ .vmem, ⟨40, _⟩ => ⟨S128x128, .f32⟩
  | .local _ .vmem, ⟨41, _⟩ => ⟨S128x128, .f32⟩
  | .local _ .vmem, ⟨42, _⟩ => ⟨S128x128, .f32⟩
  | .local _ .smem, ⟨0, _⟩ => ⟨S48x16, .f32⟩
  | _, _ => ⟨S2x3072x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev main_v9_7 : Ref sig .tc := ⟨.hbm, 28, rfl⟩
abbrev main_v9_8 : Ref sig .tc := ⟨.hbm, 29, rfl⟩
abbrev main_v9_9 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_scratch6 : Ref sig .tc := ⟨.vmem, 39, rfl⟩
abbrev cc0_scratch7 : Ref sig .tc := ⟨.vmem, 40, rfl⟩
abbrev cc0_scratch8 : Ref sig .tc := ⟨.vmem, 41, rfl⟩
abbrev cc0_scratch9 : Ref sig .tc := ⟨.vmem, 42, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem19_0 : DmaSem sig := 32
abbrev cc0_sem20_0 : DmaSem sig := 33

abbrev nD : Nat := 1
abbrev τ : Topo := Topo.v7x

variable {F : FTy → Type} [FloatOps F]

abbrev grid0 : Pipeline.Grid := ⟨2, ![2, 24], ![false, false]⟩

@[reducible] def k0_t1_loop : Scf.Loop 32 :=
  let c0_i32_49 : BitVec 32 := 0#32
  let c16_i32 : BitVec 32 := 16#32
  let v97 : BitVec 32 := Scalar.addi c0_i32_49 c16_i32
  let c1_i32 : BitVec 32 := 1#32
  ⟨c0_i32_49, v97, c1_i32⟩
def k0_mult1 (k0_t1 : Fin k0_t1_loop.trips) : BitVec 32 :=
  let c0_i32_49 : BitVec 32 := 0#32
  let c1_i32 : BitVec 32 := 1#32
  let arg33 : BitVec 32 := Scf.iv c0_i32_49 c1_i32 k0_t1
  let c256_i32 : BitVec 32 := 256#32
  let v143 : BitVec 32 := Scalar.muli arg33 c256_i32
  v143
def k0_off1 (k0_t1 : Fin k0_t1_loop.trips) : Fin 3 → Nat :=
  let c0_77 : Index := 0#32
  let c0_i32_49 : BitVec 32 := 0#32
  let c1_i32 : BitVec 32 := 1#32
  let arg33 : BitVec 32 := Scf.iv c0_i32_49 c1_i32 k0_t1
  let v146 : Index := Scalar.indexCast arg33
  let c0_78 : Index := 0#32
  ![0, v146.toNat, 0]
def k0_off2 (k0_t1 : Fin k0_t1_loop.trips) : Fin 3 → Nat :=
  let c0_79 : Index := 0#32
  let c0_i32_49 : BitVec 32 := 0#32
  let c1_i32 : BitVec 32 := 1#32
  let arg33 : BitVec 32 := Scf.iv c0_i32_49 c1_i32 k0_t1
  let v152 : Index := Scalar.indexCast arg33
  let c0_80 : Index := 0#32
  ![0, v152.toNat, 0]
def k0_mult2 (k0_t1 : Fin k0_t1_loop.trips) : BitVec 32 :=
  let c0_i32_49 : BitVec 32 := 0#32
  let c1_i32 : BitVec 32 := 1#32
  let arg33 : BitVec 32 := Scf.iv c0_i32_49 c1_i32 k0_t1
  let c128_i32 : BitVec 32 := 128#32
  let v145 : BitVec 32 := Scalar.muli arg33 c128_i32
  v145
def k0_off3 (k0_t1 : Fin k0_t1_loop.trips) : Fin 3 → Nat :=
  let c0_81 : Index := 0#32
  let c0_82 : Index := 0#32
  let c0_i32_49 : BitVec 32 := 0#32
  let c1_i32 : BitVec 32 := 1#32
  let arg33 : BitVec 32 := Scf.iv c0_i32_49 c1_i32 k0_t1
  let c128_i32 : BitVec 32 := 128#32
  let v145 : BitVec 32 := Scalar.muli arg33 c128_i32
  let v159 : BitVec 32 := v145
  let v160 : Index := Scalar.indexCast v159
  ![0, 0, v160.toNat]
def k0_off4 (k0_t1 : Fin k0_t1_loop.trips) : Fin 3 → Nat :=
  let c0_85 : Index := 0#32
  let c0_86 : Index := 0#32
  let c0_i32_49 : BitVec 32 := 0#32
  let c1_i32 : BitVec 32 := 1#32
  let arg33 : BitVec 32 := Scf.iv c0_i32_49 c1_i32 k0_t1
  let c128_i32 : BitVec 32 := 128#32
  let v145 : BitVec 32 := Scalar.muli arg33 c128_i32
  let v159 : BitVec 32 := v145
  let v168 : Index := Scalar.indexCast v159
  ![0, 0, v168.toNat]
def k0_off5 (k0_t1 : Fin k0_t1_loop.trips) : Fin 2 → Nat :=
  let c0_90 : Index := 0#32
  let c0_i32_49 : BitVec 32 := 0#32
  let c1_i32 : BitVec 32 := 1#32
  let arg33 : BitVec 32 := Scf.iv c0_i32_49 c1_i32 k0_t1
  let c128_i32 : BitVec 32 := 128#32
  let v145 : BitVec 32 := Scalar.muli arg33 c128_i32
  let v159 : BitVec 32 := v145
  let v177 : Index := Scalar.indexCast v159
  ![0, v177.toNat]
def k0_off6 (k0_t1 : Fin k0_t1_loop.trips) : Fin 2 → Nat :=
  let c1_93 : Index := 1#32
  let c0_i32_49 : BitVec 32 := 0#32
  let c1_i32 : BitVec 32 := 1#32
  let arg33 : BitVec 32 := Scf.iv c0_i32_49 c1_i32 k0_t1
  let c128_i32 : BitVec 32 := 128#32
  let v145 : BitVec 32 := Scalar.muli arg33 c128_i32
  let v159 : BitVec 32 := v145
  let v184 : Index := Scalar.indexCast v159
  ![1, v184.toNat]
def k0_off7 (k0_t1 : Fin k0_t1_loop.trips) : Fin 2 → Nat :=
  let c2_96 : Index := 2#32
  let c0_i32_49 : BitVec 32 := 0#32
  let c1_i32 : BitVec 32 := 1#32
  let arg33 : BitVec 32 := Scf.iv c0_i32_49 c1_i32 k0_t1
  let c128_i32 : BitVec 32 := 128#32
  let v145 : BitVec 32 := Scalar.muli arg33 c128_i32
  let v159 : BitVec 32 := v145
  let v192 : Index := Scalar.indexCast v159
  ![2, v192.toNat]
def k0_off8 (k0_t1 : Fin k0_t1_loop.trips) : Fin 2 → Nat :=
  let c3_99 : Index := 3#32
  let c0_i32_49 : BitVec 32 := 0#32
  let c1_i32 : BitVec 32 := 1#32
  let arg33 : BitVec 32 := Scf.iv c0_i32_49 c1_i32 k0_t1
  let c128_i32 : BitVec 32 := 128#32
  let v145 : BitVec 32 := Scalar.muli arg33 c128_i32
  let v159 : BitVec 32 := v145
  let v200 : Index := Scalar.indexCast v159
  ![3, v200.toNat]
def k0_off9 (k0_t1 : Fin k0_t1_loop.trips) : Fin 3 → Nat :=
  let c1_104 : Index := 1#32
  let c0_i32_49 : BitVec 32 := 0#32
  let c1_i32 : BitVec 32 := 1#32
  let arg33 : BitVec 32 := Scf.iv c0_i32_49 c1_i32 k0_t1
  let v210 : Index := Scalar.indexCast arg33
  let c0_105 : Index := 0#32
  ![1, v210.toNat, 0]
def k0_off10 (k0_t1 : Fin k0_t1_loop.trips) : Fin 3 → Nat :=
  let c1_106 : Index := 1#32
  let c0_i32_49 : BitVec 32 := 0#32
  let c1_i32 : BitVec 32 := 1#32
  let arg33 : BitVec 32 := Scf.iv c0_i32_49 c1_i32 k0_t1
  let v216 : Index := Scalar.indexCast arg33
  let c0_107 : Index := 0#32
  ![1, v216.toNat, 0]
def k0_mult3 (k0_t1 : Fin k0_t1_loop.trips) : BitVec 32 :=
  let c2048_i32 : BitVec 32 := 2048#32
  let c0_i32_49 : BitVec 32 := 0#32
  let c1_i32 : BitVec 32 := 1#32
  let arg33 : BitVec 32 := Scf.iv c0_i32_49 c1_i32 k0_t1
  let c128_i32_103 : BitVec 32 := 128#32
  let v208 : BitVec 32 := Scalar.muli arg33 c128_i32_103
  let v209 : BitVec 32 := Scalar.addi c2048_i32 v208
  v209
def k0_off11 (k0_t1 : Fin k0_t1_loop.trips) (c2048_i32 : BitVec 32) (c128_i32_103 : BitVec 32) : Fin 3 → Nat :=
  let c0_108 : Index := 0#32
  let c0_109 : Index := 0#32
  let c0_i32_49 : BitVec 32 := 0#32
  let c1_i32 : BitVec 32 := 1#32
  let arg33 : BitVec 32 := Scf.iv c0_i32_49 c1_i32 k0_t1
  let v208 : BitVec 32 := Scalar.muli arg33 c128_i32_103
  let v209 : BitVec 32 := Scalar.addi c2048_i32 v208
  let v223 : BitVec 32 := v209
  let v224 : Index := Scalar.indexCast v223
  ![0, 0, v224.toNat]
def k0_off11_at (r : Fin 2) : BitVec 32 × BitVec 32 :=
  if r.val < 1 then
    (2048#32, 128#32)
  else
    (4096#32, 256#32)
def k0_off12 (k0_t1 : Fin k0_t1_loop.trips) (c2048_i32 : BitVec 32) (c128_i32_103 : BitVec 32) : Fin 3 → Nat :=
  let c0_113 : Index := 0#32
  let c0_114 : Index := 0#32
  let c0_i32_49 : BitVec 32 := 0#32
  let c1_i32 : BitVec 32 := 1#32
  let arg33 : BitVec 32 := Scf.iv c0_i32_49 c1_i32 k0_t1
  let v208 : BitVec 32 := Scalar.muli arg33 c128_i32_103
  let v209 : BitVec 32 := Scalar.addi c2048_i32 v208
  let v223 : BitVec 32 := v209
  let v232 : Index := Scalar.indexCast v223
  ![0, 0, v232.toNat]
def k0_off12_at (r : Fin 2) : BitVec 32 × BitVec 32 :=
  if r.val < 1 then
    (2048#32, 128#32)
  else
    (4096#32, 256#32)
def k0_off13 (k0_t1 : Fin k0_t1_loop.trips) (c2048_i32 : BitVec 32) (c128_i32_103 : BitVec 32) : Fin 2 → Nat :=
  let c0_118 : Index := 0#32
  let c0_i32_49 : BitVec 32 := 0#32
  let c1_i32 : BitVec 32 := 1#32
  let arg33 : BitVec 32 := Scf.iv c0_i32_49 c1_i32 k0_t1
  let v208 : BitVec 32 := Scalar.muli arg33 c128_i32_103
  let v209 : BitVec 32 := Scalar.addi c2048_i32 v208
  let v223 : BitVec 32 := v209
  let v241 : Index := Scalar.indexCast v223
  ![0, v241.toNat]
def k0_off13_at (r : Fin 2) : BitVec 32 × BitVec 32 :=
  if r.val < 1 then
    (2048#32, 128#32)
  else
    (4096#32, 256#32)
def k0_off14 (k0_t1 : Fin k0_t1_loop.trips) (c2048_i32 : BitVec 32) (c128_i32_103 : BitVec 32) : Fin 2 → Nat :=
  let c1_122 : Index := 1#32
  let c0_i32_49 : BitVec 32 := 0#32
  let c1_i32 : BitVec 32 := 1#32
  let arg33 : BitVec 32 := Scf.iv c0_i32_49 c1_i32 k0_t1
  let v208 : BitVec 32 := Scalar.muli arg33 c128_i32_103
  let v209 : BitVec 32 := Scalar.addi c2048_i32 v208
  let v223 : BitVec 32 := v209
  let v248 : Index := Scalar.indexCast v223
  ![1, v248.toNat]
def k0_off14_at (r : Fin 2) : BitVec 32 × BitVec 32 :=
  if r.val < 1 then
    (2048#32, 128#32)
  else
    (4096#32, 256#32)
def k0_off15 (k0_t1 : Fin k0_t1_loop.trips) (c2048_i32 : BitVec 32) (c128_i32_103 : BitVec 32) : Fin 2 → Nat :=
  let c2_126 : Index := 2#32
  let c0_i32_49 : BitVec 32 := 0#32
  let c1_i32 : BitVec 32 := 1#32
  let arg33 : BitVec 32 := Scf.iv c0_i32_49 c1_i32 k0_t1
  let v208 : BitVec 32 := Scalar.muli arg33 c128_i32_103
  let v209 : BitVec 32 := Scalar.addi c2048_i32 v208
  let v223 : BitVec 32 := v209
  let v256 : Index := Scalar.indexCast v223
  ![2, v256.toNat]
def k0_off15_at (r : Fin 2) : BitVec 32 × BitVec 32 :=
  if r.val < 1 then
    (2048#32, 128#32)
  else
    (4096#32, 256#32)
def k0_off16 (k0_t1 : Fin k0_t1_loop.trips) (c2048_i32 : BitVec 32) (c128_i32_103 : BitVec 32) : Fin 2 → Nat :=
  let c3_130 : Index := 3#32
  let c0_i32_49 : BitVec 32 := 0#32
  let c1_i32 : BitVec 32 := 1#32
  let arg33 : BitVec 32 := Scf.iv c0_i32_49 c1_i32 k0_t1
  let v208 : BitVec 32 := Scalar.muli arg33 c128_i32_103
  let v209 : BitVec 32 := Scalar.addi c2048_i32 v208
  let v223 : BitVec 32 := v209
  let v264 : Index := Scalar.indexCast v223
  ![3, v264.toNat]
def k0_off16_at (r : Fin 2) : BitVec 32 × BitVec 32 :=
  if r.val < 1 then
    (2048#32, 128#32)
  else
    (4096#32, 256#32)
def k0_off17 (k0_t1 : Fin k0_t1_loop.trips) : Fin 3 → Nat :=
  let c2_134 : Index := 2#32
  let c0_i32_49 : BitVec 32 := 0#32
  let c1_i32 : BitVec 32 := 1#32
  let arg33 : BitVec 32 := Scf.iv c0_i32_49 c1_i32 k0_t1
  let v272 : Index := Scalar.indexCast arg33
  let c0_135 : Index := 0#32
  ![2, v272.toNat, 0]
def k0_off18 (k0_t1 : Fin k0_t1_loop.trips) : Fin 3 → Nat :=
  let c2_136 : Index := 2#32
  let c0_i32_49 : BitVec 32 := 0#32
  let c1_i32 : BitVec 32 := 1#32
  let arg33 : BitVec 32 := Scf.iv c0_i32_49 c1_i32 k0_t1
  let v278 : Index := Scalar.indexCast arg33
  let c0_137 : Index := 0#32
  ![2, v278.toNat, 0]
def k0_mult4 (k0_t1 : Fin k0_t1_loop.trips) : BitVec 32 :=
  let c4096_i32 : BitVec 32 := 4096#32
  let c0_i32_49 : BitVec 32 := 0#32
  let c1_i32 : BitVec 32 := 1#32
  let arg33 : BitVec 32 := Scf.iv c0_i32_49 c1_i32 k0_t1
  let c256_i32_138 : BitVec 32 := 256#32
  let v285 : BitVec 32 := Scalar.muli arg33 c256_i32_138
  let v286 : BitVec 32 := Scalar.addi c4096_i32 v285
  v286
def k0_mult5 (k0_t1 : Fin k0_t1_loop.trips) : BitVec 32 :=
  let c4096_i32_166 : BitVec 32 := 4096#32
  let c0_i32_49 : BitVec 32 := 0#32
  let c1_i32 : BitVec 32 := 1#32
  let arg33 : BitVec 32 := Scf.iv c0_i32_49 c1_i32 k0_t1
  let c256_i32_165 : BitVec 32 := 256#32
  let v336 : BitVec 32 := Scalar.muli arg33 c256_i32_165
  let v337 : BitVec 32 := Scalar.addi c4096_i32_166 v336
  let c128_i32_167 : BitVec 32 := 128#32
  let v338 : BitVec 32 := Scalar.addi v337 c128_i32_167
  v338
def k0_off19 (k0_t1 : Fin k0_t1_loop.trips) : Fin 3 → Nat :=
  let c0_168 : Index := 0#32
  let c0_169 : Index := 0#32
  let c4096_i32_166 : BitVec 32 := 4096#32
  let c0_i32_49 : BitVec 32 := 0#32
  let c1_i32 : BitVec 32 := 1#32
  let arg33 : BitVec 32 := Scf.iv c0_i32_49 c1_i32 k0_t1
  let c256_i32_165 : BitVec 32 := 256#32
  let v336 : BitVec 32 := Scalar.muli arg33 c256_i32_165
  let v337 : BitVec 32 := Scalar.addi c4096_i32_166 v336
  let c128_i32_167 : BitVec 32 := 128#32
  let v338 : BitVec 32 := Scalar.addi v337 c128_i32_167
  let v339 : BitVec 32 := v338
  let v340 : Index := Scalar.indexCast v339
  ![0, 0, v340.toNat]
def k0_off20 (k0_t1 : Fin k0_t1_loop.trips) : Fin 3 → Nat :=
  let c0_173 : Index := 0#32
  let c0_174 : Index := 0#32
  let c4096_i32_166 : BitVec 32 := 4096#32
  let c0_i32_49 : BitVec 32 := 0#32
  let c1_i32 : BitVec 32 := 1#32
  let arg33 : BitVec 32 := Scf.iv c0_i32_49 c1_i32 k0_t1
  let c256_i32_165 : BitVec 32 := 256#32
  let v336 : BitVec 32 := Scalar.muli arg33 c256_i32_165
  let v337 : BitVec 32 := Scalar.addi c4096_i32_166 v336
  let c128_i32_167 : BitVec 32 := 128#32
  let v338 : BitVec 32 := Scalar.addi v337 c128_i32_167
  let v339 : BitVec 32 := v338
  let v348 : Index := Scalar.indexCast v339
  ![0, 0, v348.toNat]
def k0_off21 (k0_t1 : Fin k0_t1_loop.trips) : Fin 2 → Nat :=
  let c0_178 : Index := 0#32
  let c4096_i32_166 : BitVec 32 := 4096#32
  let c0_i32_49 : BitVec 32 := 0#32
  let c1_i32 : BitVec 32 := 1#32
  let arg33 : BitVec 32 := Scf.iv c0_i32_49 c1_i32 k0_t1
  let c256_i32_165 : BitVec 32 := 256#32
  let v336 : BitVec 32 := Scalar.muli arg33 c256_i32_165
  let v337 : BitVec 32 := Scalar.addi c4096_i32_166 v336
  let c128_i32_167 : BitVec 32 := 128#32
  let v338 : BitVec 32 := Scalar.addi v337 c128_i32_167
  let v339 : BitVec 32 := v338
  let v357 : Index := Scalar.indexCast v339
  ![0, v357.toNat]
def k0_off22 (k0_t1 : Fin k0_t1_loop.trips) : Fin 2 → Nat :=
  let c1_182 : Index := 1#32
  let c4096_i32_166 : BitVec 32 := 4096#32
  let c0_i32_49 : BitVec 32 := 0#32
  let c1_i32 : BitVec 32 := 1#32
  let arg33 : BitVec 32 := Scf.iv c0_i32_49 c1_i32 k0_t1
  let c256_i32_165 : BitVec 32 := 256#32
  let v336 : BitVec 32 := Scalar.muli arg33 c256_i32_165
  let v337 : BitVec 32 := Scalar.addi c4096_i32_166 v336
  let c128_i32_167 : BitVec 32 := 128#32
  let v338 : BitVec 32 := Scalar.addi v337 c128_i32_167
  let v339 : BitVec 32 := v338
  let v364 : Index := Scalar.indexCast v339
  ![1, v364.toNat]
def k0_off23 (k0_t1 : Fin k0_t1_loop.trips) : Fin 2 → Nat :=
  let c2_186 : Index := 2#32
  let c4096_i32_166 : BitVec 32 := 4096#32
  let c0_i32_49 : BitVec 32 := 0#32
  let c1_i32 : BitVec 32 := 1#32
  let arg33 : BitVec 32 := Scf.iv c0_i32_49 c1_i32 k0_t1
  let c256_i32_165 : BitVec 32 := 256#32
  let v336 : BitVec 32 := Scalar.muli arg33 c256_i32_165
  let v337 : BitVec 32 := Scalar.addi c4096_i32_166 v336
  let c128_i32_167 : BitVec 32 := 128#32
  let v338 : BitVec 32 := Scalar.addi v337 c128_i32_167
  let v339 : BitVec 32 := v338
  let v372 : Index := Scalar.indexCast v339
  ![2, v372.toNat]
def k0_off24 (k0_t1 : Fin k0_t1_loop.trips) : Fin 2 → Nat :=
  let c3_190 : Index := 3#32
  let c4096_i32_166 : BitVec 32 := 4096#32
  let c0_i32_49 : BitVec 32 := 0#32
  let c1_i32 : BitVec 32 := 1#32
  let arg33 : BitVec 32 := Scf.iv c0_i32_49 c1_i32 k0_t1
  let c256_i32_165 : BitVec 32 := 256#32
  let v336 : BitVec 32 := Scalar.muli arg33 c256_i32_165
  let v337 : BitVec 32 := Scalar.addi c4096_i32_166 v336
  let c128_i32_167 : BitVec 32 := 128#32
  let v338 : BitVec 32 := Scalar.addi v337 c128_i32_167
  let v339 : BitVec 32 := v338
  let v380 : Index := Scalar.indexCast v339
  ![3, v380.toNat]
def k0_off25 (k0_t1 : Fin k0_t1_loop.trips) : Fin 3 → Nat :=
  let c3_207 : Index := 3#32
  let c0_i32_49 : BitVec 32 := 0#32
  let c1_i32 : BitVec 32 := 1#32
  let arg33 : BitVec 32 := Scf.iv c0_i32_49 c1_i32 k0_t1
  let v439 : Index := Scalar.indexCast arg33
  let c0_208 : Index := 0#32
  ![3, v439.toNat, 0]
def k0_off26 (k0_t1 : Fin k0_t1_loop.trips) : Fin 3 → Nat :=
  let c4_209 : Index := 4#32
  let c0_i32_49 : BitVec 32 := 0#32
  let c1_i32 : BitVec 32 := 1#32
  let arg33 : BitVec 32 := Scf.iv c0_i32_49 c1_i32 k0_t1
  let v445 : Index := Scalar.indexCast arg33
  let c0_210 : Index := 0#32
  ![4, v445.toNat, 0]
def k0_off27 (k0_t1 : Fin k0_t1_loop.trips) : Fin 5 → Nat :=
  let c0_429 : Index := 0#32
  let c0_430 : Index := 0#32
  let c0_i32_49 : BitVec 32 := 0#32
  let c1_i32 : BitVec 32 := 1#32
  let arg33 : BitVec 32 := Scf.iv c0_i32_49 c1_i32 k0_t1
  let v1204 : Index := Scalar.indexCast arg33
  let c0_431 : Index := 0#32
  let c0_432 : Index := 0#32
  ![0, 0, v1204.toNat, 0, 0]
def k0_off28 (i : grid0.Coords) (k0_t1 : Fin k0_t1_loop.trips) : Fin 2 → Nat :=
  let arg0 : BitVec 32 := BitVec.ofNat 32 (i 0).val
  let c24_i32 : BitVec 32 := 24#32
  let v1208 : BitVec 32 := Scalar.muli arg0 c24_i32
  let c23_i32 : BitVec 32 := 23#32
  let arg1 : BitVec 32 := BitVec.ofNat 32 (i 1).val
  let v0 : BitVec 32 := Scalar.subi c23_i32 arg1
  let v1209 : BitVec 32 := Scalar.addi v1208 v0
  let v1210 : Index := Scalar.indexCast v1209
  let c0_i32_49 : BitVec 32 := 0#32
  let c1_i32 : BitVec 32 := 1#32
  let arg33 : BitVec 32 := Scf.iv c0_i32_49 c1_i32 k0_t1
  let v1211 : Index := Scalar.indexCast arg33
  ![v1210.toNat, v1211.toNat]
def k0_off29 (k0_t1 : Fin k0_t1_loop.trips) : Fin 3 → Nat :=
  let c0_437 : Index := 0#32
  let c0_438 : Index := 0#32
  let c0_i32_49 : BitVec 32 := 0#32
  let c1_i32 : BitVec 32 := 1#32
  let arg33 : BitVec 32 := Scf.iv c0_i32_49 c1_i32 k0_t1
  let c256_i32 : BitVec 32 := 256#32
  let v143 : BitVec 32 := Scalar.muli arg33 c256_i32
  let v144 : BitVec 32 := v143
  let v1222 : Index := Scalar.indexCast v144
  ![0, 0, v1222.toNat]
def k0_off30 (k0_t1 : Fin k0_t1_loop.trips) : Fin 2 → Nat :=
  let c0_449 : Index := 0#32
  let c0_i32_49 : BitVec 32 := 0#32
  let c1_i32 : BitVec 32 := 1#32
  let arg33 : BitVec 32 := Scf.iv c0_i32_49 c1_i32 k0_t1
  let c256_i32 : BitVec 32 := 256#32
  let v143 : BitVec 32 := Scalar.muli arg33 c256_i32
  let v144 : BitVec 32 := v143
  let v1252 : Index := Scalar.indexCast v144
  ![0, v1252.toNat]
def k0_off31 (k0_t1 : Fin k0_t1_loop.trips) : Fin 4 → Nat :=
  let c0_463 : Index := 0#32
  let c0_i32_49 : BitVec 32 := 0#32
  let c1_i32 : BitVec 32 := 1#32
  let arg33 : BitVec 32 := Scf.iv c0_i32_49 c1_i32 k0_t1
  let v1294 : Index := Scalar.indexCast arg33
  let c0_464 : Index := 0#32
  let c0_465 : Index := 0#32
  ![0, v1294.toNat, 0, 0]
def k0_off32 (k0_t1 : Fin k0_t1_loop.trips) : Fin 2 → Nat :=
  let c0_i32_49 : BitVec 32 := 0#32
  let c1_i32 : BitVec 32 := 1#32
  let arg33 : BitVec 32 := Scf.iv c0_i32_49 c1_i32 k0_t1
  let v1371 : Index := Scalar.indexCast arg33
  let c0_489 : Index := 0#32
  ![v1371.toNat, 0]
def k0_mult6 (k0_t1 : Fin k0_t1_loop.trips) : BitVec 32 :=
  let c0_i32_49 : BitVec 32 := 0#32
  let c1_i32 : BitVec 32 := 1#32
  let arg33 : BitVec 32 := Scf.iv c0_i32_49 c1_i32 k0_t1
  let c128_i32_503 : BitVec 32 := 128#32
  let v1416 : BitVec 32 := Scalar.muli arg33 c128_i32_503
  v1416
def k0_off33 (k0_t1 : Fin k0_t1_loop.trips) : Fin 2 → Nat :=
  let c0_507 : Index := 0#32
  let c0_i32_49 : BitVec 32 := 0#32
  let c1_i32 : BitVec 32 := 1#32
  let arg33 : BitVec 32 := Scf.iv c0_i32_49 c1_i32 k0_t1
  let c128_i32_503 : BitVec 32 := 128#32
  let v1416 : BitVec 32 := Scalar.muli arg33 c128_i32_503
  let v1417 : BitVec 32 := v1416
  let v1422 : Index := Scalar.indexCast v1417
  ![0, v1422.toNat]
def k0_off34 (k0_t1 : Fin k0_t1_loop.trips) : Fin 3 → Nat :=
  let c0_528 : Index := 0#32
  let c0_529 : Index := 0#32
  let c0_i32_49 : BitVec 32 := 0#32
  let c1_i32 : BitVec 32 := 1#32
  let arg33 : BitVec 32 := Scf.iv c0_i32_49 c1_i32 k0_t1
  let c128_i32_503 : BitVec 32 := 128#32
  let v1416 : BitVec 32 := Scalar.muli arg33 c128_i32_503
  let v1417 : BitVec 32 := v1416
  let v1466 : Index := Scalar.indexCast v1417
  ![0, 0, v1466.toNat]
def k0_off35 (k0_t1 : Fin k0_t1_loop.trips) : Fin 3 → Nat :=
  let c1_536 : Index := 1#32
  let c0_537 : Index := 0#32
  let c0_i32_49 : BitVec 32 := 0#32
  let c1_i32 : BitVec 32 := 1#32
  let arg33 : BitVec 32 := Scf.iv c0_i32_49 c1_i32 k0_t1
  let c128_i32_503 : BitVec 32 := 128#32
  let v1416 : BitVec 32 := Scalar.muli arg33 c128_i32_503
  let v1417 : BitVec 32 := v1416
  let v1479 : Index := Scalar.indexCast v1417
  ![1, 0, v1479.toNat]
def k0_off36 (k0_t1 : Fin k0_t1_loop.trips) : Fin 3 → Nat :=
  let c2_544 : Index := 2#32
  let c0_545 : Index := 0#32
  let c0_i32_49 : BitVec 32 := 0#32
  let c1_i32 : BitVec 32 := 1#32
  let arg33 : BitVec 32 := Scf.iv c0_i32_49 c1_i32 k0_t1
  let c128_i32_503 : BitVec 32 := 128#32
  let v1416 : BitVec 32 := Scalar.muli arg33 c128_i32_503
  let v1417 : BitVec 32 := v1416
  let v1492 : Index := Scalar.indexCast v1417
  ![2, 0, v1492.toNat]
def k0_off37 (k0_t1 : Fin k0_t1_loop.trips) : Fin 3 → Nat :=
  let c3_552 : Index := 3#32
  let c0_553 : Index := 0#32
  let c0_i32_49 : BitVec 32 := 0#32
  let c1_i32 : BitVec 32 := 1#32
  let arg33 : BitVec 32 := Scf.iv c0_i32_49 c1_i32 k0_t1
  let c128_i32_503 : BitVec 32 := 128#32
  let v1416 : BitVec 32 := Scalar.muli arg33 c128_i32_503
  let v1417 : BitVec 32 := v1416
  let v1505 : Index := Scalar.indexCast v1417
  ![3, 0, v1505.toNat]
def k0_mult7 (k0_t1 : Fin k0_t1_loop.trips) : BitVec 32 :=
  let c2048_i32_566 : BitVec 32 := 2048#32
  let c0_i32_49 : BitVec 32 := 0#32
  let c1_i32 : BitVec 32 := 1#32
  let arg33 : BitVec 32 := Scf.iv c0_i32_49 c1_i32 k0_t1
  let c128_i32_565 : BitVec 32 := 128#32
  let v1531 : BitVec 32 := Scalar.muli arg33 c128_i32_565
  let v1532 : BitVec 32 := Scalar.addi c2048_i32_566 v1531
  v1532
def k0_off38 (k0_t1 : Fin k0_t1_loop.trips) (c2048_i32_566 : BitVec 32) (c128_i32_565 : BitVec 32) : Fin 2 → Nat :=
  let c0_570 : Index := 0#32
  let c0_i32_49 : BitVec 32 := 0#32
  let c1_i32 : BitVec 32 := 1#32
  let arg33 : BitVec 32 := Scf.iv c0_i32_49 c1_i32 k0_t1
  let v1531 : BitVec 32 := Scalar.muli arg33 c128_i32_565
  let v1532 : BitVec 32 := Scalar.addi c2048_i32_566 v1531
  let v1533 : BitVec 32 := v1532
  let v1538 : Index := Scalar.indexCast v1533
  ![0, v1538.toNat]
def k0_off38_at (r : Fin 2) : BitVec 32 × BitVec 32 :=
  if r.val < 1 then
    (2048#32, 128#32)
  else
    (4096#32, 256#32)
def k0_off39 (k0_t1 : Fin k0_t1_loop.trips) (c2048_i32_566 : BitVec 32) (c128_i32_565 : BitVec 32) : Fin 3 → Nat :=
  let c0_592 : Index := 0#32
  let c0_593 : Index := 0#32
  let c0_i32_49 : BitVec 32 := 0#32
  let c1_i32 : BitVec 32 := 1#32
  let arg33 : BitVec 32 := Scf.iv c0_i32_49 c1_i32 k0_t1
  let v1531 : BitVec 32 := Scalar.muli arg33 c128_i32_565
  let v1532 : BitVec 32 := Scalar.addi c2048_i32_566 v1531
  let v1533 : BitVec 32 := v1532
  let v1582 : Index := Scalar.indexCast v1533
  ![0, 0, v1582.toNat]
def k0_off39_at (r : Fin 2) : BitVec 32 × BitVec 32 :=
  if r.val < 1 then
    (2048#32, 128#32)
  else
    (4096#32, 256#32)
def k0_off40 (k0_t1 : Fin k0_t1_loop.trips) (c2048_i32_566 : BitVec 32) (c128_i32_565 : BitVec 32) : Fin 3 → Nat :=
  let c1_600 : Index := 1#32
  let c0_601 : Index := 0#32
  let c0_i32_49 : BitVec 32 := 0#32
  let c1_i32 : BitVec 32 := 1#32
  let arg33 : BitVec 32 := Scf.iv c0_i32_49 c1_i32 k0_t1
  let v1531 : BitVec 32 := Scalar.muli arg33 c128_i32_565
  let v1532 : BitVec 32 := Scalar.addi c2048_i32_566 v1531
  let v1533 : BitVec 32 := v1532
  let v1595 : Index := Scalar.indexCast v1533
  ![1, 0, v1595.toNat]
def k0_off40_at (r : Fin 2) : BitVec 32 × BitVec 32 :=
  if r.val < 1 then
    (2048#32, 128#32)
  else
    (4096#32, 256#32)
def k0_off41 (k0_t1 : Fin k0_t1_loop.trips) (c2048_i32_566 : BitVec 32) (c128_i32_565 : BitVec 32) : Fin 3 → Nat :=
  let c2_608 : Index := 2#32
  let c0_609 : Index := 0#32
  let c0_i32_49 : BitVec 32 := 0#32
  let c1_i32 : BitVec 32 := 1#32
  let arg33 : BitVec 32 := Scf.iv c0_i32_49 c1_i32 k0_t1
  let v1531 : BitVec 32 := Scalar.muli arg33 c128_i32_565
  let v1532 : BitVec 32 := Scalar.addi c2048_i32_566 v1531
  let v1533 : BitVec 32 := v1532
  let v1608 : Index := Scalar.indexCast v1533
  ![2, 0, v1608.toNat]
def k0_off41_at (r : Fin 2) : BitVec 32 × BitVec 32 :=
  if r.val < 1 then
    (2048#32, 128#32)
  else
    (4096#32, 256#32)
def k0_off42 (k0_t1 : Fin k0_t1_loop.trips) (c2048_i32_566 : BitVec 32) (c128_i32_565 : BitVec 32) : Fin 3 → Nat :=
  let c3_616 : Index := 3#32
  let c0_617 : Index := 0#32
  let c0_i32_49 : BitVec 32 := 0#32
  let c1_i32 : BitVec 32 := 1#32
  let arg33 : BitVec 32 := Scf.iv c0_i32_49 c1_i32 k0_t1
  let v1531 : BitVec 32 := Scalar.muli arg33 c128_i32_565
  let v1532 : BitVec 32 := Scalar.addi c2048_i32_566 v1531
  let v1533 : BitVec 32 := v1532
  let v1621 : Index := Scalar.indexCast v1533
  ![3, 0, v1621.toNat]
def k0_off42_at (r : Fin 2) : BitVec 32 × BitVec 32 :=
  if r.val < 1 then
    (2048#32, 128#32)
  else
    (4096#32, 256#32)
def k0_mult8 (k0_t1 : Fin k0_t1_loop.trips) : BitVec 32 :=
  let c4096_i32_630 : BitVec 32 := 4096#32
  let c0_i32_49 : BitVec 32 := 0#32
  let c1_i32 : BitVec 32 := 1#32
  let arg33 : BitVec 32 := Scf.iv c0_i32_49 c1_i32 k0_t1
  let c256_i32_629 : BitVec 32 := 256#32
  let v1647 : BitVec 32 := Scalar.muli arg33 c256_i32_629
  let v1648 : BitVec 32 := Scalar.addi c4096_i32_630 v1647
  v1648
def k0_mult9 (k0_t1 : Fin k0_t1_loop.trips) : BitVec 32 :=
  let c4096_i32_694 : BitVec 32 := 4096#32
  let c0_i32_49 : BitVec 32 := 0#32
  let c1_i32 : BitVec 32 := 1#32
  let arg33 : BitVec 32 := Scf.iv c0_i32_49 c1_i32 k0_t1
  let c256_i32_693 : BitVec 32 := 256#32
  let v1764 : BitVec 32 := Scalar.muli arg33 c256_i32_693
  let v1765 : BitVec 32 := Scalar.addi c4096_i32_694 v1764
  let c128_i32_695 : BitVec 32 := 128#32
  let v1766 : BitVec 32 := Scalar.addi v1765 c128_i32_695
  v1766
def k0_off43 (k0_t1 : Fin k0_t1_loop.trips) : Fin 2 → Nat :=
  let c0_699 : Index := 0#32
  let c4096_i32_694 : BitVec 32 := 4096#32
  let c0_i32_49 : BitVec 32 := 0#32
  let c1_i32 : BitVec 32 := 1#32
  let arg33 : BitVec 32 := Scf.iv c0_i32_49 c1_i32 k0_t1
  let c256_i32_693 : BitVec 32 := 256#32
  let v1764 : BitVec 32 := Scalar.muli arg33 c256_i32_693
  let v1765 : BitVec 32 := Scalar.addi c4096_i32_694 v1764
  let c128_i32_695 : BitVec 32 := 128#32
  let v1766 : BitVec 32 := Scalar.addi v1765 c128_i32_695
  let v1768 : BitVec 32 := v1766
  let v1773 : Index := Scalar.indexCast v1768
  ![0, v1773.toNat]
def k0_off44 (k0_t1 : Fin k0_t1_loop.trips) : Fin 3 → Nat :=
  let c0_721 : Index := 0#32
  let c0_722 : Index := 0#32
  let c4096_i32_694 : BitVec 32 := 4096#32
  let c0_i32_49 : BitVec 32 := 0#32
  let c1_i32 : BitVec 32 := 1#32
  let arg33 : BitVec 32 := Scf.iv c0_i32_49 c1_i32 k0_t1
  let c256_i32_693 : BitVec 32 := 256#32
  let v1764 : BitVec 32 := Scalar.muli arg33 c256_i32_693
  let v1765 : BitVec 32 := Scalar.addi c4096_i32_694 v1764
  let c128_i32_695 : BitVec 32 := 128#32
  let v1766 : BitVec 32 := Scalar.addi v1765 c128_i32_695
  let v1768 : BitVec 32 := v1766
  let v1817 : Index := Scalar.indexCast v1768
  ![0, 0, v1817.toNat]
def k0_off45 (k0_t1 : Fin k0_t1_loop.trips) : Fin 3 → Nat :=
  let c1_729 : Index := 1#32
  let c0_730 : Index := 0#32
  let c4096_i32_694 : BitVec 32 := 4096#32
  let c0_i32_49 : BitVec 32 := 0#32
  let c1_i32 : BitVec 32 := 1#32
  let arg33 : BitVec 32 := Scf.iv c0_i32_49 c1_i32 k0_t1
  let c256_i32_693 : BitVec 32 := 256#32
  let v1764 : BitVec 32 := Scalar.muli arg33 c256_i32_693
  let v1765 : BitVec 32 := Scalar.addi c4096_i32_694 v1764
  let c128_i32_695 : BitVec 32 := 128#32
  let v1766 : BitVec 32 := Scalar.addi v1765 c128_i32_695
  let v1768 : BitVec 32 := v1766
  let v1830 : Index := Scalar.indexCast v1768
  ![1, 0, v1830.toNat]
def k0_off46 (k0_t1 : Fin k0_t1_loop.trips) : Fin 3 → Nat :=
  let c2_737 : Index := 2#32
  let c0_738 : Index := 0#32
  let c4096_i32_694 : BitVec 32 := 4096#32
  let c0_i32_49 : BitVec 32 := 0#32
  let c1_i32 : BitVec 32 := 1#32
  let arg33 : BitVec 32 := Scf.iv c0_i32_49 c1_i32 k0_t1
  let c256_i32_693 : BitVec 32 := 256#32
  let v1764 : BitVec 32 := Scalar.muli arg33 c256_i32_693
  let v1765 : BitVec 32 := Scalar.addi c4096_i32_694 v1764
  let c128_i32_695 : BitVec 32 := 128#32
  let v1766 : BitVec 32 := Scalar.addi v1765 c128_i32_695
  let v1768 : BitVec 32 := v1766
  let v1843 : Index := Scalar.indexCast v1768
  ![2, 0, v1843.toNat]
def k0_off47 (k0_t1 : Fin k0_t1_loop.trips) : Fin 3 → Nat :=
  let c3_745 : Index := 3#32
  let c0_746 : Index := 0#32
  let c4096_i32_694 : BitVec 32 := 4096#32
  let c0_i32_49 : BitVec 32 := 0#32
  let c1_i32 : BitVec 32 := 1#32
  let arg33 : BitVec 32 := Scf.iv c0_i32_49 c1_i32 k0_t1
  let c256_i32_693 : BitVec 32 := 256#32
  let v1764 : BitVec 32 := Scalar.muli arg33 c256_i32_693
  let v1765 : BitVec 32 := Scalar.addi c4096_i32_694 v1764
  let c128_i32_695 : BitVec 32 := 128#32
  let v1766 : BitVec 32 := Scalar.addi v1765 c128_i32_695
  let v1768 : BitVec 32 := v1766
  let v1856 : Index := Scalar.indexCast v1768
  ![3, 0, v1856.toNat]
@[reducible] def k0_t2_loop : Scf.Loop 32 :=
  let c0_i32_74 : BitVec 32 := 0#32
  let c64_i32 : BitVec 32 := 64#32
  let v142 : BitVec 32 := Scalar.addi c0_i32_74 c64_i32
  let c1_i32_75 : BitVec 32 := 1#32
  ⟨c0_i32_74, v142, c1_i32_75⟩
def k0_mult10 (k0_t2 : Fin k0_t2_loop.trips) : BitVec 32 :=
  let c0_i32_74 : BitVec 32 := 0#32
  let c1_i32_75 : BitVec 32 := 1#32
  let arg33 : BitVec 32 := Scf.iv c0_i32_74 c1_i32_75 k0_t2
  let c128_i32 : BitVec 32 := 128#32
  let v143 : BitVec 32 := Scalar.muli arg33 c128_i32
  v143
def k0_off48 (k0_t2 : Fin k0_t2_loop.trips) : Fin 3 → Nat :=
  let c0_77 : Index := 0#32
  let c0_78 : Index := 0#32
  let c0_i32_74 : BitVec 32 := 0#32
  let c1_i32_75 : BitVec 32 := 1#32
  let arg33 : BitVec 32 := Scf.iv c0_i32_74 c1_i32_75 k0_t2
  let c128_i32 : BitVec 32 := 128#32
  let v143 : BitVec 32 := Scalar.muli arg33 c128_i32
  let v144 : BitVec 32 := v143
  let v145 : Index := Scalar.indexCast v144
  ![0, 0, v145.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.subi c23_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.subi c23_i32 arg1
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.subi c23_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.subi c23_i32 arg1
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c23_i32 : BitVec 32 := 23#32
  let v0 : BitVec 32 := Scalar.subi c23_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.subi c23_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.subi c23_i32 arg1
  let c0_i32 : BitVec 32 := 0#32
  let c0_i32_0 : BitVec 32 := 0#32
  ![arg0.toNat, v0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.subi c23_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.subi c23_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.subi c23_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.subi c23_i32 arg1
  let c0_i32 : BitVec 32 := 0#32
  let c0_i32_0 : BitVec 32 := 0#32
  ![arg0.toNat, v0.toNat, c0_i32.toNat]

def cc0_transform_15 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.subi c23_i32 arg1
  let c0_i32 : BitVec 32 := 0#32
  let c0_i32_0 : BitVec 32 := 0#32
  ![arg0.toNat, v0.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S48x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x16x128x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x8192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x8192 .fp8e5m2 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S8x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S8x8192 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S4x8x8192 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S8x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== Proof.DxValue.lean ====
module

public import proofs.«01_k».proof.Defs
public import proofs.«01_k».proof.Proof.Gen.DxIdeal.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DxIdeal.DxValue

open Cert.DxIdeal Cert.DxIdeal.Gen

variable (m : (ℓ : Loc nD τ sig) → Buf (Elt Ideal) ℓ) (ρ : Dev nD → PrngReg)

theorem hz : (![0, 0] : Fin 2 → Nat) = fun _ => 0 := funext fun a => by fin_cases a <;> rfl

/-- One element of `dx`: the product of a row of codes with a row of weights, by the row's scale and the weights'. -/
def dxAt (x : Vec Ideal S6144x8192 .fp8e5m2) (w : Vec Ideal S5120x8192 .fp8e4m3) (s : Fin 6144 → EReal) (ws : EReal)
    (r : Fin 6144) (d : Fin 5120) : EReal :=
  (∑ k : Fin 8192, (x (ix2 r k) : EReal) * (w (ix2 d k) : EReal)) * s r * ws

theorem pay1_apply (v0 : Vec Ideal S1024x8192 .fp8e5m2) (v2 : Vec Ideal S1024x8192 .fp8e4m3) (v4 : Vec Ideal S1024x1 .f32)
    (v8 : Elt Ideal .f32) (j : S1024x1024.Idx) : k0_pay1 v0 v2 v4 v8 j
      = (∑ k : Fin 8192, (v0 (ix2 (j 0) k) : EReal) * (v2 (ix2 (j 1) k) : EReal)) * (v4 (ix2 (j 0) 0) : EReal) * v8 := by
  pointwise! [k0_pay1]

theorem pay2_eq (v0 : Vec Ideal S1024x8192 .fp8e5m2) (v2 : Vec Ideal S1024x8192 .fp8e4m3) (v4 : Vec Ideal S1024x1 .f32)
    (v8 : Elt Ideal .f32) : (k0_pay2 v0 v2 v4 v8 : S1024x1024.Idx → EReal) = k0_pay1 v0 v2 v4 v8 := by
  funext j
  pointwise! [k0_pay2]

/-- The block indices in closed form. -/
theorem index_facts : ∀ t : Fin cfg0.N, win0_1.index t 0 = t.val / 5 ∧ win0_1.index t 1 = 0
    ∧ win0_2.index t 0 = t.val / 5 ∧ win0_2.index t 1 = 0 ∧ win0_3.index t 0 = t.val % 5 ∧ win0_3.index t 1 = 0
    ∧ win0_4.index t 0 = t.val / 5 ∧ win0_4.index t 1 = t.val % 5
    ∧ win0_5.index t 0 = t.val / 5 ∧ win0_5.index t 1 = t.val % 5
    ∧ win0_0.index t 0 = 0 ∧ win0_0.index t 1 = 0 :=
  (by decide +kernel : ∀ t : Fin grid0.N, win0_1.index t 0 = t.val / 5 ∧ win0_1.index t 1 = 0
    ∧ win0_2.index t 0 = t.val / 5 ∧ win0_2.index t 1 = 0 ∧ win0_3.index t 0 = t.val % 5 ∧ win0_3.index t 1 = 0
    ∧ win0_4.index t 0 = t.val / 5 ∧ win0_4.index t 1 = t.val % 5
    ∧ win0_5.index t 0 = t.val / 5 ∧ win0_5.index t 1 = t.val % 5
    ∧ win0_0.index t 0 = 0 ∧ win0_0.index t 1 = 0)

theorem iblk0_apply (c : Dev nD) (t : Fin cfg0.N) (j : S1x1.Idx) :
    (iblk m c 0 t : Vec Ideal S1x1 .f32) j = V m c main_v0 (ix2 (0 : Fin 1) (0 : Fin 1)) := by
  have hi := index_facts t
  unfold iblk
  rw [View.read_apply]
  show V m c main_v0 _ = _
  congr 1
  funext a
  apply Fin.ext
  match a with
  | ⟨0, _⟩ => show win0_0.index t 0 * 1 + 1 * (j 0).val = 0; have := (j 0).isLt; change (j 0).val < 1 at this; rw [hi.2.2.2.2.2.2.2.2.2.2.1]; omega
  | ⟨1, _⟩ => show win0_0.index t 1 * 1 + 1 * (j 1).val = 0; have := (j 1).isLt; change (j 1).val < 1 at this; rw [hi.2.2.2.2.2.2.2.2.2.2.2]; omega

theorem iblk1_apply (c : Dev nD) (t : Fin cfg0.N) (r : Fin 1024) (k : Fin 8192) (R : Fin 6144)
    (hR : R.val = t.val / 5 * 1024 + r.val) :
    (iblk m c 1 t : Vec Ideal S1024x8192 .fp8e5m2) (ix2 r k) = V m c main_v1 (ix2 R k) := by
  have hi := index_facts t
  unfold iblk
  rw [View.read_apply]
  show V m c main_v1 _ = _
  congr 1
  funext a
  apply Fin.ext
  match a with
  | ⟨0, _⟩ => show win0_1.index t 0 * 1024 + 1 * r.val = R.val; rw [hi.1, hR]; omega
  | ⟨1, _⟩ => show win0_1.index t 1 * 8192 + 1 * k.val = k.val; rw [hi.2.1]; omega

theorem iblk2_apply (c : Dev nD) (t : Fin cfg0.N) (r : Fin 1024) (k : Fin 128) (R : Fin 6144)
    (hR : R.val = t.val / 5 * 1024 + r.val) :
    (iblk m c 2 t : Vec Ideal S1024x128 .f32) (ix2 r k) = V m c main_v2 (ix2 R k) := by
  have hi := index_facts t
  unfold iblk
  rw [View.read_apply]
  show V m c main_v2 _ = _
  congr 1
  funext a
  apply Fin.ext
  match a with
  | ⟨0, _⟩ => show win0_2.index t 0 * 1024 + 1 * r.val = R.val; rw [hi.2.2.1, hR]; omega
  | ⟨1, _⟩ => show win0_2.index t 1 * 128 + 1 * k.val = k.val; rw [hi.2.2.2.1]; omega

theorem iblk3_apply (c : Dev nD) (t : Fin cfg0.N) (r : Fin 1024) (k : Fin 8192) (R : Fin 5120)
    (hR : R.val = t.val % 5 * 1024 + r.val) :
    (iblk m c 3 t : Vec Ideal S1024x8192 .fp8e4m3) (ix2 r k) = V m c main_arg2 (ix2 R k) := by
  have hi := index_facts t
  unfold iblk
  rw [View.read_apply]
  show V m c main_arg2 _ = _
  congr 1
  funext a
  apply Fin.ext
  match a with
  | ⟨0, _⟩ => show win0_3.index t 0 * 1024 + 1 * r.val = R.val; rw [hi.2.2.2.2.1, hR]; omega
  | ⟨1, _⟩ => show win0_3.index t 1 * 8192 + 1 * k.val = k.val; rw [hi.2.2.2.2.2.1]; omega

/-- What the kernel's f32 result holds after the run, over the arrays its windows stage. -/
def result (c : Dev nD) : S6144x5120.Idx → EReal := fun i =>
  dxAt (V m c main_v1) (V m c main_arg2) (fun r => V m c main_v2 (ix2 r (127 : Fin 128)))
    (V m c main_v0 (ix2 (0 : Fin 1) (0 : Fin 1))) (i 0) (i 1)

/-- The body's f32 payload at a point, in the arrays. -/
theorem out4_apply (c : Dev nD) (t : Fin cfg0.N) (j : S1024x1024.Idx) (R : Fin 6144) (D : Fin 5120)
    (hR : R.val = t.val / 5 * 1024 + (j 0).val) (hD : D.val = t.val % 5 * 1024 + (j 1).val) :
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)) j
      = result m c (ix2 R D) := by
  unfold out0_A_4
  rw [View.read_writes_eq_canon _ _ _ (cover0_A_4 c (grid0.coords t) _ _ _ _ _ _ _ _ _ _ _ _ _ _ _ _)]
  unfold kernelRun0_A
  dsimp only
  rw [View.canon_unit_zero hz, pay1_apply]
  sl_unfold_words
  simp only [View.readAt_eq_ld, (hs0_0 t).read_unread, (hs0_1 t).read_unread, (hs0_2 t).read_unread, (hs0_3 t).read_unread]
  refine congrArg₂ (· * ·) (congrArg₂ (· * ·) (Finset.sum_congr rfl fun k _ => congrArg₂ (· * ·) ?_ ?_) ?_) ?_
  · exact (congrFun (View.ld_unit_zero (S := S1024x8192) hz _ _) _).trans (iblk1_apply m c t _ _ R hR)
  · exact (congrFun (View.ld_unit_zero (S := S1024x8192) hz _ _) _).trans (iblk3_apply m c t _ _ D hD)
  · refine Eq.trans (congrArg (iblk m c 2 t : Vec Ideal S1024x128 .f32) (funext fun a => Fin.ext ?_)) (iblk2_apply m c t (j 0) 127 R hR)
    match a with
    | ⟨0, _⟩ => show 0 + 1 * (j 0).val = (j 0).val; omega
    | ⟨1, _⟩ => show 127 + 1 * 0 = 127; omega
  · exact (congrFun (View.ld_unit_zero (S := S1x1) hz _ _) _).trans (iblk0_apply m c t _)

/-- The bf16 payload is the f32 one: a change of format leaves an extended real as it is. -/
theorem out5_eq (c : Dev nD) (t : Fin cfg0.N) :
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) : S1024x1024.Idx → EReal)
      = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) := by
  unfold out0_A_4 out0_A_5
  rw [View.read_writes_eq_canon _ _ _ (cover0_A_4 c (grid0.coords t) _ _ _ _ _ _ _ _ _ _ _ _ _ _ _ _),
    View.read_writes_eq_canon _ _ _ (cover0_A_5 c (grid0.coords t) _ _ _ _ _ _ _ _ _ _ _ _ _ _ _ _)]
  unfold kernelRun0_A
  dsimp only
  rw [View.canon_unit_zero hz, View.canon_unit_zero hz]
  exact pay2_eq _ _ _ _

theorem flushed4_eq (c : Dev nD) (t : Fin cfg0.N) :
    (dats m 0 c).flushed 4 t = ((cfg0.win 4).blk t).view.read (Elt Ideal) (result m c) := by
  have hi := index_facts t
  rw [Value.flushed4_A]
  funext j
  rw [View.read_apply]
  refine (out4_apply m c t j ⟨t.val / 5 * 1024 + (j 0).val, ?_⟩ ⟨t.val % 5 * 1024 + (j 1).val, ?_⟩ rfl rfl).trans ?_
  · have := t.isLt; have hN : cfg0.N = 30 := N_0; have : (j 0).val < 1024 := (j 0).isLt; omega
  · have : (j 1).val < 1024 := (j 1).isLt; omega
  · show result m c _ = result m c _
    congr 1
    funext a
    apply Fin.ext
    match a with
    | ⟨0, _⟩ => show t.val / 5 * 1024 + (j 0).val = win0_4.index t 0 * 1024 + 1 * (j 0).val; rw [hi.2.2.2.2.2.2.1]; omega
    | ⟨1, _⟩ => show t.val % 5 * 1024 + (j 1).val = win0_4.index t 1 * 1024 + 1 * (j 1).val; rw [hi.2.2.2.2.2.2.2.1]; omega

theorem flushed5_eq (c : Dev nD) (t : Fin cfg0.N) :
    (dats m 0 c).flushed 5 t = ((cfg0.win 5).blk t).view.read (Elt Ideal) (result m c) := by
  have hi := index_facts t
  rw [Value.flushed5_A]
  funext j
  rw [View.read_apply]
  refine (congrFun (out5_eq m c t) j).trans
    ((out4_apply m c t j ⟨t.val / 5 * 1024 + (j 0).val, ?_⟩ ⟨t.val % 5 * 1024 + (j 1).val, ?_⟩ rfl rfl).trans ?_)
  · have := t.isLt; have hN : cfg0.N = 30 := N_0; have : (j 0).val < 1024 := (j 0).isLt; omega
  · have : (j 1).val < 1024 := (j 1).isLt; omega
  · show result m c _ = result m c _
    congr 1
    funext a
    apply Fin.ext
    match a with
    | ⟨0, _⟩ => show t.val / 5 * 1024 + (j 0).val = win0_5.index t 0 * 1024 + 1 * (j 0).val; rw [hi.2.2.2.2.2.2.2.2.1]; omega
    | ⟨1, _⟩ => show t.val % 5 * 1024 + (j 1).val = win0_5.index t 1 * 1024 + 1 * (j 1).val; rw [hi.2.2.2.2.2.2.2.2.2.1]; omega

theorem extent_facts : ∀ t : Fin cfg0.N, win0_4.xsize (grid0.coords t) 0 = 1024 ∧ win0_4.xsize (grid0.coords t) 1 = 1024
    ∧ win0_5.xsize (grid0.coords t) 0 = 1024 ∧ win0_5.xsize (grid0.coords t) 1 = 1024 :=
  (by decide +kernel : ∀ t : Fin grid0.N, win0_4.xsize (grid0.coords t) 0 = 1024 ∧ win0_4.xsize (grid0.coords t) 1 = 1024
    ∧ win0_5.xsize (grid0.coords t) 0 = 1024 ∧ win0_5.xsize (grid0.coords t) 1 = 1024)

theorem cover4 (i : S6144x5120.Idx) : ∃ t : Fin cfg0.N, (cfg0.win 4).flush t = true ∧ i ∈ ((cfg0.win 4).blk t).view.set := by
  have h0 : (i 0 : Nat) < 6144 := (i 0).isLt
  have h1 : (i 1 : Nat) < 5120 := (i 1).isLt
  have hN : cfg0.N = 30 := N_0
  refine ⟨⟨(i 0).val / 1024 * 5 + (i 1).val / 1024, by omega⟩, flush0_4 _, ?_⟩
  set t : Fin cfg0.N := ⟨(i 0).val / 1024 * 5 + (i 1).val / 1024, by omega⟩ with ht
  have htv : t.val = (i 0).val / 1024 * 5 + (i 1).val / 1024 := rfl
  have hi := index_facts t
  have hx := extent_facts t
  show i ∈ ((View.whole main_v3_0).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + win0_4.xsize (grid0.coords t) 0
    rw [hi.2.2.2.2.2.2.1, hx.1]; omega
  | ⟨1, _⟩ =>
    show win0_4.index t 1 * 1024 ≤ (i 1 : Nat) ∧ (i 1 : Nat) < win0_4.index t 1 * 1024 + win0_4.xsize (grid0.coords t) 1
    rw [hi.2.2.2.2.2.2.2.1, hx.2.1]; omega

theorem cover5 (i : S6144x5120.Idx) : ∃ t : Fin cfg0.N, (cfg0.win 5).flush t = true ∧ i ∈ ((cfg0.win 5).blk t).view.set := by
  have h0 : (i 0 : Nat) < 6144 := (i 0).isLt
  have h1 : (i 1 : Nat) < 5120 := (i 1).isLt
  have hN : cfg0.N = 30 := N_0
  refine ⟨⟨(i 0).val / 1024 * 5 + (i 1).val / 1024, by omega⟩, flush0_5 _, ?_⟩
  set t : Fin cfg0.N := ⟨(i 0).val / 1024 * 5 + (i 1).val / 1024, by omega⟩ with ht
  have htv : t.val = (i 0).val / 1024 * 5 + (i 1).val / 1024 := rfl
  have hi := index_facts t
  have hx := extent_facts t
  show i ∈ ((View.whole main_v3_1).slice (win0_5.rect t)).set
  rw [View.set_slice_whole, Rect.mem_set_unit]
  intro a
  match a with
  | ⟨0, _⟩ =>
    show win0_5.index t 0 * 1024 ≤ (i 0 : Nat) ∧ (i 0 : Nat) < win0_5.index t 0 * 1024 + win0_5.xsize (grid0.coords t) 0
    rw [hi.2.2.2.2.2.2.2.2.1, hx.2.2.1]; omega
  | ⟨1, _⟩ =>
    show win0_5.index t 1 * 1024 ≤ (i 1 : Nat) ∧ (i 1 : Nat) < win0_5.index t 1 * 1024 + win0_5.xsize (grid0.coords t) 1
    rw [hi.2.2.2.2.2.2.2.2.2.1, hx.2.2.2]; omega

theorem final4 (c : Dev nD) : (dats m 0 c).arrAt 4 cfg0.N = result m c :=
  (dats m 0 c).arrAt_eq_of_cover 4 (result m c) (fun t _ => flushed4_eq m c t) cover4

theorem final5 (c : Dev nD) : (dats m 0 c).arrAt 5 cfg0.N = result m c :=
  (dats m 0 c).arrAt_eq_of_cover 5 (result m c) (fun t _ => flushed5_eq m c t) cover5

end Cert.DxIdeal.DxValue
end
-- ==== Proof.DxRefValue.lean ====
module

public import proofs.«01_k».proof.Defs
public import proofs.«01_k».proof.Proof.Gen.DxRefIdeal.Value
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DxRefIdeal.DxValue

open Cert.DxRefIdeal Cert.DxRefIdeal.Gen

variable (m : (ℓ : Loc nD τ sig) → Buf (Elt Ideal) ℓ) (ρ : Dev nD → PrngReg)

theorem hz : (![0, 0] : Fin 2 → Nat) = fun _ => 0 := funext fun a => by fin_cases a <;> rfl

theorem pay1_apply (v0 : Vec Ideal S6144x8192 .fp8e5m2) (v2 : Vec Ideal S5120x8192 .fp8e4m3) (v4 : Vec Ideal S6144x1 .f32)
    (v8 : Vec Ideal S1x1 .f32) (j : S6144x5120.Idx) : k0_pay1 v0 v2 v4 v8 j
      = (∑ k : Fin 8192, (v0 (ix2 (j 0) k) : EReal) * (v2 (ix2 (j 1) k) : EReal)) * (v4 (ix2 (j 0) 0) : EReal) * v8 (ix2 0 0) := by
  pointwise! [k0_pay1]

theorem pay2_eq (v0 : Vec Ideal S6144x8192 .fp8e5m2) (v2 : Vec Ideal S5120x8192 .fp8e4m3) (v4 : Vec Ideal S6144x1 .f32)
    (v8 : Vec Ideal S1x1 .f32) : (k0_pay2 v0 v2 v4 v8 : S6144x5120.Idx → EReal) = k0_pay1 v0 v2 v4 v8 := by
  funext j
  pointwise! [k0_pay2]

/-- What the reference's f32 result holds after the run, over the arrays its call reads. -/
def result (c : Dev nD) : S6144x5120.Idx → EReal :=
  k0_pay1 (V m c main_v2) (V m c main_arg2) (V m c main_v3) (V m c main_v4)

theorem iblk0_eq (c : Dev nD) (t : Fin cfg0.N) : iblk m c 0 t = V m c main_v2 :=
  Memref.read_access_unit_zero (Elt Ideal) main_v2 (off := fun a => win0_0.index t a * main_v2.ty.shape.size a)
    (funext fun a => by rcases fin_N0 t with rfl; fin_cases a <;> decide +kernel)
    (fun a => by rcases fin_N0 t with rfl; fin_cases a <;> decide +kernel) (V m c main_v2)

theorem iblk1_eq (c : Dev nD) (t : Fin cfg0.N) : iblk m c 1 t = V m c main_v3 :=
  Memref.read_access_unit_zero (Elt Ideal) main_v3 (off := fun a => win0_1.index t a * main_v3.ty.shape.size a)
    (funext fun a => by rcases fin_N0 t with rfl; fin_cases a <;> decide +kernel)
    (fun a => by rcases fin_N0 t with rfl; fin_cases a <;> decide +kernel) (V m c main_v3)

theorem iblk2_eq (c : Dev nD) (t : Fin cfg0.N) : iblk m c 2 t = V m c main_arg2 :=
  Memref.read_access_unit_zero (Elt Ideal) main_arg2 (off := fun a => win0_2.index t a * main_arg2.ty.shape.size a)
    (funext fun a => by rcases fin_N0 t with rfl; fin_cases a <;> decide +kernel)
    (fun a => by rcases fin_N0 t with rfl; fin_cases a <;> decide +kernel) (V m c main_arg2)

theorem iblk3_eq (c : Dev nD) (t : Fin cfg0.N) : iblk m c 3 t = V m c main_v4 :=
  Memref.read_access_unit_zero (Elt Ideal) main_v4 (off := fun a => win0_3.index t a * main_v4.ty.shape.size a)
    (funext fun a => by rcases fin_N0 t with rfl; fin_cases a <;> decide +kernel)
    (fun a => by rcases fin_N0 t with rfl; fin_cases a <;> decide +kernel) (V m c main_v4)

theorem flushed4_eq (c : Dev nD) (t : Fin cfg0.N) :
    (dats m 0 c).flushed 4 t = ((cfg0.win 4).blk t).view.read (Elt Ideal) (result m c) := by
  have h : ((cfg0.win 4).blk t).view.read (Elt Ideal) (result m c) = result m c :=
    Memref.read_access_unit_zero (Elt Ideal) main_v5_0 (off := fun a => win0_4.index t a * main_v5_0.ty.shape.size a)
      (funext fun a => by rcases fin_N0 t with rfl; fin_cases a <;> decide +kernel)
      (fun a => by rcases fin_N0 t with rfl; fin_cases a <;> decide +kernel) _
  rw [Value.flushed4, iblk0_eq, iblk1_eq, iblk2_eq, iblk3_eq]
  unfold out0_4
  rw [View.canon_unit_zero hz, View.ld_unit_zero hz, View.ld_unit_zero hz, View.ld_unit_zero hz, View.ld_unit_zero hz]

  exact h.symm

theorem cover4 (i : S6144x5120.Idx) : ∃ t : Fin cfg0.N, (cfg0.win 4).flush t = true ∧ i ∈ ((cfg0.win 4).blk t).view.set := by
  have hN : cfg0.N = 1 := N_0
  refine ⟨⟨0, by omega⟩, flush0_4 _, ?_⟩
  set t : Fin cfg0.N := ⟨0, by omega⟩ with ht
  have h0 : (i 0 : Nat) < 6144 := (i 0).isLt
  have h1 : (i 1 : Nat) < 5120 := (i 1).isLt
  have e : win0_4.index t 0 * win0_4.size 0 = 0 ∧ win0_4.xsize (grid0.coords t) 0 = 6144
      ∧ win0_4.index t 1 * win0_4.size 1 = 0 ∧ win0_4.xsize (grid0.coords t) 1 = 5120 := by
    rcases fin_N0 t with h; rw [h]; decide +kernel
  show i ∈ ((View.whole main_v5_0).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [e.1, e.2.1]; omega
  | ⟨1, _⟩ =>
    show win0_4.index t 1 * win0_4.size 1 ≤ (i 1 : Nat) ∧ (i 1 : Nat) < win0_4.index t 1 * win0_4.size 1 + win0_4.xsize (grid0.coords t) 1
    rw [e.2.2.1, e.2.2.2]; omega

theorem final4 (c : Dev nD) : (dats m 0 c).arrAt 4 cfg0.N = result m c :=
  (dats m 0 c).arrAt_eq_of_cover 4 (result m c) (fun t _ => flushed4_eq m c t) cover4

theorem flushed5_eq (c : Dev nD) (t : Fin cfg0.N) :
    (dats m 0 c).flushed 5 t = ((cfg0.win 5).blk t).view.read (Elt Ideal) (result m c) := by
  have h : ((cfg0.win 5).blk t).view.read (Elt Ideal) (result m c) = result m c :=
    Memref.read_access_unit_zero (Elt Ideal) main_v5_1 (off := fun a => win0_5.index t a * main_v5_1.ty.shape.size a)
      (funext fun a => by rcases fin_N0 t with rfl; fin_cases a <;> decide +kernel)
      (fun a => by rcases fin_N0 t with rfl; fin_cases a <;> decide +kernel) _
  rw [Value.flushed5, iblk0_eq, iblk1_eq, iblk2_eq, iblk3_eq]
  unfold out0_5
  rw [View.canon_unit_zero hz, View.ld_unit_zero hz, View.ld_unit_zero hz, View.ld_unit_zero hz, View.ld_unit_zero hz]
  rw [pay2_eq]
  exact h.symm

theorem cover5 (i : S6144x5120.Idx) : ∃ t : Fin cfg0.N, (cfg0.win 5).flush t = true ∧ i ∈ ((cfg0.win 5).blk t).view.set := by
  have hN : cfg0.N = 1 := N_0
  refine ⟨⟨0, by omega⟩, flush0_5 _, ?_⟩
  set t : Fin cfg0.N := ⟨0, by omega⟩ with ht
  have h0 : (i 0 : Nat) < 6144 := (i 0).isLt
  have h1 : (i 1 : Nat) < 5120 := (i 1).isLt
  have e : win0_5.index t 0 * win0_5.size 0 = 0 ∧ win0_5.xsize (grid0.coords t) 0 = 6144
      ∧ win0_5.index t 1 * win0_5.size 1 = 0 ∧ win0_5.xsize (grid0.coords t) 1 = 5120 := by
    rcases fin_N0 t with h; rw [h]; decide +kernel
  show i ∈ ((View.whole main_v5_1).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + win0_5.xsize (grid0.coords t) 0
    rw [e.1, e.2.1]; omega
  | ⟨1, _⟩ =>
    show win0_5.index t 1 * win0_5.size 1 ≤ (i 1 : Nat) ∧ (i 1 : Nat) < win0_5.index t 1 * win0_5.size 1 + win0_5.xsize (grid0.coords t) 1
    rw [e.2.2.1, e.2.2.2]; omega

theorem final5 (c : Dev nD) : (dats m 0 c).arrAt 5 cfg0.N = result m c :=
  (dats m 0 c).arrAt_eq_of_cover 5 (result m c) (fun t _ => flushed5_eq m c t) cover5

end Cert.DxRefIdeal.DxValue
end
-- ==== Proof.DxClaim.lean ====
module

public import proofs.«01_k».proof.Proof.DxValue
public import proofs.«01_k».proof.Proof.DxRefValue
public import proofs.«01_k».proof.Proof.Gen.DxIdeal
public import proofs.«01_k».proof.Proof.Gen.DxRefIdeal

@[expose] public section

set_option maxRecDepth 16384

noncomputable section

open Idealize.ShloMosaic Idealize.ShloMosaic.TcCoe Idealize.SL.Sem

namespace Cert.DxIdeal.DxValue
open Cert.DxIdeal Cert.DxIdeal.Gen
variable (m : (ℓ : Loc nD τ sig) → Buf (Elt Ideal) ℓ)

theorem V_v0 (c : Dev nD) : V m c main_v0 = shapeCast S1x1 (m ((c.tc : Thread nD τ).loc main_arg3)) shapeCasts_S_S1x1 := by
  entry_read
  rfl
theorem V_v1 (c : Dev nD) : V m c main_v1 = shapeCast S6144x8192 (m ((c.tc : Thread nD τ).loc main_arg0)) shapeCasts_S2x3072x8192_S6144x8192 := by
  entry_read
  rfl
theorem V_v2 (c : Dev nD) : V m c main_v2 = shapeCast S6144x128 (m ((c.tc : Thread nD τ).loc main_arg1)) shapeCasts_S2x3072x128_S6144x128 := by
  entry_read
  rfl
end Cert.DxIdeal.DxValue

namespace Cert.DxRefIdeal.DxValue
open Cert.DxRefIdeal Cert.DxRefIdeal.Gen
variable (m : (ℓ : Loc nD τ sig) → Buf (Elt Ideal) ℓ)

theorem V_v2 (c : Dev nD) : V m c main_v2 = shapeCast S6144x8192 (m ((c.tc : Thread nD τ).loc main_arg0)) shapeCasts_S2x3072x8192_S6144x8192 := by
  entry_read
  rfl
theorem V_v3 (c : Dev nD) : V m c main_v3 = shapeCast S6144x1 (shapeCast S2x3072 (extractStridedSlice S2x3072x1 ![0, 0, 127]
    (m ((c.tc : Thread nD τ).loc main_arg1)) slices_S2x3072x128_S2x3072x1_0_0_127) shapeCasts_S2x3072x1_S2x3072) shapeCasts_S2x3072_S6144x1 := by
  entry_read
  rfl
theorem V_v4 (c : Dev nD) : V m c main_v4 = shapeCast S1x1 (m ((c.tc : Thread nD τ).loc main_arg3)) shapeCasts_S_S1x1 := by
  entry_read
  rfl
end Cert.DxRefIdeal.DxValue

namespace Cert.DxClaim

/-- The scale of a row, cut out of the last lane by the reference, read in place by the kernel. -/
theorem scale_eq (x : Vec Ideal Cert.DxRefIdeal.S2x3072x128 .f32) (r : Fin 6144) :
    shapeCast Cert.DxRefIdeal.S6144x1 (shapeCast Cert.DxRefIdeal.S2x3072 (extractStridedSlice Cert.DxRefIdeal.S2x3072x1 ![0, 0, 127] x
      Cert.DxRefIdeal.Gen.slices_S2x3072x128_S2x3072x1_0_0_127) Cert.DxRefIdeal.Gen.shapeCasts_S2x3072x1_S2x3072)
      Cert.DxRefIdeal.Gen.shapeCasts_S2x3072_S6144x1 (ix2 r 0)
    = shapeCast Cert.DxIdeal.S6144x128 x Cert.DxIdeal.Gen.shapeCasts_S2x3072x128_S6144x128 (ix2 r 127) := by
  pointwise!

/-- From memories that agree on the arguments, the reference's result is the kernel's. -/
theorem result_eq (m : (ℓ : Loc Cert.DxIdeal.nD Cert.DxIdeal.τ Cert.DxIdeal.sig) → Buf (Elt Ideal) ℓ)
    (m' : (ℓ : Loc Cert.DxRefIdeal.nD Cert.DxRefIdeal.τ Cert.DxRefIdeal.sig) → Buf (Elt Ideal) ℓ) (c : Dev Cert.DxIdeal.nD)
    (h0 : m' ((c.tc : Thread Cert.DxRefIdeal.nD Cert.DxRefIdeal.τ).loc Cert.DxRefIdeal.main_arg0) = m ((c.tc : Thread Cert.DxIdeal.nD Cert.DxIdeal.τ).loc Cert.DxIdeal.main_arg0))
    (h1 : m' ((c.tc : Thread Cert.DxRefIdeal.nD Cert.DxRefIdeal.τ).loc Cert.DxRefIdeal.main_arg1) = m ((c.tc : Thread Cert.DxIdeal.nD Cert.DxIdeal.τ).loc Cert.DxIdeal.main_arg1))
    (h2 : m' ((c.tc : Thread Cert.DxRefIdeal.nD Cert.DxRefIdeal.τ).loc Cert.DxRefIdeal.main_arg2) = m ((c.tc : Thread Cert.DxIdeal.nD Cert.DxIdeal.τ).loc Cert.DxIdeal.main_arg2))
    (h3 : m' ((c.tc : Thread Cert.DxRefIdeal.nD Cert.DxRefIdeal.τ).loc Cert.DxRefIdeal.main_arg3) = m ((c.tc : Thread Cert.DxIdeal.nD Cert.DxIdeal.τ).loc Cert.DxIdeal.main_arg3)) :
    Cert.DxRefIdeal.DxValue.result m' c = Cert.DxIdeal.DxValue.result m c := by
  funext i
  unfold Cert.DxRefIdeal.DxValue.result Cert.DxIdeal.DxValue.result Cert.DxIdeal.DxValue.dxAt
  rw [Cert.DxRefIdeal.DxValue.pay1_apply]
  rw [Cert.DxRefIdeal.DxValue.V_v2, Cert.DxRefIdeal.DxValue.V_v3, Cert.DxRefIdeal.DxValue.V_v4, Cert.DxIdeal.DxValue.V_v0,
    Cert.DxIdeal.DxValue.V_v1, Cert.DxIdeal.DxValue.V_v2, Cert.DxRefIdeal.Gen.V_main_arg2, Cert.DxIdeal.Gen.V_main_arg2, h0, h1, h2, h3]
  exact congrArg₂ (· * ·) (congrArg₂ (· * ·) rfl (scale_eq _ (i 0))) rfl

theorem algebraic : Cert.algebraic_DxIdeal_DxRefIdeal := by
  pair_intro
  · run_from (Cert.DxIdeal.Value.run_blocks m g)
  · run_from (Cert.DxRefIdeal.Value.run_blocks m' g') <;>
      simp only [Cert.DxRefIdeal.DxValue.final4, Cert.DxRefIdeal.DxValue.final5, Cert.DxIdeal.DxValue.final4, Cert.DxIdeal.DxValue.final5] <;>
      exact result_eq m m' c (hagree c).1 (hagree c).2.1 (hagree c).2.2.1 (hagree c).2.2.2

end Cert.DxClaim
end
-- ==== Proof.DwoutBits.lean ====
module

public import proofs.«01_k».proof.Proof.Gen.Dwout.Frame
public import proofs.«01_k».proof.Proof.Gen.Dwout.Loops
public import Idealize.ShloMosaic.Lib.Pipeline.FrameBody
public import Idealize.ShloMosaic.Lib.Pipeline.Value
public import Idealize.ShloMosaic.Lib.Pipeline.TableIdle
public import Idealize.ShloMosaic.Lib.Pipeline.ValueKit.Tiles
public import Idealize.ShloMosaic.Lib.Tactic
public import Idealize.ShloMosaic.Lib.Pointwise
public import Idealize.ShloMosaic.Lib.Claim

@[expose] public section

set_option maxRecDepth 16384

noncomputable section

namespace Cert.Dwout.Run

open Cert.Dwout Cert.Dwout.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one column block's quantisation leaves -/

/-- Rows `128 k .. 128 k + 127` of a block of `y`. -/
def rowsOf (x0 : Vec F S6144x256 .f32) (k : Fin 48) : Vec F S128x256 .f32 :=
  fun z => x0 (ix2 ⟨128 * k.val + (z 0).val, by have : (z 0).val < 128 := (z 0).isLt; omega⟩ (z 1))

/-- The same rows of the first lane of the row scales. -/
def laneOf (x3 : Vec F S6144x128 .f32) (k : Fin 48) : Vec F S128x1 .f32 :=
  fun z => x3 (ix2 ⟨128 * k.val + (z 0).val, by have : (z 0).val < 128 := (z 0).isLt; omega⟩ ⟨0, by decide⟩)

/-- Which tile of 128 rows a row lies in. -/
def tileOf (y : S6144x256.Idx) : Fin 48 := ⟨(y 0).val / 128, by have : (y 0).val < 6144 := (y 0).isLt; omega⟩

/-- Where in its tile it lies. -/
def inTile (y : S6144x256.Idx) : S128x256.Idx := ix2 ⟨(y 0).val % 128, by omega⟩ (y 1)

/-- The codes of a whole column block. -/
def codesOf (x0 : Vec F S6144x256 .f32) (x1 : Vec F S8x256 .f32) : Vec F S6144x256 .fp8e4m3 :=
  fun y => k0_pay2 x1 (rowsOf x0 (tileOf y)) (inTile y)

/-- The left operand of the product: the codes times the row scales. -/
def lhsOf (x0 : Vec F S6144x256 .f32) (x1 : Vec F S8x256 .f32) (x3 : Vec F S6144x128 .f32) : Vec F S6144x256 .bf16 :=
  fun y => k0_pay3 x1 (rowsOf x0 (tileOf y)) (laneOf x3 (tileOf y)) (inTile y)

theorem hz : (![0, 0] : Fin 2 → Nat) = fun _ => 0 := funext fun a => by fin_cases a <;> rfl

theorem off1_eq : ∀ k : Fin k0_t1_loop.trips, k0_off1 k 0 = 128 * k.val ∧ k0_off1 k 1 = 0 ∧ k0_off2 k 0 = 128 * k.val ∧ k0_off2 k 1 = 0 := by
  decide +kernel

theorem trips_eq : k0_t1_loop.trips = 48 := by decide +kernel

/-- Condition of the kernel's `if`: the first point of a group of four. -/
theorem cond_iff : ∀ t : Fin grid0.N, k0_cond1 (grid0.coords t) = 1#1 ↔ t.val % 4 = 0 := by decide +kernel

variable (c : Dev nD) (i : grid0.Coords) (arg2 : Memref sig .tc .vmem S6144x256 .f32) (harg2 : arg2.IsWhole) (arg3 : Memref sig .tc .vmem S8x256 .f32) (harg3 : arg3.IsWhole) (arg4 : Memref sig .tc .vmem S6144x1280 .fp8e5m2) (harg4 : arg4.IsWhole) (arg5 : Memref sig .tc .vmem S6144x128 .f32) (harg5 : arg5.IsWhole) (arg6 : Memref sig .tc .vmem S6144x256 .fp8e4m3) (harg6 : arg6.IsWhole) (arg7 : Memref sig .tc .vmem S1x256 .f32) (harg7 : arg7.IsWhole) (arg8 : Memref sig .tc .vmem S256x1280 .f32) (harg8 : arg8.IsWhole) (arg9 : Memref sig .tc .vmem S6144x256 .bf16) (harg9 : arg9.IsWhole)
variable (x0 : Vec F S6144x256 .f32) (x1 : Vec F S8x256 .f32) (x2 : Vec F S6144x1280 .fp8e5m2) (x3 : Vec F S6144x128 .f32)

/-- A rectangle of 128 rows at tile `k` holds the places whose row lies in the tile, each at its own place. -/
theorem tile_emb (k : Fin k0_t1_loop.trips) (inb : ∀ a, k0_off1 k a + S128x256.size a ≤ S6144x256.size a)
    (x : (Rect.unit (s := S6144x256) (k0_off1 k) S128x256.size inb).shape.Idx) :
    tileOf ((Rect.unit (s := S6144x256) (k0_off1 k) S128x256.size inb).emb x) = ⟨k.val, trips_eq ▸ k.isLt⟩
      ∧ inTile ((Rect.unit (s := S6144x256) (k0_off1 k) S128x256.size inb).emb x) = x := by
  obtain ⟨h0, h1, -, -⟩ := off1_eq k
  have hx0 : (x 0).val < 128 := (x 0).isLt
  have e0 : (((Rect.unit (s := S6144x256) (k0_off1 k) S128x256.size inb).emb x) 0).val = 128 * k.val + (x 0).val := by
    show k0_off1 k 0 + 1 * (x 0).val = _; omega
  have e1 : (((Rect.unit (s := S6144x256) (k0_off1 k) S128x256.size inb).emb x) 1).val = (x 1).val := by
    show k0_off1 k 1 + 1 * (x 1).val = _; omega
  constructor
  · apply Fin.ext
    show _ / 128 = k.val
    rw [e0]; omega
  · funext a
    match a with
    | ⟨0, _⟩ => apply Fin.ext; show _ % 128 = (x 0).val; rw [e0]; omega
    | ⟨1, _⟩ => exact Fin.ext e1

/-- A list of stores that has filled the rows below `128 n` with the places of one function. -/
def Filled {e : EltTy} (G : S6144x256.Idx → Elt F e) (n : ℕ) (L : List (View.Piece (Elt F) S6144x256 e)) : Prop :=
  (∀ p ∈ L, ∀ x, p.2 x = G (p.1.emb x)) ∧ ∀ y : S6144x256.Idx, (y 0).val < 128 * n → ∃ p ∈ L, y ∈ p.1.set

theorem Filled.nil {e : EltTy} (G : S6144x256.Idx → Elt F e) : Filled G 0 [] :=
  by
  constructor
  · intro p hp; cases hp
  · intro y hy; omega

theorem Filled.cons {e : EltTy} {G : S6144x256.Idx → Elt F e} (k : Fin k0_t1_loop.trips) {L : List (View.Piece (Elt F) S6144x256 e)}
    (h : Filled G k.val L) (inb : ∀ a, k0_off1 k a + S128x256.size a ≤ S6144x256.size a) (w : S128x256.Idx → Elt F e)
    (hw : ∀ x, w x = G ((Rect.unit (s := S6144x256) (k0_off1 k) S128x256.size inb).emb x)) :
    Filled G (k.val + 1) ([⟨Rect.unit (s := S6144x256) (k0_off1 k) S128x256.size inb, w⟩] ++ L) := by
  obtain ⟨o0, o1, -, -⟩ := off1_eq k
  refine ⟨fun p hp => ?_, fun y hy => ?_⟩
  · rcases List.mem_cons.mp hp with rfl | hp
    · exact hw
    · exact h.1 p hp
  · by_cases hk : (y 0).val < 128 * k.val
    · obtain ⟨p, hp, hy'⟩ := h.2 y hk
      exact ⟨p, List.mem_cons_of_mem _ hp, hy'⟩
    · refine ⟨⟨Rect.unit (s := S6144x256) (k0_off1 k) S128x256.size inb, w⟩, List.mem_cons_self, (Rect.mem_set_unit (inb := inb)).mpr fun a => ?_⟩
      match a with
      | ⟨0, _⟩ => show k0_off1 k 0 ≤ (y 0).val ∧ (y 0).val < k0_off1 k 0 + 128; omega
      | ⟨1, _⟩ => have : (y 1).val < 256 := (y 1).isLt; show k0_off1 k 1 ≤ (y 1).val ∧ (y 1).val < k0_off1 k 1 + 256; omega

/-- A load of the rows of tile `k`. -/
theorem ld_rows (k : Fin k0_t1_loop.trips) (inb : ∀ a, k0_off1 k a + S128x256.size a ≤ S6144x256.size a) :
    View.ld (Val := Elt F) (e' := .f32) x0 (Rect.unit (s := S6144x256) (k0_off1 k) S128x256.size inb) = rowsOf x0 ⟨k.val, trips_eq ▸ k.isLt⟩ := by
  obtain ⟨o0, o1, -, -⟩ := off1_eq k
  funext z
  refine View.ld_unit_apply_of _ _ _ _ z _ fun a => ?_
  match a with
  | ⟨0, _⟩ => show 128 * k.val + (z 0).val = k0_off1 k 0 + (z 0).val; omega
  | ⟨1, _⟩ => show (z 1).val = k0_off1 k 1 + (z 1).val; omega

theorem ld_lane (k : Fin k0_t1_loop.trips) (inb : ∀ a, k0_off2 k a + S128x1.size a ≤ S6144x128.size a) :
    View.ld (Val := Elt F) (e' := .f32) x3 (Rect.unit (s := S6144x128) (k0_off2 k) S128x1.size inb) = laneOf x3 ⟨k.val, trips_eq ▸ k.isLt⟩ := by
  obtain ⟨-, -, o0, o1⟩ := off1_eq k
  funext z
  refine View.ld_unit_apply_of _ _ _ _ z _ fun a => ?_
  match a with
  | ⟨0, _⟩ => show 128 * k.val + (z 0).val = k0_off2 k 0 + (z 0).val; omega
  | ⟨1, _⟩ => have : (z 1).val < 1 := (z 1).isLt; show 0 = k0_off2 k 1 + (z 1).val; omega

theorem filled (h1 : k0_cond1 i = 1#1) : ∀ n ≤ 48,
    Filled (codesOf x0 x1) n (pb_k0_t1 (F := F) Variants.none c none i arg2 harg2 arg3 harg3 arg4 harg4 arg5 harg5 arg6 harg6 arg7 harg7 arg8 harg8 arg9 harg9 x1 h1 (harg2.unread x0) (harg5.unread x3) n).1
    ∧ Filled (lhsOf x0 x1 x3) n (pb_k0_t1 (F := F) Variants.none c none i arg2 harg2 arg3 harg3 arg4 harg4 arg5 harg5 arg6 harg6 arg7 harg7 arg8 harg8 arg9 harg9 x1 h1 (harg2.unread x0) (harg5.unread x3) n).2
  | 0, _ => ⟨Filled.nil _, Filled.nil _⟩
  | n + 1, hn => by
    obtain ⟨iha, ihb⟩ := filled h1 n (by omega)
    have hk : n < k0_t1_loop.trips := trips_eq ▸ hn
    have hs := pb_k0_t1_succ (F := F) Variants.none c none i arg2 harg2 arg3 harg3 arg4 harg4 arg5 harg5 arg6 harg6 arg7 harg7 arg8 harg8 arg9 harg9 x1 h1 (harg2.unread x0) (harg5.unread x3) ⟨n, hk⟩
    simp only at hs
    rw [hs]
    unfold trip_k0_t1
    simp only [View.readAt_eq_ld, harg2.read_unread, harg5.read_unread]
    refine ⟨Filled.cons ⟨n, hk⟩ iha _ _ fun x => ?_, Filled.cons ⟨n, hk⟩ ihb _ _ fun x => ?_⟩
    · unfold codesOf
      rw [(tile_emb ⟨n, hk⟩ _ x).1, (tile_emb ⟨n, hk⟩ _ x).2, ← ld_rows x0 ⟨n, hk⟩ (k0_off1_inb i ⟨n, hk⟩ h1)]
      try rfl
    · unfold lhsOf
      rw [(tile_emb ⟨n, hk⟩ _ x).1, (tile_emb ⟨n, hk⟩ _ x).2, ← ld_rows x0 ⟨n, hk⟩ (k0_off1_inb i ⟨n, hk⟩ h1), ← ld_lane x3 ⟨n, hk⟩ (k0_off2_inb i ⟨n, hk⟩ h1)]
      try rfl

/-- The whole block, once every trip has run. -/
theorem read_filled {e : EltTy} {sp : Space} (M : Memref sig .tc sp S6144x256 e) (f : BufTy.Contents (Elt F) M.view.ty)
    {G : S6144x256.Idx → Elt F e} {L : List (View.Piece (Elt F) S6144x256 e)} (h : Filled G 48 L) :
    M.view.read (Elt F) (M.view.writes (Elt F) f L) = G :=
  funext fun y => View.read_writes_apply_of_pieces _ _ G L h.1 y (h.2 y (by have : (y 0).val < 6144 := (y 0).isLt; omega))

/-- A single store of the whole block leaves its payload. -/
theorem read_whole {S : Shape} {e : EltTy} {sp : Space} (M : Memref sig .tc sp S e) (f : BufTy.Contents (Elt F) M.view.ty)
    {off : Fin S.rank → ℕ} (hoff : off = fun _ => 0) (inb : ∀ a, off a + S.size a ≤ S.size a) (w : S.Idx → Elt F e)
    (L : List (View.Piece (Elt F) S e)) :
    M.view.read (Elt F) (M.view.writes (Elt F) f (⟨Rect.unit off S.size inb, w⟩ :: L)) = w := by
  subst hoff
  funext y
  exact View.read_writes_cons_hit_of_coords _ _ (Rect.unit (fun _ => 0) S.size inb) w L y y fun a => by
    show (y a).val = 0 + 1 * (y a).val; omega

/-- A load of a whole block. -/
theorem readAt_whole {S : Shape} {e : EltTy} {sp : Space} (M : Memref sig .tc sp S e) {off : Fin S.rank → ℕ} (hoff : off = fun _ => 0)
    (inb : ∀ a, off a + S.size a ≤ S.size a) (f : BufTy.Contents (Elt F) M.view.ty) :
    View.readAt (Elt F) M.view (Rect.unit off S.size inb).toLoadRect f = M.view.read (Elt F) f :=
  View.ld_unit_zero hoff inb _

/-- The body at the first point of a group: it quantises the block, keeps the left operand, and multiplies. -/
theorem body_first (h1 : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (codesOf x0 x1) ∗ owns (c : Thread nD τ) arg7 fullShare (k0_pay1 x1)
            ∗ owns (c : Thread nD τ) arg8 fullShare (k0_pay4 x1 (lhsOf x0 x1 x3) x2) ∗ owns (c : Thread nD τ) arg9 fullShare (lhsOf x0 x1 x3)) -∗ K ⟨⟩))
      ⊢ wp frame (wpE (defs₀ (F := F)) Variants.none c none) E (cc0_dwout i arg2 harg2 arg3 harg3 arg4 harg4 arg5 harg5 arg6 harg6 arg7 harg7 arg8 harg8 arg9 harg9) K := by
  have hF := filled c i arg2 harg2 arg3 harg3 arg4 harg4 arg5 harg5 arg6 harg6 arg7 harg7 arg8 harg8 arg9 harg9 x0 x1 x3 h1 48 le_rfl
  have e3 := (readAt_whole arg3 hz inb_S8x256_S8x256_0_0 (harg3.unread x1)).trans (harg3.read_unread x1)
  have e4 := (readAt_whole arg4 hz inb_S6144x1280_S6144x1280_0_0 (harg4.unread x2)).trans (harg4.read_unread x2)
  simp only [cc0_dwout_eq_skeleton]; unfold cc0_dwout_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    try rw [e3]
    exact read_filled arg6 _ hF.1
  isplitl [H5]
  · iexists _; isplitr
    swap; · iexact H5
    ipureintro
    sl_unfold_words
    try rw [e3]
    exact read_whole arg7 _ hz _ _ _
  isplitl [H6]
  · iexists _; isplitr
    swap; · iexact H6
    ipureintro
    sl_unfold_words
    try rw [e3]
    try rw [e4]
    have e9 := (readAt_whole arg9 hz inb_S6144x256_S6144x256_0_0 _).trans (read_filled arg9 f7 hF.2)
    exact (read_whole arg8 _ hz _ _ _).trans (congrArg (fun v => k0_pay4 x1 v x2) e9)
  iexists _; isplitr
  swap; · iexact H7
  ipureintro
  sl_unfold_words
  try rw [e3]
  exact read_filled arg9 _ hF.2

/-- The body at the other points of a group: it multiplies by the left operand kept. -/
theorem body_later (h1 : ¬ k0_cond1 i = 1#1) (x7 : Vec F S6144x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg8 fullShare d) ∗ owns (c : Thread nD τ) arg9 fullShare x7
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (k0_pay4 x1 x7 x2) ∗ owns (c : Thread nD τ) arg9 fullShare x7) -∗ K ⟨⟩))
      ⊢ wp frame (wpE (defs₀ (F := F)) Variants.none c none) E (cc0_dwout i arg2 harg2 arg3 harg3 arg4 harg4 arg5 harg5 arg6 harg6 arg7 harg7 arg8 harg8 arg9 harg9) K := by
  have e3 := (readAt_whole arg3 hz inb_S8x256_S8x256_0_0 (harg3.unread x1)).trans (harg3.read_unread x1)
  have e4 := (readAt_whole arg4 hz inb_S6144x1280_S6144x1280_0_0 (harg4.unread x2)).trans (harg4.read_unread x2)
  have e9 := (readAt_whole arg9 hz inb_S6144x256_S6144x256_0_0 (harg9.unread x7)).trans (harg9.read_unread x7)
  simp only [cc0_dwout_eq_skeleton]; unfold cc0_dwout_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  obtain rfl := harg2.eq_unread hf0; obtain rfl := harg3.eq_unread hf1; obtain rfl := harg4.eq_unread hf2; obtain rfl := harg5.eq_unread hf3
  obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    try rw [e3, e4, e9]
    exact read_whole arg8 _ hz _ _ _
  iexists _; isplitr; · ipureintro; exact harg9.read_unread _
  iexact H7

/-! ## The windows' blocks in the arrays -/

variable (m : (ℓ : Loc nD τ sig) → Buf (Elt F) ℓ) (ρ : Dev nD → PrngReg)

theorem index_facts : ∀ t : Fin cfg0.N, (win0_0.index t 0 = 0 ∧ win0_0.index t 1 = t.val / 4)
    ∧ (win0_1.index t 0 = 0 ∧ win0_1.index t 1 = t.val / 4) ∧ (win0_2.index t 0 = 0 ∧ win0_2.index t 1 = t.val % 4)
    ∧ (win0_3.index t 0 = 0 ∧ win0_3.index t 1 = 0) ∧ (win0_4.index t 0 = 0 ∧ win0_4.index t 1 = t.val / 4)
    ∧ (win0_5.index t 0 = 0 ∧ win0_5.index t 1 = t.val / 4) ∧ (win0_6.index t 0 = t.val / 4 ∧ win0_6.index t 1 = t.val % 4) :=
  (by decide +kernel : ∀ t : Fin grid0.N, (win0_0.index t 0 = 0 ∧ win0_0.index t 1 = t.val / 4)
    ∧ (win0_1.index t 0 = 0 ∧ win0_1.index t 1 = t.val / 4) ∧ (win0_2.index t 0 = 0 ∧ win0_2.index t 1 = t.val % 4)
    ∧ (win0_3.index t 0 = 0 ∧ win0_3.index t 1 = 0) ∧ (win0_4.index t 0 = 0 ∧ win0_4.index t 1 = t.val / 4)
    ∧ (win0_5.index t 0 = 0 ∧ win0_5.index t 1 = t.val / 4) ∧ (win0_6.index t 0 = t.val / 4 ∧ win0_6.index t 1 = t.val % 4))

theorem iblk0_apply (t : Fin cfg0.N) (r : Fin 6144) (k : Fin 256) (K : Fin 4096) (hK : K.val = t.val / 4 * 256 + k.val) :
    (iblk m c 0 t : Vec F S6144x256 .f32) (ix2 r k) = V m c main_v0 (ix2 r K) := by
  have hi := index_facts t
  unfold iblk
  rw [View.read_apply]
  show V m c main_v0 _ = _
  congr 1
  funext a
  apply Fin.ext
  match a with
  | ⟨0, _⟩ => show win0_0.index t 0 * 6144 + 1 * r.val = r.val; rw [hi.1.1]; omega
  | ⟨1, _⟩ => show win0_0.index t 1 * 256 + 1 * k.val = K.val; rw [hi.1.2]; omega

theorem iblk1_apply (t : Fin cfg0.N) (r : Fin 8) (k : Fin 256) (K : Fin 4096) (hK : K.val = t.val / 4 * 256 + k.val) :
    (iblk m c 1 t : Vec F S8x256 .f32) (ix2 r k) = V m c main_arg1 (ix2 r K) := by
  have hi := index_facts t
  unfold iblk
  rw [View.read_apply]
  show V m c main_arg1 _ = _
  congr 1
  funext a
  apply Fin.ext
  match a with
  | ⟨0, _⟩ => show win0_1.index t 0 * 8 + 1 * r.val = r.val; rw [hi.2.1.1]; omega
  | ⟨1, _⟩ => show win0_1.index t 1 * 256 + 1 * k.val = K.val; rw [hi.2.1.2]; omega

theorem iblk2_apply (t : Fin cfg0.N) (r : Fin 6144) (k : Fin 1280) (K : Fin 5120) (hK : K.val = t.val % 4 * 1280 + k.val) :
    (iblk m c 2 t : Vec F S6144x1280 .fp8e5m2) (ix2 r k) = V m c main_arg2 (ix2 r K) := by
  have hi := index_facts t
  unfold iblk
  rw [View.read_apply]
  show V m c main_arg2 _ = _
  congr 1
  funext a
  apply Fin.ext
  match a with
  | ⟨0, _⟩ => show win0_2.index t 0 * 6144 + 1 * r.val = r.val; rw [hi.2.2.1.1]; omega
  | ⟨1, _⟩ => show win0_2.index t 1 * 1280 + 1 * k.val = K.val; rw [hi.2.2.1.2]; omega

theorem iblk3_apply (t : Fin cfg0.N) (r : Fin 6144) (k : Fin 128) :
    (iblk m c 3 t : Vec F S6144x128 .f32) (ix2 r k) = V m c main_arg3 (ix2 r k) := by
  have hi := index_facts t
  unfold iblk
  rw [View.read_apply]
  show V m c main_arg3 _ = _
  congr 1
  funext a
  apply Fin.ext
  match a with
  | ⟨0, _⟩ => show win0_3.index t 0 * 6144 + 1 * r.val = r.val; rw [hi.2.2.2.1.1]; omega
  | ⟨1, _⟩ => show win0_3.index t 1 * 128 + 1 * k.val = k.val; rw [hi.2.2.2.1.2]; omega

theorem iblk0_group (t t' : Fin cfg0.N) (h : t.val / 4 = t'.val / 4) :
    (iblk m c 0 t : Vec F S6144x256 .f32) = (iblk m c 0 t' : Vec F S6144x256 .f32) := by
  funext j
  have hN : cfg0.N = 64 := N_0
  have h1 := t.isLt
  have h2 : (j 1).val < 256 := (j 1).isLt
  have e : j = ix2 (j 0) (j 1) := eq_ix2 j
  have a1 := iblk0_apply c m t (j 0) (j 1) ⟨t.val / 4 * 256 + (j 1).val, by omega⟩ rfl
  have a2 := iblk0_apply c m t' (j 0) (j 1) ⟨t.val / 4 * 256 + (j 1).val, by omega⟩ (by show t.val / 4 * 256 + (j 1).val = t'.val / 4 * 256 + (j 1).val; omega)
  rw [e]
  exact a1.trans a2.symm

theorem iblk1_group (t t' : Fin cfg0.N) (h : t.val / 4 = t'.val / 4) :
    (iblk m c 1 t : Vec F S8x256 .f32) = (iblk m c 1 t' : Vec F S8x256 .f32) := by
  funext j
  have hN : cfg0.N = 64 := N_0
  have h1 := t.isLt
  have h2 : (j 1).val < 256 := (j 1).isLt
  have e : j = ix2 (j 0) (j 1) := eq_ix2 j
  have a1 := iblk1_apply c m t (j 0) (j 1) ⟨t.val / 4 * 256 + (j 1).val, by omega⟩ rfl
  have a2 := iblk1_apply c m t' (j 0) (j 1) ⟨t.val / 4 * 256 + (j 1).val, by omega⟩ (by show t.val / 4 * 256 + (j 1).val = t'.val / 4 * 256 + (j 1).val; omega)
  rw [e]
  exact a1.trans a2.symm

theorem iblk3_group (t t' : Fin cfg0.N) :
    (iblk m c 3 t : Vec F S6144x128 .f32) = (iblk m c 3 t' : Vec F S6144x128 .f32) := by
  funext j
  rw [eq_ix2 j]
  exact (iblk3_apply c m t _ _).trans (iblk3_apply c m t' _ _).symm

/-! ## The proof data -/

/-- The left operand kept in scratch, at point `t`. -/
def keptAt (t : Fin cfg0.N) : Vec F S6144x256 .bf16 := lhsOf (iblk m c 0 t) (iblk m c 1 t) (iblk m c 3 t)

theorem keptAt_group (t t' : Fin cfg0.N) (h : t.val / 4 = t'.val / 4) : keptAt c m t = keptAt c m t' := by
  unfold keptAt
  rw [iblk0_group c m t t' h, iblk1_group c m t t' h, iblk3_group c m t t']

/-- The scratch buffer. -/
abbrev scr : Memref sig .tc .vmem S6144x256 .bf16 := Memref.whole cc0_scratch0

/-- The scratch between the points: anything before the first point of a group, the left operand within it. -/
def scratchAt (n : Fin (cfg0.N + 1)) : sProp 𝕄 :=
  if h : n.val % 4 = 0 then iprop(∃ d, owns (c : Thread nD τ) scr fullShare d)
  else owns (c : Thread nD τ) scr fullShare (keptAt c m ⟨n.val - 1, by have := n.isLt; omega⟩)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesOf (iblk m c 0 t) (iblk m c 1 t)
    | ⟨5, _⟩ => k0_pay1 (iblk m c 1 t)
    | ⟨6, _⟩ => k0_pay4 (iblk m c 1 t) (keptAt c m t) (iblk m c 2 t)
  Φ n := iprop(scratchAt c m n ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesOf (iblk m c 0 t) (iblk m c 1 t) := by dsimp only [dats]
theorem after0_5 (c : Dev nD) (t : Fin cfg0.N) : (dats m 0 c).after 5 t = k0_pay1 (iblk m c 1 t) := by dsimp only [dats]
theorem after0_6 (c : Dev nD) (t : Fin cfg0.N) : (dats m 0 c).after 6 t = k0_pay4 (iblk m c 1 t) (keptAt c m t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The codes' and scales' windows are stored at the first point of a group only. -/
theorem idle0_4 : ∀ t : Fin cfg0.N, cfg0.idle 4 (cfg0.grid.coords t) = decide (t.val % 4 ≠ 0) :=
  (by decide +kernel : ∀ t : Fin grid0.N, (!(k0_cond1 (grid0.coords t) == 1#1)) = decide (t.val % 4 ≠ 0))

theorem idle0_5 : ∀ t : Fin cfg0.N, cfg0.idle 5 (cfg0.grid.coords t) = decide (t.val % 4 ≠ 0) :=
  (by decide +kernel : ∀ t : Fin grid0.N, (!(k0_cond1 (grid0.coords t) == 1#1)) = decide (t.val % 4 ≠ 0))

theorem fresh0_4 (t : Fin cfg0.N) : cfg0.fresh 4 t.val = decide (t.val % 4 = 0) := by
  refine cfg0.fresh_tab 4 (fun n => decide (n % 4 = 0)) rfl (fun t => ?_) t.val (Nat.le_of_lt t.isLt)
  rw [idle0_4]
  have hf := flush0_4 t
  rw [Bool.eq_iff_iff, Bool.or_eq_true, Bool.and_eq_true, hf]
  simp only [decide_eq_true_eq]
  omega

theorem fresh0_5 (t : Fin cfg0.N) : cfg0.fresh 5 t.val = decide (t.val % 4 = 0) := by
  refine cfg0.fresh_tab 5 (fun n => decide (n % 4 = 0)) rfl (fun t => ?_) t.val (Nat.le_of_lt t.isLt)
  rw [idle0_5]
  have hf := flush0_5 t
  rw [Bool.eq_iff_iff, Bool.or_eq_true, Bool.and_eq_true, hf]
  simp only [decide_eq_true_eq]
  omega

theorem after0_4_group (c : Dev nD) (t : Fin cfg0.N) (h : ¬ t.val % 4 = 0) :
    (dats m 0 c).after 4 t = (dats m 0 c).after 4 ⟨t.val - 1, by have := t.isLt; omega⟩ := by
  rw [after0_4, after0_4, iblk0_group c m t ⟨t.val - 1, by have := t.isLt; omega⟩ (by simp only; omega), iblk1_group c m t ⟨t.val - 1, by have := t.isLt; omega⟩ (by simp only; omega)]

theorem after0_5_group (c : Dev nD) (t : Fin cfg0.N) (h : ¬ t.val % 4 = 0) :
    (dats m 0 c).after 5 t = (dats m 0 c).after 5 ⟨t.val - 1, by have := t.isLt; omega⟩ := by
  rw [after0_5, after0_5, iblk1_group c m t ⟨t.val - 1, by have := t.isLt; omega⟩ (by simp only; omega)]

/-- At a later point of a group the codes' buffer holds what the group's first point left; -/
theorem before0_4 (c : Dev nD) (t : Fin cfg0.N) (h : ¬ t.val % 4 = 0) (d) :
    (dats m 0 c).before 4 t d = (dats m 0 c).after 4 t := by
  have e := (dats m 0 c).before_out_traj 4 rfl (fun _ _ => rfl) (fun t ht hi hfr => after0_4_group m c t (by rw [fresh0_4] at hfr; simpa using hfr)) t.val t rfl d
  rw [e, fresh0_4, if_neg (by simpa using h), ← after0_4_group m c t h]

/-- and so does the scales'. -/
theorem before0_5 (c : Dev nD) (t : Fin cfg0.N) (h : ¬ t.val % 4 = 0) (d) :
    (dats m 0 c).before 5 t d = (dats m 0 c).after 5 t := by
  have e := (dats m 0 c).before_out_traj 5 rfl (fun _ _ => rfl) (fun t ht hi hfr => after0_5_group m c t (by rw [fresh0_5] at hfr; simpa using hfr)) t.val t rfl d
  rw [e, fresh0_5, if_neg (by simpa using h), ← after0_5_group m c t h]

/-! ## The body at every point -/

abbrev ms0_0 (t : Fin cfg0.N) : Memref sig .tc .vmem S6144x256 .f32 := win0_0.stage (cfg0.slots t 0)
abbrev ms0_1 (t : Fin cfg0.N) : Memref sig .tc .vmem S8x256 .f32 := win0_1.stage (cfg0.slots t 1)
abbrev ms0_2 (t : Fin cfg0.N) : Memref sig .tc .vmem S6144x1280 .fp8e5m2 := win0_2.stage (cfg0.slots t 2)
abbrev ms0_3 (t : Fin cfg0.N) : Memref sig .tc .vmem S6144x128 .f32 := win0_3.stage (cfg0.slots t 3)
abbrev ms0_4 (t : Fin cfg0.N) : Memref sig .tc .vmem S6144x256 .fp8e4m3 := win0_4.stage (cfg0.slots t 4)
abbrev ms0_5 (t : Fin cfg0.N) : Memref sig .tc .vmem S1x256 .f32 := win0_5.stage (cfg0.slots t 5)
abbrev ms0_6 (t : Fin cfg0.N) : Memref sig .tc .vmem S256x1280 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The scratch holding point `t`'s left operand is what the next point may find. -/
theorem scratch_succ (c : Dev nD) (t : Fin cfg0.N) :
    owns (c : Thread nD τ) scr fullShare (keptAt c m t)
      ⊢ (scratchAt c m t.succ : sProp 𝕄) := by
  unfold scratchAt
  by_cases h : t.succ.val % 4 = 0
  · rw [dif_pos h]; iintro H; iexists _; iexact H
  · rw [dif_neg h]; exact .rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : cfg0.N = 64 := N_0
  rw [show (dats m 0 c).owesAt () t.succ = (dats m 0 c).owesAt () t.castSucc from rfl,
    show (dats m 0 c).Φ t.castSucc = iprop(scratchAt c m t.castSucc ∗ ∃ r, prngReg c r) from rfl,
    show (dats m 0 c).Φ t.succ = iprop(scratchAt c m t.succ ∗ ∃ r, prngReg c r) from rfl]
  by_cases h : t.val % 4 = 0
  · simp only [before0_0, before0_1, before0_2, before0_3]
    rw [after0_0, after0_1, after0_2, after0_3, after0_4, after0_5, after0_6,
      show scratchAt c m t.castSucc = iprop(∃ d, owns (c : Thread nD τ) scr fullShare d) from dif_pos h]
    iintro ⟨⟨Hs, Hr⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ (iblk m c 0 t) (iblk m c 1 t) (iblk m c 2 t) (iblk m c 3 t) ((cond_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [Hs]; · iexact Hs
    iintro ⟨H0, H1, H2, H3, H4, H5, H6, Hs⟩
    isplitl [Hs Hr]
    · isplitl [Hs]; · iapply (scratch_succ m c t); iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before0_0, before0_1, before0_2, before0_3, before0_4 m c t h, before0_5 m c t h]
    rw [after0_0, after0_1, after0_2, after0_3, after0_4, after0_5, after0_6,
      show scratchAt c m t.castSucc = owns (c : Thread nD τ) scr fullShare (keptAt c m ⟨t.val - 1, by have := t.isLt; omega⟩) from dif_neg h,
      keptAt_group c m ⟨t.val - 1, by have := t.isLt; omega⟩ t (by simp only; omega)]
    iintro ⟨⟨Hs, Hr⟩, Ho, ⟨%d0, H0⟩, ⟨%d1, H1⟩, ⟨%d2, H2⟩, ⟨%d3, H3⟩, ⟨%d4, H4⟩, ⟨%d5, H5⟩, ⟨%d6, H6⟩⟩
    iapply (body_later c (grid0.coords t) _ _ _ _ _ _ _ _ _ _ _ _ _ _ _ _ (iblk m c 0 t) (iblk m c 1 t) (iblk m c 2 t) (iblk m c 3 t) (fun hc => h ((cond_iff t).mp hc)) (keptAt c m t) Set.univ _)
    isplitl [H0]; · iexact H0
    isplitl [H1]; · iexact H1
    isplitl [H2]; · iexact H2
    isplitl [H3]; · iexact H3
    isplitl [H6]; · iexists _; iexact H6
    isplitl [Hs]; · iexact Hs
    iintro ⟨H0, H1, H2, H3, H6, Hs⟩
    isplitl [Hs Hr]
    · isplitl [Hs]; · iapply (scratch_succ m c t); iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

/-- What the body leaves in the codes' buffer, as the obligation spells it, -/
theorem hand4 (c : Dev nD) (t : Fin cfg0.N) :
    (owns (c : Thread nD τ) (ms0_4 t) fullShare ((dats m 0 c).after 4 t) : sProp 𝕄) ⊢
      (match cfg0.idle 4 (cfg0.grid.coords t) with
      | true =>
        match (cfg0.win 4).flush t with
        | false => iprop(∃ d, owns (c : Thread nD τ) ((cfg0.win 4).stage (cfg0.slots t 4)) fullShare ((dats m 0 c).before 4 t d))
        | true => owns (c : Thread nD τ) ((cfg0.win 4).stage (cfg0.slots t 4)) fullShare ((dats m 0 c).after 4 t)
      | false => owns (c : Thread nD τ) ((cfg0.win 4).stage (cfg0.slots t 4)) fullShare ((dats m 0 c).after 4 t)) := by
  have hi := idle0_4 t
  by_cases h : t.val % 4 = 0
  · rw [hi, decide_eq_false (fun hn => hn h)]
  · rw [hi, decide_eq_true h]
    cases (cfg0.win 4).flush t
    · iintro H
      iexists (dats m 0 c).after 4 t
      rw [before0_4 m c t h]
      iexact H
    · exact .rfl

/-- and in the scales'. -/
theorem hand5 (c : Dev nD) (t : Fin cfg0.N) :
    (owns (c : Thread nD τ) (ms0_5 t) fullShare ((dats m 0 c).after 5 t) : sProp 𝕄) ⊢
      (match cfg0.idle 5 (cfg0.grid.coords t) with
      | true =>
        match (cfg0.win 5).flush t with
        | false => iprop(∃ d, owns (c : Thread nD τ) ((cfg0.win 5).stage (cfg0.slots t 5)) fullShare ((dats m 0 c).before 5 t d))
        | true => owns (c : Thread nD τ) ((cfg0.win 5).stage (cfg0.slots t 5)) fullShare ((dats m 0 c).after 5 t)
      | false => owns (c : Thread nD τ) ((cfg0.win 5).stage (cfg0.slots t 5)) fullShare ((dats m 0 c).after 5 t)) := by
  have hi := idle0_5 t
  by_cases h : t.val % 4 = 0
  · rw [hi, decide_eq_false (fun hn => hn h)]
  · rw [hi, decide_eq_true h]
    cases (cfg0.win 5).flush t
    · iintro H
      iexists (dats m 0 c).after 5 t
      rw [before0_5 m c t h]
      iexact H
    · exact .rfl

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (hand4 m c t); iexact H4
  isplitl [H5]; · iapply (hand5 m c t); iexact H5
  iexact H6

/-! ## The run and the frame -/

/-- The scratch at anything, as the launch spells it and as the body does. -/
theorem phi_in (c : Dev nD) : (Pipeline.ΦA spec0 c : sProp 𝕄) ⊢ (dats m 0 c).Φ 0 := by
  rw [show (dats m 0 c).Φ 0 = iprop(scratchAt c m 0 ∗ ∃ r, prngReg c r) from rfl,
    show scratchAt c m 0 = iprop(∃ d, owns (c : Thread nD τ) scr fullShare d) from dif_pos rfl]
  unfold Pipeline.ΦA
  rw [scopedRest0_eq]
  unfold owns
  iintro ⟨⟨%f, H⟩, Hr⟩
  isplitl [H]
  · iexists _, f
    isplitr
    · ipureintro; rfl
    rw [View.set_whole]
    iexact H
  iexact Hr

theorem phi_out (c : Dev nD) : (dats m 0 c).Φ (Fin.last cfg0.N) ⊢ (Pipeline.ΦA spec0 c : sProp 𝕄) := by
  rw [show (dats m 0 c).Φ (Fin.last cfg0.N) = iprop(scratchAt c m (Fin.last cfg0.N) ∗ ∃ r, prngReg c r) from rfl,
    show scratchAt c m (Fin.last cfg0.N) = iprop(∃ d, owns (c : Thread nD τ) scr fullShare d) from dif_pos rfl]
  unfold Pipeline.ΦA
  rw [scopedRest0_eq]
  unfold owns
  iintro ⟨⟨%d, %f, -, H⟩, Hr⟩
  isplitl [H]
  · iexists f
    rw [View.set_whole]
    iexact H
  iexact Hr

set_option backward.isDefEq.respectTransparency.types false in
/-- The launch: what the run leaves, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Dwout.Run

end
-- ==== Proof.DwoutRun.lean ====
module

public import proofs.«01_k».proof.Proof.Gen.DwoutIdeal.Frame
public import proofs.«01_k».proof.Proof.Gen.DwoutIdeal.Loops
public import Idealize.ShloMosaic.Lib.Pipeline.FrameBody
public import Idealize.ShloMosaic.Lib.Pipeline.Value
public import Idealize.ShloMosaic.Lib.Pipeline.TableIdle
public import Idealize.ShloMosaic.Lib.Pipeline.ValueKit.Tiles
public import Idealize.ShloMosaic.Lib.Tactic
public import Idealize.ShloMosaic.Lib.Pointwise
public import Idealize.ShloMosaic.Lib.Claim

@[expose] public section

set_option maxRecDepth 16384

noncomputable section

namespace Cert.DwoutIdeal.Run

open Cert.DwoutIdeal Cert.DwoutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one column block's quantisation leaves -/

/-- Rows `128 k .. 128 k + 127` of a block of `y`. -/
def rowsOf (x0 : Vec F S6144x256 .f32) (k : Fin 48) : Vec F S128x256 .f32 :=
  fun z => x0 (ix2 ⟨128 * k.val + (z 0).val, by have : (z 0).val < 128 := (z 0).isLt; omega⟩ (z 1))

/-- The same rows of the first lane of the row scales. -/
def laneOf (x3 : Vec F S6144x128 .f32) (k : Fin 48) : Vec F S128x1 .f32 :=
  fun z => x3 (ix2 ⟨128 * k.val + (z 0).val, by have : (z 0).val < 128 := (z 0).isLt; omega⟩ ⟨0, by decide⟩)

/-- Which tile of 128 rows a row lies in. -/
def tileOf (y : S6144x256.Idx) : Fin 48 := ⟨(y 0).val / 128, by have : (y 0).val < 6144 := (y 0).isLt; omega⟩

/-- Where in its tile it lies. -/
def inTile (y : S6144x256.Idx) : S128x256.Idx := ix2 ⟨(y 0).val % 128, by omega⟩ (y 1)

/-- The codes of a whole column block. -/
def codesOf (x0 : Vec F S6144x256 .f32) (x1 : Vec F S8x256 .f32) : Vec F S6144x256 .fp8e4m3 :=
  fun y => k0_pay2 x1 (rowsOf x0 (tileOf y)) (inTile y)

/-- The left operand of the product: the codes times the row scales. -/
def lhsOf (x0 : Vec F S6144x256 .f32) (x1 : Vec F S8x256 .f32) (x3 : Vec F S6144x128 .f32) : Vec F S6144x256 .bf16 :=
  fun y => k0_pay3 x1 (rowsOf x0 (tileOf y)) (laneOf x3 (tileOf y)) (inTile y)

theorem hz : (![0, 0] : Fin 2 → Nat) = fun _ => 0 := funext fun a => by fin_cases a <;> rfl

theorem off1_eq : ∀ k : Fin k0_t1_loop.trips, k0_off1 k 0 = 128 * k.val ∧ k0_off1 k 1 = 0 ∧ k0_off2 k 0 = 128 * k.val ∧ k0_off2 k 1 = 0 := by
  decide +kernel

theorem trips_eq : k0_t1_loop.trips = 48 := by decide +kernel

/-- Condition of the kernel's `if`: the first point of a group of four. -/
theorem cond_iff : ∀ t : Fin grid0.N, k0_cond1 (grid0.coords t) = 1#1 ↔ t.val % 4 = 0 := by decide +kernel

variable (c : Dev nD) (i : grid0.Coords) (arg2 : Memref sig .tc .vmem S6144x256 .f32) (harg2 : arg2.IsWhole) (arg3 : Memref sig .tc .vmem S8x256 .f32) (harg3 : arg3.IsWhole) (arg4 : Memref sig .tc .vmem S6144x1280 .fp8e5m2) (harg4 : arg4.IsWhole) (arg5 : Memref sig .tc .vmem S6144x128 .f32) (harg5 : arg5.IsWhole) (arg6 : Memref sig .tc .vmem S6144x256 .fp8e4m3) (harg6 : arg6.IsWhole) (arg7 : Memref sig .tc .vmem S1x256 .f32) (harg7 : arg7.IsWhole) (arg8 : Memref sig .tc .vmem S256x1280 .f32) (harg8 : arg8.IsWhole) (arg9 : Memref sig .tc .vmem S6144x256 .bf16) (harg9 : arg9.IsWhole)
variable (x0 : Vec F S6144x256 .f32) (x1 : Vec F S8x256 .f32) (x2 : Vec F S6144x1280 .fp8e5m2) (x3 : Vec F S6144x128 .f32)

/-- A rectangle of 128 rows at tile `k` holds the places whose row lies in the tile, each at its own place. -/
theorem tile_emb (k : Fin k0_t1_loop.trips) (inb : ∀ a, k0_off1 k a + S128x256.size a ≤ S6144x256.size a)
    (x : (Rect.unit (s := S6144x256) (k0_off1 k) S128x256.size inb).shape.Idx) :
    tileOf ((Rect.unit (s := S6144x256) (k0_off1 k) S128x256.size inb).emb x) = ⟨k.val, trips_eq ▸ k.isLt⟩
      ∧ inTile ((Rect.unit (s := S6144x256) (k0_off1 k) S128x256.size inb).emb x) = x := by
  obtain ⟨h0, h1, -, -⟩ := off1_eq k
  have hx0 : (x 0).val < 128 := (x 0).isLt
  have e0 : (((Rect.unit (s := S6144x256) (k0_off1 k) S128x256.size inb).emb x) 0).val = 128 * k.val + (x 0).val := by
    show k0_off1 k 0 + 1 * (x 0).val = _; omega
  have e1 : (((Rect.unit (s := S6144x256) (k0_off1 k) S128x256.size inb).emb x) 1).val = (x 1).val := by
    show k0_off1 k 1 + 1 * (x 1).val = _; omega
  constructor
  · apply Fin.ext
    show _ / 128 = k.val
    rw [e0]; omega
  · funext a
    match a with
    | ⟨0, _⟩ => apply Fin.ext; show _ % 128 = (x 0).val; rw [e0]; omega
    | ⟨1, _⟩ => exact Fin.ext e1

/-- A list of stores that has filled the rows below `128 n` with the places of one function. -/
def Filled {e : EltTy} (G : S6144x256.Idx → Elt F e) (n : ℕ) (L : List (View.Piece (Elt F) S6144x256 e)) : Prop :=
  (∀ p ∈ L, ∀ x, p.2 x = G (p.1.emb x)) ∧ ∀ y : S6144x256.Idx, (y 0).val < 128 * n → ∃ p ∈ L, y ∈ p.1.set

theorem Filled.nil {e : EltTy} (G : S6144x256.Idx → Elt F e) : Filled G 0 [] :=
  by
  constructor
  · intro p hp; cases hp
  · intro y hy; omega

theorem Filled.cons {e : EltTy} {G : S6144x256.Idx → Elt F e} (k : Fin k0_t1_loop.trips) {L : List (View.Piece (Elt F) S6144x256 e)}
    (h : Filled G k.val L) (inb : ∀ a, k0_off1 k a + S128x256.size a ≤ S6144x256.size a) (w : S128x256.Idx → Elt F e)
    (hw : ∀ x, w x = G ((Rect.unit (s := S6144x256) (k0_off1 k) S128x256.size inb).emb x)) :
    Filled G (k.val + 1) ([⟨Rect.unit (s := S6144x256) (k0_off1 k) S128x256.size inb, w⟩] ++ L) := by
  obtain ⟨o0, o1, -, -⟩ := off1_eq k
  refine ⟨fun p hp => ?_, fun y hy => ?_⟩
  · rcases List.mem_cons.mp hp with rfl | hp
    · exact hw
    · exact h.1 p hp
  · by_cases hk : (y 0).val < 128 * k.val
    · obtain ⟨p, hp, hy'⟩ := h.2 y hk
      exact ⟨p, List.mem_cons_of_mem _ hp, hy'⟩
    · refine ⟨⟨Rect.unit (s := S6144x256) (k0_off1 k) S128x256.size inb, w⟩, List.mem_cons_self, (Rect.mem_set_unit (inb := inb)).mpr fun a => ?_⟩
      match a with
      | ⟨0, _⟩ => show k0_off1 k 0 ≤ (y 0).val ∧ (y 0).val < k0_off1 k 0 + 128; omega
      | ⟨1, _⟩ => have : (y 1).val < 256 := (y 1).isLt; show k0_off1 k 1 ≤ (y 1).val ∧ (y 1).val < k0_off1 k 1 + 256; omega

/-- A load of the rows of tile `k`. -/
theorem ld_rows (k : Fin k0_t1_loop.trips) (inb : ∀ a, k0_off1 k a + S128x256.size a ≤ S6144x256.size a) :
    View.ld (Val := Elt F) (e' := .f32) x0 (Rect.unit (s := S6144x256) (k0_off1 k) S128x256.size inb) = rowsOf x0 ⟨k.val, trips_eq ▸ k.isLt⟩ := by
  obtain ⟨o0, o1, -, -⟩ := off1_eq k
  funext z
  refine View.ld_unit_apply_of _ _ _ _ z _ fun a => ?_
  match a with
  | ⟨0, _⟩ => show 128 * k.val + (z 0).val = k0_off1 k 0 + (z 0).val; omega
  | ⟨1, _⟩ => show (z 1).val = k0_off1 k 1 + (z 1).val; omega

theorem ld_lane (k : Fin k0_t1_loop.trips) (inb : ∀ a, k0_off2 k a + S128x1.size a ≤ S6144x128.size a) :
    View.ld (Val := Elt F) (e' := .f32) x3 (Rect.unit (s := S6144x128) (k0_off2 k) S128x1.size inb) = laneOf x3 ⟨k.val, trips_eq ▸ k.isLt⟩ := by
  obtain ⟨-, -, o0, o1⟩ := off1_eq k
  funext z
  refine View.ld_unit_apply_of _ _ _ _ z _ fun a => ?_
  match a with
  | ⟨0, _⟩ => show 128 * k.val + (z 0).val = k0_off2 k 0 + (z 0).val; omega
  | ⟨1, _⟩ => have : (z 1).val < 1 := (z 1).isLt; show 0 = k0_off2 k 1 + (z 1).val; omega

theorem filled (h1 : k0_cond1 i = 1#1) : ∀ n ≤ 48,
    Filled (codesOf x0 x1) n (pb_k0_t1 (F := F) Variants.none c none i arg2 harg2 arg3 harg3 arg4 harg4 arg5 harg5 arg6 harg6 arg7 harg7 arg8 harg8 arg9 harg9 x1 h1 (harg2.unread x0) (harg5.unread x3) n).1
    ∧ Filled (lhsOf x0 x1 x3) n (pb_k0_t1 (F := F) Variants.none c none i arg2 harg2 arg3 harg3 arg4 harg4 arg5 harg5 arg6 harg6 arg7 harg7 arg8 harg8 arg9 harg9 x1 h1 (harg2.unread x0) (harg5.unread x3) n).2
  | 0, _ => ⟨Filled.nil _, Filled.nil _⟩
  | n + 1, hn => by
    obtain ⟨iha, ihb⟩ := filled h1 n (by omega)
    have hk : n < k0_t1_loop.trips := trips_eq ▸ hn
    have hs := pb_k0_t1_succ (F := F) Variants.none c none i arg2 harg2 arg3 harg3 arg4 harg4 arg5 harg5 arg6 harg6 arg7 harg7 arg8 harg8 arg9 harg9 x1 h1 (harg2.unread x0) (harg5.unread x3) ⟨n, hk⟩
    simp only at hs
    rw [hs]
    unfold trip_k0_t1
    simp only [View.readAt_eq_ld, harg2.read_unread, harg5.read_unread]
    refine ⟨Filled.cons ⟨n, hk⟩ iha _ _ fun x => ?_, Filled.cons ⟨n, hk⟩ ihb _ _ fun x => ?_⟩
    · unfold codesOf
      rw [(tile_emb ⟨n, hk⟩ _ x).1, (tile_emb ⟨n, hk⟩ _ x).2, ← ld_rows x0 ⟨n, hk⟩ (k0_off1_inb i ⟨n, hk⟩ h1)]
      try rfl
    · unfold lhsOf
      rw [(tile_emb ⟨n, hk⟩ _ x).1, (tile_emb ⟨n, hk⟩ _ x).2, ← ld_rows x0 ⟨n, hk⟩ (k0_off1_inb i ⟨n, hk⟩ h1), ← ld_lane x3 ⟨n, hk⟩ (k0_off2_inb i ⟨n, hk⟩ h1)]
      try rfl

/-- The whole block, once every trip has run. -/
theorem read_filled {e : EltTy} {sp : Space} (M : Memref sig .tc sp S6144x256 e) (f : BufTy.Contents (Elt F) M.view.ty)
    {G : S6144x256.Idx → Elt F e} {L : List (View.Piece (Elt F) S6144x256 e)} (h : Filled G 48 L) :
    M.view.read (Elt F) (M.view.writes (Elt F) f L) = G :=
  funext fun y => View.read_writes_apply_of_pieces _ _ G L h.1 y (h.2 y (by have : (y 0).val < 6144 := (y 0).isLt; omega))

/-- A single store of the whole block leaves its payload. -/
theorem read_whole {S : Shape} {e : EltTy} {sp : Space} (M : Memref sig .tc sp S e) (f : BufTy.Contents (Elt F) M.view.ty)
    {off : Fin S.rank → ℕ} (hoff : off = fun _ => 0) (inb : ∀ a, off a + S.size a ≤ S.size a) (w : S.Idx → Elt F e)
    (L : List (View.Piece (Elt F) S e)) :
    M.view.read (Elt F) (M.view.writes (Elt F) f (⟨Rect.unit off S.size inb, w⟩ :: L)) = w := by
  subst hoff
  funext y
  exact View.read_writes_cons_hit_of_coords _ _ (Rect.unit (fun _ => 0) S.size inb) w L y y fun a => by
    show (y a).val = 0 + 1 * (y a).val; omega

/-- A load of a whole block. -/
theorem readAt_whole {S : Shape} {e : EltTy} {sp : Space} (M : Memref sig .tc sp S e) {off : Fin S.rank → ℕ} (hoff : off = fun _ => 0)
    (inb : ∀ a, off a + S.size a ≤ S.size a) (f : BufTy.Contents (Elt F) M.view.ty) :
    View.readAt (Elt F) M.view (Rect.unit off S.size inb).toLoadRect f = M.view.read (Elt F) f :=
  View.ld_unit_zero hoff inb _

/-- The body at the first point of a group: it quantises the block, keeps the left operand, and multiplies. -/
theorem body_first (h1 : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (codesOf x0 x1) ∗ owns (c : Thread nD τ) arg7 fullShare (k0_pay1 x1)
            ∗ owns (c : Thread nD τ) arg8 fullShare (k0_pay4 x1 (lhsOf x0 x1 x3) x2) ∗ owns (c : Thread nD τ) arg9 fullShare (lhsOf x0 x1 x3)) -∗ K ⟨⟩))
      ⊢ wp frame (wpE (defs₀ (F := F)) Variants.none c none) E (cc0_dwout i arg2 harg2 arg3 harg3 arg4 harg4 arg5 harg5 arg6 harg6 arg7 harg7 arg8 harg8 arg9 harg9) K := by
  have hF := filled c i arg2 harg2 arg3 harg3 arg4 harg4 arg5 harg5 arg6 harg6 arg7 harg7 arg8 harg8 arg9 harg9 x0 x1 x3 h1 48 le_rfl
  have e3 := (readAt_whole arg3 hz inb_S8x256_S8x256_0_0 (harg3.unread x1)).trans (harg3.read_unread x1)
  have e4 := (readAt_whole arg4 hz inb_S6144x1280_S6144x1280_0_0 (harg4.unread x2)).trans (harg4.read_unread x2)
  simp only [cc0_dwout_eq_skeleton]; unfold cc0_dwout_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    try rw [e3]
    exact read_filled arg6 _ hF.1
  isplitl [H5]
  · iexists _; isplitr
    swap; · iexact H5
    ipureintro
    sl_unfold_words
    try rw [e3]
    exact read_whole arg7 _ hz _ _ _
  isplitl [H6]
  · iexists _; isplitr
    swap; · iexact H6
    ipureintro
    sl_unfold_words
    try rw [e3]
    try rw [e4]
    have e9 := (readAt_whole arg9 hz inb_S6144x256_S6144x256_0_0 _).trans (read_filled arg9 f7 hF.2)
    exact (read_whole arg8 _ hz _ _ _).trans (congrArg (fun v => k0_pay4 x1 v x2) e9)
  iexists _; isplitr
  swap; · iexact H7
  ipureintro
  sl_unfold_words
  try rw [e3]
  exact read_filled arg9 _ hF.2

/-- The body at the other points of a group: it multiplies by the left operand kept. -/
theorem body_later (h1 : ¬ k0_cond1 i = 1#1) (x7 : Vec F S6144x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg8 fullShare d) ∗ owns (c : Thread nD τ) arg9 fullShare x7
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (k0_pay4 x1 x7 x2) ∗ owns (c : Thread nD τ) arg9 fullShare x7) -∗ K ⟨⟩))
      ⊢ wp frame (wpE (defs₀ (F := F)) Variants.none c none) E (cc0_dwout i arg2 harg2 arg3 harg3 arg4 harg4 arg5 harg5 arg6 harg6 arg7 harg7 arg8 harg8 arg9 harg9) K := by
  have e3 := (readAt_whole arg3 hz inb_S8x256_S8x256_0_0 (harg3.unread x1)).trans (harg3.read_unread x1)
  have e4 := (readAt_whole arg4 hz inb_S6144x1280_S6144x1280_0_0 (harg4.unread x2)).trans (harg4.read_unread x2)
  have e9 := (readAt_whole arg9 hz inb_S6144x256_S6144x256_0_0 (harg9.unread x7)).trans (harg9.read_unread x7)
  simp only [cc0_dwout_eq_skeleton]; unfold cc0_dwout_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  obtain rfl := harg2.eq_unread hf0; obtain rfl := harg3.eq_unread hf1; obtain rfl := harg4.eq_unread hf2; obtain rfl := harg5.eq_unread hf3
  obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr
    swap; · iexact H6
    ipureintro
    try rw [e3, e4, e9]
    exact read_whole arg8 _ hz _ _ _
  iexists _; isplitr; · ipureintro; exact harg9.read_unread _
  iexact H7

/-! ## The windows' blocks in the arrays -/

variable (m : (ℓ : Loc nD τ sig) → Buf (Elt F) ℓ) (ρ : Dev nD → PrngReg)

theorem index_facts : ∀ t : Fin cfg0.N, (win0_0.index t 0 = 0 ∧ win0_0.index t 1 = t.val / 4)
    ∧ (win0_1.index t 0 = 0 ∧ win0_1.index t 1 = t.val / 4) ∧ (win0_2.index t 0 = 0 ∧ win0_2.index t 1 = t.val % 4)
    ∧ (win0_3.index t 0 = 0 ∧ win0_3.index t 1 = 0) ∧ (win0_4.index t 0 = 0 ∧ win0_4.index t 1 = t.val / 4)
    ∧ (win0_5.index t 0 = 0 ∧ win0_5.index t 1 = t.val / 4) ∧ (win0_6.index t 0 = t.val / 4 ∧ win0_6.index t 1 = t.val % 4) :=
  (by decide +kernel : ∀ t : Fin grid0.N, (win0_0.index t 0 = 0 ∧ win0_0.index t 1 = t.val / 4)
    ∧ (win0_1.index t 0 = 0 ∧ win0_1.index t 1 = t.val / 4) ∧ (win0_2.index t 0 = 0 ∧ win0_2.index t 1 = t.val % 4)
    ∧ (win0_3.index t 0 = 0 ∧ win0_3.index t 1 = 0) ∧ (win0_4.index t 0 = 0 ∧ win0_4.index t 1 = t.val / 4)
    ∧ (win0_5.index t 0 = 0 ∧ win0_5.index t 1 = t.val / 4) ∧ (win0_6.index t 0 = t.val / 4 ∧ win0_6.index t 1 = t.val % 4))

theorem iblk0_apply (t : Fin cfg0.N) (r : Fin 6144) (k : Fin 256) (K : Fin 4096) (hK : K.val = t.val / 4 * 256 + k.val) :
    (iblk m c 0 t : Vec F S6144x256 .f32) (ix2 r k) = V m c main_v0 (ix2 r K) := by
  have hi := index_facts t
  unfold iblk
  rw [View.read_apply]
  show V m c main_v0 _ = _
  congr 1
  funext a
  apply Fin.ext
  match a with
  | ⟨0, _⟩ => show win0_0.index t 0 * 6144 + 1 * r.val = r.val; rw [hi.1.1]; omega
  | ⟨1, _⟩ => show win0_0.index t 1 * 256 + 1 * k.val = K.val; rw [hi.1.2]; omega

theorem iblk1_apply (t : Fin cfg0.N) (r : Fin 8) (k : Fin 256) (K : Fin 4096) (hK : K.val = t.val / 4 * 256 + k.val) :
    (iblk m c 1 t : Vec F S8x256 .f32) (ix2 r k) = V m c main_arg1 (ix2 r K) := by
  have hi := index_facts t
  unfold iblk
  rw [View.read_apply]
  show V m c main_arg1 _ = _
  congr 1
  funext a
  apply Fin.ext
  match a with
  | ⟨0, _⟩ => show win0_1.index t 0 * 8 + 1 * r.val = r.val; rw [hi.2.1.1]; omega
  | ⟨1, _⟩ => show win0_1.index t 1 * 256 + 1 * k.val = K.val; rw [hi.2.1.2]; omega

theorem iblk2_apply (t : Fin cfg0.N) (r : Fin 6144) (k : Fin 1280) (K : Fin 5120) (hK : K.val = t.val % 4 * 1280 + k.val) :
    (iblk m c 2 t : Vec F S6144x1280 .fp8e5m2) (ix2 r k) = V m c main_arg2 (ix2 r K) := by
  have hi := index_facts t
  unfold iblk
  rw [View.read_apply]
  show V m c main_arg2 _ = _
  congr 1
  funext a
  apply Fin.ext
  match a with
  | ⟨0, _⟩ => show win0_2.index t 0 * 6144 + 1 * r.val = r.val; rw [hi.2.2.1.1]; omega
  | ⟨1, _⟩ => show win0_2.index t 1 * 1280 + 1 * k.val = K.val; rw [hi.2.2.1.2]; omega

theorem iblk3_apply (t : Fin cfg0.N) (r : Fin 6144) (k : Fin 128) :
    (iblk m c 3 t : Vec F S6144x128 .f32) (ix2 r k) = V m c main_arg3 (ix2 r k) := by
  have hi := index_facts t
  unfold iblk
  rw [View.read_apply]
  show V m c main_arg3 _ = _
  congr 1
  funext a
  apply Fin.ext
  match a with
  | ⟨0, _⟩ => show win0_3.index t 0 * 6144 + 1 * r.val = r.val; rw [hi.2.2.2.1.1]; omega
  | ⟨1, _⟩ => show win0_3.index t 1 * 128 + 1 * k.val = k.val; rw [hi.2.2.2.1.2]; omega

theorem iblk0_group (t t' : Fin cfg0.N) (h : t.val / 4 = t'.val / 4) :
    (iblk m c 0 t : Vec F S6144x256 .f32) = (iblk m c 0 t' : Vec F S6144x256 .f32) := by
  funext j
  have hN : cfg0.N = 64 := N_0
  have h1 := t.isLt
  have h2 : (j 1).val < 256 := (j 1).isLt
  have e : j = ix2 (j 0) (j 1) := eq_ix2 j
  have a1 := iblk0_apply c m t (j 0) (j 1) ⟨t.val / 4 * 256 + (j 1).val, by omega⟩ rfl
  have a2 := iblk0_apply c m t' (j 0) (j 1) ⟨t.val / 4 * 256 + (j 1).val, by omega⟩ (by show t.val / 4 * 256 + (j 1).val = t'.val / 4 * 256 + (j 1).val; omega)
  rw [e]
  exact a1.trans a2.symm

theorem iblk1_group (t t' : Fin cfg0.N) (h : t.val / 4 = t'.val / 4) :
    (iblk m c 1 t : Vec F S8x256 .f32) = (iblk m c 1 t' : Vec F S8x256 .f32) := by
  funext j
  have hN : cfg0.N = 64 := N_0
  have h1 := t.isLt
  have h2 : (j 1).val < 256 := (j 1).isLt
  have e : j = ix2 (j 0) (j 1) := eq_ix2 j
  have a1 := iblk1_apply c m t (j 0) (j 1) ⟨t.val / 4 * 256 + (j 1).val, by omega⟩ rfl
  have a2 := iblk1_apply c m t' (j 0) (j 1) ⟨t.val / 4 * 256 + (j 1).val, by omega⟩ (by show t.val / 4 * 256 + (j 1).val = t'.val / 4 * 256 + (j 1).val; omega)
  rw [e]
  exact a1.trans a2.symm

theorem iblk3_group (t t' : Fin cfg0.N) :
    (iblk m c 3 t : Vec F S6144x128 .f32) = (iblk m c 3 t' : Vec F S6144x128 .f32) := by
  funext j
  rw [eq_ix2 j]
  exact (iblk3_apply c m t _ _).trans (iblk3_apply c m t' _ _).symm

/-! ## The proof data -/

/-- The left operand kept in scratch, at point `t`. -/
def keptAt (t : Fin cfg0.N) : Vec F S6144x256 .bf16 := lhsOf (iblk m c 0 t) (iblk m c 1 t) (iblk m c 3 t)

theorem keptAt_group (t t' : Fin cfg0.N) (h : t.val / 4 = t'.val / 4) : keptAt c m t = keptAt c m t' := by
  unfold keptAt
  rw [iblk0_group c m t t' h, iblk1_group c m t t' h, iblk3_group c m t t']

/-- The scratch buffer. -/
abbrev scr : Memref sig .tc .vmem S6144x256 .bf16 := Memref.whole cc0_scratch0

/-- The scratch between the points: anything before the first point of a group, the left operand within it. -/
def scratchAt (n : Fin (cfg0.N + 1)) : sProp 𝕄 :=
  if h : n.val % 4 = 0 then iprop(∃ d, owns (c : Thread nD τ) scr fullShare d)
  else owns (c : Thread nD τ) scr fullShare (keptAt c m ⟨n.val - 1, by have := n.isLt; omega⟩)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesOf (iblk m c 0 t) (iblk m c 1 t)
    | ⟨5, _⟩ => k0_pay1 (iblk m c 1 t)
    | ⟨6, _⟩ => k0_pay4 (iblk m c 1 t) (keptAt c m t) (iblk m c 2 t)
  Φ n := iprop(scratchAt c m n ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesOf (iblk m c 0 t) (iblk m c 1 t) := by dsimp only [dats]
theorem after0_5 (c : Dev nD) (t : Fin cfg0.N) : (dats m 0 c).after 5 t = k0_pay1 (iblk m c 1 t) := by dsimp only [dats]
theorem after0_6 (c : Dev nD) (t : Fin cfg0.N) : (dats m 0 c).after 6 t = k0_pay4 (iblk m c 1 t) (keptAt c m t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The codes' and scales' windows are stored at the first point of a group only. -/
theorem idle0_4 : ∀ t : Fin cfg0.N, cfg0.idle 4 (cfg0.grid.coords t) = decide (t.val % 4 ≠ 0) :=
  (by decide +kernel : ∀ t : Fin grid0.N, (!(k0_cond1 (grid0.coords t) == 1#1)) = decide (t.val % 4 ≠ 0))

theorem idle0_5 : ∀ t : Fin cfg0.N, cfg0.idle 5 (cfg0.grid.coords t) = decide (t.val % 4 ≠ 0) :=
  (by decide +kernel : ∀ t : Fin grid0.N, (!(k0_cond1 (grid0.coords t) == 1#1)) = decide (t.val % 4 ≠ 0))

theorem fresh0_4 (t : Fin cfg0.N) : cfg0.fresh 4 t.val = decide (t.val % 4 = 0) := by
  refine cfg0.fresh_tab 4 (fun n => decide (n % 4 = 0)) rfl (fun t => ?_) t.val (Nat.le_of_lt t.isLt)
  rw [idle0_4]
  have hf := flush0_4 t
  rw [Bool.eq_iff_iff, Bool.or_eq_true, Bool.and_eq_true, hf]
  simp only [decide_eq_true_eq]
  omega

theorem fresh0_5 (t : Fin cfg0.N) : cfg0.fresh 5 t.val = decide (t.val % 4 = 0) := by
  refine cfg0.fresh_tab 5 (fun n => decide (n % 4 = 0)) rfl (fun t => ?_) t.val (Nat.le_of_lt t.isLt)
  rw [idle0_5]
  have hf := flush0_5 t
  rw [Bool.eq_iff_iff, Bool.or_eq_true, Bool.and_eq_true, hf]
  simp only [decide_eq_true_eq]
  omega

theorem after0_4_group (c : Dev nD) (t : Fin cfg0.N) (h : ¬ t.val % 4 = 0) :
    (dats m 0 c).after 4 t = (dats m 0 c).after 4 ⟨t.val - 1, by have := t.isLt; omega⟩ := by
  rw [after0_4, after0_4, iblk0_group c m t ⟨t.val - 1, by have := t.isLt; omega⟩ (by simp only; omega), iblk1_group c m t ⟨t.val - 1, by have := t.isLt; omega⟩ (by simp only; omega)]

theorem after0_5_group (c : Dev nD) (t : Fin cfg0.N) (h : ¬ t.val % 4 = 0) :
    (dats m 0 c).after 5 t = (dats m 0 c).after 5 ⟨t.val - 1, by have := t.isLt; omega⟩ := by
  rw [after0_5, after0_5, iblk1_group c m t ⟨t.val - 1, by have := t.isLt; omega⟩ (by simp only; omega)]

/-- At a later point of a group the codes' buffer holds what the group's first point left; -/
theorem before0_4 (c : Dev nD) (t : Fin cfg0.N) (h : ¬ t.val % 4 = 0) (d) :
    (dats m 0 c).before 4 t d = (dats m 0 c).after 4 t := by
  have e := (dats m 0 c).before_out_traj 4 rfl (fun _ _ => rfl) (fun t ht hi hfr => after0_4_group m c t (by rw [fresh0_4] at hfr; simpa using hfr)) t.val t rfl d
  rw [e, fresh0_4, if_neg (by simpa using h), ← after0_4_group m c t h]

/-- and so does the scales'. -/
theorem before0_5 (c : Dev nD) (t : Fin cfg0.N) (h : ¬ t.val % 4 = 0) (d) :
    (dats m 0 c).before 5 t d = (dats m 0 c).after 5 t := by
  have e := (dats m 0 c).before_out_traj 5 rfl (fun _ _ => rfl) (fun t ht hi hfr => after0_5_group m c t (by rw [fresh0_5] at hfr; simpa using hfr)) t.val t rfl d
  rw [e, fresh0_5, if_neg (by simpa using h), ← after0_5_group m c t h]

/-! ## The body at every point -/

abbrev ms0_0 (t : Fin cfg0.N) : Memref sig .tc .vmem S6144x256 .f32 := win0_0.stage (cfg0.slots t 0)
abbrev ms0_1 (t : Fin cfg0.N) : Memref sig .tc .vmem S8x256 .f32 := win0_1.stage (cfg0.slots t 1)
abbrev ms0_2 (t : Fin cfg0.N) : Memref sig .tc .vmem S6144x1280 .fp8e5m2 := win0_2.stage (cfg0.slots t 2)
abbrev ms0_3 (t : Fin cfg0.N) : Memref sig .tc .vmem S6144x128 .f32 := win0_3.stage (cfg0.slots t 3)
abbrev ms0_4 (t : Fin cfg0.N) : Memref sig .tc .vmem S6144x256 .fp8e4m3 := win0_4.stage (cfg0.slots t 4)
abbrev ms0_5 (t : Fin cfg0.N) : Memref sig .tc .vmem S1x256 .f32 := win0_5.stage (cfg0.slots t 5)
abbrev ms0_6 (t : Fin cfg0.N) : Memref sig .tc .vmem S256x1280 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The scratch holding point `t`'s left operand is what the next point may find. -/
theorem scratch_succ (c : Dev nD) (t : Fin cfg0.N) :
    owns (c : Thread nD τ) scr fullShare (keptAt c m t)
      ⊢ (scratchAt c m t.succ : sProp 𝕄) := by
  unfold scratchAt
  by_cases h : t.succ.val % 4 = 0
  · rw [dif_pos h]; iintro H; iexists _; iexact H
  · rw [dif_neg h]; exact .rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : cfg0.N = 64 := N_0
  rw [show (dats m 0 c).owesAt () t.succ = (dats m 0 c).owesAt () t.castSucc from rfl,
    show (dats m 0 c).Φ t.castSucc = iprop(scratchAt c m t.castSucc ∗ ∃ r, prngReg c r) from rfl,
    show (dats m 0 c).Φ t.succ = iprop(scratchAt c m t.succ ∗ ∃ r, prngReg c r) from rfl]
  by_cases h : t.val % 4 = 0
  · simp only [before0_0, before0_1, before0_2, before0_3]
    rw [after0_0, after0_1, after0_2, after0_3, after0_4, after0_5, after0_6,
      show scratchAt c m t.castSucc = iprop(∃ d, owns (c : Thread nD τ) scr fullShare d) from dif_pos h]
    iintro ⟨⟨Hs, Hr⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ (iblk m c 0 t) (iblk m c 1 t) (iblk m c 2 t) (iblk m c 3 t) ((cond_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [Hs]; · iexact Hs
    iintro ⟨H0, H1, H2, H3, H4, H5, H6, Hs⟩
    isplitl [Hs Hr]
    · isplitl [Hs]; · iapply (scratch_succ m c t); iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before0_0, before0_1, before0_2, before0_3, before0_4 m c t h, before0_5 m c t h]
    rw [after0_0, after0_1, after0_2, after0_3, after0_4, after0_5, after0_6,
      show scratchAt c m t.castSucc = owns (c : Thread nD τ) scr fullShare (keptAt c m ⟨t.val - 1, by have := t.isLt; omega⟩) from dif_neg h,
      keptAt_group c m ⟨t.val - 1, by have := t.isLt; omega⟩ t (by simp only; omega)]
    iintro ⟨⟨Hs, Hr⟩, Ho, ⟨%d0, H0⟩, ⟨%d1, H1⟩, ⟨%d2, H2⟩, ⟨%d3, H3⟩, ⟨%d4, H4⟩, ⟨%d5, H5⟩, ⟨%d6, H6⟩⟩
    iapply (body_later c (grid0.coords t) _ _ _ _ _ _ _ _ _ _ _ _ _ _ _ _ (iblk m c 0 t) (iblk m c 1 t) (iblk m c 2 t) (iblk m c 3 t) (fun hc => h ((cond_iff t).mp hc)) (keptAt c m t) Set.univ _)
    isplitl [H0]; · iexact H0
    isplitl [H1]; · iexact H1
    isplitl [H2]; · iexact H2
    isplitl [H3]; · iexact H3
    isplitl [H6]; · iexists _; iexact H6
    isplitl [Hs]; · iexact Hs
    iintro ⟨H0, H1, H2, H3, H6, Hs⟩
    isplitl [Hs Hr]
    · isplitl [Hs]; · iapply (scratch_succ m c t); iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

/-- What the body leaves in the codes' buffer, as the obligation spells it, -/
theorem hand4 (c : Dev nD) (t : Fin cfg0.N) :
    (owns (c : Thread nD τ) (ms0_4 t) fullShare ((dats m 0 c).after 4 t) : sProp 𝕄) ⊢
      (match cfg0.idle 4 (cfg0.grid.coords t) with
      | true =>
        match (cfg0.win 4).flush t with
        | false => iprop(∃ d, owns (c : Thread nD τ) ((cfg0.win 4).stage (cfg0.slots t 4)) fullShare ((dats m 0 c).before 4 t d))
        | true => owns (c : Thread nD τ) ((cfg0.win 4).stage (cfg0.slots t 4)) fullShare ((dats m 0 c).after 4 t)
      | false => owns (c : Thread nD τ) ((cfg0.win 4).stage (cfg0.slots t 4)) fullShare ((dats m 0 c).after 4 t)) := by
  have hi := idle0_4 t
  by_cases h : t.val % 4 = 0
  · rw [hi, decide_eq_false (fun hn => hn h)]
  · rw [hi, decide_eq_true h]
    cases (cfg0.win 4).flush t
    · iintro H
      iexists (dats m 0 c).after 4 t
      rw [before0_4 m c t h]
      iexact H
    · exact .rfl

/-- and in the scales'. -/
theorem hand5 (c : Dev nD) (t : Fin cfg0.N) :
    (owns (c : Thread nD τ) (ms0_5 t) fullShare ((dats m 0 c).after 5 t) : sProp 𝕄) ⊢
      (match cfg0.idle 5 (cfg0.grid.coords t) with
      | true =>
        match (cfg0.win 5).flush t with
        | false => iprop(∃ d, owns (c : Thread nD τ) ((cfg0.win 5).stage (cfg0.slots t 5)) fullShare ((dats m 0 c).before 5 t d))
        | true => owns (c : Thread nD τ) ((cfg0.win 5).stage (cfg0.slots t 5)) fullShare ((dats m 0 c).after 5 t)
      | false => owns (c : Thread nD τ) ((cfg0.win 5).stage (cfg0.slots t 5)) fullShare ((dats m 0 c).after 5 t)) := by
  have hi := idle0_5 t
  by_cases h : t.val % 4 = 0
  · rw [hi, decide_eq_false (fun hn => hn h)]
  · rw [hi, decide_eq_true h]
    cases (cfg0.win 5).flush t
    · iintro H
      iexists (dats m 0 c).after 5 t
      rw [before0_5 m c t h]
      iexact H
    · exact .rfl

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (hand4 m c t); iexact H4
  isplitl [H5]; · iapply (hand5 m c t); iexact H5
  iexact H6

/-! ## The run and the frame -/

/-- The scratch at anything, as the launch spells it and as the body does. -/
theorem phi_in (c : Dev nD) : (Pipeline.ΦA spec0 c : sProp 𝕄) ⊢ (dats m 0 c).Φ 0 := by
  rw [show (dats m 0 c).Φ 0 = iprop(scratchAt c m 0 ∗ ∃ r, prngReg c r) from rfl,
    show scratchAt c m 0 = iprop(∃ d, owns (c : Thread nD τ) scr fullShare d) from dif_pos rfl]
  unfold Pipeline.ΦA
  rw [scopedRest0_eq]
  unfold owns
  iintro ⟨⟨%f, H⟩, Hr⟩
  isplitl [H]
  · iexists _, f
    isplitr
    · ipureintro; rfl
    rw [View.set_whole]
    iexact H
  iexact Hr

theorem phi_out (c : Dev nD) : (dats m 0 c).Φ (Fin.last cfg0.N) ⊢ (Pipeline.ΦA spec0 c : sProp 𝕄) := by
  rw [show (dats m 0 c).Φ (Fin.last cfg0.N) = iprop(scratchAt c m (Fin.last cfg0.N) ∗ ∃ r, prngReg c r) from rfl,
    show scratchAt c m (Fin.last cfg0.N) = iprop(∃ d, owns (c : Thread nD τ) scr fullShare d) from dif_pos rfl]
  unfold Pipeline.ΦA
  rw [scopedRest0_eq]
  unfold owns
  iintro ⟨⟨%d, %f, -, H⟩, Hr⟩
  isplitl [H]
  · iexists f
    rw [View.set_whole]
    iexact H
  iexact Hr

set_option backward.isDefEq.respectTransparency.types false in
/-- The launch: what the run leaves, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.DwoutIdeal.Run

end
-- ==== Proof.DwoutValue.lean ====
module

public import proofs.«01_k».proof.Defs
public import proofs.«01_k».proof.Proof.DwoutRun
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The mathematics both programs compute -/

namespace Cert.DwoutMath

/-- The largest of eight partial maxima, -/
def colMax (a : Fin 8 → EReal) : EReal := Finset.fold max (Ideal.ofBits FTy.f32 4286578688#32) a Finset.univ

/-- the scale it gives (one when the column is zero), -/
def scaleOf (a : Fin 8 → EReal) : EReal := if colMax a = 0 then 1 else Ideal.div (colMax a) (Ideal.ofBits FTy.f32 1138753536#32)

/-- and the value quantised: divided by the scale and clipped to the format's range. -/
def codeOf (y s : EReal) : EReal := min (Ideal.ofBits FTy.f32 1138753536#32) (max (Ideal.ofBits FTy.f32 3286237184#32) (Ideal.div y s))

end Cert.DwoutMath

/-! ## The kernel's arrays after the run -/

namespace Cert.DwoutIdeal.DwoutValue

open Cert.DwoutIdeal Cert.DwoutIdeal.Gen Cert.DwoutIdeal.Run Cert.DwoutMath

theorem pay1_apply (v0 : Vec Ideal S8x256 .f32) (j : S1x256.Idx) : k0_pay1 v0 j = scaleOf fun r => v0 (ix2 r (j 1)) := by
  pointwise! [k0_pay1]

theorem pay2_apply (v0 : Vec Ideal S8x256 .f32) (v28 : Vec Ideal S128x256 .f32) (j : S128x256.Idx) :
    (k0_pay2 v0 v28 j : EReal) = codeOf (v28 j) (scaleOf fun r => v0 (ix2 r (j 1))) := by
  refine Eq.trans ?_ (congrArg (codeOf _) (pay1_apply v0 (ix2 0 (j 1))))
  pointwise! [k0_pay2]

theorem pay3_apply (v0 : Vec Ideal S8x256 .f32) (v28 : Vec Ideal S128x256 .f32) (v41 : Vec Ideal S128x1 .f32) (j : S128x256.Idx) :
    (k0_pay3 v0 v28 v41 j : EReal) = codeOf (v28 j) (scaleOf fun r => v0 (ix2 r (j 1))) * (v41 (ix2 (j 0) 0) : EReal) := by
  rw [← pay2_apply]
  pointwise! [k0_pay3]

theorem pay4_apply (v0 : Vec Ideal S8x256 .f32) (v12 : Vec Ideal S6144x256 .bf16) (v13 : Vec Ideal S6144x1280 .fp8e5m2) (j : S256x1280.Idx) :
    (k0_pay4 v0 v12 v13 j : EReal)
      = (∑ x : Fin 6144, (v12 (ix2 x (j 0)) : EReal) * (v13 (ix2 x (j 1)) : EReal)) * scaleOf fun r => v0 (ix2 r (j 0)) := by
  refine Eq.trans ?_ (congrArg (_ * ·) (pay1_apply v0 (ix2 0 (j 0))))
  pointwise! [k0_pay4]

theorem codesOf_apply (x0 : Vec Ideal S6144x256 .f32) (x1 : Vec Ideal S8x256 .f32) (y : S6144x256.Idx) :
    (codesOf x0 x1 y : EReal) = codeOf (x0 (ix2 (y 0) (y 1))) (scaleOf fun r => x1 (ix2 r (y 1))) := by
  unfold codesOf
  rw [pay2_apply]
  refine congrArg₂ codeOf (congrArg x0 (funext fun a => Fin.ext ?_)) rfl
  match a with
  | ⟨0, _⟩ => show 128 * ((y 0).val / 128) + (y 0).val % 128 = (y 0).val; omega
  | ⟨1, _⟩ => rfl

theorem lhsOf_apply (x0 : Vec Ideal S6144x256 .f32) (x1 : Vec Ideal S8x256 .f32) (x3 : Vec Ideal S6144x128 .f32) (y : S6144x256.Idx) :
    (lhsOf x0 x1 x3 y : EReal) = codeOf (x0 (ix2 (y 0) (y 1))) (scaleOf fun r => x1 (ix2 r (y 1))) * (x3 (ix2 (y 0) 0) : EReal) := by
  unfold lhsOf
  rw [pay3_apply]
  refine congrArg₂ (· * ·) (congrArg₂ codeOf (congrArg x0 (funext fun a => Fin.ext ?_)) rfl) (congrArg x3 (funext fun a => Fin.ext ?_))
  · match a with
    | ⟨0, _⟩ => show 128 * ((y 0).val / 128) + (y 0).val % 128 = (y 0).val; omega
    | ⟨1, _⟩ => rfl
  · match a with
    | ⟨0, _⟩ => show 128 * ((y 0).val / 128) + (y 0).val % 128 = (y 0).val; omega
    | ⟨1, _⟩ => rfl

variable (m : (ℓ : Loc nD τ sig) → Buf (Elt Ideal) ℓ) (ρ : Dev nD → PrngReg)

/-- The scale of a column, over the array of partial maxima, -/
def scale (c : Dev nD) (K : Fin 4096) : EReal := scaleOf fun r => V m c main_arg1 (ix2 r K)

/-- and what each result holds after the run: the codes, -/
def result4 (c : Dev nD) : S6144x4096.Idx → EReal := fun i => codeOf (V m c main_v0 (ix2 (i 0) (i 1))) (scale m c (i 1))

/-- the scales, -/
def result5 (c : Dev nD) : S1x4096.Idx → EReal := fun i => scale m c (i 1)

/-- and the weights' gradient. -/
def result6 (c : Dev nD) : S4096x5120.Idx → EReal := fun i =>
  (∑ x : Fin 6144, codeOf (V m c main_v0 (ix2 x (i 0))) (scale m c (i 0)) * (V m c main_arg3 (ix2 x (0 : Fin 128)) : EReal)
      * (V m c main_arg2 (ix2 x (i 1)) : EReal)) * scale m c (i 0)

theorem scale_blk (c : Dev nD) (t : Fin cfg0.N) (k : Fin 256) (K : Fin 4096) (hK : K.val = t.val / 4 * 256 + k.val) :
    (scaleOf fun r => (iblk m c 1 t : Vec Ideal S8x256 .f32) (ix2 r k)) = scale m c K :=
  congrArg scaleOf (funext fun r => iblk1_apply c m t r k K hK)

theorem after4_apply (c : Dev nD) (t : Fin cfg0.N) (j : S6144x256.Idx) (R : Fin 6144) (K : Fin 4096)
    (hR : R.val = 0 + (j 0).val) (hK : K.val = t.val / 4 * 256 + (j 1).val) :
    (codesOf (iblk m c 0 t) (iblk m c 1 t) : Vec Ideal S6144x256 .fp8e4m3) j = result4 m c (ix2 R K) := by
  have e : R = j 0 := Fin.ext (by omega)
  subst e
  exact (codesOf_apply _ _ j).trans (congrArg₂ codeOf (iblk0_apply c m t _ _ K hK) (scale_blk m c t _ K hK))

theorem after5_apply (c : Dev nD) (t : Fin cfg0.N) (j : S1x256.Idx) (R : Fin 1) (K : Fin 4096)
    (hR : R.val = 0 + (j 0).val) (hK : K.val = t.val / 4 * 256 + (j 1).val) :
    (k0_pay1 (iblk m c 1 t) : Vec Ideal S1x256 .f32) j = result5 m c (ix2 R K) :=
  (pay1_apply _ j).trans (scale_blk m c t _ K hK)

theorem after6_apply (c : Dev nD) (t : Fin cfg0.N) (j : S256x1280.Idx) (K : Fin 4096) (D : Fin 5120)
    (hK : K.val = t.val / 4 * 256 + (j 0).val) (hD : D.val = t.val % 4 * 1280 + (j 1).val) :
    (k0_pay4 (iblk m c 1 t) (keptAt c m t) (iblk m c 2 t) : Vec Ideal S256x1280 .f32) j = result6 m c (ix2 K D) := by
  refine (pay4_apply _ _ _ j).trans (congrArg₂ (· * ·) (Finset.sum_congr rfl fun x _ => congrArg₂ (· * ·) ?_ (iblk2_apply c m t x _ D hD))
    (scale_blk m c t _ K hK))
  unfold keptAt
  exact (lhsOf_apply _ _ _ _).trans (congrArg₂ (· * ·) (congrArg₂ codeOf (iblk0_apply c m t _ _ K hK) (scale_blk m c t _ K hK))
    (iblk3_apply c m t x 0))

theorem extent4 : ∀ t : Fin cfg0.N, win0_4.xsize (grid0.coords t) 0 = 6144 ∧ win0_4.xsize (grid0.coords t) 1 = 256 :=
  (by decide +kernel : ∀ t : Fin grid0.N, win0_4.xsize (grid0.coords t) 0 = 6144 ∧ win0_4.xsize (grid0.coords t) 1 = 256)

theorem extent5 : ∀ t : Fin cfg0.N, win0_5.xsize (grid0.coords t) 0 = 1 ∧ win0_5.xsize (grid0.coords t) 1 = 256 :=
  (by decide +kernel : ∀ t : Fin grid0.N, win0_5.xsize (grid0.coords t) 0 = 1 ∧ win0_5.xsize (grid0.coords t) 1 = 256)

theorem extent6 : ∀ t : Fin cfg0.N, win0_6.xsize (grid0.coords t) 0 = 256 ∧ win0_6.xsize (grid0.coords t) 1 = 1280 :=
  (by decide +kernel : ∀ t : Fin grid0.N, win0_6.xsize (grid0.coords t) 0 = 256 ∧ win0_6.xsize (grid0.coords t) 1 = 1280)

theorem cover4 (i : S6144x4096.Idx) : ∃ t : Fin cfg0.N, (cfg0.win 4).flush t = true ∧ i ∈ ((cfg0.win 4).blk t).view.set := by
  have h0 : (i 0 : Nat) < 6144 := (i 0).isLt
  have h1 : (i 1 : Nat) < 4096 := (i 1).isLt
  have hN : cfg0.N = 64 := N_0
  have hlt : (i 1).val / 256 * 4 + 3 < cfg0.N := by omega
  obtain ⟨t, htv⟩ : ∃ t : Fin cfg0.N, t.val = (i 1).val / 256 * 4 + 3 := ⟨⟨_, hlt⟩, rfl⟩
  refine ⟨t, (flush0_4 t).mpr (by omega), ?_⟩
  have hi := index_facts t
  have hx : win0_4.xsize (grid0.coords t) 0 = 6144 ∧ win0_4.xsize (grid0.coords t) 1 = 256 := extent4 t
  show i ∈ ((View.whole main_v1_0).slice (win0_4.rect t)).set
  rw [View.set_slice_whole, Rect.mem_set_unit]
  intro a
  match a with
  | ⟨0, _⟩ =>
    show win0_4.index t 0 * 6144 ≤ (i 0 : Nat) ∧ (i 0 : Nat) < win0_4.index t 0 * 6144 + win0_4.xsize (grid0.coords t) 0
    rw [hi.2.2.2.2.1.1, hx.1]; omega
  | ⟨1, _⟩ =>
    show win0_4.index t 1 * 256 ≤ (i 1 : Nat) ∧ (i 1 : Nat) < win0_4.index t 1 * 256 + win0_4.xsize (grid0.coords t) 1
    rw [hi.2.2.2.2.1.2, hx.2]; omega

theorem cover5 (i : S1x4096.Idx) : ∃ t : Fin cfg0.N, (cfg0.win 5).flush t = true ∧ i ∈ ((cfg0.win 5).blk t).view.set := by
  have h0 : (i 0 : Nat) < 1 := (i 0).isLt
  have h1 : (i 1 : Nat) < 4096 := (i 1).isLt
  have hN : cfg0.N = 64 := N_0
  have hlt : (i 1).val / 256 * 4 + 3 < cfg0.N := by omega
  obtain ⟨t, htv⟩ : ∃ t : Fin cfg0.N, t.val = (i 1).val / 256 * 4 + 3 := ⟨⟨_, hlt⟩, rfl⟩
  refine ⟨t, (flush0_5 t).mpr (by omega), ?_⟩
  have hi := index_facts t
  have hx : win0_5.xsize (grid0.coords t) 0 = 1 ∧ win0_5.xsize (grid0.coords t) 1 = 256 := extent5 t
  show i ∈ ((View.whole main_v1_1).slice (win0_5.rect t)).set
  rw [View.set_slice_whole, Rect.mem_set_unit]
  intro a
  match a with
  | ⟨0, _⟩ =>
    show win0_5.index t 0 * 1 ≤ (i 0 : Nat) ∧ (i 0 : Nat) < win0_5.index t 0 * 1 + win0_5.xsize (grid0.coords t) 0
    rw [hi.2.2.2.2.2.1.1, hx.1]; omega
  | ⟨1, _⟩ =>
    show win0_5.index t 1 * 256 ≤ (i 1 : Nat) ∧ (i 1 : Nat) < win0_5.index t 1 * 256 + win0_5.xsize (grid0.coords t) 1
    rw [hi.2.2.2.2.2.1.2, hx.2]; omega

theorem cover6 (i : S4096x5120.Idx) : ∃ t : Fin cfg0.N, (cfg0.win 6).flush t = true ∧ i ∈ ((cfg0.win 6).blk t).view.set := by
  have h0 : (i 0 : Nat) < 4096 := (i 0).isLt
  have h1 : (i 1 : Nat) < 5120 := (i 1).isLt
  have hN : cfg0.N = 64 := N_0
  have hlt : (i 0).val / 256 * 4 + (i 1).val / 1280 < cfg0.N := by omega
  obtain ⟨t, htv⟩ : ∃ t : Fin cfg0.N, t.val = (i 0).val / 256 * 4 + (i 1).val / 1280 := ⟨⟨_, hlt⟩, rfl⟩
  refine ⟨t, flush0_6 t, ?_⟩
  have hi := index_facts t
  have hx : win0_6.xsize (grid0.coords t) 0 = 256 ∧ win0_6.xsize (grid0.coords t) 1 = 1280 := extent6 t
  show i ∈ ((View.whole main_v1_2).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + win0_6.xsize (grid0.coords t) 0
    rw [hi.2.2.2.2.2.2.1, hx.1]; omega
  | ⟨1, _⟩ =>
    show win0_6.index t 1 * 1280 ≤ (i 1 : Nat) ∧ (i 1 : Nat) < win0_6.index t 1 * 1280 + win0_6.xsize (grid0.coords t) 1
    rw [hi.2.2.2.2.2.2.2, hx.2]; omega

theorem flushed4_eq (c : Dev nD) (t : Fin cfg0.N) :
    (dats m 0 c).flushed 4 t = ((cfg0.win 4).blk t).view.read (Elt Ideal) (result4 m c) := by
  have hi := index_facts t
  have hN : cfg0.N = 64 := N_0
  have ht := t.isLt
  show (cfg0.win 4).cut (grid0.coords t) ((dats m 0 c).after 4 t) = _
  rw [after0_4]
  funext j
  rw [View.read_apply]
  have j0 : (j 0).val < 6144 := (j 0).isLt
  have j1 : (j 1).val < 256 := (j 1).isLt
  refine (after4_apply m c t j ⟨0 + (j 0).val, by omega⟩ ⟨t.val / 4 * 256 + (j 1).val, by omega⟩ rfl rfl).trans ?_
  show result4 m c _ = result4 m c _
  congr 1
  funext a
  apply Fin.ext
  match a with
  | ⟨0, _⟩ => show 0 + (j 0).val = win0_4.index t 0 * 6144 + 1 * (j 0).val; rw [hi.2.2.2.2.1.1]; omega
  | ⟨1, _⟩ => show t.val / 4 * 256 + (j 1).val = win0_4.index t 1 * 256 + 1 * (j 1).val; rw [hi.2.2.2.2.1.2]; omega

theorem final4 (c : Dev nD) : (dats m 0 c).arrAt 4 cfg0.N = result4 m c :=
  (dats m 0 c).arrAt_eq_of_cover 4 (result4 m c) (fun t _ => flushed4_eq m c t) cover4

theorem flushed5_eq (c : Dev nD) (t : Fin cfg0.N) :
    (dats m 0 c).flushed 5 t = ((cfg0.win 5).blk t).view.read (Elt Ideal) (result5 m c) := by
  have hi := index_facts t
  have hN : cfg0.N = 64 := N_0
  have ht := t.isLt
  show (cfg0.win 5).cut (grid0.coords t) ((dats m 0 c).after 5 t) = _
  rw [after0_5]
  funext j
  rw [View.read_apply]
  have j0 : (j 0).val < 1 := (j 0).isLt
  have j1 : (j 1).val < 256 := (j 1).isLt
  refine (after5_apply m c t j ⟨0 + (j 0).val, by omega⟩ ⟨t.val / 4 * 256 + (j 1).val, by omega⟩ rfl rfl).trans ?_
  show result5 m c _ = result5 m c _
  congr 1
  funext a
  apply Fin.ext
  match a with
  | ⟨0, _⟩ => show 0 + (j 0).val = win0_5.index t 0 * 1 + 1 * (j 0).val; rw [hi.2.2.2.2.2.1.1]; omega
  | ⟨1, _⟩ => show t.val / 4 * 256 + (j 1).val = win0_5.index t 1 * 256 + 1 * (j 1).val; rw [hi.2.2.2.2.2.1.2]; omega

theorem final5 (c : Dev nD) : (dats m 0 c).arrAt 5 cfg0.N = result5 m c :=
  (dats m 0 c).arrAt_eq_of_cover 5 (result5 m c) (fun t _ => flushed5_eq m c t) cover5

theorem flushed6_eq (c : Dev nD) (t : Fin cfg0.N) :
    (dats m 0 c).flushed 6 t = ((cfg0.win 6).blk t).view.read (Elt Ideal) (result6 m c) := by
  have hi := index_facts t
  have hN : cfg0.N = 64 := N_0
  have ht := t.isLt
  show (cfg0.win 6).cut (grid0.coords t) ((dats m 0 c).after 6 t) = _
  rw [after0_6]
  funext j
  rw [View.read_apply]
  have j0 : (j 0).val < 256 := (j 0).isLt
  have j1 : (j 1).val < 1280 := (j 1).isLt
  refine (after6_apply m c t j ⟨t.val / 4 * 256 + (j 0).val, by omega⟩ ⟨t.val % 4 * 1280 + (j 1).val, by omega⟩ rfl rfl).trans ?_
  show result6 m c _ = result6 m c _
  congr 1
  funext a
  apply Fin.ext
  match a with
  | ⟨0, _⟩ => show t.val / 4 * 256 + (j 0).val = win0_6.index t 0 * 256 + 1 * (j 0).val; rw [hi.2.2.2.2.2.2.1]; omega
  | ⟨1, _⟩ => show t.val % 4 * 1280 + (j 1).val = win0_6.index t 1 * 1280 + 1 * (j 1).val; rw [hi.2.2.2.2.2.2.2]; omega

theorem final6 (c : Dev nD) : (dats m 0 c).arrAt 6 cfg0.N = result6 m c :=
  (dats m 0 c).arrAt_eq_of_cover 6 (result6 m c) (fun t _ => flushed6_eq m c t) cover6

/-- The run, its three results named and the arguments unchanged. -/
theorem run_blocks : θ_run defs (onTc (τ := τ) (main (F := Ideal))) ⟨m, fun _ => 0, ρ⟩ fun r => ∀ c : Dev nD,
      r.2.mem ((c : Thread nD τ).loc main_v1_0) = result4 m c
      ∧ r.2.mem ((c : Thread nD τ).loc main_v1_1) = result5 m c
      ∧ r.2.mem ((c : Thread nD τ).loc main_v1_2) = result6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (final4 m c), ((h.1 c).1 5).trans (final5 m c), ((h.1 c).1 6).trans (final6 m c), h.2 c⟩)
    (θ_run_and (run_main m ρ) (frame_of m ρ (dats m) (A_eq m) (run_main m ρ)))

theorem V_v0 (c : Dev nD) : V m c main_v0 = shapeCast S6144x4096 (m ((c.tc : Thread nD τ).loc main_arg0)) shapeCasts_S2x3072x4096_S6144x4096 := by
  entry_read
  rfl

end Cert.DwoutIdeal.DwoutValue
end
-- ==== Proof.DwoutRefValue.lean ====
module

public import proofs.«01_k».proof.Defs
public import proofs.«01_k».proof.Proof.DwoutValue
public import proofs.«01_k».proof.Proof.Gen.DwoutRefIdeal.Value
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwoutRefIdeal.DwoutValue

open Cert.DwoutRefIdeal Cert.DwoutRefIdeal.Gen Cert.DwoutMath

theorem hz : (![0, 0] : Fin 2 → Nat) = fun _ => 0 := funext fun a => by fin_cases a <;> rfl

set_option maxRecDepth 1000000

theorem pay1_apply (v0 : Vec Ideal S8x4096 .f32) (j : S1x4096.Idx) : k0_pay1 v0 j = scaleOf fun r => v0 (ix2 r (j 1)) := by
  pointwise! [k0_pay1]

theorem pay2_apply (v0 : Vec Ideal S8x4096 .f32) (v9 : Vec Ideal S6144x4096 .f32) (j : S6144x4096.Idx) :
    (k0_pay2 v0 v9 j : EReal) = codeOf (v9 j) (scaleOf fun r => v0 (ix2 r (j 1))) := by
  refine Eq.trans ?_ (congrArg (codeOf _) (pay1_apply v0 (ix2 0 (j 1))))
  pointwise! [k0_pay2]

theorem pay3_apply (v0 : Vec Ideal S8x4096 .f32) (v9 : Vec Ideal S6144x4096 .f32) (v18 : Vec Ideal S6144x5120 .fp8e5m2)
    (v20 : Vec Ideal S6144x1 .f32) (j : S4096x5120.Idx) :
    (k0_pay3 v0 v9 v18 v20 j : EReal) = k0_pay1 v0 (ix2 0 (j 0))
      * ∑ x : Fin 6144, (k0_pay2 v0 v9 (ix2 x (j 0)) : EReal) * ((v18 (ix2 x (j 1)) : EReal) * (v20 (ix2 x 0) : EReal)) := by
  pointwise! [k0_pay3]

set_option maxRecDepth 16384

variable (m : (ℓ : Loc nD τ sig) → Buf (Elt Ideal) ℓ) (ρ : Dev nD → PrngReg)

/-- What each of the reference's results holds after the run, over the arrays its call reads. -/
def result4 (c : Dev nD) : S6144x4096.Idx → EReal := k0_pay2 (V m c main_arg1) (V m c main_v0)

def result5 (c : Dev nD) : S1x4096.Idx → EReal := k0_pay1 (V m c main_arg1)

def result6 (c : Dev nD) : S4096x5120.Idx → EReal := k0_pay3 (V m c main_arg1) (V m c main_v0) (V m c main_arg2) (V m c main_v1)

theorem iblk0_eq (c : Dev nD) (t : Fin cfg0.N) : iblk m c 0 t = V m c main_v0 :=
  Memref.read_access_unit_zero (Elt Ideal) main_v0 (off := fun a => win0_0.index t a * main_v0.ty.shape.size a)
    (funext fun a => by rcases fin_N0 t with rfl; fin_cases a <;> decide +kernel)
    (fun a => by rcases fin_N0 t with rfl; fin_cases a <;> decide +kernel) (V m c main_v0)

theorem iblk1_eq (c : Dev nD) (t : Fin cfg0.N) : iblk m c 1 t = V m c main_arg1 :=
  Memref.read_access_unit_zero (Elt Ideal) main_arg1 (off := fun a => win0_1.index t a * main_arg1.ty.shape.size a)
    (funext fun a => by rcases fin_N0 t with rfl; fin_cases a <;> decide +kernel)
    (fun a => by rcases fin_N0 t with rfl; fin_cases a <;> decide +kernel) (V m c main_arg1)

theorem iblk2_eq (c : Dev nD) (t : Fin cfg0.N) : iblk m c 2 t = V m c main_arg2 :=
  Memref.read_access_unit_zero (Elt Ideal) main_arg2 (off := fun a => win0_2.index t a * main_arg2.ty.shape.size a)
    (funext fun a => by rcases fin_N0 t with rfl; fin_cases a <;> decide +kernel)
    (fun a => by rcases fin_N0 t with rfl; fin_cases a <;> decide +kernel) (V m c main_arg2)

theorem iblk3_eq (c : Dev nD) (t : Fin cfg0.N) : iblk m c 3 t = V m c main_v1 :=
  Memref.read_access_unit_zero (Elt Ideal) main_v1 (off := fun a => win0_3.index t a * main_v1.ty.shape.size a)
    (funext fun a => by rcases fin_N0 t with rfl; fin_cases a <;> decide +kernel)
    (fun a => by rcases fin_N0 t with rfl; fin_cases a <;> decide +kernel) (V m c main_v1)

theorem flushed4_eq (c : Dev nD) (t : Fin cfg0.N) :
    (dats m 0 c).flushed 4 t = ((cfg0.win 4).blk t).view.read (Elt Ideal) (result4 m c) := by
  have h : ((cfg0.win 4).blk t).view.read (Elt Ideal) (result4 m c) = result4 m c :=
    Memref.read_access_unit_zero (Elt Ideal) main_v2_0 (off := fun a => win0_4.index t a * main_v2_0.ty.shape.size a)
      (funext fun a => by rcases fin_N0 t with rfl; fin_cases a <;> decide +kernel)
      (fun a => by rcases fin_N0 t with rfl; fin_cases a <;> decide +kernel) _
  rw [Value.flushed4, iblk0_eq, iblk1_eq, iblk2_eq, iblk3_eq]
  unfold out0_4
  rw [View.canon_unit_zero hz]
  repeat rw [View.ld_unit_zero hz]
  exact h.symm

theorem cover4 (i : S6144x4096.Idx) : ∃ t : Fin cfg0.N, (cfg0.win 4).flush t = true ∧ i ∈ ((cfg0.win 4).blk t).view.set := by
  have hN : cfg0.N = 1 := N_0
  refine ⟨⟨0, by omega⟩, flush0_4 _, ?_⟩
  set t : Fin cfg0.N := ⟨0, by omega⟩ with ht
  have h0 : (i 0 : Nat) < 6144 := (i 0).isLt
  have h1 : (i 1 : Nat) < 4096 := (i 1).isLt
  have e : win0_4.index t 0 * win0_4.size 0 = 0 ∧ win0_4.xsize (grid0.coords t) 0 = 6144
      ∧ win0_4.index t 1 * win0_4.size 1 = 0 ∧ win0_4.xsize (grid0.coords t) 1 = 4096 := by
    rcases fin_N0 t with h; rw [h]; decide +kernel
  show i ∈ ((View.whole main_v2_0).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [e.1, e.2.1]; omega
  | ⟨1, _⟩ =>
    show win0_4.index t 1 * win0_4.size 1 ≤ (i 1 : Nat) ∧ (i 1 : Nat) < win0_4.index t 1 * win0_4.size 1 + win0_4.xsize (grid0.coords t) 1
    rw [e.2.2.1, e.2.2.2]; omega

theorem final4 (c : Dev nD) : (dats m 0 c).arrAt 4 cfg0.N = result4 m c :=
  (dats m 0 c).arrAt_eq_of_cover 4 (result4 m c) (fun t _ => flushed4_eq m c t) cover4

theorem flushed5_eq (c : Dev nD) (t : Fin cfg0.N) :
    (dats m 0 c).flushed 5 t = ((cfg0.win 5).blk t).view.read (Elt Ideal) (result5 m c) := by
  have h : ((cfg0.win 5).blk t).view.read (Elt Ideal) (result5 m c) = result5 m c :=
    Memref.read_access_unit_zero (Elt Ideal) main_v2_1 (off := fun a => win0_5.index t a * main_v2_1.ty.shape.size a)
      (funext fun a => by rcases fin_N0 t with rfl; fin_cases a <;> decide +kernel)
      (fun a => by rcases fin_N0 t with rfl; fin_cases a <;> decide +kernel) _
  rw [Value.flushed5, iblk0_eq, iblk1_eq, iblk2_eq, iblk3_eq]
  unfold out0_5
  rw [View.canon_unit_zero hz]
  repeat rw [View.ld_unit_zero hz]
  exact h.symm

theorem cover5 (i : S1x4096.Idx) : ∃ t : Fin cfg0.N, (cfg0.win 5).flush t = true ∧ i ∈ ((cfg0.win 5).blk t).view.set := by
  have hN : cfg0.N = 1 := N_0
  refine ⟨⟨0, by omega⟩, flush0_5 _, ?_⟩
  set t : Fin cfg0.N := ⟨0, by omega⟩ with ht
  have h0 : (i 0 : Nat) < 1 := (i 0).isLt
  have h1 : (i 1 : Nat) < 4096 := (i 1).isLt
  have e : win0_5.index t 0 * win0_5.size 0 = 0 ∧ win0_5.xsize (grid0.coords t) 0 = 1
      ∧ win0_5.index t 1 * win0_5.size 1 = 0 ∧ win0_5.xsize (grid0.coords t) 1 = 4096 := by
    rcases fin_N0 t with h; rw [h]; decide +kernel
  show i ∈ ((View.whole main_v2_1).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + win0_5.xsize (grid0.coords t) 0
    rw [e.1, e.2.1]; omega
  | ⟨1, _⟩ =>
    show win0_5.index t 1 * win0_5.size 1 ≤ (i 1 : Nat) ∧ (i 1 : Nat) < win0_5.index t 1 * win0_5.size 1 + win0_5.xsize (grid0.coords t) 1
    rw [e.2.2.1, e.2.2.2]; omega

theorem final5 (c : Dev nD) : (dats m 0 c).arrAt 5 cfg0.N = result5 m c :=
  (dats m 0 c).arrAt_eq_of_cover 5 (result5 m c) (fun t _ => flushed5_eq m c t) cover5

theorem flushed6_eq (c : Dev nD) (t : Fin cfg0.N) :
    (dats m 0 c).flushed 6 t = ((cfg0.win 6).blk t).view.read (Elt Ideal) (result6 m c) := by
  have h : ((cfg0.win 6).blk t).view.read (Elt Ideal) (result6 m c) = result6 m c :=
    Memref.read_access_unit_zero (Elt Ideal) main_v2_2 (off := fun a => win0_6.index t a * main_v2_2.ty.shape.size a)
      (funext fun a => by rcases fin_N0 t with rfl; fin_cases a <;> decide +kernel)
      (fun a => by rcases fin_N0 t with rfl; fin_cases a <;> decide +kernel) _
  rw [Value.flushed6, iblk0_eq, iblk1_eq, iblk2_eq, iblk3_eq]
  unfold out0_6
  rw [View.canon_unit_zero hz]
  repeat rw [View.ld_unit_zero hz]
  exact h.symm

theorem cover6 (i : S4096x5120.Idx) : ∃ t : Fin cfg0.N, (cfg0.win 6).flush t = true ∧ i ∈ ((cfg0.win 6).blk t).view.set := by
  have hN : cfg0.N = 1 := N_0
  refine ⟨⟨0, by omega⟩, flush0_6 _, ?_⟩
  set t : Fin cfg0.N := ⟨0, by omega⟩ with ht
  have h0 : (i 0 : Nat) < 4096 := (i 0).isLt
  have h1 : (i 1 : Nat) < 5120 := (i 1).isLt
  have e : win0_6.index t 0 * win0_6.size 0 = 0 ∧ win0_6.xsize (grid0.coords t) 0 = 4096
      ∧ win0_6.index t 1 * win0_6.size 1 = 0 ∧ win0_6.xsize (grid0.coords t) 1 = 5120 := by
    rcases fin_N0 t with h; rw [h]; decide +kernel
  show i ∈ ((View.whole main_v2_2).slice (win0_6.rect t)).set
  rw [View.set_slice_whole, Rect.mem_set_unit]
  intro a
  match a with
  | ⟨0, _⟩ =>
    show win0_6.index t 0 * win0_6.size 0 ≤ (i 0 : Nat) ∧ (i 0 : Nat) < win0_6.index t 0 * win0_6.size 0 + win0_6.xsize (grid0.coords t) 0
    rw [e.1, e.2.1]; omega
  | ⟨1, _⟩ =>
    show win0_6.index t 1 * win0_6.size 1 ≤ (i 1 : Nat) ∧ (i 1 : Nat) < win0_6.index t 1 * win0_6.size 1 + win0_6.xsize (grid0.coords t) 1
    rw [e.2.2.1, e.2.2.2]; omega

theorem final6 (c : Dev nD) : (dats m 0 c).arrAt 6 cfg0.N = result6 m c :=
  (dats m 0 c).arrAt_eq_of_cover 6 (result6 m c) (fun t _ => flushed6_eq m c t) cover6

theorem V_v0 (c : Dev nD) : V m c main_v0 = shapeCast S6144x4096 (m ((c.tc : Thread nD τ).loc main_arg0)) shapeCasts_S2x3072x4096_S6144x4096 := by
  entry_read
  rfl

theorem V_v1 (c : Dev nD) : V m c main_v1 = extractStridedSlice S6144x1 ![0, 0] (m ((c.tc : Thread nD τ).loc main_arg3)) slices_S6144x128_S6144x1_0_0 := by
  entry_read
  rfl

end Cert.DwoutRefIdeal.DwoutValue
end
-- ==== Proof.DwoutClaim.lean ====
module

public import proofs.«01_k».proof.Defs
public import proofs.«01_k».proof.Proof.DwoutRefValue
public import proofs.«01_k».proof.Proof.Gen.DwoutIdeal
public import proofs.«01_k».proof.Proof.Gen.DwoutRefIdeal
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwoutClaim

open Cert.DwoutMath

/-- The row scales: the first lane, cut out by the reference, read in place by the kernel. -/
theorem lane_eq (x : Vec Ideal Cert.DwoutRefIdeal.S6144x128 .f32) (r : Fin 6144) :
    extractStridedSlice Cert.DwoutRefIdeal.S6144x1 ![0, 0] x Cert.DwoutRefIdeal.Gen.slices_S6144x128_S6144x1_0_0 (ix2 r 0) = x (ix2 r (0 : Fin 128)) := by
  pointwise!

variable (m : (ℓ : Loc Cert.DwoutIdeal.nD Cert.DwoutIdeal.τ Cert.DwoutIdeal.sig) → Buf (Elt Ideal) ℓ)
    (m' : (ℓ : Loc Cert.DwoutRefIdeal.nD Cert.DwoutRefIdeal.τ Cert.DwoutRefIdeal.sig) → Buf (Elt Ideal) ℓ) (c : Dev Cert.DwoutIdeal.nD)
    (h0 : m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0))
    (h1 : m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1))
    (h2 : m' ((c.tc : Thread Cert.DwoutRefIdeal.nD Cert.DwoutRefIdeal.τ).loc Cert.DwoutRefIdeal.main_arg2) = m ((c.tc : Thread Cert.DwoutIdeal.nD Cert.DwoutIdeal.τ).loc Cert.DwoutIdeal.main_arg2))
    (h3 : m' ((c.tc : Thread Cert.DwoutRefIdeal.nD Cert.DwoutRefIdeal.τ).loc Cert.DwoutRefIdeal.main_arg3) = m ((c.tc : Thread Cert.DwoutIdeal.nD Cert.DwoutIdeal.τ).loc Cert.DwoutIdeal.main_arg3))

include h1 in
theorem result5_eq : Cert.DwoutRefIdeal.DwoutValue.result5 m' c = Cert.DwoutIdeal.DwoutValue.result5 m c := by
  funext i
  unfold Cert.DwoutRefIdeal.DwoutValue.result5 Cert.DwoutIdeal.DwoutValue.result5 Cert.DwoutIdeal.DwoutValue.scale
  rw [Cert.DwoutRefIdeal.DwoutValue.pay1_apply, Cert.DwoutRefIdeal.Gen.V_main_arg1, Cert.DwoutIdeal.Gen.V_main_arg1, h1]

include h0 h1 in
theorem result4_eq : Cert.DwoutRefIdeal.DwoutValue.result4 m' c = Cert.DwoutIdeal.DwoutValue.result4 m c := by
  funext i
  unfold Cert.DwoutRefIdeal.DwoutValue.result4 Cert.DwoutIdeal.DwoutValue.result4 Cert.DwoutIdeal.DwoutValue.scale
  rw [Cert.DwoutRefIdeal.DwoutValue.pay2_apply, Cert.DwoutRefIdeal.DwoutValue.V_v0, Cert.DwoutIdeal.DwoutValue.V_v0,
    Cert.DwoutRefIdeal.Gen.V_main_arg1, Cert.DwoutIdeal.Gen.V_main_arg1, h0, h1]
  exact congrArg₂ codeOf (congrArg _ (eq_ix2 i)) rfl

include h0 h1 h2 h3 in
theorem result6_eq : Cert.DwoutRefIdeal.DwoutValue.result6 m' c = Cert.DwoutIdeal.DwoutValue.result6 m c := by
  funext i
  unfold Cert.DwoutRefIdeal.DwoutValue.result6 Cert.DwoutIdeal.DwoutValue.result6 Cert.DwoutIdeal.DwoutValue.scale
  rw [Cert.DwoutRefIdeal.DwoutValue.pay3_apply, Cert.DwoutRefIdeal.DwoutValue.pay1_apply, mul_comm]
  refine congrArg₂ (· * ·) (Finset.sum_congr rfl fun x _ => ?_) ?_
  · rw [Cert.DwoutRefIdeal.DwoutValue.pay2_apply, Cert.DwoutRefIdeal.DwoutValue.V_v0, Cert.DwoutIdeal.DwoutValue.V_v0, Cert.DwoutRefIdeal.DwoutValue.V_v1,
      Cert.DwoutRefIdeal.Gen.V_main_arg1, Cert.DwoutIdeal.Gen.V_main_arg1, Cert.DwoutRefIdeal.Gen.V_main_arg2, Cert.DwoutIdeal.Gen.V_main_arg2,
      Cert.DwoutIdeal.Gen.V_main_arg3, h0, h1, h2, h3, lane_eq, mul_assoc]
    exact congrArg₂ (· * ·) rfl (mul_comm _ _)
  · rw [Cert.DwoutRefIdeal.Gen.V_main_arg1, Cert.DwoutIdeal.Gen.V_main_arg1, h1]
    rfl

theorem algebraic : Cert.algebraic_DwoutIdeal_DwoutRefIdeal := by
  pair_intro
  · run_from (Cert.DwoutIdeal.DwoutValue.run_blocks m g)
  · run_from (Cert.DwoutRefIdeal.Value.run_blocks m' g') <;>
      simp only [Cert.DwoutRefIdeal.DwoutValue.final4, Cert.DwoutRefIdeal.DwoutValue.final5, Cert.DwoutRefIdeal.DwoutValue.final6]
    · exact result4_eq m m' c (hagree c).1 (hagree c).2.1
    · exact result5_eq m m' c (hagree c).2.1
    · exact result6_eq m m' c (hagree c).1 (hagree c).2.1 (hagree c).2.2.1 (hagree c).2.2.2

end Cert.DwoutClaim
end
-- ==== Proof.DwqkvBits.lean ====
module

public import proofs.«01_k».proof.Proof.Gen.Dwqkv.Frame
public import proofs.«01_k».proof.Proof.Gen.Dwqkv.Loops
public import Idealize.ShloMosaic.Lib.Pipeline.FrameBody
public import Idealize.ShloMosaic.Lib.Pipeline.Value
public import Idealize.ShloMosaic.Lib.Pipeline.TableIdle
public import Idealize.ShloMosaic.Lib.Pipeline.ValueKit.Tiles
public import Idealize.ShloMosaic.Lib.Tactic
public import Idealize.ShloMosaic.Lib.Pointwise
public import Idealize.ShloMosaic.Lib.VecWindow
public import Idealize.ShloMosaic.Lib.Claim

@[expose] public section

set_option maxRecDepth 16384

noncomputable section

namespace Cert.Dwqkv.Run

open Cert.Dwqkv Cert.Dwqkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one block's quantisation leaves -/

/-- Rows `128 k .. 128 k + 127` of a block of `dp`. -/
def rowsOf (x0 : Vec F S1024x1024 .f32) (k : Fin 8) : Vec F S128x1024 .f32 :=
  fun z => x0 (ix2 ⟨128 * k.val + (z 0).val, by have : (z 0).val < 128 := (z 0).isLt; omega⟩ (z 1))

/-- The first lane of a block of row scales. -/
def laneOf (x3 : Vec F S1024x128 .f32) : Vec F S1024x1 .f32 := fun z => x3 (ix2 (z 0) ⟨0, by decide⟩)

/-- Which tile of 128 rows a row lies in. -/
def tileOf (y : S1024x1024.Idx) : Fin 8 := ⟨(y 0).val / 128, by have : (y 0).val < 1024 := (y 0).isLt; omega⟩

/-- Where in its tile it lies. -/
def inTile (y : S1024x1024.Idx) : S128x1024.Idx := ix2 ⟨(y 0).val % 128, by omega⟩ (y 1)

/-- The codes of a whole block. -/
def codesOf (x0 : Vec F S1024x1024 .f32) (x1 : Vec F S8x1024 .f32) : Vec F S1024x1024 .fp8e5m2 :=
  fun y => k0_pay3 x1 (rowsOf x0 (tileOf y)) (inTile y)

/-- A scratch with slab `s` replaced. -/
def putSlab (s : Fin 6) (C : Vec F S1024x1024 .fp8e5m2) (d : Vec F S6x1024x1024 .fp8e5m2) : Vec F S6x1024x1024 .fp8e5m2 :=
  fun y => if (y 0).val = s.val then C (ix2 (y 1) (y 2)) else d y

/-- Slab `s` of a scratch, as the kernel loads it. -/
def slabOf (s : Fin 6) (d : Vec F S6x1024x1024 .fp8e5m2) : Vec F S1x1024x1024 .fp8e5m2 :=
  fun y => d (ix3 s (y 1) (y 2))

theorem hz : (![0, 0] : Fin 2 → Nat) = fun _ => 0 := funext fun a => by fin_cases a <;> rfl

theorem off1_eq : ∀ k : Fin k0_t1_loop.trips, k0_off1 k 0 = 128 * k.val ∧ k0_off1 k 1 = 0 := by
  decide +kernel

theorem trips_eq : k0_t1_loop.trips = 8 := by decide +kernel

theorem word_val : ∀ a : Fin 6, (BitVec.ofNat 32 a.val).toNat = a.val := by decide +kernel

theorem off2_eq (i : grid0.Coords) (k : Fin k0_t1_loop.trips) : k0_off2 i k 0 = (i 2).val ∧ k0_off2 i k 1 = 128 * k.val ∧ k0_off2 i k 2 = 0 :=
  ⟨(by decide +kernel : ∀ a : Fin 6, (Scalar.indexCast (BitVec.ofNat 32 a.val) : BitVec 32).toNat = a.val) (i 2), (off1_eq k).1, rfl⟩

theorem off3_eq (i : grid0.Coords) : k0_off3 i 0 = (i 2).val ∧ k0_off3 i 1 = 0 ∧ k0_off3 i 2 = 0 :=
  ⟨(by decide +kernel : ∀ a : Fin 6, (Scalar.indexCast (BitVec.ofNat 32 a.val) : BitVec 32).toNat = a.val) (i 2), rfl, rfl⟩

/-- The kernel's three conditions: the first half of the product's rows, its first block of the sum, its last. -/
theorem cond_iff : ∀ t : Fin grid0.N, k0_cond1 (grid0.coords t) = 1#1 ↔ t.val % 12 < 6 := by decide +kernel

theorem first_iff (i : grid0.Coords) : Scalar.cmpi .ne (Scalar.extui (Scalar.cmpi .eq (BitVec.ofNat 32 (i 2).val) 0#32) : BitVec 32) 0#32 = 1#1 ↔ (i 2).val = 0 :=
  (by decide +kernel : ∀ a : Fin 6, Scalar.cmpi .ne (Scalar.extui (Scalar.cmpi .eq (BitVec.ofNat 32 a.val) 0#32) : BitVec 32) 0#32 = 1#1 ↔ a.val = 0) (i 2)

theorem last_iff (i : grid0.Coords) : Scalar.cmpi .ne (Scalar.extui (Scalar.cmpi .eq (BitVec.ofNat 32 (i 2).val) 5#32) : BitVec 32) 0#32 = 1#1 ↔ (i 2).val = 5 :=
  (by decide +kernel : ∀ a : Fin 6, Scalar.cmpi .ne (Scalar.extui (Scalar.cmpi .eq (BitVec.ofNat 32 a.val) 5#32) : BitVec 32) 0#32 = 1#1 ↔ a.val = 5) (i 2)

theorem coord_eq : ∀ t : Fin grid0.N, (grid0.coords t 2).val = t.val % 6 := by decide +kernel

variable (c : Dev nD) (i : grid0.Coords) (arg3 : Memref sig .tc .vmem S1024x1024 .f32) (harg3 : arg3.IsWhole) (arg4 : Memref sig .tc .vmem S8x1024 .f32) (harg4 : arg4.IsWhole) (arg5 : Memref sig .tc .vmem S1024x2560 .fp8e4m3) (harg5 : arg5.IsWhole) (arg6 : Memref sig .tc .vmem S1024x128 .f32) (harg6 : arg6.IsWhole) (arg7 : Memref sig .tc .vmem S1024x1024 .fp8e5m2) (harg7 : arg7.IsWhole) (arg8 : Memref sig .tc .vmem S1x1024 .f32) (harg8 : arg8.IsWhole) (arg9 : Memref sig .tc .vmem S2560x1024 .f32) (harg9 : arg9.IsWhole) (arg10 : Memref sig .tc .vmem S6x1024x1024 .fp8e5m2) (harg10 : arg10.IsWhole)
variable (x0 : Vec F S1024x1024 .f32) (x1 : Vec F S8x1024 .f32) (x2 : Vec F S1024x2560 .fp8e4m3) (x3 : Vec F S1024x128 .f32)

/-- A rectangle of 128 rows at tile `k` holds the places whose row lies in the tile, each at its own place. -/
theorem tile_emb (k : Fin k0_t1_loop.trips) (inb : ∀ a, k0_off1 k a + S128x1024.size a ≤ S1024x1024.size a)
    (x : (Rect.unit (s := S1024x1024) (k0_off1 k) S128x1024.size inb).shape.Idx) :
    tileOf ((Rect.unit (s := S1024x1024) (k0_off1 k) S128x1024.size inb).emb x) = ⟨k.val, trips_eq ▸ k.isLt⟩
      ∧ inTile ((Rect.unit (s := S1024x1024) (k0_off1 k) S128x1024.size inb).emb x) = x := by
  obtain ⟨h0, h1⟩ := off1_eq k
  have hx0 : (x 0).val < 128 := (x 0).isLt
  have e0 : (((Rect.unit (s := S1024x1024) (k0_off1 k) S128x1024.size inb).emb x) 0).val = 128 * k.val + (x 0).val := by
    show k0_off1 k 0 + 1 * (x 0).val = _; omega
  have e1 : (((Rect.unit (s := S1024x1024) (k0_off1 k) S128x1024.size inb).emb x) 1).val = (x 1).val := by
    show k0_off1 k 1 + 1 * (x 1).val = _; omega
  constructor
  · apply Fin.ext
    show _ / 128 = k.val
    rw [e0]; omega
  · funext a
    match a with
    | ⟨0, _⟩ => apply Fin.ext; show _ % 128 = (x 0).val; rw [e0]; omega
    | ⟨1, _⟩ => exact Fin.ext e1

/-- A list of stores that has filled the rows below `128 n` with the places of one function. -/
def Filled (G : S1024x1024.Idx → Elt F .fp8e5m2) (n : ℕ) (L : List (View.Piece (Elt F) S1024x1024 .fp8e5m2)) : Prop :=
  (∀ p ∈ L, ∀ x, p.2 x = G (p.1.emb x)) ∧ ∀ y : S1024x1024.Idx, (y 0).val < 128 * n → ∃ p ∈ L, y ∈ p.1.set

theorem Filled.nil (G : S1024x1024.Idx → Elt F .fp8e5m2) : Filled G 0 [] := by
  constructor
  · intro p hp; cases hp
  · intro y hy; omega

theorem Filled.cons {G : S1024x1024.Idx → Elt F .fp8e5m2} (k : Fin k0_t1_loop.trips) {L : List (View.Piece (Elt F) S1024x1024 .fp8e5m2)}
    (h : Filled G k.val L) (inb : ∀ a, k0_off1 k a + S128x1024.size a ≤ S1024x1024.size a) (w : S128x1024.Idx → Elt F .fp8e5m2)
    (hw : ∀ x, w x = G ((Rect.unit (s := S1024x1024) (k0_off1 k) S128x1024.size inb).emb x)) :
    Filled G (k.val + 1) ([⟨Rect.unit (s := S1024x1024) (k0_off1 k) S128x1024.size inb, w⟩] ++ L) := by
  obtain ⟨o0, o1⟩ := off1_eq k
  refine ⟨fun p hp => ?_, fun y hy => ?_⟩
  · rcases List.mem_cons.mp hp with rfl | hp
    · exact hw
    · exact h.1 p hp
  · by_cases hk : (y 0).val < 128 * k.val
    · obtain ⟨p, hp, hy'⟩ := h.2 y hk
      exact ⟨p, List.mem_cons_of_mem _ hp, hy'⟩
    · refine ⟨⟨Rect.unit (s := S1024x1024) (k0_off1 k) S128x1024.size inb, w⟩, List.mem_cons_self, (Rect.mem_set_unit (inb := inb)).mpr fun a => ?_⟩
      match a with
      | ⟨0, _⟩ => show k0_off1 k 0 ≤ (y 0).val ∧ (y 0).val < k0_off1 k 0 + 128; omega
      | ⟨1, _⟩ => have : (y 1).val < 1024 := (y 1).isLt; show k0_off1 k 1 ≤ (y 1).val ∧ (y 1).val < k0_off1 k 1 + 1024; omega

/-- The same inside the slab the point is on: nothing outside the slab is stored to. -/
def FilledSlab (G : S1024x1024.Idx → Elt F .fp8e5m2) (n : ℕ) (L : List (View.Piece (Elt F) S6x1024x1024 .fp8e5m2)) : Prop :=
  (∀ p ∈ L, ∀ x, p.2 x = G (ix2 (p.1.emb x 1) (p.1.emb x 2))) ∧ (∀ p ∈ L, ∀ y : S6x1024x1024.Idx, y ∈ p.1.set → (y 0).val = (i 2).val)
    ∧ ∀ y : S6x1024x1024.Idx, (y 0).val = (i 2).val → (y 1).val < 128 * n → ∃ p ∈ L, y ∈ p.1.set

theorem FilledSlab.nil (G : S1024x1024.Idx → Elt F .fp8e5m2) : FilledSlab i G 0 [] := by
  refine ⟨?_, ?_, ?_⟩
  · intro p hp; cases hp
  · intro p hp; cases hp
  · intro y _ hy; omega

theorem FilledSlab.cons {G : S1024x1024.Idx → Elt F .fp8e5m2} (k : Fin k0_t1_loop.trips) {L : List (View.Piece (Elt F) S6x1024x1024 .fp8e5m2)}
    (h : FilledSlab i G k.val L) (inb : ∀ a, k0_off2 i k a + S1x128x1024.size a ≤ S6x1024x1024.size a) (w : S1x128x1024.Idx → Elt F .fp8e5m2)
    (hw : ∀ x, w x = G (ix2 ((Rect.unit (s := S6x1024x1024) (k0_off2 i k) S1x128x1024.size inb).emb x 1) ((Rect.unit (s := S6x1024x1024) (k0_off2 i k) S1x128x1024.size inb).emb x 2))) :
    FilledSlab i G (k.val + 1) ([⟨Rect.unit (s := S6x1024x1024) (k0_off2 i k) S1x128x1024.size inb, w⟩] ++ L) := by
  obtain ⟨o0, o1, o2⟩ := off2_eq i k
  refine ⟨fun p hp => ?_, fun p hp y hy => ?_, fun y h0 hy => ?_⟩
  · rcases List.mem_cons.mp hp with rfl | hp
    · exact hw
    · exact h.1 p hp
  · rcases List.mem_cons.mp hp with rfl | hp
    · have hm : k0_off2 i k 0 ≤ (y 0).val ∧ (y 0).val < k0_off2 i k 0 + 1 := (Rect.mem_set_unit (inb := inb)).mp hy 0
      omega
    · exact h.2.1 p hp y hy
  · by_cases hk : (y 1).val < 128 * k.val
    · obtain ⟨p, hp, hy'⟩ := h.2.2 y h0 hk
      exact ⟨p, List.mem_cons_of_mem _ hp, hy'⟩
    · refine ⟨⟨Rect.unit (s := S6x1024x1024) (k0_off2 i k) S1x128x1024.size inb, w⟩, List.mem_cons_self, (Rect.mem_set_unit (inb := inb)).mpr fun a => ?_⟩
      match a with
      | ⟨0, _⟩ => show k0_off2 i k 0 ≤ (y 0).val ∧ (y 0).val < k0_off2 i k 0 + 1; omega
      | ⟨1, _⟩ => show k0_off2 i k 1 ≤ (y 1).val ∧ (y 1).val < k0_off2 i k 1 + 128; omega
      | ⟨2, _⟩ => have : (y 2).val < 1024 := (y 2).isLt; show k0_off2 i k 2 ≤ (y 2).val ∧ (y 2).val < k0_off2 i k 2 + 1024; omega

/-- A load of the rows of tile `k`. -/
theorem ld_rows (k : Fin k0_t1_loop.trips) (inb : ∀ a, k0_off1 k a + S128x1024.size a ≤ S1024x1024.size a) :
    View.ld (Val := Elt F) (e' := .f32) x0 (Rect.unit (s := S1024x1024) (k0_off1 k) S128x1024.size inb) = rowsOf x0 ⟨k.val, trips_eq ▸ k.isLt⟩ := by
  obtain ⟨o0, o1⟩ := off1_eq k
  funext z
  refine View.ld_unit_apply_of _ _ _ _ z _ fun a => ?_
  match a with
  | ⟨0, _⟩ => show 128 * k.val + (z 0).val = k0_off1 k 0 + (z 0).val; omega
  | ⟨1, _⟩ => show (z 1).val = k0_off1 k 1 + (z 1).val; omega

/-- The payload kept in scratch is the codes with a leading unit axis. -/
theorem pay4_apply (v40 : Vec F S128x1024 .f32) (x : S1x128x1024.Idx) : k0_pay4 x1 v40 x = k0_pay3 x1 v40 (ix2 (x 1) (x 2)) := by
  have hx : x = ix3 ⟨0, by decide⟩ (x 1) (x 2) := by
    funext a
    match a with
    | ⟨0, _⟩ => apply Fin.ext; have : (x 0).val < 1 := (x 0).isLt; show (x 0).val = 0; omega
    | ⟨1, _⟩ => rfl
    | ⟨2, _⟩ => rfl
  refine Eq.trans (congrArg (k0_pay4 x1 v40) hx) ?_
  generalize x 1 = a
  generalize x 2 = b
  unfold k0_pay4
  pointwise!

theorem filled (h1 : k0_cond1 i = 1#1) : ∀ n ≤ 8,
    Filled (codesOf x0 x1) n (pb_k0_t1 (F := F) Variants.none c none i arg3 harg3 arg4 harg4 arg5 harg5 arg6 harg6 arg7 harg7 arg8 harg8 arg9 harg9 arg10 harg10 x1 h1 (harg3.unread x0) n).1
    ∧ FilledSlab i (codesOf x0 x1) n (pb_k0_t1 (F := F) Variants.none c none i arg3 harg3 arg4 harg4 arg5 harg5 arg6 harg6 arg7 harg7 arg8 harg8 arg9 harg9 arg10 harg10 x1 h1 (harg3.unread x0) n).2
  | 0, _ => ⟨Filled.nil _, FilledSlab.nil i _⟩
  | n + 1, hn => by
    obtain ⟨iha, ihb⟩ := filled h1 n (by omega)
    have hk : n < k0_t1_loop.trips := trips_eq ▸ hn
    have hs := pb_k0_t1_succ (F := F) Variants.none c none i arg3 harg3 arg4 harg4 arg5 harg5 arg6 harg6 arg7 harg7 arg8 harg8 arg9 harg9 arg10 harg10 x1 h1 (harg3.unread x0) ⟨n, hk⟩
    simp only at hs
    rw [hs]
    unfold trip_k0_t1
    simp only [View.readAt_eq_ld, harg3.read_unread]
    refine ⟨Filled.cons ⟨n, hk⟩ iha _ _ fun x => ?_, FilledSlab.cons i ⟨n, hk⟩ ihb _ _ fun x => ?_⟩
    · unfold codesOf
      rw [(tile_emb ⟨n, hk⟩ _ x).1, (tile_emb ⟨n, hk⟩ _ x).2, ← ld_rows x0 ⟨n, hk⟩ (k0_off1_inb i ⟨n, hk⟩ h1)]
      try rfl
    · obtain ⟨o0, o1, o2⟩ := off2_eq i ⟨n, hk⟩
      obtain ⟨p0, p1⟩ := off1_eq ⟨n, hk⟩
      have e : ix2 ((Rect.unit (s := S6x1024x1024) (k0_off2 i ⟨n, hk⟩) S1x128x1024.size (k0_off2_inb i ⟨n, hk⟩ h1)).emb x 1) ((Rect.unit (s := S6x1024x1024) (k0_off2 i ⟨n, hk⟩) S1x128x1024.size (k0_off2_inb i ⟨n, hk⟩ h1)).emb x 2)
          = (Rect.unit (s := S1024x1024) (k0_off1 ⟨n, hk⟩) S128x1024.size (k0_off1_inb i ⟨n, hk⟩ h1)).emb (ix2 (x 1) (x 2)) := by
        funext a
        apply Fin.ext
        match a with
        | ⟨0, _⟩ => show k0_off2 i ⟨n, hk⟩ 1 + 1 * (x 1).val = k0_off1 ⟨n, hk⟩ 0 + 1 * (x 1).val; rw [o1, p0]
        | ⟨1, _⟩ => show k0_off2 i ⟨n, hk⟩ 2 + 1 * (x 2).val = k0_off1 ⟨n, hk⟩ 1 + 1 * (x 2).val; rw [o2, p1]
      refine (pay4_apply x1 _ x).trans (Eq.trans ?_ (congrArg (codesOf x0 x1) e.symm))
      unfold codesOf
      rw [(tile_emb ⟨n, hk⟩ _ _).1, (tile_emb ⟨n, hk⟩ _ _).2, ← ld_rows x0 ⟨n, hk⟩ (k0_off1_inb i ⟨n, hk⟩ h1)]
      try rfl

/-- The whole block, once every trip has run. -/
theorem read_filled {sp : Space} (M : Memref sig .tc sp S1024x1024 .fp8e5m2) (f : BufTy.Contents (Elt F) M.view.ty)
    {G : S1024x1024.Idx → Elt F .fp8e5m2} {L : List (View.Piece (Elt F) S1024x1024 .fp8e5m2)} (h : Filled G 8 L) :
    M.view.read (Elt F) (M.view.writes (Elt F) f L) = G :=
  funext fun y => View.read_writes_apply_of_pieces _ _ G L h.1 y (h.2 y (by have : (y 0).val < 1024 := (y 0).isLt; omega))

/-- The scratch, once every trip has run: the slab replaced and the rest as it was. -/
theorem read_slab {sp : Space} (M : Memref sig .tc sp S6x1024x1024 .fp8e5m2) (f : BufTy.Contents (Elt F) M.view.ty)
    {G : S1024x1024.Idx → Elt F .fp8e5m2} {L : List (View.Piece (Elt F) S6x1024x1024 .fp8e5m2)} (h : FilledSlab i G 8 L) :
    M.view.read (Elt F) (M.view.writes (Elt F) f L) = putSlab (i 2) G (M.view.read (Elt F) f) := by
  funext y
  unfold putSlab
  by_cases hy : (y 0).val = (i 2).val
  · rw [if_pos hy]
    exact View.read_writes_apply_of_pieces _ _ (fun y => G (ix2 (y 1) (y 2))) L h.1 y (h.2.2 y hy (by have : (y 1).val < 1024 := (y 1).isLt; omega))
  · rw [if_neg hy]
    exact View.read_writes_apply_of_forall_not_mem _ _ y L fun p hp hm => hy (h.2.1 p hp y hm)

/-- A single store of the whole block leaves its payload. -/
theorem read_whole {S : Shape} {e : EltTy} {sp : Space} (M : Memref sig .tc sp S e) (f : BufTy.Contents (Elt F) M.view.ty)
    {off : Fin S.rank → ℕ} (hoff : off = fun _ => 0) (inb : ∀ a, off a + S.size a ≤ S.size a) (w : S.Idx → Elt F e)
    (L : List (View.Piece (Elt F) S e)) :
    M.view.read (Elt F) (M.view.writes (Elt F) f (⟨Rect.unit off S.size inb, w⟩ :: L)) = w := by
  subst hoff
  funext y
  exact View.read_writes_cons_hit_of_coords _ _ (Rect.unit (fun _ => 0) S.size inb) w L y y fun a => by
    show (y a).val = 0 + 1 * (y a).val; omega

/-- A load of a whole block. -/
theorem readAt_whole {S : Shape} {e : EltTy} {sp : Space} (M : Memref sig .tc sp S e) {off : Fin S.rank → ℕ} (hoff : off = fun _ => 0)
    (inb : ∀ a, off a + S.size a ≤ S.size a) (f : BufTy.Contents (Elt F) M.view.ty) :
    View.readAt (Elt F) M.view (Rect.unit off S.size inb).toLoadRect f = M.view.read (Elt F) f :=
  View.ld_unit_zero hoff inb _

/-- A load of the first lane. -/
theorem readAt_lane {sp : Space} (M : Memref sig .tc sp S1024x128 .f32) (inb : ∀ a, (![0, 0] : Fin 2 → ℕ) a + S1024x1.size a ≤ S1024x128.size a)
    (f : BufTy.Contents (Elt F) M.view.ty) :
    View.readAt (Elt F) M.view (Rect.unit (s := S1024x128) ![0, 0] S1024x1.size inb).toLoadRect f = laneOf (M.view.read (Elt F) f) := by
  rw [View.readAt_eq_ld]
  funext z
  refine View.ld_unit_apply_of _ _ _ _ z _ fun a => ?_
  match a with
  | ⟨0, _⟩ => show (z 0).val = 0 + (z 0).val; omega
  | ⟨1, _⟩ => have : (z 1).val < 1 := (z 1).isLt; show 0 = 0 + (z 1).val; omega

/-- A load of the slab the point is on. -/
theorem readAt_slab {sp : Space} (M : Memref sig .tc sp S6x1024x1024 .fp8e5m2) (inb : ∀ a, k0_off3 i a + S1x1024x1024.size a ≤ S6x1024x1024.size a)
    (f : BufTy.Contents (Elt F) M.view.ty) :
    View.readAt (Elt F) M.view (Rect.unit (s := S6x1024x1024) (k0_off3 i) S1x1024x1024.size inb).toLoadRect f = slabOf (i 2) (M.view.read (Elt F) f) := by
  obtain ⟨o0, o1, o2⟩ := off3_eq i
  rw [View.readAt_eq_ld]
  funext z
  refine View.ld_unit_apply_of _ _ _ _ z _ fun a => ?_
  match a with
  | ⟨0, _⟩ => have : (z 0).val < 1 := (z 0).isLt; show (i 2).val = k0_off3 i 0 + (z 0).val; omega
  | ⟨1, _⟩ => show (z 1).val = k0_off3 i 1 + (z 1).val; omega
  | ⟨2, _⟩ => show (z 2).val = k0_off3 i 2 + (z 2).val; omega

/-- The scratch after a point. -/
def scrOut (x10 : Vec F S6x1024x1024 .fp8e5m2) : Vec F S6x1024x1024 .fp8e5m2 :=
  if k0_cond1 i = 1#1 then putSlab (i 2) (codesOf x0 x1) x10 else x10

/-- The running sum after a point, from the sum before it and the scratch after it. -/
def accOut (x6 : Vec F S2560x1024 .f32) (d : Vec F S6x1024x1024 .fp8e5m2) : Vec F S2560x1024 .f32 :=
  k0_pay6 x2 (laneOf x3) (if (i 2).val = 0 then k0_pay5 else x6) (slabOf (i 2) d)

/-- What the product's block holds after a point: the sum, scaled at the last one. -/
def dwOut (a : Vec F S2560x1024 .f32) : Vec F S2560x1024 .f32 :=
  if (i 2).val = 5 then k0_pay1 (k0_pay2 x1) a else a

/-- The body at any point. -/
theorem body_any (x4 : Vec F S1024x1024 .fp8e5m2) (x5 : Vec F S1x1024 .f32) (x6 : Vec F S2560x1024 .f32) (x10 : Vec F S6x1024x1024 .fp8e5m2) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6 ∗ owns (c : Thread nD τ) arg10 fullShare x10
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if k0_cond1 i = 1#1 then codesOf x0 x1 else x4) ∗ owns (c : Thread nD τ) arg8 fullShare (if k0_cond1 i = 1#1 then k0_pay2 x1 else x5)
            ∗ owns (c : Thread nD τ) arg9 fullShare (dwOut i x1 (accOut i x2 x3 x6 (scrOut i x0 x1 x10))) ∗ owns (c : Thread nD τ) arg10 fullShare (scrOut i x0 x1 x10)) -∗ K ⟨⟩))
      ⊢ wp frame (wpE (defs₀ (F := F)) Variants.none c none) E (cc0_dwqkv i arg3 harg3 arg4 harg4 arg5 harg5 arg6 harg6 arg7 harg7 arg8 harg8 arg9 harg9 arg10 harg10) K := by
  have e4 := (readAt_whole arg4 hz inb_S8x1024_S8x1024_0_0 (harg4.unread x1)).trans (harg4.read_unread x1)
  have e5 := (readAt_whole arg5 hz inb_S1024x2560_S1024x2560_0_0 (harg5.unread x2)).trans (harg5.read_unread x2)
  have e6 := (readAt_lane arg6 inb_S1024x128_S1024x1_0_0 (harg6.unread x3)).trans (congrArg laneOf (harg6.read_unread x3))
  unfold dwOut accOut scrOut
  simp only [cc0_dwqkv_eq_skeleton]; unfold cc0_dwqkv_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  by_cases h1 : k0_cond1 i = 1#1
  · have hF := filled c i arg3 harg3 arg4 harg4 arg5 harg5 arg6 harg6 arg7 harg7 arg8 harg8 arg9 harg9 arg10 harg10 x0 x1 h1 8 le_rfl
    by_cases h2 : Scalar.cmpi .ne (Scalar.extui (Scalar.cmpi .eq (BitVec.ofNat 32 (i 2).val) 0#32) : BitVec 32) 0#32 = 1#1
    · have h2' := (first_iff i).mp h2
      have h3' : ¬ (i 2).val = 5 := by omega
      have h3 : ¬ Scalar.cmpi .ne (Scalar.extui (Scalar.cmpi .eq (BitVec.ofNat 32 (i 2).val) 5#32) : BitVec 32) 0#32 = 1#1 := fun h => h3' ((last_iff i).mp h)
      simp only [if_pos h1, if_pos h2', if_neg h3']
      sl_exec
      try simp only [Prog.bind_assoc]
      try sl_exec
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr
        swap; · iexact H4
        ipureintro
        sl_unfold_words
        try rw [e4]
        exact read_filled arg7 _ hF.1
      isplitl [H5]
      · iexists _; isplitr
        swap; · iexact H5
        ipureintro
        sl_unfold_words
        try rw [e4]
        exact read_whole arg8 _ hz _ _ _
      isplitl [H6]
      · iexists _; isplitr
        swap; · iexact H6
        ipureintro
        try rw [e4]
        try rw [e5]
        try rw [e6]
        refine (read_whole arg9 _ hz _ _ _).trans ?_
        exact congrArg₂ (k0_pay6 x2 (laneOf x3)) (View.readCov_full arg9.view _ _ _ _) ((readAt_slab i arg10 _ _).trans (congrArg (slabOf (i 2)) ((read_slab i arg10 _ hF.2).trans (congrArg (putSlab (i 2) (codesOf x0 x1)) (harg10.read_unread x10)))))
      iexists _; isplitr
      swap; · iexact H7
      ipureintro
      sl_unfold_words
      try rw [e4]
      exact (read_slab i arg10 _ hF.2).trans (congrArg (putSlab (i 2) (codesOf x0 x1)) (harg10.read_unread x10))
    · have h2' : ¬ (i 2).val = 0 := fun h => h2 ((first_iff i).mpr h)
      by_cases h3 : Scalar.cmpi .ne (Scalar.extui (Scalar.cmpi .eq (BitVec.ofNat 32 (i 2).val) 5#32) : BitVec 32) 0#32 = 1#1
      · have h3' := (last_iff i).mp h3
        simp only [if_pos h1, if_neg h2', if_pos h3']
        sl_exec
        try simp only [Prog.bind_assoc]
        try sl_exec
        sl_step
        iapply Hk
        isplitl [H0]
        · iexists _; isplitr; · ipureintro; exact harg3.read_unread _
          iexact H0
        isplitl [H1]
        · iexists _; isplitr; · ipureintro; exact harg4.read_unread _
          iexact H1
        isplitl [H2]
        · iexists _; isplitr; · ipureintro; exact harg5.read_unread _
          iexact H2
        isplitl [H3]
        · iexists _; isplitr; · ipureintro; exact harg6.read_unread _
          iexact H3
        isplitl [H4]
        · iexists _; isplitr
          swap; · iexact H4
          ipureintro
          sl_unfold_words
          try rw [e4]
          exact read_filled arg7 _ hF.1
        isplitl [H5]
        · iexists _; isplitr
          swap; · iexact H5
          ipureintro
          sl_unfold_words
          try rw [e4]
          exact read_whole arg8 _ hz _ _ _
        isplitl [H6]
        · iexists _; isplitr
          swap; · iexact H6
          ipureintro
          try rw [e4]
          try rw [e5]
          try rw [e6]
          refine (read_whole arg9 _ hz _ _ _).trans ((congrArg (k0_pay1 (k0_pay2 x1)) ((View.readCov_full arg9.view _ _ _ _).trans ?_)))
          exact congrArg₂ (k0_pay6 x2 (laneOf x3)) ((readAt_whole arg9 hz _ _).trans (harg9.read_unread x6)) ((readAt_slab i arg10 _ _).trans (congrArg (slabOf (i 2)) ((read_slab i arg10 _ hF.2).trans (congrArg (putSlab (i 2) (codesOf x0 x1)) (harg10.read_unread x10)))))
        iexists _; isplitr
        swap; · iexact H7
        ipureintro
        sl_unfold_words
        try rw [e4]
        exact (read_slab i arg10 _ hF.2).trans (congrArg (putSlab (i 2) (codesOf x0 x1)) (harg10.read_unread x10))
      · have h3' : ¬ (i 2).val = 5 := fun h => h3 ((last_iff i).mpr h)
        simp only [if_pos h1, if_neg h2', if_neg h3']
        sl_exec
        try simp only [Prog.bind_assoc]
        try sl_exec
        sl_step
        iapply Hk
        isplitl [H0]
        · iexists _; isplitr; · ipureintro; exact harg3.read_unread _
          iexact H0
        isplitl [H1]
        · iexists _; isplitr; · ipureintro; exact harg4.read_unread _
          iexact H1
        isplitl [H2]
        · iexists _; isplitr; · ipureintro; exact harg5.read_unread _
          iexact H2
        isplitl [H3]
        · iexists _; isplitr; · ipureintro; exact harg6.read_unread _
          iexact H3
        isplitl [H4]
        · iexists _; isplitr
          swap; · iexact H4
          ipureintro
          sl_unfold_words
          try rw [e4]
          exact read_filled arg7 _ hF.1
        isplitl [H5]
        · iexists _; isplitr
          swap; · iexact H5
          ipureintro
          sl_unfold_words
          try rw [e4]
          exact read_whole arg8 _ hz _ _ _
        isplitl [H6]
        · iexists _; isplitr
          swap; · iexact H6
          ipureintro
          try rw [e4]
          try rw [e5]
          try rw [e6]
          refine (read_whole arg9 _ hz _ _ _).trans ?_
          exact congrArg₂ (k0_pay6 x2 (laneOf x3)) ((readAt_whole arg9 hz _ _).trans (harg9.read_unread x6)) ((readAt_slab i arg10 _ _).trans (congrArg (slabOf (i 2)) ((read_slab i arg10 _ hF.2).trans (congrArg (putSlab (i 2) (codesOf x0 x1)) (harg10.read_unread x10)))))
        iexists _; isplitr
        swap; · iexact H7
        ipureintro
        sl_unfold_words
        try rw [e4]
        exact (read_slab i arg10 _ hF.2).trans (congrArg (putSlab (i 2) (codesOf x0 x1)) (harg10.read_unread x10))
  · by_cases h2 : Scalar.cmpi .ne (Scalar.extui (Scalar.cmpi .eq (BitVec.ofNat 32 (i 2).val) 0#32) : BitVec 32) 0#32 = 1#1
    · have h2' := (first_iff i).mp h2
      have h3' : ¬ (i 2).val = 5 := by omega
      have h3 : ¬ Scalar.cmpi .ne (Scalar.extui (Scalar.cmpi .eq (BitVec.ofNat 32 (i 2).val) 5#32) : BitVec 32) 0#32 = 1#1 := fun h => h3' ((last_iff i).mp h)
      simp only [if_neg h1, if_pos h2', if_neg h3']
      sl_exec
      try simp only [Prog.bind_assoc]
      try sl_exec
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr
        swap; · iexact H4
        ipureintro
        sl_unfold_words
        exact harg7.read_unread _
      isplitl [H5]
      · iexists _; isplitr
        swap; · iexact H5
        ipureintro
        sl_unfold_words
        exact harg8.read_unread _
      isplitl [H6]
      · iexists _; isplitr
        swap; · iexact H6
        ipureintro
        try rw [e4]
        try rw [e5]
        try rw [e6]
        refine (read_whole arg9 _ hz _ _ _).trans ?_
        exact congrArg₂ (k0_pay6 x2 (laneOf x3)) (View.readCov_full arg9.view _ _ _ _) ((readAt_slab i arg10 _ _).trans (congrArg (slabOf (i 2)) (harg10.read_unread x10)))
      iexists _; isplitr
      swap; · iexact H7
      ipureintro
      sl_unfold_words
      exact harg10.read_unread _
    · have h2' : ¬ (i 2).val = 0 := fun h => h2 ((first_iff i).mpr h)
      by_cases h3 : Scalar.cmpi .ne (Scalar.extui (Scalar.cmpi .eq (BitVec.ofNat 32 (i 2).val) 5#32) : BitVec 32) 0#32 = 1#1
      · have h3' := (last_iff i).mp h3
        simp only [if_neg h1, if_neg h2', if_pos h3']
        sl_exec
        try simp only [Prog.bind_assoc]
        try sl_exec
        sl_step
        iapply Hk
        isplitl [H0]
        · iexists _; isplitr; · ipureintro; exact harg3.read_unread _
          iexact H0
        isplitl [H1]
        · iexists _; isplitr; · ipureintro; exact harg4.read_unread _
          iexact H1
        isplitl [H2]
        · iexists _; isplitr; · ipureintro; exact harg5.read_unread _
          iexact H2
        isplitl [H3]
        · iexists _; isplitr; · ipureintro; exact harg6.read_unread _
          iexact H3
        isplitl [H4]
        · iexists _; isplitr
          swap; · iexact H4
          ipureintro
          sl_unfold_words
          exact harg7.read_unread _
        isplitl [H5]
        · iexists _; isplitr
          swap; · iexact H5
          ipureintro
          sl_unfold_words
          exact harg8.read_unread _
        isplitl [H6]
        · iexists _; isplitr
          swap; · iexact H6
          ipureintro
          try rw [e4]
          try rw [e5]
          try rw [e6]
          refine (read_whole arg9 _ hz _ _ _).trans ((congrArg (k0_pay1 (k0_pay2 x1)) ((View.readCov_full arg9.view _ _ _ _).trans ?_)))
          exact congrArg₂ (k0_pay6 x2 (laneOf x3)) ((readAt_whole arg9 hz _ _).trans (harg9.read_unread x6)) ((readAt_slab i arg10 _ _).trans (congrArg (slabOf (i 2)) (harg10.read_unread x10)))
        iexists _; isplitr
        swap; · iexact H7
        ipureintro
        sl_unfold_words
        exact harg10.read_unread _
      · have h3' : ¬ (i 2).val = 5 := fun h => h3 ((last_iff i).mpr h)
        simp only [if_neg h1, if_neg h2', if_neg h3']
        sl_exec
        try simp only [Prog.bind_assoc]
        try sl_exec
        sl_step
        iapply Hk
        isplitl [H0]
        · iexists _; isplitr; · ipureintro; exact harg3.read_unread _
          iexact H0
        isplitl [H1]
        · iexists _; isplitr; · ipureintro; exact harg4.read_unread _
          iexact H1
        isplitl [H2]
        · iexists _; isplitr; · ipureintro; exact harg5.read_unread _
          iexact H2
        isplitl [H3]
        · iexists _; isplitr; · ipureintro; exact harg6.read_unread _
          iexact H3
        isplitl [H4]
        · iexists _; isplitr
          swap; · iexact H4
          ipureintro
          sl_unfold_words
          exact harg7.read_unread _
        isplitl [H5]
        · iexists _; isplitr
          swap; · iexact H5
          ipureintro
          sl_unfold_words
          exact harg8.read_unread _
        isplitl [H6]
        · iexists _; isplitr
          swap; · iexact H6
          ipureintro
          try rw [e4]
          try rw [e5]
          try rw [e6]
          refine (read_whole arg9 _ hz _ _ _).trans ?_
          exact congrArg₂ (k0_pay6 x2 (laneOf x3)) ((readAt_whole arg9 hz _ _).trans (harg9.read_unread x6)) ((readAt_slab i arg10 _ _).trans (congrArg (slabOf (i 2)) (harg10.read_unread x10)))
        iexists _; isplitr
        swap; · iexact H7
        ipureintro
        sl_unfold_words
        exact harg10.read_unread _

/-! ## The windows' blocks in the arrays -/

variable (m : (ℓ : Loc nD τ sig) → Buf (Elt F) ℓ) (ρ : Dev nD → PrngReg)

theorem index_facts : ∀ t : Fin cfg0.N, (win0_0.index t 0 = min (t.val % 12) 5 ∧ win0_0.index t 1 = t.val / 12)
    ∧ (win0_1.index t 0 = 0 ∧ win0_1.index t 1 = t.val / 12) ∧ (win0_2.index t 0 = t.val % 6 ∧ win0_2.index t 1 = t.val % 12 / 6)
    ∧ (win0_3.index t 0 = t.val % 6 ∧ win0_3.index t 1 = 0) ∧ (win0_4.index t 0 = min (t.val % 12) 5 ∧ win0_4.index t 1 = t.val / 12)
    ∧ (win0_5.index t 0 = 0 ∧ win0_5.index t 1 = t.val / 12) ∧ (win0_6.index t 0 = t.val % 12 / 6 ∧ win0_6.index t 1 = t.val / 12) :=
  (by decide +kernel : ∀ t : Fin grid0.N, (win0_0.index t 0 = min (t.val % 12) 5 ∧ win0_0.index t 1 = t.val / 12)
    ∧ (win0_1.index t 0 = 0 ∧ win0_1.index t 1 = t.val / 12) ∧ (win0_2.index t 0 = t.val % 6 ∧ win0_2.index t 1 = t.val % 12 / 6)
    ∧ (win0_3.index t 0 = t.val % 6 ∧ win0_3.index t 1 = 0) ∧ (win0_4.index t 0 = min (t.val % 12) 5 ∧ win0_4.index t 1 = t.val / 12)
    ∧ (win0_5.index t 0 = 0 ∧ win0_5.index t 1 = t.val / 12) ∧ (win0_6.index t 0 = t.val % 12 / 6 ∧ win0_6.index t 1 = t.val / 12))

theorem iblk0_apply (t : Fin cfg0.N) (r : Fin 1024) (k : Fin 1024) (R : Fin 6144) (K : Fin 8192) (hR : R.val = min (t.val % 12) 5 * 1024 + r.val) (hK : K.val = t.val / 12 * 1024 + k.val) :
    (iblk m c 0 t : Vec F S1024x1024 .f32) (ix2 r k) = V m c main_v0 (ix2 R K) := by
  have hi := index_facts t
  unfold iblk
  rw [View.read_apply]
  show V m c main_v0 _ = _
  congr 1
  funext a
  apply Fin.ext
  match a with
  | ⟨0, _⟩ => show win0_0.index t 0 * 1024 + 1 * r.val = R.val; rw [hi.1.1]; omega
  | ⟨1, _⟩ => show win0_0.index t 1 * 1024 + 1 * k.val = K.val; rw [hi.1.2]; omega

theorem iblk1_apply (t : Fin cfg0.N) (r : Fin 8) (k : Fin 1024) (R : Fin 8) (K : Fin 8192) (hR : R.val = 0 * 8 + r.val) (hK : K.val = t.val / 12 * 1024 + k.val) :
    (iblk m c 1 t : Vec F S8x1024 .f32) (ix2 r k) = V m c main_arg1 (ix2 R K) := by
  have hi := index_facts t
  unfold iblk
  rw [View.read_apply]
  show V m c main_arg1 _ = _
  congr 1
  funext a
  apply Fin.ext
  match a with
  | ⟨0, _⟩ => show win0_1.index t 0 * 8 + 1 * r.val = R.val; rw [hi.2.1.1]; omega
  | ⟨1, _⟩ => show win0_1.index t 1 * 1024 + 1 * k.val = K.val; rw [hi.2.1.2]; omega

theorem iblk2_apply (t : Fin cfg0.N) (r : Fin 1024) (k : Fin 2560) (R : Fin 6144) (K : Fin 5120) (hR : R.val = t.val % 6 * 1024 + r.val) (hK : K.val = t.val % 12 / 6 * 2560 + k.val) :
    (iblk m c 2 t : Vec F S1024x2560 .fp8e4m3) (ix2 r k) = V m c main_v1 (ix2 R K) := by
  have hi := index_facts t
  unfold iblk
  rw [View.read_apply]
  show V m c main_v1 _ = _
  congr 1
  funext a
  apply Fin.ext
  match a with
  | ⟨0, _⟩ => show win0_2.index t 0 * 1024 + 1 * r.val = R.val; rw [hi.2.2.1.1]; omega
  | ⟨1, _⟩ => show win0_2.index t 1 * 2560 + 1 * k.val = K.val; rw [hi.2.2.1.2]; omega

theorem iblk3_apply (t : Fin cfg0.N) (r : Fin 1024) (k : Fin 128) (R : Fin 6144) (K : Fin 128) (hR : R.val = t.val % 6 * 1024 + r.val) (hK : K.val = 0 * 128 + k.val) :
    (iblk m c 3 t : Vec F S1024x128 .f32) (ix2 r k) = V m c main_v3 (ix2 R K) := by
  have hi := index_facts t
  unfold iblk
  rw [View.read_apply]
  show V m c main_v3 _ = _
  congr 1
  funext a
  apply Fin.ext
  match a with
  | ⟨0, _⟩ => show win0_3.index t 0 * 1024 + 1 * r.val = R.val; rw [hi.2.2.2.1.1]; omega
  | ⟨1, _⟩ => show win0_3.index t 1 * 128 + 1 * k.val = K.val; rw [hi.2.2.2.1.2]; omega

theorem iblk0_group (t t' : Fin cfg0.N) (h : t.val / 12 = t'.val / 12) (h' : min (t.val % 12) 5 = min (t'.val % 12) 5) :
    (iblk m c 0 t : Vec F S1024x1024 .f32) = (iblk m c 0 t' : Vec F S1024x1024 .f32) := by
  funext j
  have hN : cfg0.N = 96 := N_0
  have h1 := t.isLt
  have h2 : (j 0).val < 1024 := (j 0).isLt
  have h3 : (j 1).val < 1024 := (j 1).isLt
  have e : j = ix2 (j 0) (j 1) := eq_ix2 j
  have a1 := iblk0_apply c m t (j 0) (j 1) ⟨min (t.val % 12) 5 * 1024 + (j 0).val, by omega⟩ ⟨t.val / 12 * 1024 + (j 1).val, by omega⟩ rfl rfl
  have a2 := iblk0_apply c m t' (j 0) (j 1) ⟨min (t.val % 12) 5 * 1024 + (j 0).val, by omega⟩ ⟨t.val / 12 * 1024 + (j 1).val, by omega⟩
    (by show min (t.val % 12) 5 * 1024 + (j 0).val = min (t'.val % 12) 5 * 1024 + (j 0).val; rw [h']) (by show t.val / 12 * 1024 + (j 1).val = t'.val / 12 * 1024 + (j 1).val; rw [h])
  rw [e]
  exact a1.trans a2.symm

theorem iblk1_group (t t' : Fin cfg0.N) (h : t.val / 12 = t'.val / 12) :
    (iblk m c 1 t : Vec F S8x1024 .f32) = (iblk m c 1 t' : Vec F S8x1024 .f32) := by
  funext j
  have hN : cfg0.N = 96 := N_0
  have h1 := t.isLt
  have h2 : (j 0).val < 8 := (j 0).isLt
  have h3 : (j 1).val < 1024 := (j 1).isLt
  have e : j = ix2 (j 0) (j 1) := eq_ix2 j
  have a1 := iblk1_apply c m t (j 0) (j 1) ⟨(j 0).val, h2⟩ ⟨t.val / 12 * 1024 + (j 1).val, by omega⟩ (by show (j 0).val = 0 * 8 + (j 0).val; omega) rfl
  have a2 := iblk1_apply c m t' (j 0) (j 1) ⟨(j 0).val, h2⟩ ⟨t.val / 12 * 1024 + (j 1).val, by omega⟩ (by show (j 0).val = 0 * 8 + (j 0).val; omega)
    (by show t.val / 12 * 1024 + (j 1).val = t'.val / 12 * 1024 + (j 1).val; rw [h])
  rw [e]
  exact a1.trans a2.symm

/-! ## The proof data -/

/-- The codes of the block of `dp` a point is on. -/
def codesAt (t : Fin cfg0.N) : Vec F S1024x1024 .fp8e5m2 := codesOf (iblk m c 0 t) (iblk m c 1 t)

/-- The point of the same column block at which the codes a point multiplies by were made. -/
def srcOf (t : Fin cfg0.N) : Fin cfg0.N := ⟨12 * (t.val / 12) + t.val % 6, by have hN : cfg0.N = 96 := N_0; have := t.isLt; omega⟩

/-- Those codes, as the kernel loads them from scratch. -/
def slabAt (t : Fin cfg0.N) : Vec F S1x1024x1024 .fp8e5m2 := fun y => codesAt c m (srcOf t) (ix2 (y 1) (y 2))

/-- One step of the sum. -/
def stepAt (t : Fin cfg0.N) (a : Vec F S2560x1024 .f32) : Vec F S2560x1024 .f32 :=
  k0_pay6 (iblk m c 2 t) (laneOf (iblk m c 3 t)) a (slabAt c m t)

/-- The sum up to a point, from the first point of its six. -/
def accAt : (n : ℕ) → n < cfg0.N → Vec F S2560x1024 .f32
  | 0, h => stepAt c m ⟨0, h⟩ k0_pay5
  | n + 1, h => stepAt c m ⟨n + 1, h⟩ (if (n + 1) % 6 = 0 then k0_pay5 else accAt n (Nat.lt_of_succ_lt h))

theorem accAt_eq (t : Fin cfg0.N) (a : Vec F S2560x1024 .f32)
    (ha : ∀ h : ¬ t.val % 6 = 0, a = accAt c m (t.val - 1) (Nat.lt_of_le_of_lt (Nat.sub_le _ _) t.isLt)) :
    stepAt c m t (if t.val % 6 = 0 then k0_pay5 else a) = accAt c m t.val t.isLt := by
  obtain ⟨n, hn⟩ := t
  cases n with
  | zero => rfl
  | succ n =>
    unfold accAt
    by_cases h : (n + 1) % 6 = 0
    · simp only [if_pos h]
    · simp only [if_neg h]
      rw [ha h]
      rfl

/-- What the product's block holds after a point. -/
def dwAt (t : Fin cfg0.N) : Vec F S2560x1024 .f32 :=
  if t.val % 6 = 5 then k0_pay1 (k0_pay2 (iblk m c 1 t)) (accAt c m t.val t.isLt) else accAt c m t.val t.isLt

/-- The scratch buffer. -/
abbrev scr : Memref sig .tc .vmem S6x1024x1024 .fp8e5m2 := Memref.whole cc0_scratch0

/-- The scratch before point `n` holds the codes of every block of the column block made so far. -/
def ScrOk (n : ℕ) (d : Vec F S6x1024x1024 .fp8e5m2) : Prop :=
  ∀ t' : Fin cfg0.N, t'.val / 12 = n / 12 → t'.val % 12 < n % 12 → t'.val % 12 < 6 →
    ∀ y : S6x1024x1024.Idx, (y 0).val = t'.val % 12 → d y = codesAt c m t' (ix2 (y 1) (y 2))

theorem scr_step (t : Fin cfg0.N) (d : Vec F S6x1024x1024 .fp8e5m2) (hd : ScrOk c m t.val d) :
    ScrOk c m (t.val + 1) (scrOut (grid0.coords t) (iblk m c 0 t) (iblk m c 1 t) d) := by
  intro t' hq hlt h6 y hy
  have hk : (grid0.coords t 2).val = t.val % 6 := coord_eq t
  unfold scrOut
  by_cases h1 : t.val % 12 < 6
  · rw [if_pos ((cond_iff t).mpr h1)]
    unfold putSlab
    by_cases he : t'.val = t.val
    · obtain rfl : t' = t := Fin.ext he
      rw [if_pos (by rw [hk, hy]; omega)]
      rfl
    · rw [if_neg (by rw [hk, hy]; omega)]
      exact hd t' (by omega) (by omega) h6 y hy
  · rw [if_neg (fun h => h1 ((cond_iff t).mp h))]
    exact hd t' (by omega) (by omega) h6 y hy

theorem slab_eq (t : Fin cfg0.N) (d : Vec F S6x1024x1024 .fp8e5m2) (hd : ScrOk c m t.val d) :
    slabOf (grid0.coords t 2) (scrOut (grid0.coords t) (iblk m c 0 t) (iblk m c 1 t) d) = slabAt c m t := by
  have hk : (grid0.coords t 2).val = t.val % 6 := coord_eq t
  have hs : (srcOf t).val = 12 * (t.val / 12) + t.val % 6 := rfl
  funext y
  unfold slabOf slabAt scrOut
  by_cases h1 : t.val % 12 < 6
  · rw [if_pos ((cond_iff t).mpr h1), show srcOf t = t from Fin.ext (by rw [hs]; omega)]
    exact if_pos rfl
  · rw [if_neg (fun h => h1 ((cond_iff t).mp h))]
    exact hd (srcOf t) (by rw [hs]; omega) (by rw [hs]; omega) (by rw [hs]; omega) (ix3 (grid0.coords t 2) (y 1) (y 2)) (by
      show (grid0.coords t 2).val = _
      rw [hk, hs]; omega)

/-- What the body leaves in the product's block, from the block and the scratch it finds. -/
theorem dw_eq (t : Fin cfg0.N) (x6 : Vec F S2560x1024 .f32) (d : Vec F S6x1024x1024 .fp8e5m2) (hd : ScrOk c m t.val d)
    (hx : ∀ h : ¬ t.val % 6 = 0, x6 = accAt c m (t.val - 1) (Nat.lt_of_le_of_lt (Nat.sub_le _ _) t.isLt)) :
    dwOut (grid0.coords t) (iblk m c 1 t) (accOut (grid0.coords t) (iblk m c 2 t) (iblk m c 3 t) x6 (scrOut (grid0.coords t) (iblk m c 0 t) (iblk m c 1 t) d)) = dwAt c m t := by
  unfold dwOut accOut dwAt
  rw [slab_eq c m t d hd, coord_eq t]
  have ha := accAt_eq c m t x6 hx
  unfold stepAt at ha
  rw [ha]

/-- The scratch between the points. -/
def scratchAt (n : Fin (cfg0.N + 1)) : sProp 𝕄 := iprop(∃ d, owns (c : Thread nD τ) scr fullShare d ∗ ⌜ScrOk c m n.val d⌝)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt c m t
    | ⟨5, _⟩ => k0_pay2 (iblk m c 1 t)
    | ⟨6, _⟩ => dwAt c m t
  Φ n := iprop(scratchAt c m n ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesAt c m t := by dsimp only [dats]
theorem after0_5 (c : Dev nD) (t : Fin cfg0.N) : (dats m 0 c).after 5 t = k0_pay2 (iblk m c 1 t) := by dsimp only [dats]
theorem after0_6 (c : Dev nD) (t : Fin cfg0.N) : (dats m 0 c).after 6 t = dwAt c m t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The codes' and scales' windows are stored in the first half of a column block's points only. -/
theorem idle0_4 : ∀ t : Fin cfg0.N, cfg0.idle 4 (cfg0.grid.coords t) = decide (6 ≤ t.val % 12) :=
  (by decide +kernel : ∀ t : Fin grid0.N, (!(k0_cond1 (grid0.coords t) == 1#1)) = decide (6 ≤ t.val % 12))

theorem idle0_5 : ∀ t : Fin cfg0.N, cfg0.idle 5 (cfg0.grid.coords t) = decide (6 ≤ t.val % 12) :=
  (by decide +kernel : ∀ t : Fin grid0.N, (!(k0_cond1 (grid0.coords t) == 1#1)) = decide (6 ≤ t.val % 12))

/-- The codes' window is written back at the first five points of a column block and at its last. -/
theorem flush0_4 : ∀ t : Fin cfg0.N, (cfg0.win 4).flush t = true ↔ (t.val % 12 < 5 ∨ t.val % 12 = 11) :=
  (by decide +kernel : ∀ t : Fin grid0.N, win0_4.flush t = true ↔ (t.val % 12 < 5 ∨ t.val % 12 = 11))

theorem fresh0_4 (t : Fin cfg0.N) : cfg0.fresh 4 t.val = decide (t.val % 12 ≤ 5) := by
  refine cfg0.fresh_tab 4 (fun n => decide (n % 12 ≤ 5)) rfl (fun t => ?_) t.val (Nat.le_of_lt t.isLt)
  rw [idle0_4]
  have hf := flush0_4 t
  rw [Bool.eq_iff_iff, Bool.or_eq_true, Bool.and_eq_true, hf]
  simp only [decide_eq_true_eq]
  omega

theorem fresh0_5 (t : Fin cfg0.N) : cfg0.fresh 5 t.val = decide (t.val % 12 = 0) := by
  refine cfg0.fresh_tab 5 (fun n => decide (n % 12 = 0)) rfl (fun t => ?_) t.val (Nat.le_of_lt t.isLt)
  rw [idle0_5]
  have hf := flush0_5 t
  rw [Bool.eq_iff_iff, Bool.or_eq_true, Bool.and_eq_true, hf]
  simp only [decide_eq_true_eq]
  omega

theorem after0_4_group (c : Dev nD) (t : Fin cfg0.N) (h : ¬ t.val % 12 ≤ 5) :
    (dats m 0 c).after 4 t = (dats m 0 c).after 4 ⟨t.val - 1, by have := t.isLt; omega⟩ := by
  rw [after0_4, after0_4]
  unfold codesAt
  rw [iblk0_group c m t ⟨t.val - 1, by have := t.isLt; omega⟩ (by simp only; omega) (by simp only; omega), iblk1_group c m t ⟨t.val - 1, by have := t.isLt; omega⟩ (by simp only; omega)]

theorem after0_5_group (c : Dev nD) (t : Fin cfg0.N) (h : ¬ t.val % 12 = 0) :
    (dats m 0 c).after 5 t = (dats m 0 c).after 5 ⟨t.val - 1, by have := t.isLt; omega⟩ := by
  rw [after0_5, after0_5, iblk1_group c m t ⟨t.val - 1, by have := t.isLt; omega⟩ (by simp only; omega)]

/-- In the second half of a column block the codes' buffer holds what the first half's last point left; -/
theorem before0_4 (c : Dev nD) (t : Fin cfg0.N) (h : 6 ≤ t.val % 12) (d) :
    (dats m 0 c).before 4 t d = (dats m 0 c).after 4 t := by
  have h' : ¬ t.val % 12 ≤ 5 := by omega
  have e := (dats m 0 c).before_out_traj 4 rfl (fun _ _ => rfl) (fun t ht hi hfr => after0_4_group m c t (by rw [fresh0_4] at hfr; simpa using hfr)) t.val t rfl d
  rw [e, fresh0_4, if_neg (by simpa using h'), ← after0_4_group m c t h']

/-- and so does the scales'. -/
theorem before0_5 (c : Dev nD) (t : Fin cfg0.N) (h : 6 ≤ t.val % 12) (d) :
    (dats m 0 c).before 5 t d = (dats m 0 c).after 5 t := by
  have h' : ¬ t.val % 12 = 0 := by omega
  have e := (dats m 0 c).before_out_traj 5 rfl (fun _ _ => rfl) (fun t ht hi hfr => after0_5_group m c t (by rw [fresh0_5] at hfr; simpa using hfr)) t.val t rfl d
  rw [e, fresh0_5, if_neg (by simpa using h'), ← after0_5_group m c t h']

/-- Past the first point of a sum its buffer holds the sum so far. -/
theorem before0_6 (c : Dev nD) (t : Fin cfg0.N) (h : ¬ t.val % 6 = 0) (d) :
    (dats m 0 c).before 6 t d = accAt c m (t.val - 1) (Nat.lt_of_le_of_lt (Nat.sub_le _ _) t.isLt) := by
  have e := (dats m 0 c).before_out_kept 6 rfl t (by omega) (Bool.eq_false_iff.mpr fun hf => by
    have := (flush0_6 ⟨t.val - 1, Nat.lt_of_le_of_lt (Nat.sub_le _ _) t.isLt⟩).mp hf
    simp only at this
    omega) (fun _ => rfl) (fun _ _ => rfl) d
  rw [e, after0_6]
  exact if_neg (by simp only; omega)

/-! ## The body at every point -/

abbrev ms0_0 (t : Fin cfg0.N) : Memref sig .tc .vmem S1024x1024 .f32 := win0_0.stage (cfg0.slots t 0)
abbrev ms0_1 (t : Fin cfg0.N) : Memref sig .tc .vmem S8x1024 .f32 := win0_1.stage (cfg0.slots t 1)
abbrev ms0_2 (t : Fin cfg0.N) : Memref sig .tc .vmem S1024x2560 .fp8e4m3 := win0_2.stage (cfg0.slots t 2)
abbrev ms0_3 (t : Fin cfg0.N) : Memref sig .tc .vmem S1024x128 .f32 := win0_3.stage (cfg0.slots t 3)
abbrev ms0_4 (t : Fin cfg0.N) : Memref sig .tc .vmem S1024x1024 .fp8e5m2 := win0_4.stage (cfg0.slots t 4)
abbrev ms0_5 (t : Fin cfg0.N) : Memref sig .tc .vmem S1x1024 .f32 := win0_5.stage (cfg0.slots t 5)
abbrev ms0_6 (t : Fin cfg0.N) : Memref sig .tc .vmem S2560x1024 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = iprop((∃ d, owns (c : Thread nD τ) scr fullShare d ∗ ⌜ScrOk c m t.val d⌝) ∗ ∃ r, prngReg c r) from rfl,
    show (dats m 0 c).Φ t.succ = iprop((∃ d, owns (c : Thread nD τ) scr fullShare d ∗ ⌜ScrOk c m (t.val + 1) d⌝) ∗ ∃ r, prngReg c r) from rfl]
  simp only [before0_0, before0_1, before0_2, before0_3]
  rw [after0_0, after0_1, after0_2, after0_3, after0_6]
  iintro ⟨⟨⟨%x10, Hs, %hd⟩, Hr⟩, Ho, ⟨%d0, H0⟩, ⟨%d1, H1⟩, ⟨%d2, H2⟩, ⟨%d3, H3⟩, ⟨%d4, H4⟩, ⟨%d5, H5⟩, ⟨%d6, H6⟩⟩
  have hdw := dw_eq c m t ((dats m 0 c).before 6 t d6) x10 hd (fun h => before0_6 m c t h d6)
  have h4 : (if k0_cond1 (grid0.coords t) = 1#1 then codesOf (iblk m c 0 t) (iblk m c 1 t) else (dats m 0 c).before 4 t d4) = (dats m 0 c).after 4 t := by
    by_cases h : t.val % 12 < 6
    · rw [if_pos ((cond_iff t).mpr h), after0_4]; rfl
    · rw [if_neg (fun hc => h ((cond_iff t).mp hc))]
      exact before0_4 m c t (by omega) d4
  have h5 : (if k0_cond1 (grid0.coords t) = 1#1 then k0_pay2 (iblk m c 1 t) else (dats m 0 c).before 5 t d5) = (dats m 0 c).after 5 t := by
    by_cases h : t.val % 12 < 6
    · rw [if_pos ((cond_iff t).mpr h), after0_5]
    · rw [if_neg (fun hc => h ((cond_iff t).mp hc))]
      exact before0_5 m c t (by omega) d5
  iapply (body_any c (grid0.coords t) _ _ _ _ _ _ _ _ _ _ _ _ _ _ _ _ (iblk m c 0 t) (iblk m c 1 t) (iblk m c 2 t) (iblk m c 3 t) ((dats m 0 c).before 4 t d4) ((dats m 0 c).before 5 t d5) ((dats m 0 c).before 6 t d6) x10 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  rw [hdw, h4, h5]
  iintro ⟨H0, H1, H2, H3, H4, H5, H6, Hs⟩
  isplitl [Hs Hr]
  · isplitl [Hs]
    · iexists _
      isplitl [Hs]; · iexact Hs
      ipureintro; exact scr_step c m t x10 hd
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- What the body leaves in the codes' buffer, as the obligation spells it, -/
theorem hand4 (c : Dev nD) (t : Fin cfg0.N) :
    (owns (c : Thread nD τ) (ms0_4 t) fullShare ((dats m 0 c).after 4 t) : sProp 𝕄) ⊢
      (match cfg0.idle 4 (cfg0.grid.coords t) with
      | true =>
        match (cfg0.win 4).flush t with
        | false => iprop(∃ d, owns (c : Thread nD τ) ((cfg0.win 4).stage (cfg0.slots t 4)) fullShare ((dats m 0 c).before 4 t d))
        | true => owns (c : Thread nD τ) ((cfg0.win 4).stage (cfg0.slots t 4)) fullShare ((dats m 0 c).after 4 t)
      | false => owns (c : Thread nD τ) ((cfg0.win 4).stage (cfg0.slots t 4)) fullShare ((dats m 0 c).after 4 t)) := by
  have hi := idle0_4 t
  by_cases h : 6 ≤ t.val % 12
  · rw [hi, decide_eq_true h]
    cases (cfg0.win 4).flush t
    · iintro H
      iexists (dats m 0 c).after 4 t
      rw [before0_4 m c t h]
      iexact H
    · exact .rfl
  · rw [hi, decide_eq_false h]

/-- and in the scales'. -/
theorem hand5 (c : Dev nD) (t : Fin cfg0.N) :
    (owns (c : Thread nD τ) (ms0_5 t) fullShare ((dats m 0 c).after 5 t) : sProp 𝕄) ⊢
      (match cfg0.idle 5 (cfg0.grid.coords t) with
      | true =>
        match (cfg0.win 5).flush t with
        | false => iprop(∃ d, owns (c : Thread nD τ) ((cfg0.win 5).stage (cfg0.slots t 5)) fullShare ((dats m 0 c).before 5 t d))
        | true => owns (c : Thread nD τ) ((cfg0.win 5).stage (cfg0.slots t 5)) fullShare ((dats m 0 c).after 5 t)
      | false => owns (c : Thread nD τ) ((cfg0.win 5).stage (cfg0.slots t 5)) fullShare ((dats m 0 c).after 5 t)) := by
  have hi := idle0_5 t
  by_cases h : 6 ≤ t.val % 12
  · rw [hi, decide_eq_true h]
    cases (cfg0.win 5).flush t
    · iintro H
      iexists (dats m 0 c).after 5 t
      rw [before0_5 m c t h]
      iexact H
    · exact .rfl
  · rw [hi, decide_eq_false h]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (hand4 m c t); iexact H4
  isplitl [H5]; · iapply (hand5 m c t); iexact H5
  iexact H6

/-! ## The run and the frame -/

/-- The scratch at anything, as the launch spells it and as the body does. -/
theorem phi_in (c : Dev nD) : (Pipeline.ΦA spec0 c : sProp 𝕄) ⊢ (dats m 0 c).Φ 0 := by
  rw [show (dats m 0 c).Φ 0 = iprop((∃ d, owns (c : Thread nD τ) scr fullShare d ∗ ⌜ScrOk c m 0 d⌝) ∗ ∃ r, prngReg c r) from rfl]
  unfold Pipeline.ΦA
  rw [scopedRest0_eq]
  unfold owns
  iintro ⟨⟨%f, H⟩, Hr⟩
  isplitl [H]
  · iexists _
    isplitl [H]
    · iexists f
      isplitr
      · ipureintro; rfl
      rw [View.set_whole]
      iexact H
    ipureintro
    intro t' _ hlt
    exact absurd hlt (Nat.not_lt_zero _)
  iexact Hr

theorem phi_out (c : Dev nD) : (dats m 0 c).Φ (Fin.last cfg0.N) ⊢ (Pipeline.ΦA spec0 c : sProp 𝕄) := by
  rw [show (dats m 0 c).Φ (Fin.last cfg0.N) = iprop((∃ d, owns (c : Thread nD τ) scr fullShare d ∗ ⌜ScrOk c m cfg0.N d⌝) ∗ ∃ r, prngReg c r) from rfl]
  unfold Pipeline.ΦA
  rw [scopedRest0_eq]
  unfold owns
  iintro ⟨⟨%d, ⟨%f, -, H⟩, -⟩, Hr⟩
  isplitl [H]
  · iexists f
    rw [View.set_whole]
    iexact H
  iexact Hr

set_option backward.isDefEq.respectTransparency.types false in
/-- The launch: what the run leaves, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Dwqkv.Run

end
-- ==== Proof.DwqkvRun.lean ====
module

public import proofs.«01_k».proof.Proof.Gen.DwqkvIdeal.Frame
public import proofs.«01_k».proof.Proof.Gen.DwqkvIdeal.Loops
public import Idealize.ShloMosaic.Lib.Pipeline.FrameBody
public import Idealize.ShloMosaic.Lib.Pipeline.Value
public import Idealize.ShloMosaic.Lib.Pipeline.TableIdle
public import Idealize.ShloMosaic.Lib.Pipeline.ValueKit.Tiles
public import Idealize.ShloMosaic.Lib.Tactic
public import Idealize.ShloMosaic.Lib.Pointwise
public import Idealize.ShloMosaic.Lib.VecWindow
public import Idealize.ShloMosaic.Lib.Claim

@[expose] public section

set_option maxRecDepth 16384

noncomputable section

namespace Cert.DwqkvIdeal.Run

open Cert.DwqkvIdeal Cert.DwqkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one block's quantisation leaves -/

/-- Rows `128 k .. 128 k + 127` of a block of `dp`. -/
def rowsOf (x0 : Vec F S1024x1024 .f32) (k : Fin 8) : Vec F S128x1024 .f32 :=
  fun z => x0 (ix2 ⟨128 * k.val + (z 0).val, by have : (z 0).val < 128 := (z 0).isLt; omega⟩ (z 1))

/-- The first lane of a block of row scales. -/
def laneOf (x3 : Vec F S1024x128 .f32) : Vec F S1024x1 .f32 := fun z => x3 (ix2 (z 0) ⟨0, by decide⟩)

/-- Which tile of 128 rows a row lies in. -/
def tileOf (y : S1024x1024.Idx) : Fin 8 := ⟨(y 0).val / 128, by have : (y 0).val < 1024 := (y 0).isLt; omega⟩

/-- Where in its tile it lies. -/
def inTile (y : S1024x1024.Idx) : S128x1024.Idx := ix2 ⟨(y 0).val % 128, by omega⟩ (y 1)

/-- The codes of a whole block. -/
def codesOf (x0 : Vec F S1024x1024 .f32) (x1 : Vec F S8x1024 .f32) : Vec F S1024x1024 .fp8e5m2 :=
  fun y => k0_pay3 x1 (rowsOf x0 (tileOf y)) (inTile y)

/-- A scratch with slab `s` replaced. -/
def putSlab (s : Fin 6) (C : Vec F S1024x1024 .fp8e5m2) (d : Vec F S6x1024x1024 .fp8e5m2) : Vec F S6x1024x1024 .fp8e5m2 :=
  fun y => if (y 0).val = s.val then C (ix2 (y 1) (y 2)) else d y

/-- Slab `s` of a scratch, as the kernel loads it. -/
def slabOf (s : Fin 6) (d : Vec F S6x1024x1024 .fp8e5m2) : Vec F S1x1024x1024 .fp8e5m2 :=
  fun y => d (ix3 s (y 1) (y 2))

theorem hz : (![0, 0] : Fin 2 → Nat) = fun _ => 0 := funext fun a => by fin_cases a <;> rfl

theorem off1_eq : ∀ k : Fin k0_t1_loop.trips, k0_off1 k 0 = 128 * k.val ∧ k0_off1 k 1 = 0 := by
  decide +kernel

theorem trips_eq : k0_t1_loop.trips = 8 := by decide +kernel

theorem word_val : ∀ a : Fin 6, (BitVec.ofNat 32 a.val).toNat = a.val := by decide +kernel

theorem off2_eq (i : grid0.Coords) (k : Fin k0_t1_loop.trips) : k0_off2 i k 0 = (i 2).val ∧ k0_off2 i k 1 = 128 * k.val ∧ k0_off2 i k 2 = 0 :=
  ⟨(by decide +kernel : ∀ a : Fin 6, (Scalar.indexCast (BitVec.ofNat 32 a.val) : BitVec 32).toNat = a.val) (i 2), (off1_eq k).1, rfl⟩

theorem off3_eq (i : grid0.Coords) : k0_off3 i 0 = (i 2).val ∧ k0_off3 i 1 = 0 ∧ k0_off3 i 2 = 0 :=
  ⟨(by decide +kernel : ∀ a : Fin 6, (Scalar.indexCast (BitVec.ofNat 32 a.val) : BitVec 32).toNat = a.val) (i 2), rfl, rfl⟩

/-- The kernel's three conditions: the first half of the product's rows, its first block of the sum, its last. -/
theorem cond_iff : ∀ t : Fin grid0.N, k0_cond1 (grid0.coords t) = 1#1 ↔ t.val % 12 < 6 := by decide +kernel

theorem first_iff (i : grid0.Coords) : Scalar.cmpi .ne (Scalar.extui (Scalar.cmpi .eq (BitVec.ofNat 32 (i 2).val) 0#32) : BitVec 32) 0#32 = 1#1 ↔ (i 2).val = 0 :=
  (by decide +kernel : ∀ a : Fin 6, Scalar.cmpi .ne (Scalar.extui (Scalar.cmpi .eq (BitVec.ofNat 32 a.val) 0#32) : BitVec 32) 0#32 = 1#1 ↔ a.val = 0) (i 2)

theorem last_iff (i : grid0.Coords) : Scalar.cmpi .ne (Scalar.extui (Scalar.cmpi .eq (BitVec.ofNat 32 (i 2).val) 5#32) : BitVec 32) 0#32 = 1#1 ↔ (i 2).val = 5 :=
  (by decide +kernel : ∀ a : Fin 6, Scalar.cmpi .ne (Scalar.extui (Scalar.cmpi .eq (BitVec.ofNat 32 a.val) 5#32) : BitVec 32) 0#32 = 1#1 ↔ a.val = 5) (i 2)

theorem coord_eq : ∀ t : Fin grid0.N, (grid0.coords t 2).val = t.val % 6 := by decide +kernel

variable (c : Dev nD) (i : grid0.Coords) (arg3 : Memref sig .tc .vmem S1024x1024 .f32) (harg3 : arg3.IsWhole) (arg4 : Memref sig .tc .vmem S8x1024 .f32) (harg4 : arg4.IsWhole) (arg5 : Memref sig .tc .vmem S1024x2560 .fp8e4m3) (harg5 : arg5.IsWhole) (arg6 : Memref sig .tc .vmem S1024x128 .f32) (harg6 : arg6.IsWhole) (arg7 : Memref sig .tc .vmem S1024x1024 .fp8e5m2) (harg7 : arg7.IsWhole) (arg8 : Memref sig .tc .vmem S1x1024 .f32) (harg8 : arg8.IsWhole) (arg9 : Memref sig .tc .vmem S2560x1024 .f32) (harg9 : arg9.IsWhole) (arg10 : Memref sig .tc .vmem S6x1024x1024 .fp8e5m2) (harg10 : arg10.IsWhole)
variable (x0 : Vec F S1024x1024 .f32) (x1 : Vec F S8x1024 .f32) (x2 : Vec F S1024x2560 .fp8e4m3) (x3 : Vec F S1024x128 .f32)

/-- A rectangle of 128 rows at tile `k` holds the places whose row lies in the tile, each at its own place. -/
theorem tile_emb (k : Fin k0_t1_loop.trips) (inb : ∀ a, k0_off1 k a + S128x1024.size a ≤ S1024x1024.size a)
    (x : (Rect.unit (s := S1024x1024) (k0_off1 k) S128x1024.size inb).shape.Idx) :
    tileOf ((Rect.unit (s := S1024x1024) (k0_off1 k) S128x1024.size inb).emb x) = ⟨k.val, trips_eq ▸ k.isLt⟩
      ∧ inTile ((Rect.unit (s := S1024x1024) (k0_off1 k) S128x1024.size inb).emb x) = x := by
  obtain ⟨h0, h1⟩ := off1_eq k
  have hx0 : (x 0).val < 128 := (x 0).isLt
  have e0 : (((Rect.unit (s := S1024x1024) (k0_off1 k) S128x1024.size inb).emb x) 0).val = 128 * k.val + (x 0).val := by
    show k0_off1 k 0 + 1 * (x 0).val = _; omega
  have e1 : (((Rect.unit (s := S1024x1024) (k0_off1 k) S128x1024.size inb).emb x) 1).val = (x 1).val := by
    show k0_off1 k 1 + 1 * (x 1).val = _; omega
  constructor
  · apply Fin.ext
    show _ / 128 = k.val
    rw [e0]; omega
  · funext a
    match a with
    | ⟨0, _⟩ => apply Fin.ext; show _ % 128 = (x 0).val; rw [e0]; omega
    | ⟨1, _⟩ => exact Fin.ext e1

/-- A list of stores that has filled the rows below `128 n` with the places of one function. -/
def Filled (G : S1024x1024.Idx → Elt F .fp8e5m2) (n : ℕ) (L : List (View.Piece (Elt F) S1024x1024 .fp8e5m2)) : Prop :=
  (∀ p ∈ L, ∀ x, p.2 x = G (p.1.emb x)) ∧ ∀ y : S1024x1024.Idx, (y 0).val < 128 * n → ∃ p ∈ L, y ∈ p.1.set

theorem Filled.nil (G : S1024x1024.Idx → Elt F .fp8e5m2) : Filled G 0 [] := by
  constructor
  · intro p hp; cases hp
  · intro y hy; omega

theorem Filled.cons {G : S1024x1024.Idx → Elt F .fp8e5m2} (k : Fin k0_t1_loop.trips) {L : List (View.Piece (Elt F) S1024x1024 .fp8e5m2)}
    (h : Filled G k.val L) (inb : ∀ a, k0_off1 k a + S128x1024.size a ≤ S1024x1024.size a) (w : S128x1024.Idx → Elt F .fp8e5m2)
    (hw : ∀ x, w x = G ((Rect.unit (s := S1024x1024) (k0_off1 k) S128x1024.size inb).emb x)) :
    Filled G (k.val + 1) ([⟨Rect.unit (s := S1024x1024) (k0_off1 k) S128x1024.size inb, w⟩] ++ L) := by
  obtain ⟨o0, o1⟩ := off1_eq k
  refine ⟨fun p hp => ?_, fun y hy => ?_⟩
  · rcases List.mem_cons.mp hp with rfl | hp
    · exact hw
    · exact h.1 p hp
  · by_cases hk : (y 0).val < 128 * k.val
    · obtain ⟨p, hp, hy'⟩ := h.2 y hk
      exact ⟨p, List.mem_cons_of_mem _ hp, hy'⟩
    · refine ⟨⟨Rect.unit (s := S1024x1024) (k0_off1 k) S128x1024.size inb, w⟩, List.mem_cons_self, (Rect.mem_set_unit (inb := inb)).mpr fun a => ?_⟩
      match a with
      | ⟨0, _⟩ => show k0_off1 k 0 ≤ (y 0).val ∧ (y 0).val < k0_off1 k 0 + 128; omega
      | ⟨1, _⟩ => have : (y 1).val < 1024 := (y 1).isLt; show k0_off1 k 1 ≤ (y 1).val ∧ (y 1).val < k0_off1 k 1 + 1024; omega

/-- The same inside the slab the point is on: nothing outside the slab is stored to. -/
def FilledSlab (G : S1024x1024.Idx → Elt F .fp8e5m2) (n : ℕ) (L : List (View.Piece (Elt F) S6x1024x1024 .fp8e5m2)) : Prop :=
  (∀ p ∈ L, ∀ x, p.2 x = G (ix2 (p.1.emb x 1) (p.1.emb x 2))) ∧ (∀ p ∈ L, ∀ y : S6x1024x1024.Idx, y ∈ p.1.set → (y 0).val = (i 2).val)
    ∧ ∀ y : S6x1024x1024.Idx, (y 0).val = (i 2).val → (y 1).val < 128 * n → ∃ p ∈ L, y ∈ p.1.set

theorem FilledSlab.nil (G : S1024x1024.Idx → Elt F .fp8e5m2) : FilledSlab i G 0 [] := by
  refine ⟨?_, ?_, ?_⟩
  · intro p hp; cases hp
  · intro p hp; cases hp
  · intro y _ hy; omega

theorem FilledSlab.cons {G : S1024x1024.Idx → Elt F .fp8e5m2} (k : Fin k0_t1_loop.trips) {L : List (View.Piece (Elt F) S6x1024x1024 .fp8e5m2)}
    (h : FilledSlab i G k.val L) (inb : ∀ a, k0_off2 i k a + S1x128x1024.size a ≤ S6x1024x1024.size a) (w : S1x128x1024.Idx → Elt F .fp8e5m2)
    (hw : ∀ x, w x = G (ix2 ((Rect.unit (s := S6x1024x1024) (k0_off2 i k) S1x128x1024.size inb).emb x 1) ((Rect.unit (s := S6x1024x1024) (k0_off2 i k) S1x128x1024.size inb).emb x 2))) :
    FilledSlab i G (k.val + 1) ([⟨Rect.unit (s := S6x1024x1024) (k0_off2 i k) S1x128x1024.size inb, w⟩] ++ L) := by
  obtain ⟨o0, o1, o2⟩ := off2_eq i k
  refine ⟨fun p hp => ?_, fun p hp y hy => ?_, fun y h0 hy => ?_⟩
  · rcases List.mem_cons.mp hp with rfl | hp
    · exact hw
    · exact h.1 p hp
  · rcases List.mem_cons.mp hp with rfl | hp
    · have hm : k0_off2 i k 0 ≤ (y 0).val ∧ (y 0).val < k0_off2 i k 0 + 1 := (Rect.mem_set_unit (inb := inb)).mp hy 0
      omega
    · exact h.2.1 p hp y hy
  · by_cases hk : (y 1).val < 128 * k.val
    · obtain ⟨p, hp, hy'⟩ := h.2.2 y h0 hk
      exact ⟨p, List.mem_cons_of_mem _ hp, hy'⟩
    · refine ⟨⟨Rect.unit (s := S6x1024x1024) (k0_off2 i k) S1x128x1024.size inb, w⟩, List.mem_cons_self, (Rect.mem_set_unit (inb := inb)).mpr fun a => ?_⟩
      match a with
      | ⟨0, _⟩ => show k0_off2 i k 0 ≤ (y 0).val ∧ (y 0).val < k0_off2 i k 0 + 1; omega
      | ⟨1, _⟩ => show k0_off2 i k 1 ≤ (y 1).val ∧ (y 1).val < k0_off2 i k 1 + 128; omega
      | ⟨2, _⟩ => have : (y 2).val < 1024 := (y 2).isLt; show k0_off2 i k 2 ≤ (y 2).val ∧ (y 2).val < k0_off2 i k 2 + 1024; omega

/-- A load of the rows of tile `k`. -/
theorem ld_rows (k : Fin k0_t1_loop.trips) (inb : ∀ a, k0_off1 k a + S128x1024.size a ≤ S1024x1024.size a) :
    View.ld (Val := Elt F) (e' := .f32) x0 (Rect.unit (s := S1024x1024) (k0_off1 k) S128x1024.size inb) = rowsOf x0 ⟨k.val, trips_eq ▸ k.isLt⟩ := by
  obtain ⟨o0, o1⟩ := off1_eq k
  funext z
  refine View.ld_unit_apply_of _ _ _ _ z _ fun a => ?_
  match a with
  | ⟨0, _⟩ => show 128 * k.val + (z 0).val = k0_off1 k 0 + (z 0).val; omega
  | ⟨1, _⟩ => show (z 1).val = k0_off1 k 1 + (z 1).val; omega

/-- The payload kept in scratch is the codes with a leading unit axis. -/
theorem pay4_apply (v40 : Vec F S128x1024 .f32) (x : S1x128x1024.Idx) : k0_pay4 x1 v40 x = k0_pay3 x1 v40 (ix2 (x 1) (x 2)) := by
  have hx : x = ix3 ⟨0, by decide⟩ (x 1) (x 2) := by
    funext a
    match a with
    | ⟨0, _⟩ => apply Fin.ext; have : (x 0).val < 1 := (x 0).isLt; show (x 0).val = 0; omega
    | ⟨1, _⟩ => rfl
    | ⟨2, _⟩ => rfl
  refine Eq.trans (congrArg (k0_pay4 x1 v40) hx) ?_
  generalize x 1 = a
  generalize x 2 = b
  unfold k0_pay4
  pointwise!

theorem filled (h1 : k0_cond1 i = 1#1) : ∀ n ≤ 8,
    Filled (codesOf x0 x1) n (pb_k0_t1 (F := F) Variants.none c none i arg3 harg3 arg4 harg4 arg5 harg5 arg6 harg6 arg7 harg7 arg8 harg8 arg9 harg9 arg10 harg10 x1 h1 (harg3.unread x0) n).1
    ∧ FilledSlab i (codesOf x0 x1) n (pb_k0_t1 (F := F) Variants.none c none i arg3 harg3 arg4 harg4 arg5 harg5 arg6 harg6 arg7 harg7 arg8 harg8 arg9 harg9 arg10 harg10 x1 h1 (harg3.unread x0) n).2
  | 0, _ => ⟨Filled.nil _, FilledSlab.nil i _⟩
  | n + 1, hn => by
    obtain ⟨iha, ihb⟩ := filled h1 n (by omega)
    have hk : n < k0_t1_loop.trips := trips_eq ▸ hn
    have hs := pb_k0_t1_succ (F := F) Variants.none c none i arg3 harg3 arg4 harg4 arg5 harg5 arg6 harg6 arg7 harg7 arg8 harg8 arg9 harg9 arg10 harg10 x1 h1 (harg3.unread x0) ⟨n, hk⟩
    simp only at hs
    rw [hs]
    unfold trip_k0_t1
    simp only [View.readAt_eq_ld, harg3.read_unread]
    refine ⟨Filled.cons ⟨n, hk⟩ iha _ _ fun x => ?_, FilledSlab.cons i ⟨n, hk⟩ ihb _ _ fun x => ?_⟩
    · unfold codesOf
      rw [(tile_emb ⟨n, hk⟩ _ x).1, (tile_emb ⟨n, hk⟩ _ x).2, ← ld_rows x0 ⟨n, hk⟩ (k0_off1_inb i ⟨n, hk⟩ h1)]
      try rfl
    · obtain ⟨o0, o1, o2⟩ := off2_eq i ⟨n, hk⟩
      obtain ⟨p0, p1⟩ := off1_eq ⟨n, hk⟩
      have e : ix2 ((Rect.unit (s := S6x1024x1024) (k0_off2 i ⟨n, hk⟩) S1x128x1024.size (k0_off2_inb i ⟨n, hk⟩ h1)).emb x 1) ((Rect.unit (s := S6x1024x1024) (k0_off2 i ⟨n, hk⟩) S1x128x1024.size (k0_off2_inb i ⟨n, hk⟩ h1)).emb x 2)
          = (Rect.unit (s := S1024x1024) (k0_off1 ⟨n, hk⟩) S128x1024.size (k0_off1_inb i ⟨n, hk⟩ h1)).emb (ix2 (x 1) (x 2)) := by
        funext a
        apply Fin.ext
        match a with
        | ⟨0, _⟩ => show k0_off2 i ⟨n, hk⟩ 1 + 1 * (x 1).val = k0_off1 ⟨n, hk⟩ 0 + 1 * (x 1).val; rw [o1, p0]
        | ⟨1, _⟩ => show k0_off2 i ⟨n, hk⟩ 2 + 1 * (x 2).val = k0_off1 ⟨n, hk⟩ 1 + 1 * (x 2).val; rw [o2, p1]
      refine (pay4_apply x1 _ x).trans (Eq.trans ?_ (congrArg (codesOf x0 x1) e.symm))
      unfold codesOf
      rw [(tile_emb ⟨n, hk⟩ _ _).1, (tile_emb ⟨n, hk⟩ _ _).2, ← ld_rows x0 ⟨n, hk⟩ (k0_off1_inb i ⟨n, hk⟩ h1)]
      try rfl

/-- The whole block, once every trip has run. -/
theorem read_filled {sp : Space} (M : Memref sig .tc sp S1024x1024 .fp8e5m2) (f : BufTy.Contents (Elt F) M.view.ty)
    {G : S1024x1024.Idx → Elt F .fp8e5m2} {L : List (View.Piece (Elt F) S1024x1024 .fp8e5m2)} (h : Filled G 8 L) :
    M.view.read (Elt F) (M.view.writes (Elt F) f L) = G :=
  funext fun y => View.read_writes_apply_of_pieces _ _ G L h.1 y (h.2 y (by have : (y 0).val < 1024 := (y 0).isLt; omega))

/-- The scratch, once every trip has run: the slab replaced and the rest as it was. -/
theorem read_slab {sp : Space} (M : Memref sig .tc sp S6x1024x1024 .fp8e5m2) (f : BufTy.Contents (Elt F) M.view.ty)
    {G : S1024x1024.Idx → Elt F .fp8e5m2} {L : List (View.Piece (Elt F) S6x1024x1024 .fp8e5m2)} (h : FilledSlab i G 8 L) :
    M.view.read (Elt F) (M.view.writes (Elt F) f L) = putSlab (i 2) G (M.view.read (Elt F) f) := by
  funext y
  unfold putSlab
  by_cases hy : (y 0).val = (i 2).val
  · rw [if_pos hy]
    exact View.read_writes_apply_of_pieces _ _ (fun y => G (ix2 (y 1) (y 2))) L h.1 y (h.2.2 y hy (by have : (y 1).val < 1024 := (y 1).isLt; omega))
  · rw [if_neg hy]
    exact View.read_writes_apply_of_forall_not_mem _ _ y L fun p hp hm => hy (h.2.1 p hp y hm)

/-- A single store of the whole block leaves its payload. -/
theorem read_whole {S : Shape} {e : EltTy} {sp : Space} (M : Memref sig .tc sp S e) (f : BufTy.Contents (Elt F) M.view.ty)
    {off : Fin S.rank → ℕ} (hoff : off = fun _ => 0) (inb : ∀ a, off a + S.size a ≤ S.size a) (w : S.Idx → Elt F e)
    (L : List (View.Piece (Elt F) S e)) :
    M.view.read (Elt F) (M.view.writes (Elt F) f (⟨Rect.unit off S.size inb, w⟩ :: L)) = w := by
  subst hoff
  funext y
  exact View.read_writes_cons_hit_of_coords _ _ (Rect.unit (fun _ => 0) S.size inb) w L y y fun a => by
    show (y a).val = 0 + 1 * (y a).val; omega

/-- A load of a whole block. -/
theorem readAt_whole {S : Shape} {e : EltTy} {sp : Space} (M : Memref sig .tc sp S e) {off : Fin S.rank → ℕ} (hoff : off = fun _ => 0)
    (inb : ∀ a, off a + S.size a ≤ S.size a) (f : BufTy.Contents (Elt F) M.view.ty) :
    View.readAt (Elt F) M.view (Rect.unit off S.size inb).toLoadRect f = M.view.read (Elt F) f :=
  View.ld_unit_zero hoff inb _

/-- A load of the first lane. -/
theorem readAt_lane {sp : Space} (M : Memref sig .tc sp S1024x128 .f32) (inb : ∀ a, (![0, 0] : Fin 2 → ℕ) a + S1024x1.size a ≤ S1024x128.size a)
    (f : BufTy.Contents (Elt F) M.view.ty) :
    View.readAt (Elt F) M.view (Rect.unit (s := S1024x128) ![0, 0] S1024x1.size inb).toLoadRect f = laneOf (M.view.read (Elt F) f) := by
  rw [View.readAt_eq_ld]
  funext z
  refine View.ld_unit_apply_of _ _ _ _ z _ fun a => ?_
  match a with
  | ⟨0, _⟩ => show (z 0).val = 0 + (z 0).val; omega
  | ⟨1, _⟩ => have : (z 1).val < 1 := (z 1).isLt; show 0 = 0 + (z 1).val; omega

/-- A load of the slab the point is on. -/
theorem readAt_slab {sp : Space} (M : Memref sig .tc sp S6x1024x1024 .fp8e5m2) (inb : ∀ a, k0_off3 i a + S1x1024x1024.size a ≤ S6x1024x1024.size a)
    (f : BufTy.Contents (Elt F) M.view.ty) :
    View.readAt (Elt F) M.view (Rect.unit (s := S6x1024x1024) (k0_off3 i) S1x1024x1024.size inb).toLoadRect f = slabOf (i 2) (M.view.read (Elt F) f) := by
  obtain ⟨o0, o1, o2⟩ := off3_eq i
  rw [View.readAt_eq_ld]
  funext z
  refine View.ld_unit_apply_of _ _ _ _ z _ fun a => ?_
  match a with
  | ⟨0, _⟩ => have : (z 0).val < 1 := (z 0).isLt; show (i 2).val = k0_off3 i 0 + (z 0).val; omega
  | ⟨1, _⟩ => show (z 1).val = k0_off3 i 1 + (z 1).val; omega
  | ⟨2, _⟩ => show (z 2).val = k0_off3 i 2 + (z 2).val; omega

/-- The scratch after a point. -/
def scrOut (x10 : Vec F S6x1024x1024 .fp8e5m2) : Vec F S6x1024x1024 .fp8e5m2 :=
  if k0_cond1 i = 1#1 then putSlab (i 2) (codesOf x0 x1) x10 else x10

/-- The running sum after a point, from the sum before it and the scratch after it. -/
def accOut (x6 : Vec F S2560x1024 .f32) (d : Vec F S6x1024x1024 .fp8e5m2) : Vec F S2560x1024 .f32 :=
  k0_pay6 x2 (laneOf x3) (if (i 2).val = 0 then k0_pay5 else x6) (slabOf (i 2) d)

/-- What the product's block holds after a point: the sum, scaled at the last one. -/
def dwOut (a : Vec F S2560x1024 .f32) : Vec F S2560x1024 .f32 :=
  if (i 2).val = 5 then k0_pay1 (k0_pay2 x1) a else a

/-- The body at any point. -/
theorem body_any (x4 : Vec F S1024x1024 .fp8e5m2) (x5 : Vec F S1x1024 .f32) (x6 : Vec F S2560x1024 .f32) (x10 : Vec F S6x1024x1024 .fp8e5m2) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare x5 ∗ owns (c : Thread nD τ) arg9 fullShare x6 ∗ owns (c : Thread nD τ) arg10 fullShare x10
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if k0_cond1 i = 1#1 then codesOf x0 x1 else x4) ∗ owns (c : Thread nD τ) arg8 fullShare (if k0_cond1 i = 1#1 then k0_pay2 x1 else x5)
            ∗ owns (c : Thread nD τ) arg9 fullShare (dwOut i x1 (accOut i x2 x3 x6 (scrOut i x0 x1 x10))) ∗ owns (c : Thread nD τ) arg10 fullShare (scrOut i x0 x1 x10)) -∗ K ⟨⟩))
      ⊢ wp frame (wpE (defs₀ (F := F)) Variants.none c none) E (cc0_dwqkv i arg3 harg3 arg4 harg4 arg5 harg5 arg6 harg6 arg7 harg7 arg8 harg8 arg9 harg9 arg10 harg10) K := by
  have e4 := (readAt_whole arg4 hz inb_S8x1024_S8x1024_0_0 (harg4.unread x1)).trans (harg4.read_unread x1)
  have e5 := (readAt_whole arg5 hz inb_S1024x2560_S1024x2560_0_0 (harg5.unread x2)).trans (harg5.read_unread x2)
  have e6 := (readAt_lane arg6 inb_S1024x128_S1024x1_0_0 (harg6.unread x3)).trans (congrArg laneOf (harg6.read_unread x3))
  unfold dwOut accOut scrOut
  simp only [cc0_dwqkv_eq_skeleton]; unfold cc0_dwqkv_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  by_cases h1 : k0_cond1 i = 1#1
  · have hF := filled c i arg3 harg3 arg4 harg4 arg5 harg5 arg6 harg6 arg7 harg7 arg8 harg8 arg9 harg9 arg10 harg10 x0 x1 h1 8 le_rfl
    by_cases h2 : Scalar.cmpi .ne (Scalar.extui (Scalar.cmpi .eq (BitVec.ofNat 32 (i 2).val) 0#32) : BitVec 32) 0#32 = 1#1
    · have h2' := (first_iff i).mp h2
      have h3' : ¬ (i 2).val = 5 := by omega
      have h3 : ¬ Scalar.cmpi .ne (Scalar.extui (Scalar.cmpi .eq (BitVec.ofNat 32 (i 2).val) 5#32) : BitVec 32) 0#32 = 1#1 := fun h => h3' ((last_iff i).mp h)
      simp only [if_pos h1, if_pos h2', if_neg h3']
      sl_exec
      try simp only [Prog.bind_assoc]
      try sl_exec
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr
        swap; · iexact H4
        ipureintro
        sl_unfold_words
        try rw [e4]
        exact read_filled arg7 _ hF.1
      isplitl [H5]
      · iexists _; isplitr
        swap; · iexact H5
        ipureintro
        sl_unfold_words
        try rw [e4]
        exact read_whole arg8 _ hz _ _ _
      isplitl [H6]
      · iexists _; isplitr
        swap; · iexact H6
        ipureintro
        try rw [e4]
        try rw [e5]
        try rw [e6]
        refine (read_whole arg9 _ hz _ _ _).trans ?_
        exact congrArg₂ (k0_pay6 x2 (laneOf x3)) (View.readCov_full arg9.view _ _ _ _) ((readAt_slab i arg10 _ _).trans (congrArg (slabOf (i 2)) ((read_slab i arg10 _ hF.2).trans (congrArg (putSlab (i 2) (codesOf x0 x1)) (harg10.read_unread x10)))))
      iexists _; isplitr
      swap; · iexact H7
      ipureintro
      sl_unfold_words
      try rw [e4]
      exact (read_slab i arg10 _ hF.2).trans (congrArg (putSlab (i 2) (codesOf x0 x1)) (harg10.read_unread x10))
    · have h2' : ¬ (i 2).val = 0 := fun h => h2 ((first_iff i).mpr h)
      by_cases h3 : Scalar.cmpi .ne (Scalar.extui (Scalar.cmpi .eq (BitVec.ofNat 32 (i 2).val) 5#32) : BitVec 32) 0#32 = 1#1
      · have h3' := (last_iff i).mp h3
        simp only [if_pos h1, if_neg h2', if_pos h3']
        sl_exec
        try simp only [Prog.bind_assoc]
        try sl_exec
        sl_step
        iapply Hk
        isplitl [H0]
        · iexists _; isplitr; · ipureintro; exact harg3.read_unread _
          iexact H0
        isplitl [H1]
        · iexists _; isplitr; · ipureintro; exact harg4.read_unread _
          iexact H1
        isplitl [H2]
        · iexists _; isplitr; · ipureintro; exact harg5.read_unread _
          iexact H2
        isplitl [H3]
        · iexists _; isplitr; · ipureintro; exact harg6.read_unread _
          iexact H3
        isplitl [H4]
        · iexists _; isplitr
          swap; · iexact H4
          ipureintro
          sl_unfold_words
          try rw [e4]
          exact read_filled arg7 _ hF.1
        isplitl [H5]
        · iexists _; isplitr
          swap; · iexact H5
          ipureintro
          sl_unfold_words
          try rw [e4]
          exact read_whole arg8 _ hz _ _ _
        isplitl [H6]
        · iexists _; isplitr
          swap; · iexact H6
          ipureintro
          try rw [e4]
          try rw [e5]
          try rw [e6]
          refine (read_whole arg9 _ hz _ _ _).trans ((congrArg (k0_pay1 (k0_pay2 x1)) ((View.readCov_full arg9.view _ _ _ _).trans ?_)))
          exact congrArg₂ (k0_pay6 x2 (laneOf x3)) ((readAt_whole arg9 hz _ _).trans (harg9.read_unread x6)) ((readAt_slab i arg10 _ _).trans (congrArg (slabOf (i 2)) ((read_slab i arg10 _ hF.2).trans (congrArg (putSlab (i 2) (codesOf x0 x1)) (harg10.read_unread x10)))))
        iexists _; isplitr
        swap; · iexact H7
        ipureintro
        sl_unfold_words
        try rw [e4]
        exact (read_slab i arg10 _ hF.2).trans (congrArg (putSlab (i 2) (codesOf x0 x1)) (harg10.read_unread x10))
      · have h3' : ¬ (i 2).val = 5 := fun h => h3 ((last_iff i).mpr h)
        simp only [if_pos h1, if_neg h2', if_neg h3']
        sl_exec
        try simp only [Prog.bind_assoc]
        try sl_exec
        sl_step
        iapply Hk
        isplitl [H0]
        · iexists _; isplitr; · ipureintro; exact harg3.read_unread _
          iexact H0
        isplitl [H1]
        · iexists _; isplitr; · ipureintro; exact harg4.read_unread _
          iexact H1
        isplitl [H2]
        · iexists _; isplitr; · ipureintro; exact harg5.read_unread _
          iexact H2
        isplitl [H3]
        · iexists _; isplitr; · ipureintro; exact harg6.read_unread _
          iexact H3
        isplitl [H4]
        · iexists _; isplitr
          swap; · iexact H4
          ipureintro
          sl_unfold_words
          try rw [e4]
          exact read_filled arg7 _ hF.1
        isplitl [H5]
        · iexists _; isplitr
          swap; · iexact H5
          ipureintro
          sl_unfold_words
          try rw [e4]
          exact read_whole arg8 _ hz _ _ _
        isplitl [H6]
        · iexists _; isplitr
          swap; · iexact H6
          ipureintro
          try rw [e4]
          try rw [e5]
          try rw [e6]
          refine (read_whole arg9 _ hz _ _ _).trans ?_
          exact congrArg₂ (k0_pay6 x2 (laneOf x3)) ((readAt_whole arg9 hz _ _).trans (harg9.read_unread x6)) ((readAt_slab i arg10 _ _).trans (congrArg (slabOf (i 2)) ((read_slab i arg10 _ hF.2).trans (congrArg (putSlab (i 2) (codesOf x0 x1)) (harg10.read_unread x10)))))
        iexists _; isplitr
        swap; · iexact H7
        ipureintro
        sl_unfold_words
        try rw [e4]
        exact (read_slab i arg10 _ hF.2).trans (congrArg (putSlab (i 2) (codesOf x0 x1)) (harg10.read_unread x10))
  · by_cases h2 : Scalar.cmpi .ne (Scalar.extui (Scalar.cmpi .eq (BitVec.ofNat 32 (i 2).val) 0#32) : BitVec 32) 0#32 = 1#1
    · have h2' := (first_iff i).mp h2
      have h3' : ¬ (i 2).val = 5 := by omega
      have h3 : ¬ Scalar.cmpi .ne (Scalar.extui (Scalar.cmpi .eq (BitVec.ofNat 32 (i 2).val) 5#32) : BitVec 32) 0#32 = 1#1 := fun h => h3' ((last_iff i).mp h)
      simp only [if_neg h1, if_pos h2', if_neg h3']
      sl_exec
      try simp only [Prog.bind_assoc]
      try sl_exec
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr
        swap; · iexact H4
        ipureintro
        sl_unfold_words
        exact harg7.read_unread _
      isplitl [H5]
      · iexists _; isplitr
        swap; · iexact H5
        ipureintro
        sl_unfold_words
        exact harg8.read_unread _
      isplitl [H6]
      · iexists _; isplitr
        swap; · iexact H6
        ipureintro
        try rw [e4]
        try rw [e5]
        try rw [e6]
        refine (read_whole arg9 _ hz _ _ _).trans ?_
        exact congrArg₂ (k0_pay6 x2 (laneOf x3)) (View.readCov_full arg9.view _ _ _ _) ((readAt_slab i arg10 _ _).trans (congrArg (slabOf (i 2)) (harg10.read_unread x10)))
      iexists _; isplitr
      swap; · iexact H7
      ipureintro
      sl_unfold_words
      exact harg10.read_unread _
    · have h2' : ¬ (i 2).val = 0 := fun h => h2 ((first_iff i).mpr h)
      by_cases h3 : Scalar.cmpi .ne (Scalar.extui (Scalar.cmpi .eq (BitVec.ofNat 32 (i 2).val) 5#32) : BitVec 32) 0#32 = 1#1
      · have h3' := (last_iff i).mp h3
        simp only [if_neg h1, if_neg h2', if_pos h3']
        sl_exec
        try simp only [Prog.bind_assoc]
        try sl_exec
        sl_step
        iapply Hk
        isplitl [H0]
        · iexists _; isplitr; · ipureintro; exact harg3.read_unread _
          iexact H0
        isplitl [H1]
        · iexists _; isplitr; · ipureintro; exact harg4.read_unread _
          iexact H1
        isplitl [H2]
        · iexists _; isplitr; · ipureintro; exact harg5.read_unread _
          iexact H2
        isplitl [H3]
        · iexists _; isplitr; · ipureintro; exact harg6.read_unread _
          iexact H3
        isplitl [H4]
        · iexists _; isplitr
          swap; · iexact H4
          ipureintro
          sl_unfold_words
          exact harg7.read_unread _
        isplitl [H5]
        · iexists _; isplitr
          swap; · iexact H5
          ipureintro
          sl_unfold_words
          exact harg8.read_unread _
        isplitl [H6]
        · iexists _; isplitr
          swap; · iexact H6
          ipureintro
          try rw [e4]
          try rw [e5]
          try rw [e6]
          refine (read_whole arg9 _ hz _ _ _).trans ((congrArg (k0_pay1 (k0_pay2 x1)) ((View.readCov_full arg9.view _ _ _ _).trans ?_)))
          exact congrArg₂ (k0_pay6 x2 (laneOf x3)) ((readAt_whole arg9 hz _ _).trans (harg9.read_unread x6)) ((readAt_slab i arg10 _ _).trans (congrArg (slabOf (i 2)) (harg10.read_unread x10)))
        iexists _; isplitr
        swap; · iexact H7
        ipureintro
        sl_unfold_words
        exact harg10.read_unread _
      · have h3' : ¬ (i 2).val = 5 := fun h => h3 ((last_iff i).mpr h)
        simp only [if_neg h1, if_neg h2', if_neg h3']
        sl_exec
        try simp only [Prog.bind_assoc]
        try sl_exec
        sl_step
        iapply Hk
        isplitl [H0]
        · iexists _; isplitr; · ipureintro; exact harg3.read_unread _
          iexact H0
        isplitl [H1]
        · iexists _; isplitr; · ipureintro; exact harg4.read_unread _
          iexact H1
        isplitl [H2]
        · iexists _; isplitr; · ipureintro; exact harg5.read_unread _
          iexact H2
        isplitl [H3]
        · iexists _; isplitr; · ipureintro; exact harg6.read_unread _
          iexact H3
        isplitl [H4]
        · iexists _; isplitr
          swap; · iexact H4
          ipureintro
          sl_unfold_words
          exact harg7.read_unread _
        isplitl [H5]
        · iexists _; isplitr
          swap; · iexact H5
          ipureintro
          sl_unfold_words
          exact harg8.read_unread _
        isplitl [H6]
        · iexists _; isplitr
          swap; · iexact H6
          ipureintro
          try rw [e4]
          try rw [e5]
          try rw [e6]
          refine (read_whole arg9 _ hz _ _ _).trans ?_
          exact congrArg₂ (k0_pay6 x2 (laneOf x3)) ((readAt_whole arg9 hz _ _).trans (harg9.read_unread x6)) ((readAt_slab i arg10 _ _).trans (congrArg (slabOf (i 2)) (harg10.read_unread x10)))
        iexists _; isplitr
        swap; · iexact H7
        ipureintro
        sl_unfold_words
        exact harg10.read_unread _

/-! ## The windows' blocks in the arrays -/

variable (m : (ℓ : Loc nD τ sig) → Buf (Elt F) ℓ) (ρ : Dev nD → PrngReg)

theorem index_facts : ∀ t : Fin cfg0.N, (win0_0.index t 0 = min (t.val % 12) 5 ∧ win0_0.index t 1 = t.val / 12)
    ∧ (win0_1.index t 0 = 0 ∧ win0_1.index t 1 = t.val / 12) ∧ (win0_2.index t 0 = t.val % 6 ∧ win0_2.index t 1 = t.val % 12 / 6)
    ∧ (win0_3.index t 0 = t.val % 6 ∧ win0_3.index t 1 = 0) ∧ (win0_4.index t 0 = min (t.val % 12) 5 ∧ win0_4.index t 1 = t.val / 12)
    ∧ (win0_5.index t 0 = 0 ∧ win0_5.index t 1 = t.val / 12) ∧ (win0_6.index t 0 = t.val % 12 / 6 ∧ win0_6.index t 1 = t.val / 12) :=
  (by decide +kernel : ∀ t : Fin grid0.N, (win0_0.index t 0 = min (t.val % 12) 5 ∧ win0_0.index t 1 = t.val / 12)
    ∧ (win0_1.index t 0 = 0 ∧ win0_1.index t 1 = t.val / 12) ∧ (win0_2.index t 0 = t.val % 6 ∧ win0_2.index t 1 = t.val % 12 / 6)
    ∧ (win0_3.index t 0 = t.val % 6 ∧ win0_3.index t 1 = 0) ∧ (win0_4.index t 0 = min (t.val % 12) 5 ∧ win0_4.index t 1 = t.val / 12)
    ∧ (win0_5.index t 0 = 0 ∧ win0_5.index t 1 = t.val / 12) ∧ (win0_6.index t 0 = t.val % 12 / 6 ∧ win0_6.index t 1 = t.val / 12))

theorem iblk0_apply (t : Fin cfg0.N) (r : Fin 1024) (k : Fin 1024) (R : Fin 6144) (K : Fin 8192) (hR : R.val = min (t.val % 12) 5 * 1024 + r.val) (hK : K.val = t.val / 12 * 1024 + k.val) :
    (iblk m c 0 t : Vec F S1024x1024 .f32) (ix2 r k) = V m c main_v0 (ix2 R K) := by
  have hi := index_facts t
  unfold iblk
  rw [View.read_apply]
  show V m c main_v0 _ = _
  congr 1
  funext a
  apply Fin.ext
  match a with
  | ⟨0, _⟩ => show win0_0.index t 0 * 1024 + 1 * r.val = R.val; rw [hi.1.1]; omega
  | ⟨1, _⟩ => show win0_0.index t 1 * 1024 + 1 * k.val = K.val; rw [hi.1.2]; omega

theorem iblk1_apply (t : Fin cfg0.N) (r : Fin 8) (k : Fin 1024) (R : Fin 8) (K : Fin 8192) (hR : R.val = 0 * 8 + r.val) (hK : K.val = t.val / 12 * 1024 + k.val) :
    (iblk m c 1 t : Vec F S8x1024 .f32) (ix2 r k) = V m c main_arg1 (ix2 R K) := by
  have hi := index_facts t
  unfold iblk
  rw [View.read_apply]
  show V m c main_arg1 _ = _
  congr 1
  funext a
  apply Fin.ext
  match a with
  | ⟨0, _⟩ => show win0_1.index t 0 * 8 + 1 * r.val = R.val; rw [hi.2.1.1]; omega
  | ⟨1, _⟩ => show win0_1.index t 1 * 1024 + 1 * k.val = K.val; rw [hi.2.1.2]; omega

theorem iblk2_apply (t : Fin cfg0.N) (r : Fin 1024) (k : Fin 2560) (R : Fin 6144) (K : Fin 5120) (hR : R.val = t.val % 6 * 1024 + r.val) (hK : K.val = t.val % 12 / 6 * 2560 + k.val) :
    (iblk m c 2 t : Vec F S1024x2560 .fp8e4m3) (ix2 r k) = V m c main_v1 (ix2 R K) := by
  have hi := index_facts t
  unfold iblk
  rw [View.read_apply]
  show V m c main_v1 _ = _
  congr 1
  funext a
  apply Fin.ext
  match a with
  | ⟨0, _⟩ => show win0_2.index t 0 * 1024 + 1 * r.val = R.val; rw [hi.2.2.1.1]; omega
  | ⟨1, _⟩ => show win0_2.index t 1 * 2560 + 1 * k.val = K.val; rw [hi.2.2.1.2]; omega

theorem iblk3_apply (t : Fin cfg0.N) (r : Fin 1024) (k : Fin 128) (R : Fin 6144) (K : Fin 128) (hR : R.val = t.val % 6 * 1024 + r.val) (hK : K.val = 0 * 128 + k.val) :
    (iblk m c 3 t : Vec F S1024x128 .f32) (ix2 r k) = V m c main_v3 (ix2 R K) := by
  have hi := index_facts t
  unfold iblk
  rw [View.read_apply]
  show V m c main_v3 _ = _
  congr 1
  funext a
  apply Fin.ext
  match a with
  | ⟨0, _⟩ => show win0_3.index t 0 * 1024 + 1 * r.val = R.val; rw [hi.2.2.2.1.1]; omega
  | ⟨1, _⟩ => show win0_3.index t 1 * 128 + 1 * k.val = K.val; rw [hi.2.2.2.1.2]; omega

theorem iblk0_group (t t' : Fin cfg0.N) (h : t.val / 12 = t'.val / 12) (h' : min (t.val % 12) 5 = min (t'.val % 12) 5) :
    (iblk m c 0 t : Vec F S1024x1024 .f32) = (iblk m c 0 t' : Vec F S1024x1024 .f32) := by
  funext j
  have hN : cfg0.N = 96 := N_0
  have h1 := t.isLt
  have h2 : (j 0).val < 1024 := (j 0).isLt
  have h3 : (j 1).val < 1024 := (j 1).isLt
  have e : j = ix2 (j 0) (j 1) := eq_ix2 j
  have a1 := iblk0_apply c m t (j 0) (j 1) ⟨min (t.val % 12) 5 * 1024 + (j 0).val, by omega⟩ ⟨t.val / 12 * 1024 + (j 1).val, by omega⟩ rfl rfl
  have a2 := iblk0_apply c m t' (j 0) (j 1) ⟨min (t.val % 12) 5 * 1024 + (j 0).val, by omega⟩ ⟨t.val / 12 * 1024 + (j 1).val, by omega⟩
    (by show min (t.val % 12) 5 * 1024 + (j 0).val = min (t'.val % 12) 5 * 1024 + (j 0).val; rw [h']) (by show t.val / 12 * 1024 + (j 1).val = t'.val / 12 * 1024 + (j 1).val; rw [h])
  rw [e]
  exact a1.trans a2.symm

theorem iblk1_group (t t' : Fin cfg0.N) (h : t.val / 12 = t'.val / 12) :
    (iblk m c 1 t : Vec F S8x1024 .f32) = (iblk m c 1 t' : Vec F S8x1024 .f32) := by
  funext j
  have hN : cfg0.N = 96 := N_0
  have h1 := t.isLt
  have h2 : (j 0).val < 8 := (j 0).isLt
  have h3 : (j 1).val < 1024 := (j 1).isLt
  have e : j = ix2 (j 0) (j 1) := eq_ix2 j
  have a1 := iblk1_apply c m t (j 0) (j 1) ⟨(j 0).val, h2⟩ ⟨t.val / 12 * 1024 + (j 1).val, by omega⟩ (by show (j 0).val = 0 * 8 + (j 0).val; omega) rfl
  have a2 := iblk1_apply c m t' (j 0) (j 1) ⟨(j 0).val, h2⟩ ⟨t.val / 12 * 1024 + (j 1).val, by omega⟩ (by show (j 0).val = 0 * 8 + (j 0).val; omega)
    (by show t.val / 12 * 1024 + (j 1).val = t'.val / 12 * 1024 + (j 1).val; rw [h])
  rw [e]
  exact a1.trans a2.symm

/-! ## The proof data -/

/-- The codes of the block of `dp` a point is on. -/
def codesAt (t : Fin cfg0.N) : Vec F S1024x1024 .fp8e5m2 := codesOf (iblk m c 0 t) (iblk m c 1 t)

/-- The point of the same column block at which the codes a point multiplies by were made. -/
def srcOf (t : Fin cfg0.N) : Fin cfg0.N := ⟨12 * (t.val / 12) + t.val % 6, by have hN : cfg0.N = 96 := N_0; have := t.isLt; omega⟩

/-- Those codes, as the kernel loads them from scratch. -/
def slabAt (t : Fin cfg0.N) : Vec F S1x1024x1024 .fp8e5m2 := fun y => codesAt c m (srcOf t) (ix2 (y 1) (y 2))

/-- One step of the sum. -/
def stepAt (t : Fin cfg0.N) (a : Vec F S2560x1024 .f32) : Vec F S2560x1024 .f32 :=
  k0_pay6 (iblk m c 2 t) (laneOf (iblk m c 3 t)) a (slabAt c m t)

/-- The sum up to a point, from the first point of its six. -/
def accAt : (n : ℕ) → n < cfg0.N → Vec F S2560x1024 .f32
  | 0, h => stepAt c m ⟨0, h⟩ k0_pay5
  | n + 1, h => stepAt c m ⟨n + 1, h⟩ (if (n + 1) % 6 = 0 then k0_pay5 else accAt n (Nat.lt_of_succ_lt h))

theorem accAt_eq (t : Fin cfg0.N) (a : Vec F S2560x1024 .f32)
    (ha : ∀ h : ¬ t.val % 6 = 0, a = accAt c m (t.val - 1) (Nat.lt_of_le_of_lt (Nat.sub_le _ _) t.isLt)) :
    stepAt c m t (if t.val % 6 = 0 then k0_pay5 else a) = accAt c m t.val t.isLt := by
  obtain ⟨n, hn⟩ := t
  cases n with
  | zero => rfl
  | succ n =>
    unfold accAt
    by_cases h : (n + 1) % 6 = 0
    · simp only [if_pos h]
    · simp only [if_neg h]
      rw [ha h]
      rfl

/-- What the product's block holds after a point. -/
def dwAt (t : Fin cfg0.N) : Vec F S2560x1024 .f32 :=
  if t.val % 6 = 5 then k0_pay1 (k0_pay2 (iblk m c 1 t)) (accAt c m t.val t.isLt) else accAt c m t.val t.isLt

/-- The scratch buffer. -/
abbrev scr : Memref sig .tc .vmem S6x1024x1024 .fp8e5m2 := Memref.whole cc0_scratch0

/-- The scratch before point `n` holds the codes of every block of the column block made so far. -/
def ScrOk (n : ℕ) (d : Vec F S6x1024x1024 .fp8e5m2) : Prop :=
  ∀ t' : Fin cfg0.N, t'.val / 12 = n / 12 → t'.val % 12 < n % 12 → t'.val % 12 < 6 →
    ∀ y : S6x1024x1024.Idx, (y 0).val = t'.val % 12 → d y = codesAt c m t' (ix2 (y 1) (y 2))

theorem scr_step (t : Fin cfg0.N) (d : Vec F S6x1024x1024 .fp8e5m2) (hd : ScrOk c m t.val d) :
    ScrOk c m (t.val + 1) (scrOut (grid0.coords t) (iblk m c 0 t) (iblk m c 1 t) d) := by
  intro t' hq hlt h6 y hy
  have hk : (grid0.coords t 2).val = t.val % 6 := coord_eq t
  unfold scrOut
  by_cases h1 : t.val % 12 < 6
  · rw [if_pos ((cond_iff t).mpr h1)]
    unfold putSlab
    by_cases he : t'.val = t.val
    · obtain rfl : t' = t := Fin.ext he
      rw [if_pos (by rw [hk, hy]; omega)]
      rfl
    · rw [if_neg (by rw [hk, hy]; omega)]
      exact hd t' (by omega) (by omega) h6 y hy
  · rw [if_neg (fun h => h1 ((cond_iff t).mp h))]
    exact hd t' (by omega) (by omega) h6 y hy

theorem slab_eq (t : Fin cfg0.N) (d : Vec F S6x1024x1024 .fp8e5m2) (hd : ScrOk c m t.val d) :
    slabOf (grid0.coords t 2) (scrOut (grid0.coords t) (iblk m c 0 t) (iblk m c 1 t) d) = slabAt c m t := by
  have hk : (grid0.coords t 2).val = t.val % 6 := coord_eq t
  have hs : (srcOf t).val = 12 * (t.val / 12) + t.val % 6 := rfl
  funext y
  unfold slabOf slabAt scrOut
  by_cases h1 : t.val % 12 < 6
  · rw [if_pos ((cond_iff t).mpr h1), show srcOf t = t from Fin.ext (by rw [hs]; omega)]
    exact if_pos rfl
  · rw [if_neg (fun h => h1 ((cond_iff t).mp h))]
    exact hd (srcOf t) (by rw [hs]; omega) (by rw [hs]; omega) (by rw [hs]; omega) (ix3 (grid0.coords t 2) (y 1) (y 2)) (by
      show (grid0.coords t 2).val = _
      rw [hk, hs]; omega)

/-- What the body leaves in the product's block, from the block and the scratch it finds. -/
theorem dw_eq (t : Fin cfg0.N) (x6 : Vec F S2560x1024 .f32) (d : Vec F S6x1024x1024 .fp8e5m2) (hd : ScrOk c m t.val d)
    (hx : ∀ h : ¬ t.val % 6 = 0, x6 = accAt c m (t.val - 1) (Nat.lt_of_le_of_lt (Nat.sub_le _ _) t.isLt)) :
    dwOut (grid0.coords t) (iblk m c 1 t) (accOut (grid0.coords t) (iblk m c 2 t) (iblk m c 3 t) x6 (scrOut (grid0.coords t) (iblk m c 0 t) (iblk m c 1 t) d)) = dwAt c m t := by
  unfold dwOut accOut dwAt
  rw [slab_eq c m t d hd, coord_eq t]
  have ha := accAt_eq c m t x6 hx
  unfold stepAt at ha
  rw [ha]

/-- The scratch between the points. -/
def scratchAt (n : Fin (cfg0.N + 1)) : sProp 𝕄 := iprop(∃ d, owns (c : Thread nD τ) scr fullShare d ∗ ⌜ScrOk c m n.val d⌝)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt c m t
    | ⟨5, _⟩ => k0_pay2 (iblk m c 1 t)
    | ⟨6, _⟩ => dwAt c m t
  Φ n := iprop(scratchAt c m n ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesAt c m t := by dsimp only [dats]
theorem after0_5 (c : Dev nD) (t : Fin cfg0.N) : (dats m 0 c).after 5 t = k0_pay2 (iblk m c 1 t) := by dsimp only [dats]
theorem after0_6 (c : Dev nD) (t : Fin cfg0.N) : (dats m 0 c).after 6 t = dwAt c m t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The codes' and scales' windows are stored in the first half of a column block's points only. -/
theorem idle0_4 : ∀ t : Fin cfg0.N, cfg0.idle 4 (cfg0.grid.coords t) = decide (6 ≤ t.val % 12) :=
  (by decide +kernel : ∀ t : Fin grid0.N, (!(k0_cond1 (grid0.coords t) == 1#1)) = decide (6 ≤ t.val % 12))

theorem idle0_5 : ∀ t : Fin cfg0.N, cfg0.idle 5 (cfg0.grid.coords t) = decide (6 ≤ t.val % 12) :=
  (by decide +kernel : ∀ t : Fin grid0.N, (!(k0_cond1 (grid0.coords t) == 1#1)) = decide (6 ≤ t.val % 12))

/-- The codes' window is written back at the first five points of a column block and at its last. -/
theorem flush0_4 : ∀ t : Fin cfg0.N, (cfg0.win 4).flush t = true ↔ (t.val % 12 < 5 ∨ t.val % 12 = 11) :=
  (by decide +kernel : ∀ t : Fin grid0.N, win0_4.flush t = true ↔ (t.val % 12 < 5 ∨ t.val % 12 = 11))

theorem fresh0_4 (t : Fin cfg0.N) : cfg0.fresh 4 t.val = decide (t.val % 12 ≤ 5) := by
  refine cfg0.fresh_tab 4 (fun n => decide (n % 12 ≤ 5)) rfl (fun t => ?_) t.val (Nat.le_of_lt t.isLt)
  rw [idle0_4]
  have hf := flush0_4 t
  rw [Bool.eq_iff_iff, Bool.or_eq_true, Bool.and_eq_true, hf]
  simp only [decide_eq_true_eq]
  omega

theorem fresh0_5 (t : Fin cfg0.N) : cfg0.fresh 5 t.val = decide (t.val % 12 = 0) := by
  refine cfg0.fresh_tab 5 (fun n => decide (n % 12 = 0)) rfl (fun t => ?_) t.val (Nat.le_of_lt t.isLt)
  rw [idle0_5]
  have hf := flush0_5 t
  rw [Bool.eq_iff_iff, Bool.or_eq_true, Bool.and_eq_true, hf]
  simp only [decide_eq_true_eq]
  omega

theorem after0_4_group (c : Dev nD) (t : Fin cfg0.N) (h : ¬ t.val % 12 ≤ 5) :
    (dats m 0 c).after 4 t = (dats m 0 c).after 4 ⟨t.val - 1, by have := t.isLt; omega⟩ := by
  rw [after0_4, after0_4]
  unfold codesAt
  rw [iblk0_group c m t ⟨t.val - 1, by have := t.isLt; omega⟩ (by simp only; omega) (by simp only; omega), iblk1_group c m t ⟨t.val - 1, by have := t.isLt; omega⟩ (by simp only; omega)]

theorem after0_5_group (c : Dev nD) (t : Fin cfg0.N) (h : ¬ t.val % 12 = 0) :
    (dats m 0 c).after 5 t = (dats m 0 c).after 5 ⟨t.val - 1, by have := t.isLt; omega⟩ := by
  rw [after0_5, after0_5, iblk1_group c m t ⟨t.val - 1, by have := t.isLt; omega⟩ (by simp only; omega)]

/-- In the second half of a column block the codes' buffer holds what the first half's last point left; -/
theorem before0_4 (c : Dev nD) (t : Fin cfg0.N) (h : 6 ≤ t.val % 12) (d) :
    (dats m 0 c).before 4 t d = (dats m 0 c).after 4 t := by
  have h' : ¬ t.val % 12 ≤ 5 := by omega
  have e := (dats m 0 c).before_out_traj 4 rfl (fun _ _ => rfl) (fun t ht hi hfr => after0_4_group m c t (by rw [fresh0_4] at hfr; simpa using hfr)) t.val t rfl d
  rw [e, fresh0_4, if_neg (by simpa using h'), ← after0_4_group m c t h']

/-- and so does the scales'. -/
theorem before0_5 (c : Dev nD) (t : Fin cfg0.N) (h : 6 ≤ t.val % 12) (d) :
    (dats m 0 c).before 5 t d = (dats m 0 c).after 5 t := by
  have h' : ¬ t.val % 12 = 0 := by omega
  have e := (dats m 0 c).before_out_traj 5 rfl (fun _ _ => rfl) (fun t ht hi hfr => after0_5_group m c t (by rw [fresh0_5] at hfr; simpa using hfr)) t.val t rfl d
  rw [e, fresh0_5, if_neg (by simpa using h'), ← after0_5_group m c t h']

/-- Past the first point of a sum its buffer holds the sum so far. -/
theorem before0_6 (c : Dev nD) (t : Fin cfg0.N) (h : ¬ t.val % 6 = 0) (d) :
    (dats m 0 c).before 6 t d = accAt c m (t.val - 1) (Nat.lt_of_le_of_lt (Nat.sub_le _ _) t.isLt) := by
  have e := (dats m 0 c).before_out_kept 6 rfl t (by omega) (Bool.eq_false_iff.mpr fun hf => by
    have := (flush0_6 ⟨t.val - 1, Nat.lt_of_le_of_lt (Nat.sub_le _ _) t.isLt⟩).mp hf
    simp only at this
    omega) (fun _ => rfl) (fun _ _ => rfl) d
  rw [e, after0_6]
  exact if_neg (by simp only; omega)

/-! ## The body at every point -/

abbrev ms0_0 (t : Fin cfg0.N) : Memref sig .tc .vmem S1024x1024 .f32 := win0_0.stage (cfg0.slots t 0)
abbrev ms0_1 (t : Fin cfg0.N) : Memref sig .tc .vmem S8x1024 .f32 := win0_1.stage (cfg0.slots t 1)
abbrev ms0_2 (t : Fin cfg0.N) : Memref sig .tc .vmem S1024x2560 .fp8e4m3 := win0_2.stage (cfg0.slots t 2)
abbrev ms0_3 (t : Fin cfg0.N) : Memref sig .tc .vmem S1024x128 .f32 := win0_3.stage (cfg0.slots t 3)
abbrev ms0_4 (t : Fin cfg0.N) : Memref sig .tc .vmem S1024x1024 .fp8e5m2 := win0_4.stage (cfg0.slots t 4)
abbrev ms0_5 (t : Fin cfg0.N) : Memref sig .tc .vmem S1x1024 .f32 := win0_5.stage (cfg0.slots t 5)
abbrev ms0_6 (t : Fin cfg0.N) : Memref sig .tc .vmem S2560x1024 .f32 := win0_6.stage (cfg0.slots t 6)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = iprop((∃ d, owns (c : Thread nD τ) scr fullShare d ∗ ⌜ScrOk c m t.val d⌝) ∗ ∃ r, prngReg c r) from rfl,
    show (dats m 0 c).Φ t.succ = iprop((∃ d, owns (c : Thread nD τ) scr fullShare d ∗ ⌜ScrOk c m (t.val + 1) d⌝) ∗ ∃ r, prngReg c r) from rfl]
  simp only [before0_0, before0_1, before0_2, before0_3]
  rw [after0_0, after0_1, after0_2, after0_3, after0_6]
  iintro ⟨⟨⟨%x10, Hs, %hd⟩, Hr⟩, Ho, ⟨%d0, H0⟩, ⟨%d1, H1⟩, ⟨%d2, H2⟩, ⟨%d3, H3⟩, ⟨%d4, H4⟩, ⟨%d5, H5⟩, ⟨%d6, H6⟩⟩
  have hdw := dw_eq c m t ((dats m 0 c).before 6 t d6) x10 hd (fun h => before0_6 m c t h d6)
  have h4 : (if k0_cond1 (grid0.coords t) = 1#1 then codesOf (iblk m c 0 t) (iblk m c 1 t) else (dats m 0 c).before 4 t d4) = (dats m 0 c).after 4 t := by
    by_cases h : t.val % 12 < 6
    · rw [if_pos ((cond_iff t).mpr h), after0_4]; rfl
    · rw [if_neg (fun hc => h ((cond_iff t).mp hc))]
      exact before0_4 m c t (by omega) d4
  have h5 : (if k0_cond1 (grid0.coords t) = 1#1 then k0_pay2 (iblk m c 1 t) else (dats m 0 c).before 5 t d5) = (dats m 0 c).after 5 t := by
    by_cases h : t.val % 12 < 6
    · rw [if_pos ((cond_iff t).mpr h), after0_5]
    · rw [if_neg (fun hc => h ((cond_iff t).mp hc))]
      exact before0_5 m c t (by omega) d5
  iapply (body_any c (grid0.coords t) _ _ _ _ _ _ _ _ _ _ _ _ _ _ _ _ (iblk m c 0 t) (iblk m c 1 t) (iblk m c 2 t) (iblk m c 3 t) ((dats m 0 c).before 4 t d4) ((dats m 0 c).before 5 t d5) ((dats m 0 c).before 6 t d6) x10 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  rw [hdw, h4, h5]
  iintro ⟨H0, H1, H2, H3, H4, H5, H6, Hs⟩
  isplitl [Hs Hr]
  · isplitl [Hs]
    · iexists _
      isplitl [Hs]; · iexact Hs
      ipureintro; exact scr_step c m t x10 hd
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- What the body leaves in the codes' buffer, as the obligation spells it, -/
theorem hand4 (c : Dev nD) (t : Fin cfg0.N) :
    (owns (c : Thread nD τ) (ms0_4 t) fullShare ((dats m 0 c).after 4 t) : sProp 𝕄) ⊢
      (match cfg0.idle 4 (cfg0.grid.coords t) with
      | true =>
        match (cfg0.win 4).flush t with
        | false => iprop(∃ d, owns (c : Thread nD τ) ((cfg0.win 4).stage (cfg0.slots t 4)) fullShare ((dats m 0 c).before 4 t d))
        | true => owns (c : Thread nD τ) ((cfg0.win 4).stage (cfg0.slots t 4)) fullShare ((dats m 0 c).after 4 t)
      | false => owns (c : Thread nD τ) ((cfg0.win 4).stage (cfg0.slots t 4)) fullShare ((dats m 0 c).after 4 t)) := by
  have hi := idle0_4 t
  by_cases h : 6 ≤ t.val % 12
  · rw [hi, decide_eq_true h]
    cases (cfg0.win 4).flush t
    · iintro H
      iexists (dats m 0 c).after 4 t
      rw [before0_4 m c t h]
      iexact H
    · exact .rfl
  · rw [hi, decide_eq_false h]

/-- and in the scales'. -/
theorem hand5 (c : Dev nD) (t : Fin cfg0.N) :
    (owns (c : Thread nD τ) (ms0_5 t) fullShare ((dats m 0 c).after 5 t) : sProp 𝕄) ⊢
      (match cfg0.idle 5 (cfg0.grid.coords t) with
      | true =>
        match (cfg0.win 5).flush t with
        | false => iprop(∃ d, owns (c : Thread nD τ) ((cfg0.win 5).stage (cfg0.slots t 5)) fullShare ((dats m 0 c).before 5 t d))
        | true => owns (c : Thread nD τ) ((cfg0.win 5).stage (cfg0.slots t 5)) fullShare ((dats m 0 c).after 5 t)
      | false => owns (c : Thread nD τ) ((cfg0.win 5).stage (cfg0.slots t 5)) fullShare ((dats m 0 c).after 5 t)) := by
  have hi := idle0_5 t
  by_cases h : 6 ≤ t.val % 12
  · rw [hi, decide_eq_true h]
    cases (cfg0.win 5).flush t
    · iintro H
      iexists (dats m 0 c).after 5 t
      rw [before0_5 m c t h]
      iexact H
    · exact .rfl
  · rw [hi, decide_eq_false h]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (hand4 m c t); iexact H4
  isplitl [H5]; · iapply (hand5 m c t); iexact H5
  iexact H6

/-! ## The run and the frame -/

/-- The scratch at anything, as the launch spells it and as the body does. -/
theorem phi_in (c : Dev nD) : (Pipeline.ΦA spec0 c : sProp 𝕄) ⊢ (dats m 0 c).Φ 0 := by
  rw [show (dats m 0 c).Φ 0 = iprop((∃ d, owns (c : Thread nD τ) scr fullShare d ∗ ⌜ScrOk c m 0 d⌝) ∗ ∃ r, prngReg c r) from rfl]
  unfold Pipeline.ΦA
  rw [scopedRest0_eq]
  unfold owns
  iintro ⟨⟨%f, H⟩, Hr⟩
  isplitl [H]
  · iexists _
    isplitl [H]
    · iexists f
      isplitr
      · ipureintro; rfl
      rw [View.set_whole]
      iexact H
    ipureintro
    intro t' _ hlt
    exact absurd hlt (Nat.not_lt_zero _)
  iexact Hr

theorem phi_out (c : Dev nD) : (dats m 0 c).Φ (Fin.last cfg0.N) ⊢ (Pipeline.ΦA spec0 c : sProp 𝕄) := by
  rw [show (dats m 0 c).Φ (Fin.last cfg0.N) = iprop((∃ d, owns (c : Thread nD τ) scr fullShare d ∗ ⌜ScrOk c m cfg0.N d⌝) ∗ ∃ r, prngReg c r) from rfl]
  unfold Pipeline.ΦA
  rw [scopedRest0_eq]
  unfold owns
  iintro ⟨⟨%d, ⟨%f, -, H⟩, -⟩, Hr⟩
  isplitl [H]
  · iexists f
    rw [View.set_whole]
    iexact H
  iexact Hr

set_option backward.isDefEq.respectTransparency.types false in
/-- The launch: what the run leaves, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.DwqkvIdeal.Run

end
-- ==== Proof.DwqkvValue.lean ====
module

public import proofs.«01_k».proof.Defs
public import proofs.«01_k».proof.Proof.DwqkvRun
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The mathematics both programs compute -/

namespace Cert.DwqkvMath

/-- The largest of eight partial maxima, -/
def colMax (a : Fin 8 → EReal) : EReal := Finset.fold max (Ideal.ofBits FTy.f32 4286578688#32) a Finset.univ

/-- the scale it gives (one when the column is zero), -/
def scaleOf (a : Fin 8 → EReal) : EReal := if colMax a = 0 then 1 else Ideal.div (colMax a) (Ideal.ofBits FTy.f32 1197473792#32)

/-- and the value quantised: divided by the scale and clipped to the format's range. -/
def codeOf (y s : EReal) : EReal := min (Ideal.ofBits FTy.f32 1197473792#32) (max (Ideal.ofBits FTy.f32 3344957440#32) (Ideal.div y s))

/-- One row's contribution to a product: a code times its row scale, times a code. -/
abbrev mul3 (a b k : EReal) : EReal := (a * b) * k

end Cert.DwqkvMath

/-! ## The kernel's arrays after the run -/

namespace Cert.DwqkvIdeal.DwqkvValue

open Cert.DwqkvIdeal Cert.DwqkvIdeal.Gen Cert.DwqkvIdeal.Run Cert.DwqkvMath

theorem pay2_apply (v0 : Vec Ideal S8x1024 .f32) (j : S1x1024.Idx) : k0_pay2 v0 j = scaleOf fun r => v0 (ix2 r (j 1)) := by
  pointwise! [k0_pay2]

theorem pay3_apply (v0 : Vec Ideal S8x1024 .f32) (v40 : Vec Ideal S128x1024 .f32) (j : S128x1024.Idx) :
    (k0_pay3 v0 v40 j : EReal) = codeOf (v40 j) (scaleOf fun r => v0 (ix2 r (j 1))) := by
  refine Eq.trans ?_ (congrArg (codeOf _) (pay2_apply v0 (ix2 0 (j 1))))
  pointwise! [k0_pay3]

theorem pay5_apply (j : S2560x1024.Idx) : (k0_pay5 (F := Ideal) j : EReal) = 0 := by
  pointwise! [k0_pay5]

theorem pay6_apply (v15 : Vec Ideal S1024x2560 .fp8e4m3) (v18 : Vec Ideal S1024x1 .f32) (v23 : Vec Ideal S2560x1024 .f32) (v26 : Vec Ideal S1x1024x1024 .fp8e5m2) (j : S2560x1024.Idx) :
    (k0_pay6 v15 v18 v23 v26 j : EReal)
      = (v23 j : EReal) + ∑ x : Fin 1024, ((v15 (ix2 x (j 0)) : EReal) * (v18 (ix2 x 0) : EReal)) * (v26 (ix3 0 x (j 1)) : EReal) := by
  pointwise! [k0_pay6]

theorem pay1_apply (v0 : Vec Ideal S8x1024 .f32) (v35 : Vec Ideal S2560x1024 .f32) (j : S2560x1024.Idx) :
    (k0_pay1 (k0_pay2 v0) v35 j : EReal) = (v35 j : EReal) * scaleOf fun r => v0 (ix2 r (j 1)) := by
  refine Eq.trans ?_ (congrArg (_ * ·) (pay2_apply v0 (ix2 0 (j 1))))
  pointwise! [k0_pay1]

theorem codesOf_apply (x0 : Vec Ideal S1024x1024 .f32) (x1 : Vec Ideal S8x1024 .f32) (y : S1024x1024.Idx) :
    (codesOf x0 x1 y : EReal) = codeOf (x0 (ix2 (y 0) (y 1))) (scaleOf fun r => x1 (ix2 r (y 1))) := by
  unfold codesOf
  rw [pay3_apply]
  refine congrArg₂ codeOf (congrArg x0 (funext fun a => Fin.ext ?_)) rfl
  match a with
  | ⟨0, _⟩ => show 128 * ((y 0).val / 128) + (y 0).val % 128 = (y 0).val; omega
  | ⟨1, _⟩ => rfl

variable (m : (ℓ : Loc nD τ sig) → Buf (Elt Ideal) ℓ) (ρ : Dev nD → PrngReg)

/-- The scale of a column, over the array of partial maxima, -/
def scale (c : Dev nD) (K : Fin 8192) : EReal := scaleOf fun r => V m c main_arg1 (ix2 r K)

/-- one row's contribution to the product, -/
def term (c : Dev nD) (D : Fin 5120) (K : Fin 8192) (x : Fin 6144) : EReal :=
  mul3 (V m c main_v1 (ix2 x D)) (V m c main_v3 (ix2 x (0 : Fin 128))) (codeOf (V m c main_v0 (ix2 x K)) (scale m c K))

/-- and what each result holds after the run: the codes, -/
def result4 (c : Dev nD) : S6144x8192.Idx → EReal := fun i => codeOf (V m c main_v0 (ix2 (i 0) (i 1))) (scale m c (i 1))

/-- the scales, -/
def result5 (c : Dev nD) : S1x8192.Idx → EReal := fun i => scale m c (i 1)

/-- and the weights' gradient. -/
def result6 (c : Dev nD) : S5120x8192.Idx → EReal := fun i => (∑ x : Fin 6144, term m c (i 0) (i 1) x) * scale m c (i 1)

theorem scale_blk (c : Dev nD) (t : Fin cfg0.N) (k : Fin 1024) (K : Fin 8192) (hK : K.val = t.val / 12 * 1024 + k.val) :
    (scaleOf fun r => (iblk m c 1 t : Vec Ideal S8x1024 .f32) (ix2 r k)) = scale m c K :=
  congrArg scaleOf (funext fun r => iblk1_apply c m t r k r K (by omega) hK)

theorem after4_apply (c : Dev nD) (t : Fin cfg0.N) (j : S1024x1024.Idx) (R : Fin 6144) (K : Fin 8192)
    (hR : R.val = min (t.val % 12) 5 * 1024 + (j 0).val) (hK : K.val = t.val / 12 * 1024 + (j 1).val) :
    (codesAt c m t : Vec Ideal S1024x1024 .fp8e5m2) j = result4 m c (ix2 R K) :=
  (codesOf_apply _ _ j).trans (congrArg₂ codeOf (iblk0_apply c m t _ _ R K hR hK) (scale_blk m c t _ K hK))

theorem after5_apply (c : Dev nD) (t : Fin cfg0.N) (j : S1x1024.Idx) (R : Fin 1) (K : Fin 8192)
    (hR : R.val = 0 + (j 0).val) (hK : K.val = t.val / 12 * 1024 + (j 1).val) :
    (k0_pay2 (iblk m c 1 t) : Vec Ideal S1x1024 .f32) j = result5 m c (ix2 R K) :=
  (pay2_apply _ j).trans (scale_blk m c t _ K hK)

/-- The contributions numbered by the naturals, zero past the last row. -/
def termN (c : Dev nD) (D : Fin 5120) (K : Fin 8192) (n : ℕ) : EReal := if h : n < 6144 then term m c D K ⟨n, h⟩ else 0

/-- One step adds the contributions of the 1024 rows of its block. -/
theorem step_apply (c : Dev nD) (t : Fin cfg0.N) (a : Vec Ideal S2560x1024 .f32) (j : S2560x1024.Idx) (D : Fin 5120) (K : Fin 8192)
    (hD : D.val = t.val % 12 / 6 * 2560 + (j 0).val) (hK : K.val = t.val / 12 * 1024 + (j 1).val) :
    (stepAt c m t a j : EReal) = (a j : EReal) + ∑ x ∈ Finset.range 1024, termN m c D K (1024 * (t.val % 6) + x) := by
  refine (pay6_apply _ _ _ _ j).trans (congrArg (_ + ·) ?_)
  rw [Finset.sum_range]
  refine Finset.sum_congr rfl fun x _ => ?_
  have hx : 1024 * (t.val % 6) + x.val < 6144 := by have := x.isLt; omega
  have hN : cfg0.N = 96 := N_0
  have ht := t.isLt
  have hs : (srcOf t).val = 12 * (t.val / 12) + t.val % 6 := rfl
  unfold termN
  rw [dif_pos hx]
  unfold term
  exact congrArg₂ (· * ·) (congrArg₂ (· * ·) (iblk2_apply c m t x (j 0) ⟨_, hx⟩ D (by show 1024 * (t.val % 6) + x.val = _; omega) hD)
      (iblk3_apply c m t x ⟨0, by decide⟩ ⟨_, hx⟩ 0 (by show 1024 * (t.val % 6) + x.val = _; omega) (by show 0 = 0 * 128 + 0; omega)))
    (after4_apply m c (srcOf t) (ix2 x (j 1)) ⟨_, hx⟩ K
      (by show 1024 * (t.val % 6) + x.val = min ((srcOf t).val % 12) 5 * 1024 + x.val; rw [hs]; omega)
      (by show K.val = (srcOf t).val / 12 * 1024 + (j 1).val; rw [hs]; omega))

/-- The sum up to a point: the contributions of every row so far. -/
theorem acc_apply (c : Dev nD) (j : S2560x1024.Idx) (D : Fin 5120) (K : Fin 8192) (n : ℕ) : ∀ (h : n < cfg0.N),
    D.val = n % 12 / 6 * 2560 + (j 0).val → K.val = n / 12 * 1024 + (j 1).val →
      (accAt c m n h j : EReal) = ∑ x ∈ Finset.range (1024 * (n % 6 + 1)), termN m c D K x := by
  induction n with
  | zero =>
    intro h hD hK
    refine (step_apply m c ⟨0, h⟩ (k0_pay5 (F := Ideal)) j D K hD hK).trans ?_
    rw [pay5_apply, zero_add]
    exact Finset.sum_congr rfl fun x _ => congrArg (termN m c D K) (Nat.zero_add x)
  | succ n ih =>
    intro h hD hK
    refine (step_apply m c ⟨n + 1, h⟩ _ j D K hD hK).trans ?_
    show _ + ∑ x ∈ Finset.range 1024, termN m c D K (1024 * ((n + 1) % 6) + x) = _
    by_cases h0 : (n + 1) % 6 = 0
    · rw [if_pos h0, pay5_apply, zero_add, h0]
      exact Finset.sum_congr rfl fun x _ => congrArg (termN m c D K) (Nat.zero_add x)
    · have e : (n + 1) % 6 = n % 6 + 1 := by omega
      rw [if_neg h0, ih (Nat.lt_of_succ_lt h) (by omega) (by omega), e, Nat.mul_add 1024 (n % 6 + 1) 1, Finset.sum_range_add]

theorem after6_apply (c : Dev nD) (t : Fin cfg0.N) (hf : t.val % 6 = 5) (j : S2560x1024.Idx) (D : Fin 5120) (K : Fin 8192)
    (hD : D.val = t.val % 12 / 6 * 2560 + (j 0).val) (hK : K.val = t.val / 12 * 1024 + (j 1).val) :
    (dwAt c m t : Vec Ideal S2560x1024 .f32) j = result6 m c (ix2 D K) := by
  unfold dwAt
  rw [if_pos hf]
  refine (pay1_apply _ _ j).trans (congrArg₂ (· * ·) ((acc_apply m c j D K t.val t.isLt hD hK).trans ?_) (scale_blk m c t _ K hK))
  rw [hf, show 1024 * (5 + 1) = 6144 from rfl, Finset.sum_range]
  exact Finset.sum_congr rfl fun x _ => dif_pos x.isLt

theorem extent4 : ∀ t : Fin cfg0.N, win0_4.xsize (grid0.coords t) 0 = 1024 ∧ win0_4.xsize (grid0.coords t) 1 = 1024 :=
  (by decide +kernel : ∀ t : Fin grid0.N, win0_4.xsize (grid0.coords t) 0 = 1024 ∧ win0_4.xsize (grid0.coords t) 1 = 1024)

theorem extent5 : ∀ t : Fin cfg0.N, win0_5.xsize (grid0.coords t) 0 = 1 ∧ win0_5.xsize (grid0.coords t) 1 = 1024 :=
  (by decide +kernel : ∀ t : Fin grid0.N, win0_5.xsize (grid0.coords t) 0 = 1 ∧ win0_5.xsize (grid0.coords t) 1 = 1024)

theorem extent6 : ∀ t : Fin cfg0.N, win0_6.xsize (grid0.coords t) 0 = 2560 ∧ win0_6.xsize (grid0.coords t) 1 = 1024 :=
  (by decide +kernel : ∀ t : Fin grid0.N, win0_6.xsize (grid0.coords t) 0 = 2560 ∧ win0_6.xsize (grid0.coords t) 1 = 1024)

theorem cover4 (i : S6144x8192.Idx) : ∃ t : Fin cfg0.N, (cfg0.win 4).flush t = true ∧ i ∈ ((cfg0.win 4).blk t).view.set := by
  have h0 : (i 0 : Nat) < 6144 := (i 0).isLt
  have h1 : (i 1 : Nat) < 8192 := (i 1).isLt
  have hN : cfg0.N = 96 := N_0
  have hlt : 12 * ((i 1).val / 1024) + ((i 0).val / 1024 + 6 * ((i 0).val / 1024 / 5)) < cfg0.N := by omega
  obtain ⟨t, htv⟩ : ∃ t : Fin cfg0.N, t.val = 12 * ((i 1).val / 1024) + ((i 0).val / 1024 + 6 * ((i 0).val / 1024 / 5)) := ⟨⟨_, hlt⟩, rfl⟩
  refine ⟨t, (flush0_4 t).mpr (by
    have hb : (i 0).val / 1024 < 6 := by omega
    rcases Nat.lt_or_ge ((i 0).val / 1024) 5 with h | h
    · have : (i 0).val / 1024 / 5 = 0 := by omega
      omega
    · have : (i 0).val / 1024 / 5 = 1 := by omega
      omega), ?_⟩
  have hi := index_facts t
  have hx : win0_4.xsize (grid0.coords t) 0 = 1024 ∧ win0_4.xsize (grid0.coords t) 1 = 1024 := extent4 t
  show i ∈ ((View.whole main_v4_0).slice (win0_4.rect t)).set
  rw [View.set_slice_whole, Rect.mem_set_unit]
  intro a
  match a with
  | ⟨0, _⟩ =>
    show win0_4.index t 0 * 1024 ≤ (i 0 : Nat) ∧ (i 0 : Nat) < win0_4.index t 0 * 1024 + win0_4.xsize (grid0.coords t) 0
    rw [hi.2.2.2.2.1.1, hx.1]; omega
  | ⟨1, _⟩ =>
    show win0_4.index t 1 * 1024 ≤ (i 1 : Nat) ∧ (i 1 : Nat) < win0_4.index t 1 * 1024 + win0_4.xsize (grid0.coords t) 1
    rw [hi.2.2.2.2.1.2, hx.2]; omega

theorem cover5 (i : S1x8192.Idx) : ∃ t : Fin cfg0.N, (cfg0.win 5).flush t = true ∧ i ∈ ((cfg0.win 5).blk t).view.set := by
  have h0 : (i 0 : Nat) < 1 := (i 0).isLt
  have h1 : (i 1 : Nat) < 8192 := (i 1).isLt
  have hN : cfg0.N = 96 := N_0
  have hlt : 12 * ((i 1).val / 1024) + 11 < cfg0.N := by omega
  obtain ⟨t, htv⟩ : ∃ t : Fin cfg0.N, t.val = 12 * ((i 1).val / 1024) + 11 := ⟨⟨_, hlt⟩, rfl⟩
  refine ⟨t, (flush0_5 t).mpr (by omega), ?_⟩
  have hi := index_facts t
  have hx : win0_5.xsize (grid0.coords t) 0 = 1 ∧ win0_5.xsize (grid0.coords t) 1 = 1024 := extent5 t
  show i ∈ ((View.whole main_v4_1).slice (win0_5.rect t)).set
  rw [View.set_slice_whole, Rect.mem_set_unit]
  intro a
  match a with
  | ⟨0, _⟩ =>
    show win0_5.index t 0 * 1 ≤ (i 0 : Nat) ∧ (i 0 : Nat) < win0_5.index t 0 * 1 + win0_5.xsize (grid0.coords t) 0
    rw [hi.2.2.2.2.2.1.1, hx.1]; omega
  | ⟨1, _⟩ =>
    show win0_5.index t 1 * 1024 ≤ (i 1 : Nat) ∧ (i 1 : Nat) < win0_5.index t 1 * 1024 + win0_5.xsize (grid0.coords t) 1
    rw [hi.2.2.2.2.2.1.2, hx.2]; omega

theorem cover6 (i : S5120x8192.Idx) : ∃ t : Fin cfg0.N, (cfg0.win 6).flush t = true ∧ i ∈ ((cfg0.win 6).blk t).view.set := by
  have h0 : (i 0 : Nat) < 5120 := (i 0).isLt
  have h1 : (i 1 : Nat) < 8192 := (i 1).isLt
  have hN : cfg0.N = 96 := N_0
  have hlt : 12 * ((i 1).val / 1024) + 6 * ((i 0).val / 2560) + 5 < cfg0.N := by omega
  obtain ⟨t, htv⟩ : ∃ t : Fin cfg0.N, t.val = 12 * ((i 1).val / 1024) + 6 * ((i 0).val / 2560) + 5 := ⟨⟨_, hlt⟩, rfl⟩
  refine ⟨t, (flush0_6 t).mpr (by omega), ?_⟩
  have hi := index_facts t
  have hx : win0_6.xsize (grid0.coords t) 0 = 2560 ∧ win0_6.xsize (grid0.coords t) 1 = 1024 := extent6 t
  show i ∈ ((View.whole main_v4_2).slice (win0_6.rect t)).set
  rw [View.set_slice_whole, Rect.mem_set_unit]
  intro a
  match a with
  | ⟨0, _⟩ =>
    show win0_6.index t 0 * 2560 ≤ (i 0 : Nat) ∧ (i 0 : Nat) < win0_6.index t 0 * 2560 + win0_6.xsize (grid0.coords t) 0
    rw [hi.2.2.2.2.2.2.1, hx.1]; omega
  | ⟨1, _⟩ =>
    show win0_6.index t 1 * 1024 ≤ (i 1 : Nat) ∧ (i 1 : Nat) < win0_6.index t 1 * 1024 + win0_6.xsize (grid0.coords t) 1
    rw [hi.2.2.2.2.2.2.2, hx.2]; omega

theorem flushed4_eq (c : Dev nD) (t : Fin cfg0.N) :
    (dats m 0 c).flushed 4 t = ((cfg0.win 4).blk t).view.read (Elt Ideal) (result4 m c) := by
  have hi := index_facts t
  have hN : cfg0.N = 96 := N_0
  have ht := t.isLt
  show (cfg0.win 4).cut (grid0.coords t) ((dats m 0 c).after 4 t) = _
  rw [after0_4]
  funext j
  rw [View.read_apply]
  have j0 : (j 0).val < 1024 := (j 0).isLt
  have j1 : (j 1).val < 1024 := (j 1).isLt
  refine (after4_apply m c t j ⟨min (t.val % 12) 5 * 1024 + (j 0).val, by omega⟩ ⟨t.val / 12 * 1024 + (j 1).val, by omega⟩ rfl rfl).trans ?_
  show result4 m c _ = result4 m c _
  congr 1
  funext a
  apply Fin.ext
  match a with
  | ⟨0, _⟩ => show min (t.val % 12) 5 * 1024 + (j 0).val = win0_4.index t 0 * 1024 + 1 * (j 0).val; rw [hi.2.2.2.2.1.1]; omega
  | ⟨1, _⟩ => show t.val / 12 * 1024 + (j 1).val = win0_4.index t 1 * 1024 + 1 * (j 1).val; rw [hi.2.2.2.2.1.2]; omega

theorem final4 (c : Dev nD) : (dats m 0 c).arrAt 4 cfg0.N = result4 m c :=
  (dats m 0 c).arrAt_eq_of_cover 4 (result4 m c) (fun t _ => flushed4_eq m c t) cover4

theorem flushed5_eq (c : Dev nD) (t : Fin cfg0.N) :
    (dats m 0 c).flushed 5 t = ((cfg0.win 5).blk t).view.read (Elt Ideal) (result5 m c) := by
  have hi := index_facts t
  have hN : cfg0.N = 96 := N_0
  have ht := t.isLt
  show (cfg0.win 5).cut (grid0.coords t) ((dats m 0 c).after 5 t) = _
  rw [after0_5]
  funext j
  rw [View.read_apply]
  have j0 : (j 0).val < 1 := (j 0).isLt
  have j1 : (j 1).val < 1024 := (j 1).isLt
  refine (after5_apply m c t j ⟨0 + (j 0).val, by omega⟩ ⟨t.val / 12 * 1024 + (j 1).val, by omega⟩ rfl rfl).trans ?_
  show result5 m c _ = result5 m c _
  congr 1
  funext a
  apply Fin.ext
  match a with
  | ⟨0, _⟩ => show 0 + (j 0).val = win0_5.index t 0 * 1 + 1 * (j 0).val; rw [hi.2.2.2.2.2.1.1]; omega
  | ⟨1, _⟩ => show t.val / 12 * 1024 + (j 1).val = win0_5.index t 1 * 1024 + 1 * (j 1).val; rw [hi.2.2.2.2.2.1.2]; omega

theorem final5 (c : Dev nD) : (dats m 0 c).arrAt 5 cfg0.N = result5 m c :=
  (dats m 0 c).arrAt_eq_of_cover 5 (result5 m c) (fun t _ => flushed5_eq m c t) cover5

theorem flushed6_eq (c : Dev nD) (t : Fin cfg0.N) (hfl : (cfg0.win 6).flush t = true) :
    (dats m 0 c).flushed 6 t = ((cfg0.win 6).blk t).view.read (Elt Ideal) (result6 m c) := by
  have hi := index_facts t
  have hN : cfg0.N = 96 := N_0
  have ht := t.isLt
  show (cfg0.win 6).cut (grid0.coords t) ((dats m 0 c).after 6 t) = _
  rw [after0_6]
  funext j
  rw [View.read_apply]
  have j0 : (j 0).val < 2560 := (j 0).isLt
  have j1 : (j 1).val < 1024 := (j 1).isLt
  refine (after6_apply m c t ((flush0_6 t).mp hfl) j ⟨t.val % 12 / 6 * 2560 + (j 0).val, by omega⟩ ⟨t.val / 12 * 1024 + (j 1).val, by omega⟩ rfl rfl).trans ?_
  show result6 m c _ = result6 m c _
  congr 1
  funext a
  apply Fin.ext
  match a with
  | ⟨0, _⟩ => show t.val % 12 / 6 * 2560 + (j 0).val = win0_6.index t 0 * 2560 + 1 * (j 0).val; rw [hi.2.2.2.2.2.2.1]; omega
  | ⟨1, _⟩ => show t.val / 12 * 1024 + (j 1).val = win0_6.index t 1 * 1024 + 1 * (j 1).val; rw [hi.2.2.2.2.2.2.2]; omega

theorem final6 (c : Dev nD) : (dats m 0 c).arrAt 6 cfg0.N = result6 m c :=
  (dats m 0 c).arrAt_eq_of_cover 6 (result6 m c) (fun t h => flushed6_eq m c t h) cover6

/-- The run, its three results named and the arguments unchanged. -/
theorem run_blocks : θ_run defs (onTc (τ := τ) (main (F := Ideal))) ⟨m, fun _ => 0, ρ⟩ fun r => ∀ c : Dev nD,
      r.2.mem ((c : Thread nD τ).loc main_v4_0) = result4 m c
      ∧ r.2.mem ((c : Thread nD τ).loc main_v4_1) = result5 m c
      ∧ r.2.mem ((c : Thread nD τ).loc main_v4_2) = result6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 4).trans (final4 m c), ((h.1 c).1 5).trans (final5 m c), ((h.1 c).1 6).trans (final6 m c), h.2 c⟩)
    (θ_run_and (run_main m ρ) (frame_of m ρ (dats m) (A_eq m) (run_main m ρ)))

theorem V_v0 (c : Dev nD) : V m c main_v0 = shapeCast S6144x8192 (m ((c.tc : Thread nD τ).loc main_arg0)) shapeCasts_S2x3072x8192_S6144x8192 := by
  entry_read
  rfl

theorem V_v1 (c : Dev nD) : V m c main_v1 = shapeCast S6144x5120 (m ((c.tc : Thread nD τ).loc main_arg2)) shapeCasts_S2x3072x5120_S6144x5120 := by
  entry_read
  rfl

theorem V_v3 (c : Dev nD) : V m c main_v3 = broadcastInDim S6144x128 ![0, 1] bcast_S6144x1_S6144x128_0_1 (shapeCast S6144x1 (m ((c.tc : Thread nD τ).loc main_arg3)) shapeCasts_S2x3072_S6144x1) := by
  entry_read
  rfl

end Cert.DwqkvIdeal.DwqkvValue
end
-- ==== Proof.DwqkvRefValue.lean ====
module

public import proofs.«01_k».proof.Defs
public import proofs.«01_k».proof.Proof.DwqkvValue
public import proofs.«01_k».proof.Proof.Gen.DwqkvRefIdeal.Value
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwqkvRefIdeal.DwqkvValue

open Cert.DwqkvRefIdeal Cert.DwqkvRefIdeal.Gen Cert.DwqkvMath

theorem hz : (![0, 0] : Fin 2 → Nat) = fun _ => 0 := funext fun a => by fin_cases a <;> rfl

set_option maxRecDepth 1000000

theorem pay1_apply (v0 : Vec Ideal S8x8192 .f32) (j : S1x8192.Idx) : k0_pay1 v0 j = scaleOf fun r => v0 (ix2 r (j 1)) := by
  pointwise! [k0_pay1]

theorem pay2_apply (v0 : Vec Ideal S8x8192 .f32) (v9 : Vec Ideal S6144x8192 .f32) (j : S6144x8192.Idx) :
    (k0_pay2 v0 v9 j : EReal) = codeOf (v9 j) (scaleOf fun r => v0 (ix2 r (j 1))) := by
  refine Eq.trans ?_ (congrArg (codeOf _) (pay1_apply v0 (ix2 0 (j 1))))
  pointwise! [k0_pay2]

theorem pay3_apply (v0 : Vec Ideal S8x8192 .f32) (v9 : Vec Ideal S6144x8192 .f32) (v18 : Vec Ideal S6144x5120 .fp8e4m3)
    (v21 : Vec Ideal S6144x1 .f32) (j : S5120x8192.Idx) :
    (k0_pay3 v0 v9 v18 v21 j : EReal)
      = (∑ x : Fin 6144, ((v18 (ix2 x (j 0)) : EReal) * (v21 (ix2 x 0) : EReal)) * (k0_pay2 v0 v9 (ix2 x (j 1)) : EReal)) * k0_pay1 v0 (ix2 0 (j 1)) := by
  pointwise! [k0_pay3]

set_option maxRecDepth 16384

variable (m : (ℓ : Loc nD τ sig) → Buf (Elt Ideal) ℓ) (ρ : Dev nD → PrngReg)

/-- What each of the reference's results holds after the run, over the arrays its call reads. -/
def result4 (c : Dev nD) : S6144x8192.Idx → EReal := k0_pay2 (V m c main_arg1) (V m c main_v0)

def result5 (c : Dev nD) : S1x8192.Idx → EReal := k0_pay1 (V m c main_arg1)

def result6 (c : Dev nD) : S5120x8192.Idx → EReal := k0_pay3 (V m c main_arg1) (V m c main_v0) (V m c main_v1) (V m c main_v2)

theorem iblk0_eq (c : Dev nD) (t : Fin cfg0.N) : iblk m c 0 t = V m c main_v0 :=
  Memref.read_access_unit_zero (Elt Ideal) main_v0 (off := fun a => win0_0.index t a * main_v0.ty.shape.size a)
    (funext fun a => by rcases fin_N0 t with rfl; fin_cases a <;> decide +kernel)
    (fun a => by rcases fin_N0 t with rfl; fin_cases a <;> decide +kernel) (V m c main_v0)

theorem iblk1_eq (c : Dev nD) (t : Fin cfg0.N) : iblk m c 1 t = V m c main_arg1 :=
  Memref.read_access_unit_zero (Elt Ideal) main_arg1 (off := fun a => win0_1.index t a * main_arg1.ty.shape.size a)
    (funext fun a => by rcases fin_N0 t with rfl; fin_cases a <;> decide +kernel)
    (fun a => by rcases fin_N0 t with rfl; fin_cases a <;> decide +kernel) (V m c main_arg1)

theorem iblk2_eq (c : Dev nD) (t : Fin cfg0.N) : iblk m c 2 t = V m c main_v1 :=
  Memref.read_access_unit_zero (Elt Ideal) main_v1 (off := fun a => win0_2.index t a * main_v1.ty.shape.size a)
    (funext fun a => by rcases fin_N0 t with rfl; fin_cases a <;> decide +kernel)
    (fun a => by rcases fin_N0 t with rfl; fin_cases a <;> decide +kernel) (V m c main_v1)

theorem iblk3_eq (c : Dev nD) (t : Fin cfg0.N) : iblk m c 3 t = V m c main_v2 :=
  Memref.read_access_unit_zero (Elt Ideal) main_v2 (off := fun a => win0_3.index t a * main_v2.ty.shape.size a)
    (funext fun a => by rcases fin_N0 t with rfl; fin_cases a <;> decide +kernel)
    (fun a => by rcases fin_N0 t with rfl; fin_cases a <;> decide +kernel) (V m c main_v2)

theorem flushed4_eq (c : Dev nD) (t : Fin cfg0.N) :
    (dats m 0 c).flushed 4 t = ((cfg0.win 4).blk t).view.read (Elt Ideal) (result4 m c) := by
  have h : ((cfg0.win 4).blk t).view.read (Elt Ideal) (result4 m c) = result4 m c :=
    Memref.read_access_unit_zero (Elt Ideal) main_v3_0 (off := fun a => win0_4.index t a * main_v3_0.ty.shape.size a)
      (funext fun a => by rcases fin_N0 t with rfl; fin_cases a <;> decide +kernel)
      (fun a => by rcases fin_N0 t with rfl; fin_cases a <;> decide +kernel) _
  rw [Value.flushed4, iblk0_eq, iblk1_eq, iblk2_eq, iblk3_eq]
  unfold out0_4
  rw [View.canon_unit_zero hz]
  repeat rw [View.ld_unit_zero hz]
  exact h.symm

theorem cover4 (i : S6144x8192.Idx) : ∃ t : Fin cfg0.N, (cfg0.win 4).flush t = true ∧ i ∈ ((cfg0.win 4).blk t).view.set := by
  have hN : cfg0.N = 1 := N_0
  refine ⟨⟨0, by omega⟩, flush0_4 _, ?_⟩
  set t : Fin cfg0.N := ⟨0, by omega⟩ with ht
  have h0 : (i 0 : Nat) < 6144 := (i 0).isLt
  have h1 : (i 1 : Nat) < 8192 := (i 1).isLt
  have e : win0_4.index t 0 * win0_4.size 0 = 0 ∧ win0_4.xsize (grid0.coords t) 0 = 6144
      ∧ win0_4.index t 1 * win0_4.size 1 = 0 ∧ win0_4.xsize (grid0.coords t) 1 = 8192 := by
    rcases fin_N0 t with h; rw [h]; decide +kernel
  show i ∈ ((View.whole main_v3_0).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [e.1, e.2.1]; omega
  | ⟨1, _⟩ =>
    show win0_4.index t 1 * win0_4.size 1 ≤ (i 1 : Nat) ∧ (i 1 : Nat) < win0_4.index t 1 * win0_4.size 1 + win0_4.xsize (grid0.coords t) 1
    rw [e.2.2.1, e.2.2.2]; omega

theorem final4 (c : Dev nD) : (dats m 0 c).arrAt 4 cfg0.N = result4 m c :=
  (dats m 0 c).arrAt_eq_of_cover 4 (result4 m c) (fun t _ => flushed4_eq m c t) cover4

theorem flushed5_eq (c : Dev nD) (t : Fin cfg0.N) :
    (dats m 0 c).flushed 5 t = ((cfg0.win 5).blk t).view.read (Elt Ideal) (result5 m c) := by
  have h : ((cfg0.win 5).blk t).view.read (Elt Ideal) (result5 m c) = result5 m c :=
    Memref.read_access_unit_zero (Elt Ideal) main_v3_1 (off := fun a => win0_5.index t a * main_v3_1.ty.shape.size a)
      (funext fun a => by rcases fin_N0 t with rfl; fin_cases a <;> decide +kernel)
      (fun a => by rcases fin_N0 t with rfl; fin_cases a <;> decide +kernel) _
  rw [Value.flushed5, iblk0_eq, iblk1_eq, iblk2_eq, iblk3_eq]
  unfold out0_5
  rw [View.canon_unit_zero hz]
  repeat rw [View.ld_unit_zero hz]
  exact h.symm

theorem cover5 (i : S1x8192.Idx) : ∃ t : Fin cfg0.N, (cfg0.win 5).flush t = true ∧ i ∈ ((cfg0.win 5).blk t).view.set := by
  have hN : cfg0.N = 1 := N_0
  refine ⟨⟨0, by omega⟩, flush0_5 _, ?_⟩
  set t : Fin cfg0.N := ⟨0, by omega⟩ with ht
  have h0 : (i 0 : Nat) < 1 := (i 0).isLt
  have h1 : (i 1 : Nat) < 8192 := (i 1).isLt
  have e : win0_5.index t 0 * win0_5.size 0 = 0 ∧ win0_5.xsize (grid0.coords t) 0 = 1
      ∧ win0_5.index t 1 * win0_5.size 1 = 0 ∧ win0_5.xsize (grid0.coords t) 1 = 8192 := by
    rcases fin_N0 t with h; rw [h]; decide +kernel
  show i ∈ ((View.whole main_v3_1).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + win0_5.xsize (grid0.coords t) 0
    rw [e.1, e.2.1]; omega
  | ⟨1, _⟩ =>
    show win0_5.index t 1 * win0_5.size 1 ≤ (i 1 : Nat) ∧ (i 1 : Nat) < win0_5.index t 1 * win0_5.size 1 + win0_5.xsize (grid0.coords t) 1
    rw [e.2.2.1, e.2.2.2]; omega

theorem final5 (c : Dev nD) : (dats m 0 c).arrAt 5 cfg0.N = result5 m c :=
  (dats m 0 c).arrAt_eq_of_cover 5 (result5 m c) (fun t _ => flushed5_eq m c t) cover5

theorem flushed6_eq (c : Dev nD) (t : Fin cfg0.N) :
    (dats m 0 c).flushed 6 t = ((cfg0.win 6).blk t).view.read (Elt Ideal) (result6 m c) := by
  have h : ((cfg0.win 6).blk t).view.read (Elt Ideal) (result6 m c) = result6 m c :=
    Memref.read_access_unit_zero (Elt Ideal) main_v3_2 (off := fun a => win0_6.index t a * main_v3_2.ty.shape.size a)
      (funext fun a => by rcases fin_N0 t with rfl; fin_cases a <;> decide +kernel)
      (fun a => by rcases fin_N0 t with rfl; fin_cases a <;> decide +kernel) _
  rw [Value.flushed6, iblk0_eq, iblk1_eq, iblk2_eq, iblk3_eq]
  unfold out0_6
  rw [View.canon_unit_zero hz]
  repeat rw [View.ld_unit_zero hz]
  exact h.symm

theorem cover6 (i : S5120x8192.Idx) : ∃ t : Fin cfg0.N, (cfg0.win 6).flush t = true ∧ i ∈ ((cfg0.win 6).blk t).view.set := by
  have hN : cfg0.N = 1 := N_0
  refine ⟨⟨0, by omega⟩, flush0_6 _, ?_⟩
  set t : Fin cfg0.N := ⟨0, by omega⟩ with ht
  have h0 : (i 0 : Nat) < 5120 := (i 0).isLt
  have h1 : (i 1 : Nat) < 8192 := (i 1).isLt
  have e : win0_6.index t 0 * win0_6.size 0 = 0 ∧ win0_6.xsize (grid0.coords t) 0 = 5120
      ∧ win0_6.index t 1 * win0_6.size 1 = 0 ∧ win0_6.xsize (grid0.coords t) 1 = 8192 := by
    rcases fin_N0 t with h; rw [h]; decide +kernel
  show i ∈ ((View.whole main_v3_2).slice (win0_6.rect t)).set
  rw [View.set_slice_whole, Rect.mem_set_unit]
  intro a
  match a with
  | ⟨0, _⟩ =>
    show win0_6.index t 0 * win0_6.size 0 ≤ (i 0 : Nat) ∧ (i 0 : Nat) < win0_6.index t 0 * win0_6.size 0 + win0_6.xsize (grid0.coords t) 0
    rw [e.1, e.2.1]; omega
  | ⟨1, _⟩ =>
    show win0_6.index t 1 * win0_6.size 1 ≤ (i 1 : Nat) ∧ (i 1 : Nat) < win0_6.index t 1 * win0_6.size 1 + win0_6.xsize (grid0.coords t) 1
    rw [e.2.2.1, e.2.2.2]; omega

theorem final6 (c : Dev nD) : (dats m 0 c).arrAt 6 cfg0.N = result6 m c :=
  (dats m 0 c).arrAt_eq_of_cover 6 (result6 m c) (fun t _ => flushed6_eq m c t) cover6

theorem V_v0 (c : Dev nD) : V m c main_v0 = shapeCast S6144x8192 (m ((c.tc : Thread nD τ).loc main_arg0)) shapeCasts_S2x3072x8192_S6144x8192 := by
  entry_read
  rfl

theorem V_v1 (c : Dev nD) : V m c main_v1 = shapeCast S6144x5120 (m ((c.tc : Thread nD τ).loc main_arg2)) shapeCasts_S2x3072x5120_S6144x5120 := by
  entry_read
  rfl

theorem V_v2 (c : Dev nD) : V m c main_v2 = shapeCast S6144x1 (m ((c.tc : Thread nD τ).loc main_arg3)) shapeCasts_S2x3072_S6144x1 := by
  entry_read
  rfl

end Cert.DwqkvRefIdeal.DwqkvValue
end
-- ==== Proof.DwqkvClaim.lean ====
module

public import proofs.«01_k».proof.Defs
public import proofs.«01_k».proof.Proof.DwqkvRefValue
public import proofs.«01_k».proof.Proof.Gen.DwqkvIdeal
public import proofs.«01_k».proof.Proof.Gen.DwqkvRefIdeal
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwqkvClaim

open Cert.DwqkvMath

/-- The row scales: repeated over the lanes for the kernel, which reads the first lane. -/
theorem lane_eq (x : Vec Ideal Cert.DwqkvIdeal.S6144x1 .f32) (r : Fin 6144) :
    broadcastInDim Cert.DwqkvIdeal.S6144x128 ![0, 1] Cert.DwqkvIdeal.Gen.bcast_S6144x1_S6144x128_0_1 x (ix2 r (0 : Fin 128)) = x (ix2 r 0) := by
  pointwise!

variable (m : (ℓ : Loc Cert.DwqkvIdeal.nD Cert.DwqkvIdeal.τ Cert.DwqkvIdeal.sig) → Buf (Elt Ideal) ℓ)
    (m' : (ℓ : Loc Cert.DwqkvRefIdeal.nD Cert.DwqkvRefIdeal.τ Cert.DwqkvRefIdeal.sig) → Buf (Elt Ideal) ℓ) (c : Dev Cert.DwqkvIdeal.nD)
    (h0 : m' ((c.tc : Thread Cert.DwqkvRefIdeal.nD Cert.DwqkvRefIdeal.τ).loc Cert.DwqkvRefIdeal.main_arg0) = m ((c.tc : Thread Cert.DwqkvIdeal.nD Cert.DwqkvIdeal.τ).loc Cert.DwqkvIdeal.main_arg0))
    (h1 : m' ((c.tc : Thread Cert.DwqkvRefIdeal.nD Cert.DwqkvRefIdeal.τ).loc Cert.DwqkvRefIdeal.main_arg1) = m ((c.tc : Thread Cert.DwqkvIdeal.nD Cert.DwqkvIdeal.τ).loc Cert.DwqkvIdeal.main_arg1))
    (h2 : m' ((c.tc : Thread Cert.DwqkvRefIdeal.nD Cert.DwqkvRefIdeal.τ).loc Cert.DwqkvRefIdeal.main_arg2) = m ((c.tc : Thread Cert.DwqkvIdeal.nD Cert.DwqkvIdeal.τ).loc Cert.DwqkvIdeal.main_arg2))
    (h3 : m' ((c.tc : Thread Cert.DwqkvRefIdeal.nD Cert.DwqkvRefIdeal.τ).loc Cert.DwqkvRefIdeal.main_arg3) = m ((c.tc : Thread Cert.DwqkvIdeal.nD Cert.DwqkvIdeal.τ).loc Cert.DwqkvIdeal.main_arg3))

include h1 in
theorem result5_eq : Cert.DwqkvRefIdeal.DwqkvValue.result5 m' c = Cert.DwqkvIdeal.DwqkvValue.result5 m c := by
  funext i
  unfold Cert.DwqkvRefIdeal.DwqkvValue.result5 Cert.DwqkvIdeal.DwqkvValue.result5 Cert.DwqkvIdeal.DwqkvValue.scale
  rw [Cert.DwqkvRefIdeal.DwqkvValue.pay1_apply, Cert.DwqkvRefIdeal.Gen.V_main_arg1, Cert.DwqkvIdeal.Gen.V_main_arg1, h1]

include h0 h1 in
theorem result4_eq : Cert.DwqkvRefIdeal.DwqkvValue.result4 m' c = Cert.DwqkvIdeal.DwqkvValue.result4 m c := by
  funext i
  unfold Cert.DwqkvRefIdeal.DwqkvValue.result4 Cert.DwqkvIdeal.DwqkvValue.result4 Cert.DwqkvIdeal.DwqkvValue.scale
  rw [Cert.DwqkvRefIdeal.DwqkvValue.pay2_apply, Cert.DwqkvRefIdeal.DwqkvValue.V_v0, Cert.DwqkvIdeal.DwqkvValue.V_v0,
    Cert.DwqkvRefIdeal.Gen.V_main_arg1, Cert.DwqkvIdeal.Gen.V_main_arg1, h0, h1]
  exact congrArg₂ codeOf (congrArg _ (eq_ix2 i)) rfl

include h0 h1 h2 h3 in
theorem result6_eq : Cert.DwqkvRefIdeal.DwqkvValue.result6 m' c = Cert.DwqkvIdeal.DwqkvValue.result6 m c := by
  funext i
  unfold Cert.DwqkvRefIdeal.DwqkvValue.result6 Cert.DwqkvIdeal.DwqkvValue.result6 Cert.DwqkvIdeal.DwqkvValue.term Cert.DwqkvIdeal.DwqkvValue.scale mul3
  rw [Cert.DwqkvRefIdeal.DwqkvValue.pay3_apply, Cert.DwqkvRefIdeal.DwqkvValue.pay1_apply]
  refine congrArg₂ (· * ·) (Finset.sum_congr rfl fun x _ => ?_) ?_
  · rw [Cert.DwqkvRefIdeal.DwqkvValue.pay2_apply, Cert.DwqkvRefIdeal.DwqkvValue.V_v0, Cert.DwqkvIdeal.DwqkvValue.V_v0, Cert.DwqkvRefIdeal.DwqkvValue.V_v1,
      Cert.DwqkvIdeal.DwqkvValue.V_v1, Cert.DwqkvRefIdeal.DwqkvValue.V_v2, Cert.DwqkvIdeal.DwqkvValue.V_v3,
      Cert.DwqkvRefIdeal.Gen.V_main_arg1, Cert.DwqkvIdeal.Gen.V_main_arg1, h0, h1, h2, h3]
    exact congrArg₂ (· * ·) (congrArg₂ (· * ·) rfl (lane_eq _ _).symm) rfl
  · rw [Cert.DwqkvRefIdeal.Gen.V_main_arg1, Cert.DwqkvIdeal.Gen.V_main_arg1, h1]
    rfl

theorem algebraic : Cert.algebraic_DwqkvIdeal_DwqkvRefIdeal := by
  pair_intro
  · run_from (Cert.DwqkvIdeal.DwqkvValue.run_blocks m g)
  · run_from (Cert.DwqkvRefIdeal.Value.run_blocks m' g') <;>
      simp only [Cert.DwqkvRefIdeal.DwqkvValue.final4, Cert.DwqkvRefIdeal.DwqkvValue.final5, Cert.DwqkvRefIdeal.DwqkvValue.final6]
    · exact result4_eq m m' c (hagree c).1 (hagree c).2.1
    · exact result5_eq m m' c (hagree c).2.1
    · exact result6_eq m m' c (hagree c).1 (hagree c).2.1 (hagree c).2.2.1 (hagree c).2.2.2

end Cert.DwqkvClaim
end
-- ==== Proof.DynMath.lean ====
module

public import proofs.«01_k».proof.Defs
public import Idealize.ShloMosaic.PureOps.Ideal.Laws
public import Idealize.ShloMosaic.Lib.IndicatorCount

@[expose] public section

set_option maxRecDepth 16384

noncomputable section

open Idealize.ShloMosaic

namespace Cert.DynMath

/-- The float whose word is `k` shifted into the exponent field. -/
def P (k : BitVec 32) : EReal := Ideal.ofBits .f32 (k <<< 23)

/-- The fields of such a word. -/
theorem word_fields : ∀ k : Fin 256, (BitVec.ofNat 32 k.val <<< 23).extractLsb' 31 1 = 0#1
    ∧ ((BitVec.ofNat 32 k.val <<< 23).extractLsb' 23 8).toNat = k.val
    ∧ ((BitVec.ofNat 32 k.val <<< 23).extractLsb' 0 23).toNat = 0 := by
  decide +kernel

/-- It is a power of two, save at the two ends, where it is zero and infinity. -/
theorem P_eq (k : ℕ) (hk : k < 256) : P (BitVec.ofNat 32 k)
    = if k = 255 then ⊤ else if k = 0 then 0 else (((2 : ℝ) ^ ((k : ℤ) - 127) : ℝ) : EReal) := by
  have h := word_fields ⟨k, hk⟩
  dsimp only at h
  unfold P
  show Ideal.ieee 8 23 _ = _
  unfold Ideal.ieee
  simp only [Nat.reduceAdd, h.1, h.2.1, h.2.2]
  by_cases h255 : k = 255
  · subst h255; simp
  · by_cases h0 : k = 0
    · subst h0; simp
    · rw [if_neg (by norm_num; exact h255), if_neg h0, if_neg h255, if_neg h0]
      congr 1
      have e : (2 : ℝ) ^ ((k : ℤ) - 127) = 2 ^ 23 * (2 : ℝ) ^ ((k : ℤ) - (2 ^ (8 - 1) - 1) - (23 : ℕ)) := by
        rw [← zpow_natCast (2 : ℝ) 23, ← zpow_add₀ (by norm_num)]
        congr 1; push_cast; ring
      rw [e]; norm_num

/-- How many of the 256 powers are at most `m`. -/
def cnt (m : EReal) : ℕ := (Finset.univ.filter fun k : Fin 256 => P (BitVec.ofNat 32 k.val) ≤ m).card

theorem cnt_eq (m : EReal) (N : ℕ) (hN : N < 255) (h : ∀ k : ℕ, k < 256 → (P (BitVec.ofNat 32 k) ≤ m ↔ k ≤ N)) :
    cnt m = N + 1 := by
  unfold cnt
  have e : (Finset.univ.filter fun k : Fin 256 => P (BitVec.ofNat 32 k.val) ≤ m)
      = Finset.Iic (⟨N, by omega⟩ : Fin 256) := by
    ext k
    rw [Finset.mem_filter, Finset.mem_Iic, Fin.le_def]
    exact ⟨fun hk => (h k.val k.isLt).1 hk.2, fun hk => ⟨Finset.mem_univ _, (h k.val k.isLt).2 hk⟩⟩
  rw [e, Fin.card_Iic]

/-- The kernel's exponent field of `m`: the count less one, and 126 for the field zero. -/
def fieldOf (m : EReal) : BitVec 32 :=
  if BitVec.ofNat 32 (cnt m) - 1#32 = 0#32 then 126#32 else BitVec.ofNat 32 (cnt m) - 1#32

/-- The kernel's scale and its inverse. -/
def scaleOf (m : EReal) : EReal := P (fieldOf m + 1#32)

def invOf (m : EReal) : EReal := P (253#32 - fieldOf m)

/-- The constant `1 / 57344` in f32, and 2. -/
def C : EReal := Ideal.ofBits .f32 0x37924925#32

def two : EReal := Ideal.ofBits .f32 0x40000000#32

/-- The reference's exponent of a row whose greatest magnitude is `a`. -/
def refExp (a : EReal) : EReal :=
  if a = 0 then 0 else Ideal.liftRound Int.floor (Ideal.div (Ideal.log (a * C)) (Ideal.log two)) + 1

/-- The rows the claim is about: a zero row, and one whose scale is in the normal range of f32. -/
def Normal (m : EReal) : Prop := m = 0 ∨ (P 1#32 ≤ m ∧ m < P 253#32)

theorem two_eq : two = ((2 : ℝ) : EReal) := by
  unfold two
  simp [Ideal.ofBits, Ideal.ieee, -EReal.coe_mul]; norm_num

theorem C_ne_zero : C ≠ 0 := by
  have e : C = ((9586981 * 2 ^ (-39 : ℤ) : ℝ) : EReal) := by
    unfold C
    simp [Ideal.ofBits, Ideal.ieee, -EReal.coe_mul]
  rw [e]
  intro h0
  have := EReal.coe_eq_zero.1 h0
  norm_num at this

theorem exp2_coe (r : ℝ) : Ideal.exp2 (r : EReal) = ((2 : ℝ) ^ r : ℝ) := rfl

theorem exp2_int (z : ℤ) : Ideal.exp2 ((z : ℝ) : EReal) = (((2 : ℝ) ^ z : ℝ) : EReal) := by
  rw [exp2_coe, Real.rpow_intCast]

theorem P_mid (k : ℕ) (h0 : k ≠ 0) (h1 : k < 255) : P (BitVec.ofNat 32 k) = (((2 : ℝ) ^ ((k : ℤ) - 127) : ℝ) : EReal) := by
  rw [P_eq k (by omega), if_neg (by omega), if_neg h0]

/-- A zero row: the scale and its inverse are one. -/
theorem zero_field : fieldOf 0 = 126#32 := by
  have hc : cnt 0 = 0 + 1 := cnt_eq 0 0 (by omega) fun k hk => by
    rw [P_eq k hk]
    by_cases h255 : k = 255
    · subst h255; simp
    · rw [if_neg h255]
      by_cases h0 : k = 0
      · subst h0; simp
      · rw [if_neg h0]
        have : ¬ ((((2 : ℝ) ^ ((k : ℤ) - 127) : ℝ) : EReal) ≤ 0) := by
          rw [not_le]; exact EReal.coe_pos.2 (by positivity)
        constructor
        · intro h; exact absurd h this
        · intro h; omega
  unfold fieldOf
  rw [hc]; rfl

/-- A nonzero row between two powers of two: its field. -/
theorem pos_field (r : ℝ) (n : ℤ) (h0 : (2 : ℝ) ^ n ≤ r) (h1 : r < (2 : ℝ) ^ (n + 1)) (hn0 : -126 ≤ n) (hn1 : n ≤ 125) :
    ∃ N : ℕ, (N : ℤ) = n + 127 ∧ fieldOf (r : EReal) = BitVec.ofNat 32 N := by
  obtain ⟨N, hN⟩ : ∃ N : ℕ, (N : ℤ) = n + 127 := ⟨(n + 127).toNat, by omega⟩
  refine ⟨N, hN, ?_⟩
  have hr : 0 < r := lt_of_lt_of_le (by positivity) h0
  have hc : cnt (r : EReal) = N + 1 := cnt_eq _ N (by omega) fun k hk => by
    by_cases h255 : k = 255
    · subst h255
      rw [P_eq 255 (by omega), if_pos rfl]
      constructor
      · intro h; exact absurd (top_le_iff.1 h) (EReal.coe_ne_top r)
      · intro h; omega
    · by_cases hk0 : k = 0
      · subst hk0
        rw [P_eq 0 (by omega), if_neg (by omega), if_pos rfl]
        exact ⟨fun _ => Nat.zero_le _, fun _ => EReal.coe_nonneg.2 hr.le⟩
      · rw [P_mid k hk0 (by omega), EReal.coe_le_coe_iff]
        constructor
        · intro h
          have := (zpow_lt_zpow_iff_right₀ (by norm_num : (1 : ℝ) < 2)).1 (lt_of_le_of_lt h h1)
          omega
        · intro h
          exact le_trans ((zpow_le_zpow_iff_right₀ (by norm_num : (1 : ℝ) < 2)).2 (by omega)) h0
  unfold fieldOf
  have e : BitVec.ofNat 32 (cnt (r : EReal)) - 1#32 = BitVec.ofNat 32 N := by
    rw [hc]
    apply BitVec.eq_of_toNat_eq
    simp only [BitVec.toNat_sub, BitVec.toNat_ofNat]
    omega
  rw [e, if_neg]
  intro h
  have := congrArg BitVec.toNat h
  simp only [BitVec.toNat_ofNat] at this
  omega

/-- The reference's exponent of such a row. -/
theorem floor_log (r : ℝ) (n : ℤ) (h0 : (2 : ℝ) ^ n ≤ r) (h1 : r < (2 : ℝ) ^ (n + 1)) :
    Ideal.liftRound Int.floor (Ideal.div (Ideal.log (r : EReal)) (Ideal.log two)) = ((n : ℝ) : EReal) := by
  have hr : 0 < r := lt_of_lt_of_le (by positivity) h0
  have hl : 0 < Real.log 2 := Real.log_pos (by norm_num)
  have e0 : Ideal.log (r : EReal) = ((Real.log r : ℝ) : EReal) := by
    show (if r ≤ 0 then ⊥ else (Real.log r : EReal)) = _
    rw [if_neg (not_le.2 hr)]
  have e1 : Ideal.log two = ((Real.log 2 : ℝ) : EReal) := by
    rw [two_eq]
    show (if (2 : ℝ) ≤ 0 then ⊥ else (Real.log 2 : EReal)) = _
    rw [if_neg (by norm_num)]
  have e2 : Ideal.div ((Real.log r : ℝ) : EReal) ((Real.log 2 : ℝ) : EReal) = ((Real.log r / Real.log 2 : ℝ) : EReal) := by
    unfold Ideal.div
    rw [if_neg (by intro h; exact hl.ne' (EReal.coe_eq_zero.1 h)), ← EReal.coe_inv, ← EReal.coe_mul, div_eq_mul_inv]
  rw [e0, e1, e2]
  show (((Int.floor (Real.log r / Real.log 2) : ℤ) : ℝ) : EReal) = _
  congr 2
  rw [Int.floor_eq_iff]
  constructor
  · rw [le_div_iff₀ hl, ← Real.log_zpow]
    exact Real.log_le_log (by positivity) h0
  · rw [div_lt_iff₀ hl]
    have : ((n : ℝ) + 1) * Real.log 2 = Real.log ((2 : ℝ) ^ (n + 1)) := by rw [Real.log_zpow]; push_cast; ring
    rw [this]
    exact Real.log_lt_log hr h1

/-- A row in the normal range lies between two powers of two. -/
theorem between (m : EReal) (h0 : P 1#32 ≤ m) (h1 : m < P 253#32) :
    ∃ (r : ℝ) (n : ℤ), m = (r : EReal) ∧ (2 : ℝ) ^ n ≤ r ∧ r < (2 : ℝ) ^ (n + 1) ∧ -126 ≤ n ∧ n ≤ 125 := by
  have p1 : P 1#32 = (((2 : ℝ) ^ (-126 : ℤ) : ℝ) : EReal) := (P_mid 1 (by omega) (by omega)).trans (by norm_num)
  have p2 : P 253#32 = (((2 : ℝ) ^ (126 : ℤ) : ℝ) : EReal) := (P_mid 253 (by omega) (by omega)).trans (by norm_num)
  rw [p1] at h0
  rw [p2] at h1
  induction m with
  | bot => exact absurd (le_bot_iff.1 h0) (EReal.coe_ne_bot _)
  | top => exact absurd h1 (not_lt.2 le_top)
  | coe r =>
    rw [EReal.coe_le_coe_iff] at h0
    rw [EReal.coe_lt_coe_iff] at h1
    obtain ⟨n, hn⟩ := exists_mem_Ico_zpow (lt_of_lt_of_le (by positivity) h0) (by norm_num : (1 : ℝ) < 2)
    refine ⟨r, n, rfl, hn.1, hn.2, ?_, ?_⟩
    · have := (zpow_lt_zpow_iff_right₀ (by norm_num : (1 : ℝ) < 2)).1 (lt_of_le_of_lt h0 hn.2)
      omega
    · have := (zpow_lt_zpow_iff_right₀ (by norm_num : (1 : ℝ) < 2)).1 (lt_of_le_of_lt hn.1 h1)
      omega

/-- The kernel's scale of a row is the reference's. -/
theorem scale_eq (a : EReal) (h : Normal (a * C)) : Ideal.exp2 (refExp a) = scaleOf (a * C) := by
  unfold refExp scaleOf
  by_cases ha : a = 0
  · subst ha
    rw [if_pos rfl, zero_mul, zero_field]
    refine (exp2_int 0 ▸ (by norm_num) : Ideal.exp2 (0 : EReal) = (((2 : ℝ) ^ (0 : ℤ) : ℝ) : EReal)).trans ?_
    exact ((P_mid 127 (by omega) (by omega)).trans (by norm_num)).symm
  · rw [if_neg ha]
    rcases h with h | ⟨h0, h1⟩
    · exact absurd h (mul_ne_zero ha C_ne_zero)
    · obtain ⟨r, n, e, hl, hu, hn0, hn1⟩ := between _ h0 h1
      obtain ⟨N, hN, hf⟩ := pos_field r n hl hu hn0 hn1
      rw [e, floor_log r n hl hu, hf]
      have e1 : ((n : ℝ) : EReal) + 1 = (((n + 1 : ℤ) : ℝ) : EReal) := by push_cast; rfl
      rw [e1, exp2_int]
      have e2 : BitVec.ofNat 32 N + 1#32 = BitVec.ofNat 32 (N + 1) := by rw [BitVec.ofNat_add]
      rw [e2, P_mid (N + 1) (by omega) (by omega)]
      congr 2; push_cast; omega

/-- And so is its inverse. -/
theorem inv_eq (a : EReal) (h : Normal (a * C)) : Ideal.exp2 (0 - refExp a) = invOf (a * C) := by
  unfold refExp invOf
  by_cases ha : a = 0
  · subst ha
    rw [if_pos rfl, zero_mul, zero_field, sub_zero]
    refine (exp2_int 0 ▸ (by norm_num) : Ideal.exp2 (0 : EReal) = (((2 : ℝ) ^ (0 : ℤ) : ℝ) : EReal)).trans ?_
    exact ((P_mid 127 (by omega) (by omega)).trans (by norm_num)).symm
  · rw [if_neg ha]
    rcases h with h | ⟨h0, h1⟩
    · exact absurd h (mul_ne_zero ha C_ne_zero)
    · obtain ⟨r, n, e, hl, hu, hn0, hn1⟩ := between _ h0 h1
      obtain ⟨N, hN, hf⟩ := pos_field r n hl hu hn0 hn1
      rw [e, floor_log r n hl hu, hf]
      have e1 : (0 : EReal) - (((n : ℝ) : EReal) + 1) = (((-(n + 1) : ℤ) : ℝ) : EReal) := by
        rw [zero_sub]; push_cast; rfl
      rw [e1, exp2_int]
      have e2 : 253#32 - BitVec.ofNat 32 N = BitVec.ofNat 32 (253 - N) := by
        apply BitVec.eq_of_toNat_eq
        simp only [BitVec.toNat_sub, BitVec.toNat_ofNat]
        omega
      rw [e2, P_mid (253 - N) (by omega) (by omega)]
      congr 2; omega

end Cert.DynMath
-- ==== Proof.DynRows.lean ====
module

public import proofs.«01_k».proof.Defs
public import proofs.«01_k».proof.Proof.DynMath
public import Idealize.ShloMosaic.Lib.Pointwise

@[expose] public section

set_option maxRecDepth 16384

noncomputable section

open Idealize.ShloMosaic

namespace Cert.DynMath

/-- The greatest magnitude of a row. -/
def rowMax {n : ℕ} (f : Fin n → EReal) : EReal :=
  Finset.univ.fold max (Ideal.ofBits .f32 0xFF800000#32) fun k => max (f k) (-f k)

/-- A value's code, given the inverse of its row's scale: clipped to the range of e5m2. -/
def codeOf (v inv : EReal) : EReal :=
  min (Ideal.ofBits .f32 0x47600000#32) (max (Ideal.ofBits .f32 0xC7600000#32) (v * inv))

/-- A kernel's maximum of magnitudes along the second axis. -/
theorem rowMax_kernel {n0 n1 : ℕ} {t : Shape} (v : FVec Ideal ⟨2, ![n0, n1]⟩ .f32)
    (h : (⟨2, ![n0, n1]⟩ : Shape).Reduces [1] t) (hφ : FKind.Formats .f32) (hacc : (0xFF800000#32 : BitVec 32) = FKind.maximumf.neutral .f32 hφ)
    (j : t.Idx) (r : Fin n0) (hr : (j ⟨0, h.lt_r2_a1_0⟩).val = r.val) :
    multiReduction .maximumf [1] t (absf v) 0xFF800000#32 h hφ hacc j = rowMax fun k => (v (ix2 r k) : EReal) := by
  rw [multiReduction_maximumf_eq_fold, h.fold_fiber_r2_a1]
  have e : (⟨(j ⟨0, h.lt_r2_a1_0⟩).val, Shape.coordLt (j ⟨0, h.lt_r2_a1_0⟩) h.size_r2_a1_0⟩ : Fin n0) = r := Fin.ext hr
  rw [e]
  rfl

/-- The host's maximum of magnitudes along the third axis of three. -/
theorem rowMax_host {n0 n1 n2 : ℕ} {t u : Shape} (v : FVec Ideal ⟨3, ![n0, n1, n2]⟩ .f32) (i : FVec Ideal u .f32)
    (h : (⟨3, ![n0, n1, n2]⟩ : Shape).ReducesTo [2] t) (hu : 0 < u.numel) (hi : i (Shape.Idx.first hu) = Ideal.ofBits .f32 0xFF800000#32)
    (j : t.Idx) (a : Fin n0) (b : Fin n1) (ha : (j ⟨0, h.lt_r3_a2_0⟩).val = a.val) (hb : (j ⟨1, h.lt_r3_a2_1⟩).val = b.val) :
    Host.reduce (α := Ideal .f32) FloatOps.maximumf (Host.absf v) i h hu j = rowMax fun k => (v (ix3 a b k) : EReal) := by
  rw [Host.reduce_eq_fold, h.fold_fiber_r3_a2, hi]
  have ea : (⟨(j ⟨0, h.lt_r3_a2_0⟩).val, Shape.coordLt (j ⟨0, h.lt_r3_a2_0⟩) h.size_r3_a2_0⟩ : Fin n0) = a := Fin.ext ha
  have eb : (⟨(j ⟨1, h.lt_r3_a2_1⟩).val, Shape.coordLt (j ⟨1, h.lt_r3_a2_1⟩) h.size_r3_a2_1⟩ : Fin n1) = b := Fin.ext hb
  rw [ea, eb]
  rfl

/-- A sum of ones and zeros along the second axis counts the ones. -/
theorem count_kernel {n0 n1 : ℕ} {t : Shape} (p : IVec ⟨2, ![n0, n1]⟩ 1) (h : (⟨2, ![n0, n1]⟩ : Shape).Reduces [1] t)
    (hacc : (0#32 : BitVec 32) = IKind.add.neutral) (j : t.Idx) (r : Fin n0) (hr : (j ⟨0, h.lt_r2_a1_0⟩).val = r.val) :
    multiReductionI .add [1] t (select p (broadcast ⟨2, ![n0, n1]⟩ 1#32) (broadcast ⟨2, ![n0, n1]⟩ 0#32)) 0#32 h hacc j
      = BitVec.ofNat 32 (Finset.univ.filter fun k : Fin n1 => p (ix2 r k) = 1#1).card := by
  rw [multiReductionI_eq_fold, h.fold_fiber_r2_a1]
  have e : (⟨(j ⟨0, h.lt_r2_a1_0⟩).val, Shape.coordLt (j ⟨0, h.lt_r2_a1_0⟩) h.size_r2_a1_0⟩ : Fin n0) = r := Fin.ext hr
  rw [e]
  refine Eq.trans (Finset.fold_congr (g := fun k => (p (ix2 r k)).setWidth 32) fun k _ => ?_)
    (IndicatorCount.fold_addi_setWidth_eq_card (w := 32) (fun k => p (ix2 r k)) Finset.univ)
  show (if p (ix2 r k) = 1#1 then 1#32 else 0#32) = _
  by_cases hp : p (ix2 r k) = 1#1
  · rw [if_pos hp, hp]; rfl
  · rw [if_neg hp]
    have h0 : p (ix2 r k) = 0#1 := by
      have := (p (ix2 r k)).isLt
      apply BitVec.eq_of_toNat_eq
      have h1 : (p (ix2 r k)).toNat ≠ 1 := fun e => hp (BitVec.eq_of_toNat_eq (by simpa using e))
      show (p (ix2 r k)).toNat = 0
      omega
    rw [h0]; rfl

end Cert.DynMath
-- ==== Proof.DynPay.lean ====
module

public import proofs.«01_k».proof.Defs
public import proofs.«01_k».proof.Proof.DynRows
public import proofs.«01_k».proof.Proof.Gen.DynIdeal.Frame
public import Idealize.ShloMosaic.Lib.Pointwise

@[expose] public section

set_option maxRecDepth 16384

noncomputable section

open Idealize.ShloMosaic Idealize.ShloMosaic.TcCoe Idealize.SL.Sem

namespace Cert.DynIdeal.DynValue

open Cert.DynIdeal Cert.DynIdeal.Gen Cert.DynMath

theorem shli_23 (x : BitVec 32) : IntOp.shli .vector x 23#32 = x <<< 23 := rfl

theorem oge_iff (x y : EReal) : Ideal.cmp .oge x y = 1#1 ↔ y ≤ x := by
  show BitVec.ofBool (decide (y ≤ x)) = 1#1 ↔ y ≤ x
  by_cases h : y ≤ x
  · rw [decide_eq_true h]; exact ⟨fun _ => h, fun _ => rfl⟩
  · rw [decide_eq_false h]; exact ⟨fun e => absurd e (by decide), fun e => absurd e h⟩

/-- Which powers of two a row's `m` reaches, from the rows' greatest magnitudes. -/
def reached (M : FVec Ideal S384 .f32) : IVec S384x256 1 :=
  cmpf .oge (broadcastTo S384x256 (mulf (shapeCast S384x1 M shapeCasts_S384_S384x1) (broadcast S384x1 (Scalar.ofBits .f32 0x37924925#32))) broadcasts_S384x1_S384x256)
    (bitcastToFloat .f32 (shli (iota .tc S384x256 32 [1] iota_S384x256_d1_w32) (broadcast S384x256 23#32)))

theorem reached_apply (M : FVec Ideal S384 .f32) (j : S384x256.Idx) :
    reached M j = Ideal.cmp .oge (M (ix1 (j 0)) * C) (P (BitVec.ofNat 32 (j 1).val)) := by
  unfold C P
  pointwise! [reached]

/-- The field of a row, from the count. -/
def fieldsOf (N : IVec S384 32) : IVec S384x1 32 :=
  select (cmpi .eq (subi (shapeCast S384x1 N shapeCasts_S384_S384x1) (broadcast S384x1 1#32)) (broadcast S384x1 0#32))
    (broadcast S384x1 126#32) (subi (shapeCast S384x1 N shapeCasts_S384_S384x1) (broadcast S384x1 1#32))

theorem fieldsOf_apply (N : IVec S384 32) (j : S384x1.Idx) :
    fieldsOf N j = if N (ix1 (j 0)) - 1#32 = 0#32 then 126#32 else N (ix1 (j 0)) - 1#32 := by
  have h : fieldsOf N j = Scalar.select (IntOp.cmpi .eq (N (ix1 (j 0)) - 1#32) 0#32) 126#32 (N (ix1 (j 0)) - 1#32) := by
    pointwise! [fieldsOf]
  rw [h]
  show (if IntOp.cmpi .eq (N (ix1 (j 0)) - 1#32) 0#32 = 1#1 then _ else _) = _
  by_cases e : N (ix1 (j 0)) - 1#32 = 0#32
  · rw [if_pos e, e]; rfl
  · rw [if_neg e, if_neg]
    show ¬ BitVec.ofBool (N (ix1 (j 0)) - 1#32 == 0#32) = 1#1
    rw [beq_false_of_ne e]; decide

def widen (v0 : Vec Ideal S384x5120 .bf16) : FVec Ideal S384x5120 .f32 :=
  extf .f32 (shapeCast S384x5120 v0 shapeCasts_S384x5120_S384x5120) bitsLt_bf16_f32

theorem widen_apply (v0 : Vec Ideal S384x5120 .bf16) (j : S384x5120.Idx) : (widen v0 j : EReal) = v0 j := by
  pointwise! [widen]

theorem pay3_eq (v0 : Vec Ideal S384x5120 .bf16) : k0_pay3 v0
    = fieldsOf (multiReductionI .add [1] S384 (select (reached (multiReduction .maximumf [1] S384 (absf (widen v0)) 0xFF800000#32 reduces_S384x5120_S384 (.inl rfl) rfl))
        (broadcast S384x256 1#32) (broadcast S384x256 0#32)) 0#32 reduces_S384x256_S384 rfl) := rfl

/-- The field of a row of the block. -/
theorem pay3_apply (v0 : Vec Ideal S384x5120 .bf16) (j : S384x1.Idx) :
    k0_pay3 v0 j = fieldOf ((rowMax fun k : Fin 5120 => (v0 (ix2 (j 0) k) : EReal)) * C) := by
  have hN : multiReductionI .add [1] S384 (select (reached (multiReduction .maximumf [1] S384 (absf (widen v0)) 0xFF800000#32 reduces_S384x5120_S384 (.inl rfl) rfl))
        (broadcast S384x256 1#32) (broadcast S384x256 0#32)) 0#32 reduces_S384x256_S384 rfl (ix1 (j 0))
      = BitVec.ofNat 32 (cnt ((rowMax fun k : Fin 5120 => (v0 (ix2 (j 0) k) : EReal)) * C)) := by
    refine (count_kernel (n0 := 384) (n1 := 256) (t := S384) _ reduces_S384x256_S384 rfl (ix1 (j 0)) (j 0) rfl).trans (congrArg (BitVec.ofNat 32) (congrArg Finset.card (Finset.filter_congr fun k _ => ?_)))
    rw [reached_apply]
    have e : (multiReduction .maximumf [1] S384 (absf (widen v0)) 0xFF800000#32 reduces_S384x5120_S384 (.inl rfl) rfl (ix1 (j 0)) : EReal)
        = rowMax fun k : Fin 5120 => (v0 (ix2 (j 0) k) : EReal) :=
      (rowMax_kernel (n0 := 384) (n1 := 5120) (t := S384) (widen v0) reduces_S384x5120_S384 (.inl rfl) rfl (ix1 (j 0)) (j 0) rfl).trans (congrArg rowMax (funext fun k => widen_apply v0 _))
    refine Iff.trans (iff_of_eq (congrArg (fun y : EReal => Ideal.cmp .oge (y * C) (P (BitVec.ofNat 32 k.val)) = 1#1) e)) ?_
    exact oge_iff _ _
  rw [pay3_eq]
  refine (fieldsOf_apply _ j).trans ?_
  rw [hN]
  rfl

/-- The scale of a row of the block. -/
theorem pay4_bits (v0 : Vec Ideal S384x5120 .bf16) (j : S384x1.Idx) : (k0_pay4 v0 j : EReal) = P (k0_pay3 v0 j + 1#32) := by
  unfold P
  pointwise! [k0_pay4]

theorem pay4_apply (v0 : Vec Ideal S384x5120 .bf16) (j : S384x1.Idx) :
    (k0_pay4 v0 j : EReal) = scaleOf ((rowMax fun k : Fin 5120 => (v0 (ix2 (j 0) k) : EReal)) * C) := by
  rw [pay4_bits, pay3_apply]; rfl

/-- A value by the inverse of its row's scale. -/
theorem pay5_bits (v0 v35 : Vec Ideal S384x5120 .bf16) (j : S384x5120.Idx) :
    (k0_pay5 v0 v35 j : EReal) = v35 j * P (253#32 - k0_pay3 v0 (ix2 (j 0) 0)) := by
  unfold P
  pointwise! [k0_pay5]

theorem pay5_apply (v0 v35 : Vec Ideal S384x5120 .bf16) (j : S384x5120.Idx) :
    (k0_pay5 v0 v35 j : EReal) = v35 j * invOf ((rowMax fun k : Fin 5120 => (v0 (ix2 (j 0) k) : EReal)) * C) := by
  rw [pay5_bits, pay3_apply]; rfl

theorem pay6_min (v39 : FVec Ideal S384x5120 .f32) (a b : Ideal .f32) (j : S384x5120.Idx) : (k0_pay6 v39 a b j : EReal) = min b (max a (v39 j)) := by
  pointwise! [k0_pay6]

/-- The codes of the block. -/
theorem pay6_apply (v0 : Vec Ideal S384x5120 .bf16) (j : S384x5120.Idx) :
    (k0_pay6 (k0_pay5 v0 v0) (Scalar.ofBits .f32 0xC7600000#32) (Scalar.ofBits .f32 0x47600000#32) j : EReal)
      = codeOf (v0 j) (invOf ((rowMax fun k : Fin 5120 => (v0 (ix2 (j 0) k) : EReal)) * C)) := by
  rw [pay6_min]
  exact congrArg (fun y : EReal => min (Ideal.ofBits .f32 0x47600000#32) (max (Ideal.ofBits .f32 0xC7600000#32) y)) (pay5_apply v0 v0 j)

theorem pay7_apply (s : FVec Ideal S384x1 .f32) (j : S384x128.Idx) : (k0_pay7 s j : EReal) = s (ix2 (j 0) 0) := by
  pointwise! [k0_pay7]

/-- One column slice of the block's `dyn`: the product of the codes with the slice of the weights, by the rows' scales and the weights'. -/
theorem slice_apply (s : FVec Ideal S384x1 .f32) (ws : Elt Ideal .f32) (q : Vec Ideal S384x5120 .fp8e5m2) (w : Vec Ideal S512x5120 .fp8e4m3) (j : S384x512.Idx) :
    (k0_pay8 s ws q w j : EReal) = (∑ k : Fin 5120, (q (ix2 (j 0) k) : EReal) * (w (ix2 (j 1) k) : EReal)) * s (ix2 (j 0) 0) * ws := by
  pointwise! [k0_pay8]

end Cert.DynIdeal.DynValue
-- ==== Proof.DynValue.lean ====
module

public import proofs.«01_k».proof.Defs
public import proofs.«01_k».proof.Proof.DynPay
public import proofs.«01_k».proof.Proof.Gen.DynIdeal.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DynIdeal.DynValue

open Cert.DynIdeal Cert.DynIdeal.Gen Cert.DynMath

variable (m : (ℓ : Loc nD τ sig) → Buf (Elt Ideal) ℓ) (ρ : Dev nD → PrngReg)

theorem hz : (![0, 0] : Fin 2 → Nat) = fun _ => 0 := funext fun a => by fin_cases a <;> rfl

/-- The block indices in closed form. -/
theorem index_facts : ∀ t : Fin cfg0.N, win0_1.index t 0 = t.val ∧ win0_1.index t 1 = 0
    ∧ win0_3.index t 0 = t.val ∧ win0_3.index t 1 = 0 ∧ win0_4.index t 0 = t.val ∧ win0_4.index t 1 = 0
    ∧ win0_5.index t 0 = t.val ∧ win0_5.index t 1 = 0
    ∧ win0_2.index t 0 = 0 ∧ win0_2.index t 1 = 0 ∧ win0_0.index t 0 = 0 ∧ win0_0.index t 1 = 0 :=
  (by decide +kernel : ∀ t : Fin grid0.N, win0_1.index t 0 = t.val ∧ win0_1.index t 1 = 0
    ∧ win0_3.index t 0 = t.val ∧ win0_3.index t 1 = 0 ∧ win0_4.index t 0 = t.val ∧ win0_4.index t 1 = 0
    ∧ win0_5.index t 0 = t.val ∧ win0_5.index t 1 = 0
    ∧ win0_2.index t 0 = 0 ∧ win0_2.index t 1 = 0 ∧ win0_0.index t 0 = 0 ∧ win0_0.index t 1 = 0)

theorem iblk0_apply (c : Dev nD) (t : Fin cfg0.N) (j : S1x1.Idx) :
    (iblk m c 0 t : Vec Ideal S1x1 .f32) j = V m c main_v0 (ix2 (0 : Fin 1) (0 : Fin 1)) := by
  have hi := index_facts t
  unfold iblk
  rw [View.read_apply]
  show V m c main_v0 _ = _
  congr 1
  funext a
  apply Fin.ext
  match a with
  | ⟨0, _⟩ => show win0_0.index t 0 * 1 + 1 * (j 0).val = 0; have := (j 0).isLt; change (j 0).val < 1 at this; rw [hi.2.2.2.2.2.2.2.2.2.2.1]; omega
  | ⟨1, _⟩ => show win0_0.index t 1 * 1 + 1 * (j 1).val = 0; have := (j 1).isLt; change (j 1).val < 1 at this; rw [hi.2.2.2.2.2.2.2.2.2.2.2]; omega

theorem iblk1_apply (c : Dev nD) (t : Fin cfg0.N) (r : Fin 384) (k : Fin 5120) (R : Fin 6144)
    (hR : R.val = t.val * 384 + r.val) :
    (iblk m c 1 t : Vec Ideal S384x5120 .bf16) (ix2 r k) = V m c main_v1 (ix2 R k) := by
  have hi := index_facts t
  unfold iblk
  rw [View.read_apply]
  show V m c main_v1 _ = _
  congr 1
  funext a
  apply Fin.ext
  match a with
  | ⟨0, _⟩ => show win0_1.index t 0 * 384 + 1 * r.val = R.val; rw [hi.1, hR]; omega
  | ⟨1, _⟩ => show win0_1.index t 1 * 5120 + 1 * k.val = k.val; rw [hi.2.1]; omega

theorem iblk2_apply (c : Dev nD) (t : Fin cfg0.N) (r : Fin 4096) (k : Fin 5120) :
    (iblk m c 2 t : Vec Ideal S4096x5120 .fp8e4m3) (ix2 r k) = V m c main_arg1 (ix2 r k) := by
  have hi := index_facts t
  unfold iblk
  rw [View.read_apply]
  show V m c main_arg1 _ = _
  congr 1
  funext a
  apply Fin.ext
  match a with
  | ⟨0, _⟩ => show win0_2.index t 0 * 4096 + 1 * r.val = r.val; rw [hi.2.2.2.2.2.2.2.2.1]; omega
  | ⟨1, _⟩ => show win0_2.index t 1 * 5120 + 1 * k.val = k.val; rw [hi.2.2.2.2.2.2.2.2.2.1]; omega

/-- What a block's body leaves in the codes, over the block it reads. -/
theorem out3_eq (c : Dev nD) (t : Fin cfg0.N) (x0 : Vec Ideal S1x1 .f32) (x1 : Vec Ideal S384x5120 .bf16) (x2 : Vec Ideal S4096x5120 .fp8e4m3) :
    out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 = k0_pay6 (k0_pay5 x1 x1) (Scalar.ofBits .f32 0xC7600000#32) (Scalar.ofBits .f32 0x47600000#32) := by
  unfold out0_A_3
  rw [View.read_writes_eq_canon _ _ _ (cover0_A_3 c (grid0.coords t) _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread]
  rw [View.ld_unit_zero hz]

/-- In the scales. -/
theorem out4_eq (c : Dev nD) (t : Fin cfg0.N) (x0 : Vec Ideal S1x1 .f32) (x1 : Vec Ideal S384x5120 .bf16) (x2 : Vec Ideal S4096x5120 .fp8e4m3) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 = k0_pay7 (k0_pay4 x1) := by
  unfold out0_A_4
  rw [View.read_writes_eq_canon _ _ _ (cover0_A_4 c (grid0.coords t) _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread]
  rw [View.ld_unit_zero hz]

/-- One element of a block's `dyn`. -/
def dynBlock (x0 : Vec Ideal S1x1 .f32) (x1 : Vec Ideal S384x5120 .bf16) (x2 : Vec Ideal S4096x5120 .fp8e4m3) (j : S384x4096.Idx) : EReal :=
  (∑ k : Fin 5120, (k0_pay6 (k0_pay5 x1 x1) (Scalar.ofBits .f32 0xC7600000#32) (Scalar.ofBits .f32 0x47600000#32) (ix2 (j 0) k) : EReal)
    * (x2 (ix2 (j 1) k) : EReal)) * k0_pay4 x1 (ix2 (j 0) 0) * x0 (ix2 0 0)

/-- One column slice of `dyn` is the slice of `dynBlock` at its columns. -/
theorem piece_apply (n : Nat) (hO : ∀ a, (![0, n] : Fin 2 → Nat) a + (![384, 512] : Fin 2 → Nat) a ≤ S384x4096.size a)
    (hW : ∀ a, (![n, 0] : Fin 2 → Nat) a + (![512, 5120] : Fin 2 → Nat) a ≤ S4096x5120.size a)
    (x0 : Vec Ideal S1x1 .f32) (x1 : Vec Ideal S384x5120 .bf16) (x2 : Vec Ideal S4096x5120 .fp8e4m3) (y : S1x1.Idx)
    (x : S384x512.Idx) :
    k0_pay8 (k0_pay4 x1) (x0 y) (k0_pay6 (k0_pay5 x1 x1) (Scalar.ofBits .f32 0xC7600000#32) (Scalar.ofBits .f32 0x47600000#32))
      (View.ld x2 (Rect.unit ![n, 0] ![512, 5120] hW)) x
      = dynBlock x0 x1 x2 ((Rect.unit (s := S384x4096) ![0, n] ![384, 512] hO).emb x) := by
  have h0 : ((Rect.unit (s := S384x4096) ![0, n] ![384, 512] hO).emb x) 0 = x 0 := by
    apply Fin.ext; show 0 + 1 * (x 0).val = (x 0).val; omega
  have hy : y = ix2 0 0 := by
    funext a; apply Fin.ext
    match a with
    | ⟨0, _⟩ => have := (y 0).isLt; change (y 0).val < 1 at this; show (y 0).val = 0; omega
    | ⟨1, _⟩ => have := (y 1).isLt; change (y 1).val < 1 at this; show (y 1).val = 0; omega
  refine (slice_apply (k0_pay4 x1) (x0 y) _ _ x).trans ?_
  unfold dynBlock
  rw [h0, hy]
  congr 2
  refine Finset.sum_congr rfl fun k _ => congrArg _ ?_
  show x2 _ = x2 _
  congr 1
  funext a
  apply Fin.ext
  match a with
  | ⟨0, _⟩ => rfl
  | ⟨1, _⟩ => show 0 + 1 * k.val = k.val; omega

/-- In `dyn`: its eight column slices are slices of one function. -/
theorem out5_apply (c : Dev nD) (t : Fin cfg0.N) (x0 : Vec Ideal S1x1 .f32) (x1 : Vec Ideal S384x5120 .bf16) (x2 : Vec Ideal S4096x5120 .fp8e4m3) (j : S384x4096.Idx) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 j = dynBlock x0 x1 x2 j := by
  have hc := cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2
  unfold out0_A_5
  rw [View.read_writes_eq_canon _ _ _ hc]
  refine View.canon_apply_of_pieces (Val := Elt Ideal) (dynBlock x0 x1 x2) _ ?_ j (hc j)
  unfold kernelRun0_A
  dsimp only
  sl_unfold_words
  simp only [View.readAt_eq_ld, (hs0_0 t).read_unread, (hs0_1 t).read_unread, (hs0_2 t).read_unread]
  simp only [List.forall_mem_cons]
  rw [View.readCov_unit_zero (S := S384x5120) _ hz, View.ld_unit_zero (S := S384x5120) hz, View.ld_unit_zero (S := S1x1) hz]
  exact ⟨fun x => piece_apply 3584 _ _ x0 x1 x2 _ x, fun x => piece_apply 3072 _ _ x0 x1 x2 _ x, fun x => piece_apply 2560 _ _ x0 x1 x2 _ x,
    fun x => piece_apply 2048 _ _ x0 x1 x2 _ x, fun x => piece_apply 1536 _ _ x0 x1 x2 _ x, fun x => piece_apply 1024 _ _ x0 x1 x2 _ x,
    fun x => piece_apply 512 _ _ x0 x1 x2 _ x, fun x => piece_apply 0 _ _ x0 x1 x2 _ x, fun _ h => absurd h List.not_mem_nil⟩

/-- The codes over the whole array `x`. -/
def codesOf (x : S6144x5120.Idx → EReal) (i : S6144x5120.Idx) : EReal :=
  codeOf (x i) (invOf ((rowMax fun k : Fin 5120 => x (ix2 (i 0) k)) * C))

/-- The scale of a row of `x`. -/
def scalesOf (x : S6144x5120.Idx → EReal) (r : Fin 6144) : EReal :=
  scaleOf ((rowMax fun k : Fin 5120 => x (ix2 r k)) * C)

/-- The dequantized product. -/
def dynOf (x : S6144x5120.Idx → EReal) (w : S4096x5120.Idx → EReal) (ws : S1x1.Idx → EReal) (i : S6144x4096.Idx) : EReal :=
  (∑ k : Fin 5120, codesOf x (ix2 (i 0) k) * w (ix2 (i 1) k)) * scalesOf x (i 0) * ws (ix2 0 0)

/-- What each of the three results holds after the run. -/
def result3 (c : Dev nD) : S6144x5120.Idx → EReal := codesOf (V m c main_v1)
def result4 (c : Dev nD) : S6144x128.Idx → EReal := fun i => scalesOf (V m c main_v1) (i 0)
def result5 (c : Dev nD) : S6144x4096.Idx → EReal := dynOf (V m c main_v1) (V m c main_arg1) (V m c main_v0)

theorem rowMax_block (c : Dev nD) (t : Fin cfg0.N) (r : Fin 384) (R : Fin 6144) (hR : R.val = t.val * 384 + r.val) :
    (rowMax fun k : Fin 5120 => ((iblk m c 1 t : Vec Ideal S384x5120 .bf16) (ix2 r k) : EReal))
      = rowMax fun k : Fin 5120 => V m c main_v1 (ix2 R k) :=
  congrArg rowMax (funext fun k => iblk1_apply m c t r k R hR)

theorem codes_block (c : Dev nD) (t : Fin cfg0.N) (r : Fin 384) (k : Fin 5120) (R : Fin 6144) (hR : R.val = t.val * 384 + r.val) :
    (k0_pay6 (k0_pay5 (F := Ideal) (iblk m c 1 t) (iblk m c 1 t)) (Scalar.ofBits .f32 0xC7600000#32) (Scalar.ofBits .f32 0x47600000#32) (ix2 r k) : EReal)
      = codesOf (V m c main_v1) (ix2 R k) := by
  refine (pay6_apply (iblk m c 1 t) (ix2 r k)).trans ?_
  unfold codesOf
  exact congrArg₂ codeOf (iblk1_apply m c t r k R hR) (congrArg (fun a => invOf (a * C)) (rowMax_block m c t r R hR))

theorem scales_block (c : Dev nD) (t : Fin cfg0.N) (r : Fin 384) (R : Fin 6144) (hR : R.val = t.val * 384 + r.val) :
    (k0_pay4 (F := Ideal) (iblk m c 1 t) (ix2 r 0) : EReal) = scalesOf (V m c main_v1) R := by
  refine (pay4_apply (iblk m c 1 t) (ix2 r 0)).trans ?_
  unfold scalesOf
  exact congrArg (fun a => scaleOf (a * C)) (rowMax_block m c t r R hR)

theorem dyn_block (c : Dev nD) (t : Fin cfg0.N) (j : S384x4096.Idx) (R : Fin 6144) (hR : R.val = t.val * 384 + (j 0).val) :
    dynBlock (iblk m c 0 t) (iblk m c 1 t) (iblk m c 2 t) j = result5 m c (ix2 R (j 1)) := by
  unfold dynBlock result5 dynOf
  refine congrArg₂ (fun a b : EReal => a * b) (congrArg₂ (fun a b : EReal => a * b) (Finset.sum_congr rfl fun k _ => ?_) (scales_block m c t (j 0) R hR))
    (iblk0_apply m c t _)
  exact congrArg₂ (fun a b : EReal => a * b) (codes_block m c t (j 0) k R hR) (iblk2_apply m c t (j 1) k)

theorem row_lt (t : Fin cfg0.N) (r : Nat) (hr : r < 384) : t.val * 384 + r < 6144 := by
  have := t.isLt; have hN : cfg0.N = 16 := N_0; omega

theorem flushed3_eq (c : Dev nD) (t : Fin cfg0.N) :
    (dats m 0 c).flushed 3 t = ((cfg0.win 3).blk t).view.read (Elt Ideal) (result3 m c) := by
  have hi := index_facts t
  rw [Value.flushed3_A]
  funext j
  rw [View.read_apply]
  refine (congrFun (out3_eq c t (iblk m c 0 t) (iblk m c 1 t) (iblk m c 2 t)) j).trans ?_
  refine Eq.trans ?_ ((codes_block m c t (j 0) (j 1) ⟨t.val * 384 + (j 0).val, row_lt t _ (j 0).isLt⟩ rfl).trans ?_)
  · exact congrArg _ (eq_ix2 j)
  show result3 m c _ = result3 m c _
  congr 1
  funext a
  apply Fin.ext
  match a with
  | ⟨0, _⟩ => show t.val * 384 + (j 0).val = win0_3.index t 0 * 384 + 1 * (j 0).val; rw [hi.2.2.1]; omega
  | ⟨1, _⟩ => show (j 1).val = win0_3.index t 1 * 5120 + 1 * (j 1).val; rw [hi.2.2.2.1]; omega

theorem flushed4_eq (c : Dev nD) (t : Fin cfg0.N) :
    (dats m 0 c).flushed 4 t = ((cfg0.win 4).blk t).view.read (Elt Ideal) (result4 m c) := by
  have hi := index_facts t
  rw [Value.flushed4_A]
  funext j
  rw [View.read_apply]
  refine (congrFun (out4_eq c t (iblk m c 0 t) (iblk m c 1 t) (iblk m c 2 t)) j).trans ((pay7_apply _ j).trans ?_)
  refine (scales_block m c t (j 0) ⟨t.val * 384 + (j 0).val, row_lt t _ (j 0).isLt⟩ rfl).trans ?_
  show result4 m c (ix2 ⟨t.val * 384 + (j 0).val, row_lt t _ (j 0).isLt⟩ (j 1)) = _
  show result4 m c _ = result4 m c _
  congr 1
  funext a
  apply Fin.ext
  match a with
  | ⟨0, _⟩ => show t.val * 384 + (j 0).val = win0_4.index t 0 * 384 + 1 * (j 0).val; rw [hi.2.2.2.2.1]; omega
  | ⟨1, _⟩ => show (j 1).val = win0_4.index t 1 * 128 + 1 * (j 1).val; rw [hi.2.2.2.2.2.1]; omega

theorem flushed5_eq (c : Dev nD) (t : Fin cfg0.N) :
    (dats m 0 c).flushed 5 t = ((cfg0.win 5).blk t).view.read (Elt Ideal) (result5 m c) := by
  have hi := index_facts t
  rw [Value.flushed5_A]
  funext j
  rw [View.read_apply]
  refine (out5_apply c t (iblk m c 0 t) (iblk m c 1 t) (iblk m c 2 t) j).trans ?_
  refine (dyn_block m c t j ⟨t.val * 384 + (j 0).val, row_lt t _ (j 0).isLt⟩ rfl).trans ?_
  show result5 m c _ = result5 m c _
  congr 1
  funext a
  apply Fin.ext
  match a with
  | ⟨0, _⟩ => show t.val * 384 + (j 0).val = win0_5.index t 0 * 384 + 1 * (j 0).val; rw [hi.2.2.2.2.2.2.1]; omega
  | ⟨1, _⟩ => show (j 1).val = win0_5.index t 1 * 4096 + 1 * (j 1).val; rw [hi.2.2.2.2.2.2.2.1]; omega

theorem extent_facts : ∀ t : Fin cfg0.N, win0_3.xsize (grid0.coords t) 0 = 384 ∧ win0_3.xsize (grid0.coords t) 1 = 5120 ∧ win0_4.xsize (grid0.coords t) 0 = 384 ∧ win0_4.xsize (grid0.coords t) 1 = 128 ∧ win0_5.xsize (grid0.coords t) 0 = 384 ∧ win0_5.xsize (grid0.coords t) 1 = 4096 :=
  (by decide +kernel : ∀ t : Fin grid0.N, win0_3.xsize (grid0.coords t) 0 = 384 ∧ win0_3.xsize (grid0.coords t) 1 = 5120 ∧ win0_4.xsize (grid0.coords t) 0 = 384 ∧ win0_4.xsize (grid0.coords t) 1 = 128 ∧ win0_5.xsize (grid0.coords t) 0 = 384 ∧ win0_5.xsize (grid0.coords t) 1 = 4096)

theorem cover3 (i : S6144x5120.Idx) : ∃ t : Fin cfg0.N, (cfg0.win 3).flush t = true ∧ i ∈ ((cfg0.win 3).blk t).view.set := by
  have h0 : (i 0 : Nat) < 6144 := (i 0).isLt
  have h1 : (i 1 : Nat) < 5120 := (i 1).isLt
  have hN : cfg0.N = 16 := N_0
  refine ⟨⟨(i 0).val / 384, by omega⟩, flush0_3 _, ?_⟩
  set t : Fin cfg0.N := ⟨(i 0).val / 384, by omega⟩ with ht
  have htv : t.val = (i 0).val / 384 := rfl
  have hi := index_facts t
  have hx := extent_facts t
  show i ∈ ((View.whole main_v2_0).slice (win0_3.rect t)).set
  rw [View.set_slice_whole, Rect.mem_set_unit]
  intro a
  match a with
  | ⟨0, _⟩ =>
    show win0_3.index t 0 * 384 ≤ (i 0 : Nat) ∧ (i 0 : Nat) < win0_3.index t 0 * 384 + win0_3.xsize (grid0.coords t) 0
    rw [hi.2.2.1, hx.1]; omega
  | ⟨1, _⟩ =>
    show win0_3.index t 1 * 5120 ≤ (i 1 : Nat) ∧ (i 1 : Nat) < win0_3.index t 1 * 5120 + win0_3.xsize (grid0.coords t) 1
    rw [hi.2.2.2.1, hx.2.1]; omega

theorem cover4 (i : S6144x128.Idx) : ∃ t : Fin cfg0.N, (cfg0.win 4).flush t = true ∧ i ∈ ((cfg0.win 4).blk t).view.set := by
  have h0 : (i 0 : Nat) < 6144 := (i 0).isLt
  have h1 : (i 1 : Nat) < 128 := (i 1).isLt
  have hN : cfg0.N = 16 := N_0
  refine ⟨⟨(i 0).val / 384, by omega⟩, flush0_4 _, ?_⟩
  set t : Fin cfg0.N := ⟨(i 0).val / 384, by omega⟩ with ht
  have htv : t.val = (i 0).val / 384 := rfl
  have hi := index_facts t
  have hx := extent_facts t
  show i ∈ ((View.whole main_v2_1).slice (win0_4.rect t)).set
  rw [View.set_slice_whole, Rect.mem_set_unit]
  intro a
  match a with
  | ⟨0, _⟩ =>
    show win0_4.index t 0 * 384 ≤ (i 0 : Nat) ∧ (i 0 : Nat) < win0_4.index t 0 * 384 + win0_4.xsize (grid0.coords t) 0
    rw [hi.2.2.2.2.1, hx.2.2.1]; omega
  | ⟨1, _⟩ =>
    show win0_4.index t 1 * 128 ≤ (i 1 : Nat) ∧ (i 1 : Nat) < win0_4.index t 1 * 128 + win0_4.xsize (grid0.coords t) 1
    rw [hi.2.2.2.2.2.1, hx.2.2.2.1]; omega

theorem cover5 (i : S6144x4096.Idx) : ∃ t : Fin cfg0.N, (cfg0.win 5).flush t = true ∧ i ∈ ((cfg0.win 5).blk t).view.set := by
  have h0 : (i 0 : Nat) < 6144 := (i 0).isLt
  have h1 : (i 1 : Nat) < 4096 := (i 1).isLt
  have hN : cfg0.N = 16 := N_0
  refine ⟨⟨(i 0).val / 384, by omega⟩, flush0_5 _, ?_⟩
  set t : Fin cfg0.N := ⟨(i 0).val / 384, by omega⟩ with ht
  have htv : t.val = (i 0).val / 384 := rfl
  have hi := index_facts t
  have hx := extent_facts t
  show i ∈ ((View.whole main_v2_2).slice (win0_5.rect t)).set
  rw [View.set_slice_whole, Rect.mem_set_unit]
  intro a
  match a with
  | ⟨0, _⟩ =>
    show win0_5.index t 0 * 384 ≤ (i 0 : Nat) ∧ (i 0 : Nat) < win0_5.index t 0 * 384 + win0_5.xsize (grid0.coords t) 0
    rw [hi.2.2.2.2.2.2.1, hx.2.2.2.2.1]; omega
  | ⟨1, _⟩ =>
    show win0_5.index t 1 * 4096 ≤ (i 1 : Nat) ∧ (i 1 : Nat) < win0_5.index t 1 * 4096 + win0_5.xsize (grid0.coords t) 1
    rw [hi.2.2.2.2.2.2.2.1, hx.2.2.2.2.2]; omega

theorem final3 (c : Dev nD) : (dats m 0 c).arrAt 3 cfg0.N = result3 m c :=
  (dats m 0 c).arrAt_eq_of_cover 3 (result3 m c) (fun t _ => flushed3_eq m c t) cover3

theorem final4 (c : Dev nD) : (dats m 0 c).arrAt 4 cfg0.N = result4 m c :=
  (dats m 0 c).arrAt_eq_of_cover 4 (result4 m c) (fun t _ => flushed4_eq m c t) cover4

theorem final5 (c : Dev nD) : (dats m 0 c).arrAt 5 cfg0.N = result5 m c :=
  (dats m 0 c).arrAt_eq_of_cover 5 (result5 m c) (fun t _ => flushed5_eq m c t) cover5

/-- The run, its three results named and the arguments unchanged. -/
theorem run_blocks : θ_run defs (onTc (τ := τ) (main (F := Ideal))) ⟨m, fun _ => 0, ρ⟩ fun r => ∀ c : Dev nD,
      r.2.mem ((c : Thread nD τ).loc main_v2_0) = result3 m c
      ∧ r.2.mem ((c : Thread nD τ).loc main_v2_1) = result4 m c
      ∧ r.2.mem ((c : Thread nD τ).loc main_v2_2) = result5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2.1.trans (final5 m c), (h c).2.2.2⟩)
    (Value.run_blocks m ρ)

theorem V_v0 (c : Dev nD) : V m c main_v0 = shapeCast S1x1 (m ((c.tc : Thread nD τ).loc main_arg2)) shapeCasts_S_S1x1 := by
  entry_read
  rfl

theorem V_v1 (c : Dev nD) : V m c main_v1 = shapeCast S6144x5120 (m ((c.tc : Thread nD τ).loc main_arg0)) shapeCasts_S2x3072x5120_S6144x5120 := by
  entry_read
  rfl

end Cert.DynIdeal.DynValue
end
-- ==== Proof.DynRefPay.lean ====
module

public import proofs.«01_k».proof.Defs
public import proofs.«01_k».proof.Proof.DynRows
public import proofs.«01_k».proof.Proof.Gen.DynRefIdeal.Frame
public import Idealize.ShloMosaic.Lib.Pointwise

@[expose] public section

set_option maxRecDepth 16384

noncomputable section

open Idealize.ShloMosaic Idealize.ShloMosaic.TcCoe Idealize.SL.Sem

namespace Cert.DynRefIdeal.DynValue

open Cert.DynRefIdeal Cert.DynRefIdeal.Gen Cert.DynMath

/-- The exponents of the rows, from the rows' greatest magnitudes. -/
def expOf (M : FVec Ideal S6144 .f32) : FVec Ideal S6144x1 .f32 :=
  select (cmpf .oeq (shapeCast S6144x1 M shapeCasts_S6144_S6144x1) (broadcast S6144x1 (Scalar.ofBits .f32 0x00000000#32)))
    (broadcast S6144x1 (Scalar.ofBits .f32 0x00000000#32))
    (addf (floor (divf (log (mulf (shapeCast S6144x1 M shapeCasts_S6144_S6144x1) (broadcast S6144x1 (Scalar.ofBits .f32 0x37924925#32))))
      (log (broadcast S6144x1 (Scalar.ofBits .f32 0x40000000#32))))) (broadcast S6144x1 (Scalar.ofBits .f32 0x3F800000#32)))

theorem expOf_apply (M : FVec Ideal S6144 .f32) (j : S6144x1.Idx) : (expOf M j : EReal) = refExp (M (ix1 (j 0))) := by
  unfold refExp C two
  pointwise! [expOf]

theorem pay3_eq (v0 : Vec Ideal S6144x5120 .bf16) : k0_pay3 v0
    = expOf (multiReduction .maximumf [1] S6144 (absf (k0_pay2 v0)) 0xFF800000#32 reduces_S6144x5120_S6144 (.inl rfl) rfl) := rfl

theorem pay2_apply (v0 : Vec Ideal S6144x5120 .bf16) (j : S6144x5120.Idx) : (k0_pay2 v0 j : EReal) = v0 j := by
  pointwise! [k0_pay2]

/-- The exponent of a row. -/
theorem pay3_apply (v0 : Vec Ideal S6144x5120 .bf16) (j : S6144x1.Idx) :
    (k0_pay3 v0 j : EReal) = refExp (rowMax fun k : Fin 5120 => (v0 (ix2 (j 0) k) : EReal)) := by
  rw [pay3_eq]
  refine (expOf_apply _ j).trans (congrArg refExp ?_)
  refine (rowMax_kernel (n0 := 6144) (n1 := 5120) (t := S6144) (k0_pay2 v0) reduces_S6144x5120_S6144 (.inl rfl) rfl (ix1 (j 0)) (j 0) rfl).trans ?_
  exact congrArg rowMax (funext fun k => pay2_apply v0 _)

/-- The codes, from the values and the exponents. -/
def codesOf (v : FVec Ideal S6144x5120 .f32) (e : FVec Ideal S6144x1 .f32) : FVec Ideal S6144x5120 .fp8e5m2 :=
  truncf .fp8e5m2 (minimumf (broadcast S6144x5120 (Scalar.ofBits .f32 0x47600000#32)) (maximumf (broadcast S6144x5120 (Scalar.ofBits .f32 0xC7600000#32))
    (mulf v (broadcastTo S6144x5120 (exp2 (subf (broadcast S6144x1 (Scalar.ofBits .f32 0x00000000#32)) e)) broadcasts_S6144x1_S6144x5120)))) bitsLt_fp8e5m2_f32

/-- A value's code, given the inverse of the scale: clipped to the range of the format. -/
theorem codesOf_apply (v : FVec Ideal S6144x5120 .f32) (e : FVec Ideal S6144x1 .f32) (j : S6144x5120.Idx) :
    (codesOf v e j : EReal) = codeOf (v j) (Ideal.exp2 (0 - e (ix2 (j 0) 0))) := by
  unfold codeOf
  pointwise! [codesOf]

theorem pay4_eq (v0 : Vec Ideal S6144x5120 .bf16) : k0_pay4 v0 = codesOf (k0_pay2 v0) (k0_pay3 v0) := rfl

theorem pay4_apply (v0 : Vec Ideal S6144x5120 .bf16) (j : S6144x5120.Idx) : (k0_pay4 v0 j : EReal)
    = codeOf (v0 j) (Ideal.exp2 (0 - refExp (rowMax fun k : Fin 5120 => (v0 (ix2 (j 0) k) : EReal)))) := by
  rw [pay4_eq]
  refine (codesOf_apply _ _ j).trans (congrArg₂ codeOf (pay2_apply v0 j) (congrArg (fun e => Ideal.exp2 (0 - e)) ?_))
  exact pay3_apply v0 (ix2 (j 0) 0)

/-- The scales of the rows. -/
def scalesOf (e : FVec Ideal S6144x1 .f32) : FVec Ideal S6144x1 .f32 := exp2 e

theorem scalesOf_apply (e : FVec Ideal S6144x1 .f32) (j : S6144x1.Idx) : (scalesOf e j : EReal) = Ideal.exp2 (e j) := by
  pointwise! [scalesOf]

theorem pay5_eq (v0 : Vec Ideal S6144x5120 .bf16) : k0_pay5 v0 = scalesOf (k0_pay3 v0) := rfl

theorem pay5_apply (v0 : Vec Ideal S6144x5120 .bf16) (j : S6144x1.Idx) : (k0_pay5 v0 j : EReal)
    = Ideal.exp2 (refExp (rowMax fun k : Fin 5120 => (v0 (ix2 (j 0) k) : EReal))) := by
  rw [pay5_eq]
  exact (scalesOf_apply _ j).trans (congrArg Ideal.exp2 (pay3_apply v0 j))

/-- Each row's scale in every lane. -/
def lanesOf (s : FVec Ideal S6144x1 .f32) : FVec Ideal S6144x128 .f32 :=
  broadcastTo S6144x128 (shapeCast S6144x1 s shapeCasts_S6144x1_S6144x1) broadcasts_S6144x1_S6144x128

theorem lanesOf_apply (s : FVec Ideal S6144x1 .f32) (j : S6144x128.Idx) : (lanesOf s j : EReal) = s (ix2 (j 0) 0) := by
  pointwise! [lanesOf]

theorem pay6_apply (v0 : Vec Ideal S6144x5120 .bf16) (j : S6144x128.Idx) : (k0_pay6 v0 j : EReal)
    = Ideal.exp2 (refExp (rowMax fun k : Fin 5120 => (v0 (ix2 (j 0) k) : EReal))) :=
  (lanesOf_apply (k0_pay5 v0) j).trans (pay5_apply v0 (ix2 (j 0) 0))

/-- The product of codes and weights, by the rows' scales. -/
def prodOf (q : FVec Ideal S6144x5120 .fp8e5m2) (w : FVec Ideal S4096x5120 .fp8e4m3) (s : FVec Ideal S6144x1 .f32) : FVec Ideal S6144x4096 .f32 :=
  mulf (matmul dot_S6144x5120_S4096x5120_S6144x4096_1_1_0_0_n_n none q w (constant S6144x4096 .f32 0x00000000#32))
    (broadcastTo S6144x4096 s broadcasts_S6144x1_S6144x4096)

theorem prodOf_apply (q : FVec Ideal S6144x5120 .fp8e5m2) (w : FVec Ideal S4096x5120 .fp8e4m3) (s : FVec Ideal S6144x1 .f32) (j : S6144x4096.Idx) :
    (prodOf q w s j : EReal) = (∑ k : Fin 5120, (q (ix2 (j 0) k) : EReal) * (w (ix2 (j 1) k) : EReal)) * s (ix2 (j 0) 0) := by
  pointwise! [prodOf]

theorem pay7_eq (v0 : Vec Ideal S6144x5120 .bf16) (w : Vec Ideal S4096x5120 .fp8e4m3) :
    k0_pay7 v0 w = prodOf (k0_pay4 v0) w (k0_pay5 v0) := rfl

theorem pay1_mul (v : FVec Ideal S6144x4096 .f32) (ws : Vec Ideal S1x1 .f32) (j : S6144x4096.Idx) :
    (k0_pay1 v ws j : EReal) = v j * ws (ix2 0 0) := by
  pointwise! [k0_pay1]

/-- One element of the reference's `dyn`. -/
theorem pay1_apply (v0 : Vec Ideal S6144x5120 .bf16) (w : Vec Ideal S4096x5120 .fp8e4m3) (ws : Vec Ideal S1x1 .f32) (j : S6144x4096.Idx) :
    (k0_pay1 (k0_pay7 v0 w) ws j : EReal) = (∑ k : Fin 5120, (k0_pay4 v0 (ix2 (j 0) k) : EReal) * (w (ix2 (j 1) k) : EReal))
      * k0_pay5 v0 (ix2 (j 0) 0) * ws (ix2 0 0) :=
  (pay1_mul _ ws j).trans (congrArg (fun y : EReal => y * (ws (ix2 0 0) : EReal)) (prodOf_apply (k0_pay4 v0) w (k0_pay5 v0) j))

end Cert.DynRefIdeal.DynValue
-- ==== Proof.DynRefRun.lean ====
module

public import proofs.«01_k».proof.Proof.Gen.DynRefIdeal.Frame
public import Idealize.ShloMosaic.Lib.Pipeline.Value

@[expose] public section

noncomputable section

namespace Cert.DynRefIdeal.Value

open Cert.DynRefIdeal Cert.DynRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v2_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_2) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_v2_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      kept_main_arg0 m r h c,
      kept_main_arg1 m r h c,
      kept_main_arg2 m r h c⟩)
    (run_main m ρ)

end Cert.DynRefIdeal.Value

end
-- ==== Proof.DynRefValue.lean ====
module

public import proofs.«01_k».proof.Defs
public import proofs.«01_k».proof.Proof.DynRefPay
public import proofs.«01_k».proof.Proof.DynRefRun
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DynRefIdeal.DynValue

open Cert.DynRefIdeal Cert.DynRefIdeal.Gen Cert.DynMath

theorem hz : (![0, 0] : Fin 2 → Nat) = fun _ => 0 := funext fun a => by fin_cases a <;> rfl

variable (m : (ℓ : Loc nD τ sig) → Buf (Elt Ideal) ℓ) (ρ : Dev nD → PrngReg)

/-- What each of the reference's results holds after the run, over the arrays its call reads. -/
def result3 (c : Dev nD) : S6144x5120.Idx → EReal := k0_pay4 (V m c main_v0)

def result4 (c : Dev nD) : S6144x128.Idx → EReal := k0_pay6 (V m c main_v0)

def result5 (c : Dev nD) : S6144x4096.Idx → EReal := k0_pay1 (k0_pay7 (V m c main_v0) (V m c main_arg1)) (V m c main_v1)

theorem iblk0_eq (c : Dev nD) (t : Fin cfg0.N) : iblk m c 0 t = V m c main_v0 :=
  Memref.read_access_unit_zero (Elt Ideal) main_v0 (off := fun a => win0_0.index t a * main_v0.ty.shape.size a)
    (funext fun a => by rcases fin_N0 t with rfl; fin_cases a <;> decide +kernel)
    (fun a => by rcases fin_N0 t with rfl; fin_cases a <;> decide +kernel) (V m c main_v0)

theorem iblk1_eq (c : Dev nD) (t : Fin cfg0.N) : iblk m c 1 t = V m c main_arg1 :=
  Memref.read_access_unit_zero (Elt Ideal) main_arg1 (off := fun a => win0_1.index t a * main_arg1.ty.shape.size a)
    (funext fun a => by rcases fin_N0 t with rfl; fin_cases a <;> decide +kernel)
    (fun a => by rcases fin_N0 t with rfl; fin_cases a <;> decide +kernel) (V m c main_arg1)

theorem iblk2_eq (c : Dev nD) (t : Fin cfg0.N) : iblk m c 2 t = V m c main_v1 :=
  Memref.read_access_unit_zero (Elt Ideal) main_v1 (off := fun a => win0_2.index t a * main_v1.ty.shape.size a)
    (funext fun a => by rcases fin_N0 t with rfl; fin_cases a <;> decide +kernel)
    (fun a => by rcases fin_N0 t with rfl; fin_cases a <;> decide +kernel) (V m c main_v1)

theorem flushed3_eq (c : Dev nD) (t : Fin cfg0.N) :
    (dats m 0 c).flushed 3 t = ((cfg0.win 3).blk t).view.read (Elt Ideal) (result3 m c) := by
  have h : ((cfg0.win 3).blk t).view.read (Elt Ideal) (result3 m c) = result3 m c :=
    Memref.read_access_unit_zero (Elt Ideal) main_v2_0 (off := fun a => win0_3.index t a * main_v2_0.ty.shape.size a)
      (funext fun a => by rcases fin_N0 t with rfl; fin_cases a <;> decide +kernel)
      (fun a => by rcases fin_N0 t with rfl; fin_cases a <;> decide +kernel) _
  rw [Value.flushed3, iblk0_eq, iblk1_eq, iblk2_eq]
  unfold out0_3
  rw [View.canon_unit_zero hz]
  repeat rw [View.ld_unit_zero hz]
  exact h.symm

theorem cover3 (i : S6144x5120.Idx) : ∃ t : Fin cfg0.N, (cfg0.win 3).flush t = true ∧ i ∈ ((cfg0.win 3).blk t).view.set := by
  have hN : cfg0.N = 1 := N_0
  refine ⟨⟨0, by omega⟩, flush0_3 _, ?_⟩
  set t : Fin cfg0.N := ⟨0, by omega⟩ with ht
  have h0 : (i 0 : Nat) < 6144 := (i 0).isLt
  have h1 : (i 1 : Nat) < 5120 := (i 1).isLt
  have e : win0_3.index t 0 * win0_3.size 0 = 0 ∧ win0_3.xsize (grid0.coords t) 0 = 6144
      ∧ win0_3.index t 1 * win0_3.size 1 = 0 ∧ win0_3.xsize (grid0.coords t) 1 = 5120 := by
    rcases fin_N0 t with h; rw [h]; decide +kernel
  show i ∈ ((View.whole main_v2_0).slice (win0_3.rect t)).set
  rw [View.set_slice_whole, Rect.mem_set_unit]
  intro a
  match a with
  | ⟨0, _⟩ =>
    show win0_3.index t 0 * win0_3.size 0 ≤ (i 0 : Nat) ∧ (i 0 : Nat) < win0_3.index t 0 * win0_3.size 0 + win0_3.xsize (grid0.coords t) 0
    rw [e.1, e.2.1]; omega
  | ⟨1, _⟩ =>
    show win0_3.index t 1 * win0_3.size 1 ≤ (i 1 : Nat) ∧ (i 1 : Nat) < win0_3.index t 1 * win0_3.size 1 + win0_3.xsize (grid0.coords t) 1
    rw [e.2.2.1, e.2.2.2]; omega

theorem final3 (c : Dev nD) : (dats m 0 c).arrAt 3 cfg0.N = result3 m c :=
  (dats m 0 c).arrAt_eq_of_cover 3 (result3 m c) (fun t _ => flushed3_eq m c t) cover3

theorem flushed4_eq (c : Dev nD) (t : Fin cfg0.N) :
    (dats m 0 c).flushed 4 t = ((cfg0.win 4).blk t).view.read (Elt Ideal) (result4 m c) := by
  have h : ((cfg0.win 4).blk t).view.read (Elt Ideal) (result4 m c) = result4 m c :=
    Memref.read_access_unit_zero (Elt Ideal) main_v2_1 (off := fun a => win0_4.index t a * main_v2_1.ty.shape.size a)
      (funext fun a => by rcases fin_N0 t with rfl; fin_cases a <;> decide +kernel)
      (fun a => by rcases fin_N0 t with rfl; fin_cases a <;> decide +kernel) _
  rw [Value.flushed4, iblk0_eq, iblk1_eq, iblk2_eq]
  unfold out0_4
  rw [View.canon_unit_zero hz]
  repeat rw [View.ld_unit_zero hz]
  exact h.symm

theorem cover4 (i : S6144x128.Idx) : ∃ t : Fin cfg0.N, (cfg0.win 4).flush t = true ∧ i ∈ ((cfg0.win 4).blk t).view.set := by
  have hN : cfg0.N = 1 := N_0
  refine ⟨⟨0, by omega⟩, flush0_4 _, ?_⟩
  set t : Fin cfg0.N := ⟨0, by omega⟩ with ht
  have h0 : (i 0 : Nat) < 6144 := (i 0).isLt
  have h1 : (i 1 : Nat) < 128 := (i 1).isLt
  have e : win0_4.index t 0 * win0_4.size 0 = 0 ∧ win0_4.xsize (grid0.coords t) 0 = 6144
      ∧ win0_4.index t 1 * win0_4.size 1 = 0 ∧ win0_4.xsize (grid0.coords t) 1 = 128 := by
    rcases fin_N0 t with h; rw [h]; decide +kernel
  show i ∈ ((View.whole main_v2_1).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [e.1, e.2.1]; omega
  | ⟨1, _⟩ =>
    show win0_4.index t 1 * win0_4.size 1 ≤ (i 1 : Nat) ∧ (i 1 : Nat) < win0_4.index t 1 * win0_4.size 1 + win0_4.xsize (grid0.coords t) 1
    rw [e.2.2.1, e.2.2.2]; omega

theorem final4 (c : Dev nD) : (dats m 0 c).arrAt 4 cfg0.N = result4 m c :=
  (dats m 0 c).arrAt_eq_of_cover 4 (result4 m c) (fun t _ => flushed4_eq m c t) cover4

theorem flushed5_eq (c : Dev nD) (t : Fin cfg0.N) :
    (dats m 0 c).flushed 5 t = ((cfg0.win 5).blk t).view.read (Elt Ideal) (result5 m c) := by
  have h : ((cfg0.win 5).blk t).view.read (Elt Ideal) (result5 m c) = result5 m c :=
    Memref.read_access_unit_zero (Elt Ideal) main_v2_2 (off := fun a => win0_5.index t a * main_v2_2.ty.shape.size a)
      (funext fun a => by rcases fin_N0 t with rfl; fin_cases a <;> decide +kernel)
      (fun a => by rcases fin_N0 t with rfl; fin_cases a <;> decide +kernel) _
  rw [Value.flushed5, iblk0_eq, iblk1_eq, iblk2_eq]
  unfold out0_5
  rw [View.canon_unit_zero hz]
  repeat rw [View.ld_unit_zero hz]
  exact h.symm

theorem cover5 (i : S6144x4096.Idx) : ∃ t : Fin cfg0.N, (cfg0.win 5).flush t = true ∧ i ∈ ((cfg0.win 5).blk t).view.set := by
  have hN : cfg0.N = 1 := N_0
  refine ⟨⟨0, by omega⟩, flush0_5 _, ?_⟩
  set t : Fin cfg0.N := ⟨0, by omega⟩ with ht
  have h0 : (i 0 : Nat) < 6144 := (i 0).isLt
  have h1 : (i 1 : Nat) < 4096 := (i 1).isLt
  have e : win0_5.index t 0 * win0_5.size 0 = 0 ∧ win0_5.xsize (grid0.coords t) 0 = 6144
      ∧ win0_5.index t 1 * win0_5.size 1 = 0 ∧ win0_5.xsize (grid0.coords t) 1 = 4096 := by
    rcases fin_N0 t with h; rw [h]; decide +kernel
  show i ∈ ((View.whole main_v2_2).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + win0_5.xsize (grid0.coords t) 0
    rw [e.1, e.2.1]; omega
  | ⟨1, _⟩ =>
    show win0_5.index t 1 * win0_5.size 1 ≤ (i 1 : Nat) ∧ (i 1 : Nat) < win0_5.index t 1 * win0_5.size 1 + win0_5.xsize (grid0.coords t) 1
    rw [e.2.2.1, e.2.2.2]; omega

theorem final5 (c : Dev nD) : (dats m 0 c).arrAt 5 cfg0.N = result5 m c :=
  (dats m 0 c).arrAt_eq_of_cover 5 (result5 m c) (fun t _ => flushed5_eq m c t) cover5

theorem V_v0 (c : Dev nD) : V m c main_v0 = shapeCast S6144x5120 (m ((c.tc : Thread nD τ).loc main_arg0)) shapeCasts_S2x3072x5120_S6144x5120 := by
  entry_read
  rfl

theorem V_v1 (c : Dev nD) : V m c main_v1 = shapeCast S1x1 (m ((c.tc : Thread nD τ).loc main_arg2)) shapeCasts_S_S1x1 := by
  entry_read
  rfl

end Cert.DynRefIdeal.DynValue
end
-- ==== Proof.DynClaim.lean ====
module

public import proofs.«01_k».proof.Defs
public import proofs.«01_k».proof.Proof.DynValue
public import proofs.«01_k».proof.Proof.DynRefValue
public import proofs.«01_k».proof.Proof.Gen.DynIdeal
public import proofs.«01_k».proof.Proof.Gen.DynRefIdeal
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DynClaim

open Cert.DynMath

/-- The side conditions of the precondition. -/
instance facts : Cert.Pre_scales_normal.Facts where
  bitsLt_bf16_f32 := by decide
  reducesTo_S2x3072x5120_S2x3072_d2 := by decide
  h_S_ := by decide
  bcast_S_S2x3072 := by decide

/-- The conditions on one row, as the precondition's three comparisons state them. -/
theorem normal_of_bits (a : EReal)
    (h : BitVec.or (FloatOps.cmpf (F := Ideal) (φ := .f32) .oeq a (Ideal.ofBits .f32 0x00000000#32))
      (BitVec.and (FloatOps.cmpf (F := Ideal) (φ := .f32) .oge a (Ideal.ofBits .f32 0x00800000#32))
        (FloatOps.cmpf (F := Ideal) (φ := .f32) .olt a (Ideal.ofBits .f32 0x7E800000#32))) = 1#1) : Normal a := by
  have hz : Ideal.ofBits .f32 0x00000000#32 = 0 := by simp [Ideal.ofBits, Ideal.ieee]
  have key : ∀ p q r : Bool, BitVec.or (BitVec.ofBool p) (BitVec.and (BitVec.ofBool q) (BitVec.ofBool r)) = 1#1 → p = true ∨ (q = true ∧ r = true) := by decide
  rcases key _ _ _ h with e | ⟨e, e'⟩
  · left
    rw [← hz]
    exact of_decide_eq_true e
  · right
    exact ⟨of_decide_eq_true e, of_decide_eq_true e'⟩

/-- The precondition over the greatest magnitudes. -/
def rows (r : FVec Ideal Cert.Pre_scales_normal.S2x3072 .f32) : IVec Cert.Pre_scales_normal.S2x3072 1 :=
  let m := mulf r (broadcastInDim Cert.Pre_scales_normal.S2x3072 ![] Cert.Pre_scales_normal.Facts.bcast_S_S2x3072 (constant (F := Ideal) Cert.Pre_scales_normal.S_ .f32 0x37924925#32))
  ori (cmpf .oeq m (broadcastInDim Cert.Pre_scales_normal.S2x3072 ![] Cert.Pre_scales_normal.Facts.bcast_S_S2x3072 (constant (F := Ideal) Cert.Pre_scales_normal.S_ .f32 0x00000000#32)))
    (andi (cmpf .oge m (broadcastInDim Cert.Pre_scales_normal.S2x3072 ![] Cert.Pre_scales_normal.Facts.bcast_S_S2x3072 (constant (F := Ideal) Cert.Pre_scales_normal.S_ .f32 0x00800000#32)))
      (cmpf .olt m (broadcastInDim Cert.Pre_scales_normal.S2x3072 ![] Cert.Pre_scales_normal.Facts.bcast_S_S2x3072 (constant (F := Ideal) Cert.Pre_scales_normal.S_ .f32 0x7E800000#32))))

theorem fn_eq (x : Vec Ideal Cert.Pre_scales_normal.S2x3072x5120 .bf16) (w : Vec Ideal Cert.Pre_scales_normal.S4096x5120 .fp8e4m3)
    (s : Vec Ideal Cert.Pre_scales_normal.S_ .f32) :
    Cert.Pre_scales_normal.fn (F := Ideal) x w s
      = rows (Host.reduce FloatOps.maximumf (Host.absf (extf .f32 x Cert.Pre_scales_normal.Facts.bitsLt_bf16_f32)) (constant (F := Ideal) Cert.Pre_scales_normal.S_ .f32 0xFF800000#32)
          Cert.Pre_scales_normal.Facts.reducesTo_S2x3072x5120_S2x3072_d2 Cert.Pre_scales_normal.Facts.h_S_) := rfl

theorem rows_normal (r : FVec Ideal Cert.Pre_scales_normal.S2x3072 .f32) (j : Cert.Pre_scales_normal.S2x3072.Idx) (h : rows r j = 1#1) :
    Normal ((r j : EReal) * C) := normal_of_bits _ h

/-- The precondition's value at a row. -/
theorem pre_apply (x : Vec Ideal Cert.Pre_scales_normal.S2x3072x5120 .bf16) (w : Vec Ideal Cert.Pre_scales_normal.S4096x5120 .fp8e4m3)
    (s : Vec Ideal Cert.Pre_scales_normal.S_ .f32) (h : Cert.Pre_scales_normal.fn (F := Ideal) x w s = fun _ => 1#1) (a : Fin 2) (b : Fin 3072) :
    Normal ((rowMax fun k : Fin 5120 => (x (ix3 a b k) : EReal)) * C) := by
  rw [fn_eq] at h
  have e := rows_normal _ _ (congrFun h (ix2 a b))
  rw [rowMax_host (n0 := 2) (n1 := 3072) (n2 := 5120) (t := Cert.Pre_scales_normal.S2x3072) _ _ _ _ rfl (ix2 a b) a b rfl rfl] at e
  exact e

/-- A row of the array with its batch and sequence axes merged. -/
theorem row_eq (x : Vec Ideal Cert.DynIdeal.S2x3072x5120 .bf16) (h : Cert.DynIdeal.S2x3072x5120.ShapeCasts Cert.DynIdeal.S6144x5120) (r : Fin 6144) (k : Fin 5120) :
    shapeCast Cert.DynIdeal.S6144x5120 x h (ix2 r k) = x (ix3 (⟨r.val / 3072, by omega⟩ : Fin 2) (⟨r.val % 3072, by omega⟩ : Fin 3072) k) := by
  pointwise!

variable (m : (ℓ : Loc Cert.DynIdeal.nD Cert.DynIdeal.τ Cert.DynIdeal.sig) → Buf (Elt Ideal) ℓ)
    (m' : (ℓ : Loc Cert.DynRefIdeal.nD Cert.DynRefIdeal.τ Cert.DynRefIdeal.sig) → Buf (Elt Ideal) ℓ) (c : Dev Cert.DynIdeal.nD)
    (h0 : m' ((c.tc : Thread Cert.DynRefIdeal.nD Cert.DynRefIdeal.τ).loc Cert.DynRefIdeal.main_arg0) = m ((c.tc : Thread Cert.DynIdeal.nD Cert.DynIdeal.τ).loc Cert.DynIdeal.main_arg0))
    (h1 : m' ((c.tc : Thread Cert.DynRefIdeal.nD Cert.DynRefIdeal.τ).loc Cert.DynRefIdeal.main_arg1) = m ((c.tc : Thread Cert.DynIdeal.nD Cert.DynIdeal.τ).loc Cert.DynIdeal.main_arg1))
    (h2 : m' ((c.tc : Thread Cert.DynRefIdeal.nD Cert.DynRefIdeal.τ).loc Cert.DynRefIdeal.main_arg2) = m ((c.tc : Thread Cert.DynIdeal.nD Cert.DynIdeal.τ).loc Cert.DynIdeal.main_arg2))
    (hp : Cert.Pre_DynIdeal_scales_normal m)

include h0 in
theorem x_eq : Cert.DynRefIdeal.Gen.V m' c Cert.DynRefIdeal.main_v0 = Cert.DynIdeal.Gen.V m c Cert.DynIdeal.main_v1 := by
  rw [Cert.DynRefIdeal.DynValue.V_v0, Cert.DynIdeal.DynValue.V_v1, h0]

include h1 in
theorem w_eq : Cert.DynRefIdeal.Gen.V m' c Cert.DynRefIdeal.main_arg1 = Cert.DynIdeal.Gen.V m c Cert.DynIdeal.main_arg1 := by
  rw [Cert.DynRefIdeal.Gen.V_main_arg1, Cert.DynIdeal.Gen.V_main_arg1, h1]

include h2 in
theorem ws_eq : Cert.DynRefIdeal.Gen.V m' c Cert.DynRefIdeal.main_v1 = Cert.DynIdeal.Gen.V m c Cert.DynIdeal.main_v0 := by
  rw [Cert.DynRefIdeal.DynValue.V_v1, Cert.DynIdeal.DynValue.V_v0, h2]

include hp in
/-- Every row's scale is in the range of the claim. -/
theorem normal (r : Fin 6144) : Normal ((rowMax fun k : Fin 5120 => (Cert.DynIdeal.Gen.V m c Cert.DynIdeal.main_v1 (ix2 r k) : EReal)) * C) := by
  have e : (rowMax fun k : Fin 5120 => (Cert.DynIdeal.Gen.V m c Cert.DynIdeal.main_v1 (ix2 r k) : EReal))
      = rowMax fun k : Fin 5120 => ((m ((c.tc : Thread Cert.DynIdeal.nD Cert.DynIdeal.τ).loc Cert.DynIdeal.main_arg0) : Vec Ideal Cert.DynIdeal.S2x3072x5120 .bf16)
        (ix3 (⟨r.val / 3072, by omega⟩ : Fin 2) (⟨r.val % 3072, by omega⟩ : Fin 3072) k) : EReal) := by
    rw [Cert.DynIdeal.DynValue.V_v1]
    exact congrArg rowMax (funext fun k => row_eq _ _ r k)
  rw [e]
  exact pre_apply _ _ _ (hp c) _ _

/-- The codes of the reference are the kernel's, on rows in range. -/
theorem codes_eq (x : Vec Ideal Cert.DynIdeal.S6144x5120 .bf16) (hx : ∀ r : Fin 6144, Normal ((rowMax fun k : Fin 5120 => (x (ix2 r k) : EReal)) * C))
    (j : Cert.DynIdeal.S6144x5120.Idx) : (Cert.DynRefIdeal.Gen.k0_pay4 (F := Ideal) x j : EReal) = Cert.DynIdeal.DynValue.codesOf x j := by
  refine (Cert.DynRefIdeal.DynValue.pay4_apply x j).trans ?_
  unfold Cert.DynIdeal.DynValue.codesOf
  exact congrArg _ (inv_eq _ (hx (j 0)))

include h0 hp in
theorem result3_eq : Cert.DynRefIdeal.DynValue.result3 m' c = Cert.DynIdeal.DynValue.result3 m c := by
  funext i
  unfold Cert.DynRefIdeal.DynValue.result3 Cert.DynIdeal.DynValue.result3
  rw [x_eq m m' c h0]
  exact codes_eq _ (normal m c hp) i

include h0 hp in
theorem result4_eq : Cert.DynRefIdeal.DynValue.result4 m' c = Cert.DynIdeal.DynValue.result4 m c := by
  funext i
  unfold Cert.DynRefIdeal.DynValue.result4 Cert.DynIdeal.DynValue.result4
  rw [x_eq m m' c h0]
  refine (Cert.DynRefIdeal.DynValue.pay6_apply _ i).trans ?_
  unfold Cert.DynIdeal.DynValue.scalesOf
  exact scale_eq _ (normal m c hp (i 0))

include h0 h1 h2 hp in
theorem result5_eq : Cert.DynRefIdeal.DynValue.result5 m' c = Cert.DynIdeal.DynValue.result5 m c := by
  funext i
  unfold Cert.DynRefIdeal.DynValue.result5 Cert.DynIdeal.DynValue.result5
  rw [x_eq m m' c h0, w_eq m m' c h1, ws_eq m m' c h2]
  refine (Cert.DynRefIdeal.DynValue.pay1_apply _ _ _ i).trans ?_
  unfold Cert.DynIdeal.DynValue.dynOf
  refine congrArg (fun a : EReal => a * _) (congrArg₂ (fun a b : EReal => a * b) (Finset.sum_congr rfl fun k _ => ?_) ?_)
  · exact congrArg (fun a : EReal => a * _) (codes_eq _ (normal m c hp) _)
  · refine (Cert.DynRefIdeal.DynValue.pay5_apply _ _).trans ?_
    unfold Cert.DynIdeal.DynValue.scalesOf
    exact scale_eq _ (normal m c hp (i 0))

theorem algebraic : Cert.algebraic_DynIdeal_DynRefIdeal_pre_scales_normal := by
  pair_intro
  · run_from (Cert.DynIdeal.DynValue.run_blocks m g)
  · run_from (Cert.DynRefIdeal.Value.run_blocks m' g') <;>
      simp only [Cert.DynRefIdeal.DynValue.final3, Cert.DynRefIdeal.DynValue.final4, Cert.DynRefIdeal.DynValue.final5]
    · exact result3_eq m m' c (hagree c).1 hpre
    · exact result4_eq m m' c (hagree c).1 hpre
    · exact result5_eq m m' c (hagree c).1 (hagree c).2.1 (hagree c).2.2 hpre

end Cert.DynClaim
end
-- ==== Proof.Bodies.lean ====
module

public import Idealize.ShloMosaic.Lib.Exec
public import Idealize.ShloMosaic.Lib.Tactic
public import Idealize.ShloMosaic.Lib.Memref
public import Idealize.ShloMosaic.Lib.Scf
public import Idealize.ShloMosaic.Lib.Pipeline.FrameBody

@[expose] public section

noncomputable section

/-! # Bodies that only load and store what they hold

What a body may touch is held by an assertion `P`: `Loads c P m` says that `P` lends the elements of the memref `m`
to a load, `Stores c P m` that it lends them to a store, whatever the store leaves there. A body made of such loads
and stores runs from `P` to `P`: `step_load`, `step_store` and the rules for sequencing, branching and counting. -/

namespace Cert.Bodies

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

/-- `P` lends the elements of `m` to a load. -/
class Loads (c : Dev nD) (P : sProp 𝕄) {sp : Space} {s : Shape} {e : EltTy} (m : Memref sig .tc sp s e) : Prop where
  out : ∀ G : sProp 𝕄, (∀ (q : PosShare TreeShare) (f : Buf Val (m.view.loc (c : Thread nD τ))),
    iprop((m.view.loc (c : Thread nD τ) ↦[m.view.set]{q} f) ∗ ((m.view.loc (c : Thread nD τ) ↦[m.view.set]{q} f) -∗ P)) ⊢ G) → P ⊢ G

/-- `P` lends the elements of `m` to a store. -/
class Stores (c : Dev nD) (P : sProp 𝕄) {sp : Space} {s : Shape} {e : EltTy} (m : Memref sig .tc sp s e) : Prop where
  out : ∀ G : sProp 𝕄, (∀ f : Buf Val (m.view.loc (c : Thread nD τ)),
    iprop((m.view.loc (c : Thread nD τ) ↦[m.view.set]{fullShare} f)
      ∗ (∀ f', (m.view.loc (c : Thread nD τ) ↦[m.view.set]{fullShare} f') -∗ P)) ⊢ G) → P ⊢ G

section Lend

variable (c : Dev nD) {sp : Space} {s : Shape} {e : EltTy} (m : Memref sig .tc sp s e)

/-- What is lent to a store is lent to a load. -/
instance (priority := low) Loads.of_stores (P : sProp 𝕄) [h : Stores c P m] : Loads c P m :=
  ⟨fun G hG => h.out G fun f => (show _ ⊢ _ from by
    iintro ⟨H, K⟩
    isplitl [H]
    · iexact H
    iintro H
    iapply K; iexact H).trans (hG fullShare f)⟩

instance loads_owns (q : PosShare TreeShare) (X : s.Idx → Val e) : Loads c (owns (c : Thread nD τ) m q X : sProp 𝕄) m :=
  ⟨fun G hG => by
    unfold owns
    iintro ⟨%f, %hf, H⟩
    iapply (hG q f)
    isplitl [H]
    · iexact H
    iintro H
    unfold owns
    iexists f
    isplitr
    · ipureintro; exact hf
    iexact H⟩

instance stores_owns : Stores c (iprop(∃ X, owns (c : Thread nD τ) m fullShare X) : sProp 𝕄) m :=
  ⟨fun G hG => by
    unfold owns
    iintro ⟨%X, %f, %hf, H⟩
    iapply (hG f)
    isplitl [H]
    · iexact H
    iintro %f' H
    iexists (m.view.read Val f')
    unfold owns
    iexists f'
    isplitr
    · ipureintro; rfl
    iexact H⟩

instance loads_left (P R : sProp 𝕄) [h : Loads c P m] : Loads c iprop(P ∗ R) m :=
  ⟨fun G hG => by
    have key : P ⊢ iprop(R -∗ G) := h.out _ fun q f => by
      iintro ⟨H, K⟩ HO
      iapply (hG q f)
      isplitl [H]
      · iexact H
      iintro H
      isplitl [K H]
      · iapply K; iexact H
      iexact HO
    iintro ⟨HP, HO⟩
    iapply key $$ HP
    iexact HO⟩

instance loads_right (P R : sProp 𝕄) [h : Loads c R m] : Loads c iprop(P ∗ R) m :=
  ⟨fun G hG => by
    have key : R ⊢ iprop(P -∗ G) := h.out _ fun q f => by
      iintro ⟨H, K⟩ HO
      iapply (hG q f)
      isplitl [H]
      · iexact H
      iintro H
      isplitl [HO]
      · iexact HO
      iapply K; iexact H
    iintro ⟨HO, HP⟩
    iapply key $$ HP
    iexact HO⟩

instance stores_left (P R : sProp 𝕄) [h : Stores c P m] : Stores c iprop(P ∗ R) m :=
  ⟨fun G hG => by
    have key : P ⊢ iprop(R -∗ G) := h.out _ fun f => by
      iintro ⟨H, K⟩ HO
      iapply (hG f)
      isplitl [H]
      · iexact H
      iintro %f' H
      isplitl [K H]
      · iapply K; iexact H
      iexact HO
    iintro ⟨HP, HO⟩
    iapply key $$ HP
    iexact HO⟩

instance stores_right (P R : sProp 𝕄) [h : Stores c R m] : Stores c iprop(P ∗ R) m :=
  ⟨fun G hG => by
    have key : R ⊢ iprop(P -∗ G) := h.out _ fun f => by
      iintro ⟨H, K⟩ HO
      iapply (hG f)
      isplitl [H]
      · iexact H
      iintro %f' H
      isplitl [HO]
      · iexact HO
      iapply K; iexact H
    iintro ⟨HO, HP⟩
    iapply key $$ HP
    iexact HO⟩

end Lend

/-- A buffer held whole at some contents. -/
instance stores_whole (c : Dev nD) (b : Ref sig .tc) :
    Stores c (iprop(∃ f : Buf Val ((c : Thread nD τ).loc b), ((c : Thread nD τ).loc b) ↦{fullShare} f) : sProp 𝕄) (Memref.whole b) :=
  ⟨fun G hG => by
    rw [View.set_whole] at hG
    iintro ⟨%f, H⟩
    iapply (hG f)
    isplitl [H]
    · iexact H
    iintro %f' H
    iexists f'
    iexact H⟩

section Step

variable [Preorder Lvl] {Λ : Labels} {defs : Defs nD τ sig Val Λ} (𝒱 : Variants) (c : Dev nD) (bd : Option 𝒱.V) (E : Set Name)
variable {α β : Type}
variable {P : sProp (MT nD τ sig Ix Val Name U Lvl)}

theorem step_ret (a : α) : P ⊢ wp (M := 𝕄) frame (wpE defs 𝒱 (c : Thread nD τ) bd) E (pure a : Prog (TpuEff nD τ sig Val Λ .tc) α) fun _ => P :=
  le_wp_ret _ _ _ a fun _ => P

theorem step_bind {p : Prog (TpuEff nD τ sig Val Λ .tc) α} {k : α → Prog (TpuEff nD τ sig Val Λ .tc) β}
    (hp : P ⊢ wp (M := 𝕄) frame (wpE defs 𝒱 (c : Thread nD τ) bd) E p fun _ => P) (hk : ∀ a, P ⊢ wp (M := 𝕄) frame (wpE defs 𝒱 (c : Thread nD τ) bd) E (k a) fun _ => P) : P ⊢ wp (M := 𝕄) frame (wpE defs 𝒱 (c : Thread nD τ) bd) E (p >>= k) fun _ => P := by
  rw [wp_bind]
  exact hp.trans (wp_mono _ _ _ hk)

theorem step_dite {C : Prop} {_ : Decidable C} {p : C → Prog (TpuEff nD τ sig Val Λ .tc) α} {q : ¬C → Prog (TpuEff nD τ sig Val Λ .tc) α}
    (hp : ∀ h, P ⊢ wp (M := 𝕄) frame (wpE defs 𝒱 (c : Thread nD τ) bd) E (p h) fun _ => P) (hq : ∀ h, P ⊢ wp (M := 𝕄) frame (wpE defs 𝒱 (c : Thread nD τ) bd) E (q h) fun _ => P) : P ⊢ wp (M := 𝕄) frame (wpE defs 𝒱 (c : Thread nD τ) bd) E (dite C p q) fun _ => P := by
  by_cases h : C
  · rw [dif_pos h]; exact hp h
  · rw [dif_neg h]; exact hq h

/-- A single effect runs from `P` to `P`. -/
structure Runs (defs : Defs nD τ sig Val Λ) (𝒱 : Variants) (c : Dev nD) (bd : Option 𝒱.V) (E : Set Name)
    (P : sProp (MT nD τ sig Ix Val Name U Lvl)) (x : TpuEff nD τ sig Val Λ .tc α) : Prop where
  out : P ⊢ wp (M := 𝕄) frame (wpE defs 𝒱 (c : Thread nD τ) bd) E (Prog.lift x) fun _ => P

theorem step_lift {x : TpuEff nD τ sig Val Λ .tc α} (h : Runs defs 𝒱 c bd E P x) :
    P ⊢ wp (M := 𝕄) frame (wpE defs 𝒱 (c : Thread nD τ) bd) E (Prog.lift x) fun _ => P := h.out

theorem step_load {cs : CoreSpace} {s : Shape} {e : EltTy} {m : Memref sig .tc cs s e} {r : LoadRect s} {hl : m.view.LoadsAt r}
    [h : Loads c P m] : Runs defs 𝒱 c bd E P (.load m r hl) :=
  ⟨h.out _ fun q f => by
    iintro ⟨H, K⟩
    iapply (wp_load 𝒱 (c : Thread nD τ) bd E (hl := hl) (S := m.view.set) (f := f) (View.setOn_subset_set _ _)) $$ H
    iintro H
    iapply (le_wp_ret _ _ _ _ fun _ => P)
    iapply K; iexact H⟩

theorem step_store {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1}
    [h : Stores c P m] : Runs defs 𝒱 c bd E P (.store m r w Mk hx hm) :=
  ⟨h.out _ fun f => by
    iintro ⟨H, K⟩
    iapply (wp_store 𝒱 (c : Thread nD τ) bd E (hx := hx) (hm := hm) (S := m.view.set) (f := f) ((View.setOn_subset_set _ _).trans (View.set_slice_subset _ _))) $$ H
    iintro H
    iapply (le_wp_ret _ _ _ _ fun _ => P)
    iapply K; iexact H⟩

theorem step_smemLoad {s : Shape} {e : EltTy} {m : Memref sig .tc .smem s e} {r : Rect s} {h1 : r.shape.numel = 1} {hp : e.packing = 1}
    [h : Loads c P m] : P ⊢ wp (M := 𝕄) frame (wpE defs 𝒱 (c : Thread nD τ) bd) E (smemLoad m r h1 hp) fun _ => P :=
  h.out _ fun q f => by
    iintro ⟨H, K⟩
    unfold smemLoad
    iapply (wp_smemLoadElt 𝒱 (c : Thread nD τ) bd E (m := m) (r := r) (S := m.view.set) (f := f) (View.set_slice_subset _ _)) $$ H
    iintro H
    iapply (le_wp_ret _ _ _ _ fun _ => P)
    iapply K; iexact H

theorem step_for {w : ℕ} {l : Scf.Loop w} {hok : l.OK} {body : Fin l.trips → PUnit → Prog (TpuEff nD τ sig Val Λ .tc) PUnit}
    (hb : ∀ k a, P ⊢ wp (M := 𝕄) frame (wpE defs 𝒱 (c : Thread nD τ) bd) E (body k a) fun _ => P) : P ⊢ wp (M := 𝕄) frame (wpE defs 𝒱 (c : Thread nD τ) bd) E (Scf.Loop.for l hok ⟨⟩ body) fun _ => P :=
  (show P ⊢ iprop(P ∗ (∀ a : PUnit, P -∗ P)) from by
    iintro H
    isplitl [H]
    · iexact H
    iintro %_ H
    iexact H).trans (Scf.wp_for _ _ _ l.lb l.ub l.st hok ⟨⟩ body (fun _ _ => P) hb)

end Step

end Cert.Bodies

end
-- ==== Proof.GdnBody.lean ====
module

public import proofs.«01_k».proof.Proof.Bodies
public import proofs.«01_k».proof.Proof.Gen.Gdn.Skeleton
public import proofs.«01_k».proof.Proof.Gen.Gdn.Loops

@[expose] public section

set_option maxRecDepth 16384

noncomputable section

/-! # The body of the gated delta rule's kernel loads and stores what it holds

Each part of the body runs from an assertion that lends the memrefs to that same assertion. -/

namespace Cert.Gdn.Run

open Cert.Gdn Cert.Gdn.Gen Cert.Bodies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {𝒱 : Variants} {c : Dev nD} {bd : Option 𝒱.V} {E : Set ℕ} {P : sProp (MT nD τ sig Unit (Elt F) ℕ (UR sig nD τ) ℕ)} {i : grid0.Coords}
variable {arg2 : Memref sig .tc .smem S48x16 .f32} {harg2 : arg2.IsWhole} [Loads c P arg2]
variable {arg3 : Memref sig .tc .vmem S1x128x8192 .fp8e4m3} {harg3 : arg3.IsWhole} [Loads c P arg3]
variable {arg4 : Memref sig .tc .vmem S1x32x8192 .fp8e4m3} {harg4 : arg4.IsWhole} [Loads c P arg4]
variable {arg5 : Memref sig .tc .vmem S1x128x128 .f32} {harg5 : arg5.IsWhole} [Loads c P arg5]
variable {arg6 : Memref sig .tc .vmem S1x8x128 .f32} {harg6 : arg6.IsWhole} [Loads c P arg6]
variable {arg7 : Memref sig .tc .vmem S8x8192 .f32} {harg7 : arg7.IsWhole} [Loads c P arg7]
variable {arg8 : Memref sig .tc .vmem S32x128 .f32} {harg8 : arg8.IsWhole} [Loads c P arg8]
variable {arg9 : Memref sig .tc .vmem S1x1x16x128x256 .fp8e4m3} {harg9 : arg9.IsWhole} [Loads c P arg9]
variable {arg10 : Memref sig .tc .vmem S1x128x4096 .bf16} {harg10 : arg10.IsWhole} [Loads c P arg10]
variable {arg11 : Memref sig .tc .vmem S1x128x4096 .f32} {harg11 : arg11.IsWhole} [Loads c P arg11]
variable {arg12 : Memref sig .tc .vmem S1x256 .f32} {harg12 : arg12.IsWhole} [Loads c P arg12]
variable {arg13 : Memref sig .tc .vmem S1x128x4096 .bf16} {harg13 : arg13.IsWhole} [Stores c P arg13]
variable {arg14 : Memref sig .tc .vmem S1x128x4096 .f32} {harg14 : arg14.IsWhole} [Stores c P arg14]
variable {arg15 : Memref sig .tc .vmem S1x128x8192 .f32} {harg15 : arg15.IsWhole} [Stores c P arg15]
variable {arg16 : Memref sig .tc .vmem S1x128x8192 .fp8e5m2} {harg16 : arg16.IsWhole} [Stores c P arg16]
variable {arg17 : Memref sig .tc .vmem S1x128x128 .f32} {harg17 : arg17.IsWhole} [Stores c P arg17]
variable {arg18 : Memref sig .tc .vmem S1x16x128x256 .f32} {harg18 : arg18.IsWhole} [Stores c P arg18]
variable {arg19 : Memref sig .tc .vmem S8x4096 .f32} {harg19 : arg19.IsWhole} [Stores c P arg19]
variable {arg20 : Memref sig .tc .vmem S8x8192 .f32} {harg20 : arg20.IsWhole} [Stores c P arg20]
variable {arg21 : Memref sig .tc .vmem S4x8x8192 .f32} {harg21 : arg21.IsWhole} [Stores c P arg21]
variable {arg22 : Memref sig .tc .vmem S8x256 .f32} {harg22 : arg22.IsWhole} [Stores c P arg22]
variable {arg23 : Memref sig .tc .vmem S4x136x128 .f32} {harg23 : arg23.IsWhole} [Stores c P arg23]
variable {arg24 : Memref sig .tc .vmem S4x136x128 .f32} {harg24 : arg24.IsWhole} [Stores c P arg24]
variable {arg25 : Memref sig .tc .vmem S8x8192 .f32} {harg25 : arg25.IsWhole} [Stores c P arg25]
variable {arg26 : Memref sig .tc .vmem S5x16x128 .f32} {harg26 : arg26.IsWhole} [Stores c P arg26]
variable {arg27 : Memref sig .tc .vmem S3x16x128 .f32} {harg27 : arg27.IsWhole} [Stores c P arg27]
variable {arg28 : Memref sig .tc .vmem S16x128 .f32} {harg28 : arg28.IsWhole} [Stores c P arg28]
variable {arg29 : Memref sig .tc .vmem S16x128 .f32} {harg29 : arg29.IsWhole} [Stores c P arg29]
variable {arg30 : Memref sig .tc .vmem S128x128 .f32} {harg30 : arg30.IsWhole} [Stores c P arg30]
variable {arg31 : Memref sig .tc .vmem S128x128 .f32} {harg31 : arg31.IsWhole} [Stores c P arg31]
variable {arg32 : Memref sig .tc .vmem S128x128 .f32} {harg32 : arg32.IsWhole} [Stores c P arg32]

theorem part1_runs (c0_i32_49 : BitVec 32) (c1_i32 : BitVec 32) (k0_t1 : Fin k0_t1_loop.trips) :
    P ⊢ wp frame (wpE (defs₀ (F := F)) 𝒱 (c : Thread nD τ) bd) E (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 c0_i32_49 c1_i32 k0_t1) fun _ => P := by
  rw [k0_part1_eq_skeleton]
  unfold k0_part1_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part2_runs (k0_t1 : Fin k0_t1_loop.trips) (arg33 : BitVec 32) (v159 : BitVec 32) (v179 : FVec F S1x128 .f32) :
    P ⊢ wp frame (wpE (defs₀ (F := F)) 𝒱 (c : Thread nD τ) bd) E (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v159 v179) fun _ => P := by
  rw [k0_part2_eq_skeleton]
  unfold k0_part2_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part3_runs (k0_t1 : Fin k0_t1_loop.trips) (v209 : BitVec 32) (v215 : FVec F S128x128 .f32) (v221 : FVec F S128x128 .f32) :
    P ⊢ wp frame (wpE (defs₀ (F := F)) 𝒱 (c : Thread nD τ) bd) E (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v209 v215 v221) fun _ => P := by
  rw [k0_part3_eq_skeleton]
  unfold k0_part3_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part4_runs (k0_t1 : Fin k0_t1_loop.trips) (arg33 : BitVec 32) (v223 : BitVec 32) (v255 : FVec F S128x128 .f32) (v258 : FVec F S1x128 .f32) :
    P ⊢ wp frame (wpE (defs₀ (F := F)) 𝒱 (c : Thread nD τ) bd) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v223 v255 v258) fun _ => P := by
  rw [k0_part4_eq_skeleton]
  unfold k0_part4_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part5_runs (k0_t1 : Fin k0_t1_loop.trips) (arg33 : BitVec 32) (v284 : FVec F S8x128 .f32) (v287 : BitVec 32) (v299 : FVec F S32x128 .f32) :
    P ⊢ wp frame (wpE (defs₀ (F := F)) 𝒱 (c : Thread nD τ) bd) E (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v284 v287 v299) fun _ => P := by
  rw [k0_part5_eq_skeleton]
  unfold k0_part5_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part6_runs (k0_t1 : Fin k0_t1_loop.trips) (v277 : FVec F S128x128 .f32) (v284 : FVec F S8x128 .f32) (v337 : BitVec 32) :
    P ⊢ wp frame (wpE (defs₀ (F := F)) 𝒱 (c : Thread nD τ) bd) E (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v277 v284 v337) fun _ => P := by
  rw [k0_part6_eq_skeleton]
  unfold k0_part6_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part7_runs (k0_t1 : Fin k0_t1_loop.trips) (v207 : FVec F S128x128 .f32) (v271 : FVec F S128x128 .f32) (v335 : FVec F S128x128 .f32) (v339 : BitVec 32) (v371 : FVec F S128x128 .f32) (v374 : FVec F S1x128 .f32) :
    P ⊢ wp frame (wpE (defs₀ (F := F)) 𝒱 (c : Thread nD τ) bd) E (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v207 v271 v335 v339 v371 v374) fun _ => P := by
  rw [k0_part7_eq_skeleton]
  unfold k0_part7_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part8_runs (v1 : IVec S128x128 32) (v2 : IVec S128x128 32) (v3 : IVec S128x128 1) (k0_t1 : Fin k0_t1_loop.trips) (arg33 : BitVec 32) (v416 : FVec F S128x128 .f32) (v417 : FVec F S128x128 .f32) :
    P ⊢ wp frame (wpE (defs₀ (F := F)) 𝒱 (c : Thread nD τ) bd) E (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v3 k0_t1 arg33 v416 v417) fun _ => P := by
  rw [k0_part8_eq_skeleton]
  unfold k0_part8_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part9_runs (v1 : IVec S128x128 32) (v2 : IVec S128x128 32) (v468 : IVec S128x128 1) :
    P ⊢ wp frame (wpE (defs₀ (F := F)) 𝒱 (c : Thread nD τ) bd) E (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v468) fun _ => P := by
  rw [k0_part9_eq_skeleton]
  unfold k0_part9_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part10_runs (v1 : IVec S128x128 32) (v2 : IVec S128x128 32) (v495 : IVec S128x128 32) (v497 : IVec S128x128 32) (v511 : IVec S128x128 1) (v513 : IVec S128x128 32) (c0_i32_227 : BitVec 32) :
    P ⊢ wp frame (wpE (defs₀ (F := F)) 𝒱 (c : Thread nD τ) bd) E (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v495 v497 v511 v513 c0_i32_227) fun _ => P := by
  rw [k0_part10_eq_skeleton]
  unfold k0_part10_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part11_runs (v1 : IVec S128x128 32) (v2 : IVec S128x128 32) (v467 : FVec F S128x128 .f32) (v471 : FVec F S128x128 .f32) (v520 : IVec S128x128 1) (v544 : IVec S128x128 32) (c1_i32_236 : BitVec 32) (v546 : IVec S128x128 32) (v560 : IVec S128x128 1) :
    P ⊢ wp frame (wpE (defs₀ (F := F)) 𝒱 (c : Thread nD τ) bd) E (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v467 v471 v520 v544 c1_i32_236 v546 v560) fun _ => P := by
  rw [k0_part11_eq_skeleton]
  unfold k0_part11_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part12_runs (v1 : IVec S128x128 32) (v2 : IVec S128x128 32) (v597 : IVec S128x128 32) (c4_i32_250 : BitVec 32) (v599 : IVec S128x128 32) (v606 : IVec S128x128 32) (c0_i32_253 : BitVec 32) :
    P ⊢ wp frame (wpE (defs₀ (F := F)) 𝒱 (c : Thread nD τ) bd) E (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v597 c4_i32_250 v599 v606 c0_i32_253) fun _ => P := by
  rw [k0_part12_eq_skeleton]
  unfold k0_part12_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part13_runs (v1 : IVec S128x128 32) (v2 : IVec S128x128 32) (v467 : FVec F S128x128 .f32) (v573 : FVec F S128x128 .f32) (v622 : IVec S128x128 1) (v646 : IVec S128x128 32) (c2_i32_264 : BitVec 32) (v648 : IVec S128x128 32) (v651 : IVec S128x128 32) (v653 : IVec S128x128 1) :
    P ⊢ wp frame (wpE (defs₀ (F := F)) 𝒱 (c : Thread nD τ) bd) E (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v467 v573 v622 v646 c2_i32_264 v648 v651 v653) fun _ => P := by
  rw [k0_part13_eq_skeleton]
  unfold k0_part13_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part14_runs (v1 : IVec S128x128 32) (v2 : IVec S128x128 32) (v679 : IVec S128x128 32) (v698 : IVec S128x128 1) (v699 : IVec S128x128 32) :
    P ⊢ wp frame (wpE (defs₀ (F := F)) 𝒱 (c : Thread nD τ) bd) E (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v679 v698 v699) fun _ => P := by
  rw [k0_part14_eq_skeleton]
  unfold k0_part14_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part15_runs (v1 : IVec S128x128 32) (v2 : IVec S128x128 32) (v467 : FVec F S128x128 .f32) (v677 : FVec F S128x128 .f32) (v726 : IVec S128x128 1) (v728 : IVec S128x128 32) (v742 : IVec S128x128 1) (v746 : IVec S128x128 1) :
    P ⊢ wp frame (wpE (defs₀ (F := F)) 𝒱 (c : Thread nD τ) bd) E (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v467 v677 v726 v728 v742 v746) fun _ => P := by
  rw [k0_part15_eq_skeleton]
  unfold k0_part15_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part16_runs (v1 : IVec S128x128 32) (v2 : IVec S128x128 32) (c16_i32_304 : BitVec 32) (v783 : IVec S128x128 32) (v790 : IVec S128x128 32) (v791 : BitVec 1) :
    P ⊢ wp frame (wpE (defs₀ (F := F)) 𝒱 (c : Thread nD τ) bd) E (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 c16_i32_304 v783 v790 v791) fun _ => P := by
  rw [k0_part16_eq_skeleton]
  unfold k0_part16_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part17_runs (v1 : IVec S128x128 32) (v2 : IVec S128x128 32) (v467 : FVec F S128x128 .f32) (v781 : FVec F S128x128 .f32) (v830 : IVec S128x128 1) (c8_i32_318 : BitVec 32) (v832 : IVec S128x128 32) (v835 : IVec S128x128 32) (v838 : IVec S128x128 32) :
    P ⊢ wp frame (wpE (defs₀ (F := F)) 𝒱 (c : Thread nD τ) bd) E (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v467 v781 v830 c8_i32_318 v832 v835 v838) fun _ => P := by
  rw [k0_part17_eq_skeleton]
  unfold k0_part17_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part18_runs (v1 : IVec S128x128 32) (v2 : IVec S128x128 32) (v781 : FVec F S128x128 .f32) (v884 : FVec F S128x128 .f32) :
    P ⊢ wp frame (wpE (defs₀ (F := F)) 𝒱 (c : Thread nD τ) bd) E (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v781 v884) fun _ => P := by
  rw [k0_part18_eq_skeleton]
  unfold k0_part18_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part19_runs (v1 : IVec S128x128 32) (v2 : IVec S128x128 32) (v909 : IVec S128x128 32) (v911 : IVec S128x128 32) (v930 : IVec S128x128 1) (c1_i32_348 : BitVec 32) :
    P ⊢ wp frame (wpE (defs₀ (F := F)) 𝒱 (c : Thread nD τ) bd) E (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v909 v911 v930 c1_i32_348) fun _ => P := by
  rw [k0_part19_eq_skeleton]
  unfold k0_part19_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part20_runs (v1 : IVec S128x128 32) (v2 : IVec S128x128 32) (v467 : FVec F S128x128 .f32) (v885 : FVec F S128x128 .f32) (v934 : IVec S128x128 1) (v958 : IVec S128x128 32) (v960 : IVec S128x128 32) (v974 : IVec S128x128 1) (v976 : IVec S128x128 32) (v977 : IVec S128x128 32) :
    P ⊢ wp frame (wpE (defs₀ (F := F)) 𝒱 (c : Thread nD τ) bd) E (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v467 v885 v934 v958 v960 v974 v976 v977) fun _ => P := by
  rw [k0_part20_eq_skeleton]
  unfold k0_part20_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part21_runs (v1 : IVec S128x128 32) (v2 : IVec S128x128 32) (v1013 : IVec S128x128 32) (c64_i32_373 : BitVec 32) (v1015 : IVec S128x128 32) (v1022 : IVec S128x128 32) (c0_i32_376 : BitVec 32) :
    P ⊢ wp frame (wpE (defs₀ (F := F)) 𝒱 (c : Thread nD τ) bd) E (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v1013 c64_i32_373 v1015 v1022 c0_i32_376) fun _ => P := by
  rw [k0_part21_eq_skeleton]
  unfold k0_part21_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part22_runs (v1 : IVec S128x128 32) (v2 : IVec S128x128 32) (v467 : FVec F S128x128 .f32) (v989 : FVec F S128x128 .f32) (v1038 : IVec S128x128 1) (v1062 : IVec S128x128 32) (c32_i32_387 : BitVec 32) (v1064 : IVec S128x128 32) (v1067 : IVec S128x128 32) (v1069 : IVec S128x128 1) :
    P ⊢ wp frame (wpE (defs₀ (F := F)) 𝒱 (c : Thread nD τ) bd) E (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v467 v989 v1038 v1062 c32_i32_387 v1064 v1067 v1069) fun _ => P := by
  rw [k0_part22_eq_skeleton]
  unfold k0_part22_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part23_runs (v1 : IVec S128x128 32) (v2 : IVec S128x128 32) (v1095 : IVec S128x128 32) (v1114 : IVec S128x128 1) (v1115 : IVec S128x128 32) :
    P ⊢ wp frame (wpE (defs₀ (F := F)) 𝒱 (c : Thread nD τ) bd) E (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v1095 v1114 v1115) fun _ => P := by
  rw [k0_part23_eq_skeleton]
  unfold k0_part23_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part24_runs (v2 : IVec S128x128 32) (k0_t1 : Fin k0_t1_loop.trips) (arg33 : BitVec 32) (v436 : FVec F S128x128 .f32) (v438 : FVec F S128x128 .f32) (v450 : FVec F S128x128 .f32) (v453 : FVec F S128x128 .f32) (v457 : FVec F S128x128 .f32) (v464 : FVec F S128x128 .f32) (v467 : FVec F S128x128 .f32) (v1093 : FVec F S128x128 .f32) (v1142 : IVec S128x128 1) (v1144 : IVec S128x128 32) (v1158 : IVec S128x128 1) (v1162 : IVec S128x128 1) :
    P ⊢ wp frame (wpE (defs₀ (F := F)) 𝒱 (c : Thread nD τ) bd) E (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2 k0_t1 arg33 v436 v438 v450 v453 v457 v464 v467 v1093 v1142 v1144 v1158 v1162) fun _ => P := by
  rw [k0_part24_eq_skeleton]
  unfold k0_part24_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part25_runs (arg0 : BitVec 32) (v0 : BitVec 32) (k0_t1 : Fin k0_t1_loop.trips) (arg33 : BitVec 32) (v144 : BitVec 32) (v420 : FVec F S128x256 .f32) (v451 : FVec F S128x256 .f32) (v1197 : FVec F S128x128 .f32) (v1199 : FVec F S128x128 .f32) (v1200 : FVec F S128x128 .f32) (v1203 : FVec F S128x128 .f32) (v1206 : FVec F S128x256 .fp8e4m3) :
    P ⊢ wp frame (wpE (defs₀ (F := F)) 𝒱 (c : Thread nD τ) bd) E (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 v0 k0_t1 arg33 v144 v420 v451 v1197 v1199 v1200 v1203 v1206) fun _ => P := by
  rw [k0_part25_eq_skeleton]
  unfold k0_part25_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part26_runs (k0_t1 : Fin k0_t1_loop.trips) (v144 : BitVec 32) (v1224 : FVec F S128x256 .f32) (v1236 : FVec F S128x256 .f32) (v1238 : FVec F S1x256 .f32) (v1240 : FVec F S128x256 .f32) (v1244 : FVec F S128x256 .f32) (v1245 : FVec F S128x256 .f32) (v1246 : FVec F S128x256 .f32) (v1247 : FVec F S128x256 .f32) (v1249 : Vec F S1x128x256 .f32) :
    P ⊢ wp frame (wpE (defs₀ (F := F)) 𝒱 (c : Thread nD τ) bd) E (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v144 v1224 v1236 v1238 v1240 v1244 v1245 v1246 v1247 v1249) fun _ => P := by
  rw [k0_part26_eq_skeleton]
  unfold k0_part26_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part27_runs (v4 : IVec S128x128 1) (k0_t1 : Fin k0_t1_loop.trips) (arg33 : BitVec 32) (v436 : FVec F S128x128 .f32) (v438 : FVec F S128x128 .f32) (v450 : FVec F S128x128 .f32) (v453 : FVec F S128x128 .f32) (v454 : FVec F S1x128 .f32) (v464 : FVec F S128x128 .f32) (v1197 : FVec F S128x128 .f32) (v1199 : FVec F S128x128 .f32) (v1200 : FVec F S128x128 .f32) (v1201 : FVec F S128x128 .f32) (v1203 : FVec F S128x128 .f32) (v1214 : FVec F S128x256 .f32) (v1218 : FVec F S128x256 .f32) (v1234 : FVec F S128x1 .f32) (v1291 : FVec F S128x256 .f32) :
    P ⊢ wp frame (wpE (defs₀ (F := F)) 𝒱 (c : Thread nD τ) bd) E (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v4 k0_t1 arg33 v436 v438 v450 v453 v454 v464 v1197 v1199 v1200 v1201 v1203 v1214 v1218 v1234 v1291) fun _ => P := by
  rw [k0_part27_eq_skeleton]
  unfold k0_part27_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part28_runs (k0_t1 : Fin k0_t1_loop.trips) (arg33 : BitVec 32) (v420 : FVec F S128x256 .f32) (v436 : FVec F S128x128 .f32) (v450 : FVec F S128x128 .f32) (v453 : FVec F S128x128 .f32) (v454 : FVec F S1x128 .f32) (v457 : FVec F S128x128 .f32) (v465 : FVec F S128x128 .f32) (v467 : FVec F S128x128 .f32) (v1200 : FVec F S128x128 .f32) (v1201 : FVec F S128x128 .f32) (v1203 : FVec F S128x128 .f32) (v1214 : FVec F S128x256 .f32) (v1296 : FVec F S128x256 .f32) (v1300 : FVec F S128x256 .f32) (v1312 : FVec F S128x128 .f32) (v1317 : FVec F S128x128 .f32) (v1318 : FVec F S128x128 .f32) (v1321 : FVec F S128x128 .f32) (v1322 : FVec F S128x128 .f32) (v1323 : FVec F S128x128 .f32) (v1324 : FVec F S128x128 .f32) (v1329 : FVec F S128x128 .f32) :
    P ⊢ wp frame (wpE (defs₀ (F := F)) 𝒱 (c : Thread nD τ) bd) E (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v420 v436 v450 v453 v454 v457 v465 v467 v1200 v1201 v1203 v1214 v1296 v1300 v1312 v1317 v1318 v1321 v1322 v1323 v1324 v1329) fun _ => P := by
  rw [k0_part28_eq_skeleton]
  unfold k0_part28_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part29_runs (v2 : IVec S128x128 32) (k0_t1 : Fin k0_t1_loop.trips) (arg33 : BitVec 32) (v397 : FVec F S128x128 .f32) (v426 : FVec F S128x1 .f32) (v432 : FVec F S128x1 .f32) (v434 : FVec F S128x128 .f32) (v436 : FVec F S128x128 .f32) (v451 : FVec F S128x256 .f32) (v1300 : FVec F S128x256 .f32) (v1328 : FVec F S128x128 .f32) (v1338 : FVec F S128x128 .f32) (v1353 : FVec F S128x1 .f32) (v1360 : FVec F S128x1 .f32) (v1380 : FVec F S1x128 .f32) :
    P ⊢ wp frame (wpE (defs₀ (F := F)) 𝒱 (c : Thread nD τ) bd) E (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2 k0_t1 arg33 v397 v426 v432 v434 v436 v451 v1300 v1328 v1338 v1353 v1360 v1380) fun _ => P := by
  rw [k0_part29_eq_skeleton]
  unfold k0_part29_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part30_runs (k0_t1 : Fin k0_t1_loop.trips) (v1417 : BitVec 32) (v1418 : FVec F S128x128 .f32) :
    P ⊢ wp frame (wpE (defs₀ (F := F)) 𝒱 (c : Thread nD τ) bd) E (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1417 v1418) fun _ => P := by
  rw [k0_part30_eq_skeleton]
  unfold k0_part30_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part31_runs (k0_t1 : Fin k0_t1_loop.trips) (v1417 : BitVec 32) (v1418 : FVec F S128x128 .f32) :
    P ⊢ wp frame (wpE (defs₀ (F := F)) 𝒱 (c : Thread nD τ) bd) E (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1417 v1418) fun _ => P := by
  rw [k0_part31_eq_skeleton]
  unfold k0_part31_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part32_runs (k0_t1 : Fin k0_t1_loop.trips) (arg33 : BitVec 32) (v1417 : BitVec 32) (v1418 : FVec F S128x128 .f32) (v1460 : FVec F S128x128 .f32) (v1495 : FVec F S8x128 .f32) :
    P ⊢ wp frame (wpE (defs₀ (F := F)) 𝒱 (c : Thread nD τ) bd) E (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v1417 v1418 v1460 v1495) fun _ => P := by
  rw [k0_part32_eq_skeleton]
  unfold k0_part32_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part33_runs (k0_t1 : Fin k0_t1_loop.trips) (v403 : FVec F S128x128 .f32) (v1414 : FVec F S128x128 .f32) (v1531 : BitVec 32) (c2048_i32_566 : BitVec 32) :
    P ⊢ wp frame (wpE (defs₀ (F := F)) 𝒱 (c : Thread nD τ) bd) E (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v403 v1414 v1531 c2048_i32_566) fun _ => P := by
  rw [k0_part33_eq_skeleton]
  unfold k0_part33_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part34_runs (k0_t1 : Fin k0_t1_loop.trips) (v1533 : BitVec 32) (v1534 : FVec F S128x128 .f32) (v1568 : FVec F S128x128 .f32) (v1570 : Vec F S1x128 .f32) :
    P ⊢ wp frame (wpE (defs₀ (F := F)) 𝒱 (c : Thread nD τ) bd) E (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1533 v1534 v1568 v1570) fun _ => P := by
  rw [k0_part34_eq_skeleton]
  unfold k0_part34_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part35_runs (k0_t1 : Fin k0_t1_loop.trips) (v1533 : BitVec 32) (v1534 : FVec F S128x128 .f32) (v1576 : FVec F S128x128 .f32) (v1606 : FVec F S16x8x128 .f32) :
    P ⊢ wp frame (wpE (defs₀ (F := F)) 𝒱 (c : Thread nD τ) bd) E (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1533 v1534 v1576 v1606) fun _ => P := by
  rw [k0_part35_eq_skeleton]
  unfold k0_part35_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part36_runs (k0_t1 : Fin k0_t1_loop.trips) (arg33 : BitVec 32) (v409 : FVec F S128x128 .f32) (v1415 : FVec F S128x256 .f32) (v1533 : BitVec 32) (v1641 : FVec F S8x128 .f32) (v1642 : FVec F S16x8x128 .f32) :
    P ⊢ wp frame (wpE (defs₀ (F := F)) 𝒱 (c : Thread nD τ) bd) E (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v409 v1415 v1533 v1641 v1642) fun _ => P := by
  rw [k0_part36_eq_skeleton]
  unfold k0_part36_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part37_runs (k0_t1 : Fin k0_t1_loop.trips) (v1650 : BitVec 32) (v1651 : FVec F S128x128 .f32) (v1677 : FVec F S128x128 .f32) (v1680 : FVec F S1x128 .f32) :
    P ⊢ wp frame (wpE (defs₀ (F := F)) 𝒱 (c : Thread nD τ) bd) E (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1650 v1651 v1677 v1680) fun _ => P := by
  rw [k0_part37_eq_skeleton]
  unfold k0_part37_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part38_runs (k0_t1 : Fin k0_t1_loop.trips) (v1650 : BitVec 32) (v1651 : FVec F S128x128 .f32) (v1693 : FVec F S128x128 .f32) (v1715 : FVec F S8x128 .f32) :
    P ⊢ wp frame (wpE (defs₀ (F := F)) 𝒱 (c : Thread nD τ) bd) E (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1650 v1651 v1693 v1715) fun _ => P := by
  rw [k0_part38_eq_skeleton]
  unfold k0_part38_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part39_runs (k0_t1 : Fin k0_t1_loop.trips) (arg33 : BitVec 32) (v415 : FVec F S128x128 .f32) (v1415 : FVec F S128x256 .f32) (v1650 : BitVec 32) (v1750 : FVec F S128x128 .f32) (v1752 : FVec F S128x128 .f32) :
    P ⊢ wp frame (wpE (defs₀ (F := F)) 𝒱 (c : Thread nD τ) bd) E (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v415 v1415 v1650 v1750 v1752) fun _ => P := by
  rw [k0_part39_eq_skeleton]
  unfold k0_part39_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part40_runs (k0_t1 : Fin k0_t1_loop.trips) (v1768 : BitVec 32) (v1769 : FVec F S128x128 .f32) (v1787 : FVec F S128x128 .f32) (v1789 : Vec F S1x128 .f32) :
    P ⊢ wp frame (wpE (defs₀ (F := F)) 𝒱 (c : Thread nD τ) bd) E (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1768 v1769 v1787 v1789) fun _ => P := by
  rw [k0_part40_eq_skeleton]
  unfold k0_part40_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part41_runs (k0_t1 : Fin k0_t1_loop.trips) (v1768 : BitVec 32) (v1769 : FVec F S128x128 .f32) (v1826 : FVec F S128x128 .f32) :
    P ⊢ wp frame (wpE (defs₀ (F := F)) 𝒱 (c : Thread nD τ) bd) E (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1768 v1769 v1826) fun _ => P := by
  rw [k0_part41_eq_skeleton]
  unfold k0_part41_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part42_runs (arg0 : BitVec 32) (v0 : BitVec 32) (v1 : IVec S128x128 32) (v2 : IVec S128x128 32) (v3 : IVec S128x128 1) (v4 : IVec S128x128 1) (c0_i32_49 : BitVec 32) (c1_i32 : BitVec 32) (k0_t1 : Fin k0_t1_loop.trips) :
    P ⊢ wp frame (wpE (defs₀ (F := F)) 𝒱 (c : Thread nD τ) bd) E (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 v0 v1 v2 v3 v4 c0_i32_49 c1_i32 k0_t1) fun _ => P := by
  rw [k0_part42_eq_skeleton]
  unfold k0_part42_skel
  repeat first | (with_reducible apply step_bind) | (with_reducible apply step_dite) | with_reducible intro _ | (with_reducible apply part1_runs) | (with_reducible apply part2_runs) | (with_reducible apply part3_runs) | (with_reducible apply part4_runs) | (with_reducible apply part5_runs) | (with_reducible apply part6_runs) | (with_reducible apply part7_runs) | (with_reducible apply part8_runs) | (with_reducible apply part9_runs) | (with_reducible apply part10_runs) | (with_reducible apply part11_runs) | (with_reducible apply part12_runs) | (with_reducible apply part13_runs) | (with_reducible apply part14_runs) | (with_reducible apply part15_runs) | (with_reducible apply part16_runs) | (with_reducible apply part17_runs) | (with_reducible apply part18_runs) | (with_reducible apply part19_runs) | (with_reducible apply part20_runs) | (with_reducible apply part21_runs) | (with_reducible apply part22_runs) | (with_reducible apply part23_runs) | (with_reducible apply part24_runs) | (with_reducible apply part25_runs) | (with_reducible apply part26_runs) | (with_reducible apply part27_runs) | (with_reducible apply part28_runs) | (with_reducible apply part29_runs) | (with_reducible apply part30_runs) | (with_reducible apply part31_runs) | (with_reducible apply part32_runs) | (with_reducible apply part33_runs) | (with_reducible apply part34_runs) | (with_reducible apply part35_runs) | (with_reducible apply part36_runs) | (with_reducible apply part37_runs) | (with_reducible apply part38_runs) | (with_reducible apply part39_runs) | (with_reducible apply part40_runs) | (with_reducible apply part41_runs) | (with_reducible apply step_ret) | (with_reducible apply step_lift) | exact step_load _ _ _ _ | exact step_store _ _ _ _ | exact step_smemLoad _ _ _ _

theorem part43_runs  :
    P ⊢ wp frame (wpE (defs₀ (F := F)) 𝒱 (c : Thread nD τ) bd) E (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 ) fun _ => P := by
  rw [k0_part43_eq_skeleton]
  unfold k0_part43_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part44_runs (v0 : BitVec 32) (v15 : FVec F S128x128 .f32) (v24 : FVec F S16x128 .f32) (v26 : FVec F S16x128 .f32) (v30 : FVec F S128x128 .f32) (v32 : FVec F S16x128 .f32) (v35 : IVec S16x128 1) (v37 : FVec F S16x128 .f32) (v38 : FVec F S16x128 .f32) :
    P ⊢ wp frame (wpE (defs₀ (F := F)) 𝒱 (c : Thread nD τ) bd) E (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v0 v15 v24 v26 v30 v32 v35 v37 v38) fun _ => P := by
  rw [k0_part44_eq_skeleton]
  unfold k0_part44_skel
  repeat first | (with_reducible apply step_bind) | (with_reducible apply step_dite) | with_reducible intro _ | (with_reducible apply step_ret) | (with_reducible apply step_lift) | exact step_load _ _ _ _ | exact step_store _ _ _ _ | exact step_smemLoad _ _ _ _

theorem trip1_runs (arg0 : BitVec 32) (v0 : BitVec 32) (v1 : IVec S128x128 32) (v2 : IVec S128x128 32) (v3 : IVec S128x128 1) (v4 : IVec S128x128 1) (v69 : FVec F S128x128 .f32) (v70 : BitVec 1) (cst_30 : F .f32) (k : Fin k0_t1_loop.trips) (acc : Unit) :
    P ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 v0 v1 v2 v3 v4 v69 v70 cst_30 k acc) fun _ => P := by
  unfold k0_t1_body
  repeat first | (with_reducible apply step_bind) | (with_reducible apply step_dite) | with_reducible intro _ | (with_reducible apply part42_runs) | (with_reducible apply step_ret) | (with_reducible apply step_lift) | exact step_load _ _ _ _ | exact step_store _ _ _ _ | exact step_smemLoad _ _ _ _

theorem part45_runs (arg0 : BitVec 32) (v0 : BitVec 32) (v1 : IVec S128x128 32) (v2 : IVec S128x128 32) (v3 : IVec S128x128 1) (v4 : IVec S128x128 1) (v69 : FVec F S128x128 .f32) (v70 : BitVec 1) (cst_30 : F .f32) :
    P ⊢ wp frame (wpE (defs₀ (F := F)) 𝒱 (c : Thread nD τ) bd) E (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 v0 v1 v2 v3 v4 v69 v70 cst_30) fun _ => P := by
  rw [k0_part45_eq_skeleton]
  unfold k0_part45_skel
  repeat first | (with_reducible apply step_bind) | (with_reducible apply step_dite) | with_reducible intro _ | (with_reducible apply step_for) | (with_reducible apply trip1_runs) | (with_reducible apply step_ret) | (with_reducible apply step_lift) | exact step_load _ _ _ _ | exact step_store _ _ _ _ | exact step_smemLoad _ _ _ _

theorem part46_runs (v2 : IVec S128x128 32) (v3 : IVec S128x128 1) (v19 : FVec F S16x128 .f32) (v24 : FVec F S16x128 .f32) (v26 : FVec F S16x128 .f32) (v98 : FVec F S128x128 .f32) (v99 : FVec F S128x128 .f32) :
    P ⊢ wp frame (wpE (defs₀ (F := F)) 𝒱 (c : Thread nD τ) bd) E (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2 v3 v19 v24 v26 v98 v99) fun _ => P := by
  rw [k0_part46_eq_skeleton]
  unfold k0_part46_skel
  repeat first | (with_reducible apply step_bind) | (with_reducible apply step_dite) | with_reducible intro _ | (with_reducible apply step_ret) | (with_reducible apply step_lift) | exact step_load _ _ _ _ | exact step_store _ _ _ _ | exact step_smemLoad _ _ _ _

theorem trip2_runs (v132 : FVec F S128x128 .f32) (k : Fin k0_t2_loop.trips) (acc : Unit) :
    P ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v132 k acc) fun _ => P := by
  unfold k0_t2_body
  repeat first | (with_reducible apply step_bind) | (with_reducible apply step_dite) | with_reducible intro _ | (with_reducible apply step_ret) | (with_reducible apply step_lift) | exact step_load _ _ _ _ | exact step_store _ _ _ _ | exact step_smemLoad _ _ _ _

theorem body_runs  :
    P ⊢ wp frame (wpE (defs₀ (F := F)) 𝒱 (c : Thread nD τ) bd) E (cc0_gdn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 ) fun _ => P := by
  rw [cc0_gdn_eq_skeleton]
  unfold cc0_gdn_skel
  repeat first | (with_reducible apply step_bind) | (with_reducible apply step_dite) | with_reducible intro _ | (with_reducible apply part43_runs) | (with_reducible apply part44_runs) | (with_reducible apply part45_runs) | (with_reducible apply part46_runs) | (with_reducible apply step_for) | (with_reducible apply trip2_runs) | (with_reducible apply step_ret) | (with_reducible apply step_lift) | exact step_load _ _ _ _ | exact step_store _ _ _ _ | exact step_smemLoad _ _ _ _

end Cert.Gdn.Run

end
-- ==== Proof.GdnRun.lean ====
module

public import proofs.«01_k».proof.Proof.GdnBody
public import proofs.«01_k».proof.Proof.Gen.Gdn.Frame
public import Idealize.ShloMosaic.Lib.Pipeline.FrameBody
public import Idealize.ShloMosaic.Lib.Pipeline.Frame
public import Idealize.ShloMosaic.Lib.Tactic
public import Idealize.ShloMosaic.Lib.Claim

@[expose] public section

set_option maxRecDepth 16384

noncomputable section

/-! # The run of the gated delta rule's call

The input windows keep their blocks; what the output windows and the scratch hold is not named. -/

namespace Cert.Gdn.Run

open Cert.Gdn Cert.Gdn.Gen Cert.Bodies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data; an output window's contents are forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨_ + 21, h⟩ => absurd h (Nat.not_lt.2 (Nat.le_add_left _ _))
  Φ _ := Pipeline.ΦA spec0 c
  q w := Pipeline.shareOf spec0 w
  owed _ := 0

/-- The windows forgotten: the outputs. -/
abbrev fgt (w : Fin 21) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨_ + 21, h⟩ => absurd h (Nat.not_lt.2 (Nat.le_add_left _ _))

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body holds at point `t`, before it and after it. -/
abbrev held (c : Dev nD) (t : Fin cfg0.N) : sProp (MT nD τ sig Unit (Elt F) ℕ (UR sig nD τ) ℕ) :=
  iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f))
    ∗ (∃ r, prngReg c r) ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (iblk m c 9 t)
    ∗ owns (c : Thread nD τ) (win0_10.stage (cfg0.slots t 10)) fullShare (iblk m c 10 t)
    ∗ (∃ X, owns (c : Thread nD τ) (win0_11.stage (cfg0.slots t 11)) fullShare X)
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X)
    ∗ (∃ X, owns (c : Thread nD τ) (win0_16.stage (cfg0.slots t 16)) fullShare X)
    ∗ (∃ X, owns (c : Thread nD τ) (win0_17.stage (cfg0.slots t 17)) fullShare X)
    ∗ (∃ X, owns (c : Thread nD τ) (win0_18.stage (cfg0.slots t 18)) fullShare X)
    ∗ (∃ X, owns (c : Thread nD τ) (win0_19.stage (cfg0.slots t 19)) fullShare X)
    ∗ (∃ X, owns (c : Thread nD τ) (win0_20.stage (cfg0.slots t 20)) fullShare X))

instance stores_scratch0 (c : Dev nD) : Stores (sp := .vmem) (s := S4x136x128) (e := .f32) c (iprop((∃ f : Buf (Elt F) ((c : Thread nD τ).loc cc0_scratch0), ((c : Thread nD τ).loc cc0_scratch0) ↦{fullShare} f)) : sProp (MT nD τ sig Unit (Elt F) ℕ (UR sig nD τ) ℕ)) (Memref.whole cc0_scratch0) :=
  stores_whole c cc0_scratch0
instance stores_scratch1 (c : Dev nD) : Stores (sp := .vmem) (s := S4x136x128) (e := .f32) c (iprop((∃ f : Buf (Elt F) ((c : Thread nD τ).loc cc0_scratch1), ((c : Thread nD τ).loc cc0_scratch1) ↦{fullShare} f)) : sProp (MT nD τ sig Unit (Elt F) ℕ (UR sig nD τ) ℕ)) (Memref.whole cc0_scratch1) :=
  stores_whole c cc0_scratch1
instance stores_scratch2 (c : Dev nD) : Stores (sp := .vmem) (s := S8x8192) (e := .f32) c (iprop((∃ f : Buf (Elt F) ((c : Thread nD τ).loc cc0_scratch2), ((c : Thread nD τ).loc cc0_scratch2) ↦{fullShare} f)) : sProp (MT nD τ sig Unit (Elt F) ℕ (UR sig nD τ) ℕ)) (Memref.whole cc0_scratch2) :=
  stores_whole c cc0_scratch2
instance stores_scratch3 (c : Dev nD) : Stores (sp := .vmem) (s := S5x16x128) (e := .f32) c (iprop((∃ f : Buf (Elt F) ((c : Thread nD τ).loc cc0_scratch3), ((c : Thread nD τ).loc cc0_scratch3) ↦{fullShare} f)) : sProp (MT nD τ sig Unit (Elt F) ℕ (UR sig nD τ) ℕ)) (Memref.whole cc0_scratch3) :=
  stores_whole c cc0_scratch3
instance stores_scratch4 (c : Dev nD) : Stores (sp := .vmem) (s := S3x16x128) (e := .f32) c (iprop((∃ f : Buf (Elt F) ((c : Thread nD τ).loc cc0_scratch4), ((c : Thread nD τ).loc cc0_scratch4) ↦{fullShare} f)) : sProp (MT nD τ sig Unit (Elt F) ℕ (UR sig nD τ) ℕ)) (Memref.whole cc0_scratch4) :=
  stores_whole c cc0_scratch4
instance stores_scratch5 (c : Dev nD) : Stores (sp := .vmem) (s := S16x128) (e := .f32) c (iprop((∃ f : Buf (Elt F) ((c : Thread nD τ).loc cc0_scratch5), ((c : Thread nD τ).loc cc0_scratch5) ↦{fullShare} f)) : sProp (MT nD τ sig Unit (Elt F) ℕ (UR sig nD τ) ℕ)) (Memref.whole cc0_scratch5) :=
  stores_whole c cc0_scratch5
instance stores_scratch6 (c : Dev nD) : Stores (sp := .vmem) (s := S16x128) (e := .f32) c (iprop((∃ f : Buf (Elt F) ((c : Thread nD τ).loc cc0_scratch6), ((c : Thread nD τ).loc cc0_scratch6) ↦{fullShare} f)) : sProp (MT nD τ sig Unit (Elt F) ℕ (UR sig nD τ) ℕ)) (Memref.whole cc0_scratch6) :=
  stores_whole c cc0_scratch6
instance stores_scratch7 (c : Dev nD) : Stores (sp := .vmem) (s := S128x128) (e := .f32) c (iprop((∃ f : Buf (Elt F) ((c : Thread nD τ).loc cc0_scratch7), ((c : Thread nD τ).loc cc0_scratch7) ↦{fullShare} f)) : sProp (MT nD τ sig Unit (Elt F) ℕ (UR sig nD τ) ℕ)) (Memref.whole cc0_scratch7) :=
  stores_whole c cc0_scratch7
instance stores_scratch8 (c : Dev nD) : Stores (sp := .vmem) (s := S128x128) (e := .f32) c (iprop((∃ f : Buf (Elt F) ((c : Thread nD τ).loc cc0_scratch8), ((c : Thread nD τ).loc cc0_scratch8) ↦{fullShare} f)) : sProp (MT nD τ sig Unit (Elt F) ℕ (UR sig nD τ) ℕ)) (Memref.whole cc0_scratch8) :=
  stores_whole c cc0_scratch8
instance stores_scratch9 (c : Dev nD) : Stores (sp := .vmem) (s := S128x128) (e := .f32) c (iprop((∃ f : Buf (Elt F) ((c : Thread nD τ).loc cc0_scratch9), ((c : Thread nD τ).loc cc0_scratch9) ↦{fullShare} f)) : sProp (MT nD τ sig Unit (Elt F) ℕ (UR sig nD τ) ℕ)) (Memref.whole cc0_scratch9) :=
  stores_whole c cc0_scratch9

theorem sound_body (c : Dev nD) (t : Fin cfg0.N) :
    held m c t ⊢ wp frame (wpE (defs₀ (F := F)) Variants.none (c : Thread nD τ) none) Set.univ (bodyAt0 t) fun _ => held m c t :=
  body_runs

theorem defs₀_row (t : Fin cfg0.N) :
    defs₀ (F := F) .tc cfg0.body (cfg0.bodyArgs t (cfg0.slots t)) = bodyAt0 t := by
  unfold defs₀; rw [Defs.onTc_tc]

theorem held_in (c : Dev nD) (t : Fin cfg0.N) :
    iprop(Pipeline.ΦA spec0 c ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ X, owns (c : Thread nD τ) (win0_11.stage (cfg0.slots t 11)) fullShare X)
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X)
    ∗ (∃ X, owns (c : Thread nD τ) (win0_16.stage (cfg0.slots t 16)) fullShare X)
    ∗ (∃ X, owns (c : Thread nD τ) (win0_17.stage (cfg0.slots t 17)) fullShare X)
    ∗ (∃ X, owns (c : Thread nD τ) (win0_18.stage (cfg0.slots t 18)) fullShare X)
    ∗ (∃ X, owns (c : Thread nD τ) (win0_19.stage (cfg0.slots t 19)) fullShare X)
    ∗ (∃ X, owns (c : Thread nD τ) (win0_20.stage (cfg0.slots t 20)) fullShare X)) ⊢ held m c t := by
  unfold Pipeline.ΦA
  rw [scopedRest0_eq]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16, H17, H18, H19, H20⟩
  rw [before0_0 m c t d0, before0_1 m c t d1, before0_2 m c t d2, before0_3 m c t d3, before0_4 m c t d4, before0_5 m c t d5, before0_6 m c t d6, before0_7 m c t d7, before0_8 m c t d8, before0_9 m c t d9, before0_10 m c t d10]
  isplitl [Hs]; · iexact Hs
  isplitl [Hr]; · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem body_obligation (c : Dev nD) : BodyObligationLoose (dats (F := F) m 0 c) (defs₀ (F := F)) Variants.none () Set.univ fgt := fun t => by
  rw [bigSep_W0, bigSep_W0, defs₀_row]
  refine triple_restated (sound_body m c t) rfl (held_in m c t) fun _ => ?_
  iintro ⟨Hs, Hr, Ho, H0, H1, H2, H3, H4, H5, H6, H7, H8, H9, H10, H11, H12, H13, H14, H15, H16, H17, H18, H19, H20⟩
  isplitl [Hs Hr]
  · rw [show (dats m 0 c).Φ t.succ = Pipeline.ΦA spec0 c from rfl]
    unfold Pipeline.ΦA
    rw [scopedRest0_eq]
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

set_option backward.isDefEq.respectTransparency.types false in
/-- The launch: what the run leaves, and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := body_obligation m) (hq := fun _ _ _ => rfl) (howed := fun _ _ => rfl) (V := V m) (hmain := hmain m Variants.none)
    (hA := A_eq m) (hΦ := fun _ _ => rfl) (hQ' := fun _ h => h)

/-- The frame: every run ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((Pipeline.RDat.FramePost.arr_in h.1 c 2 rfl).trans (V_main_arg0 m c)),
      ((Pipeline.RDat.FramePost.arr_in h.1 c 4 rfl).trans (V_main_arg1 m c)),
      (((h.1 c).2 main_arg2 (Pipeline.mem_restRefs_of main_arg2 (by decide) (by decide))).trans (V_main_arg2 m c)),
      (((h.1 c).2 main_arg3 (Pipeline.mem_restRefs_of main_arg3 (by decide) (by decide))).trans (V_main_arg3 m c)),
      (((h.1 c).2 main_arg4 (Pipeline.mem_restRefs_of main_arg4 (by decide) (by decide))).trans (V_main_arg4 m c)),
      ((Pipeline.RDat.FramePost.arr_in h.1 c 7 rfl).trans (V_main_arg5 m c)),
      (((h.1 c).2 main_arg6 (Pipeline.mem_restRefs_of main_arg6 (by decide) (by decide))).trans (V_main_arg6 m c)),
      (((h.1 c).2 main_arg7 (Pipeline.mem_restRefs_of main_arg7 (by decide) (by decide))).trans (V_main_arg7 m c)),
      (((h.1 c).2 main_arg8 (Pipeline.mem_restRefs_of main_arg8 (by decide) (by decide))).trans (V_main_arg8 m c)),
      (((h.1 c).2 main_arg9 (Pipeline.mem_restRefs_of main_arg9 (by decide) (by decide))).trans (V_main_arg9 m c))⟩, h.2⟩) (run_main m ρ)

end Cert.Gdn.Run

end
-- ==== Proof.GdnIdealBody.lean ====
module

public import proofs.«01_k».proof.Proof.Bodies
public import proofs.«01_k».proof.Proof.Gen.GdnIdeal.Skeleton
public import proofs.«01_k».proof.Proof.Gen.GdnIdeal.Loops

@[expose] public section

set_option maxRecDepth 16384

noncomputable section

/-! # The body of the gated delta rule's kernel loads and stores what it holds

Each part of the body runs from an assertion that lends the memrefs to that same assertion. -/

namespace Cert.GdnIdeal.Run

open Cert.GdnIdeal Cert.GdnIdeal.Gen Cert.Bodies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {𝒱 : Variants} {c : Dev nD} {bd : Option 𝒱.V} {E : Set ℕ} {P : sProp (MT nD τ sig Unit (Elt F) ℕ (UR sig nD τ) ℕ)} {i : grid0.Coords}
variable {arg2 : Memref sig .tc .smem S48x16 .f32} {harg2 : arg2.IsWhole} [Loads c P arg2]
variable {arg3 : Memref sig .tc .vmem S1x128x8192 .fp8e4m3} {harg3 : arg3.IsWhole} [Loads c P arg3]
variable {arg4 : Memref sig .tc .vmem S1x32x8192 .fp8e4m3} {harg4 : arg4.IsWhole} [Loads c P arg4]
variable {arg5 : Memref sig .tc .vmem S1x128x128 .f32} {harg5 : arg5.IsWhole} [Loads c P arg5]
variable {arg6 : Memref sig .tc .vmem S1x8x128 .f32} {harg6 : arg6.IsWhole} [Loads c P arg6]
variable {arg7 : Memref sig .tc .vmem S8x8192 .f32} {harg7 : arg7.IsWhole} [Loads c P arg7]
variable {arg8 : Memref sig .tc .vmem S32x128 .f32} {harg8 : arg8.IsWhole} [Loads c P arg8]
variable {arg9 : Memref sig .tc .vmem S1x1x16x128x256 .fp8e4m3} {harg9 : arg9.IsWhole} [Loads c P arg9]
variable {arg10 : Memref sig .tc .vmem S1x128x4096 .bf16} {harg10 : arg10.IsWhole} [Loads c P arg10]
variable {arg11 : Memref sig .tc .vmem S1x128x4096 .f32} {harg11 : arg11.IsWhole} [Loads c P arg11]
variable {arg12 : Memref sig .tc .vmem S1x256 .f32} {harg12 : arg12.IsWhole} [Loads c P arg12]
variable {arg13 : Memref sig .tc .vmem S1x128x4096 .bf16} {harg13 : arg13.IsWhole} [Stores c P arg13]
variable {arg14 : Memref sig .tc .vmem S1x128x4096 .f32} {harg14 : arg14.IsWhole} [Stores c P arg14]
variable {arg15 : Memref sig .tc .vmem S1x128x8192 .f32} {harg15 : arg15.IsWhole} [Stores c P arg15]
variable {arg16 : Memref sig .tc .vmem S1x128x8192 .fp8e5m2} {harg16 : arg16.IsWhole} [Stores c P arg16]
variable {arg17 : Memref sig .tc .vmem S1x128x128 .f32} {harg17 : arg17.IsWhole} [Stores c P arg17]
variable {arg18 : Memref sig .tc .vmem S1x16x128x256 .f32} {harg18 : arg18.IsWhole} [Stores c P arg18]
variable {arg19 : Memref sig .tc .vmem S8x4096 .f32} {harg19 : arg19.IsWhole} [Stores c P arg19]
variable {arg20 : Memref sig .tc .vmem S8x8192 .f32} {harg20 : arg20.IsWhole} [Stores c P arg20]
variable {arg21 : Memref sig .tc .vmem S4x8x8192 .f32} {harg21 : arg21.IsWhole} [Stores c P arg21]
variable {arg22 : Memref sig .tc .vmem S8x256 .f32} {harg22 : arg22.IsWhole} [Stores c P arg22]
variable {arg23 : Memref sig .tc .vmem S4x136x128 .f32} {harg23 : arg23.IsWhole} [Stores c P arg23]
variable {arg24 : Memref sig .tc .vmem S4x136x128 .f32} {harg24 : arg24.IsWhole} [Stores c P arg24]
variable {arg25 : Memref sig .tc .vmem S8x8192 .f32} {harg25 : arg25.IsWhole} [Stores c P arg25]
variable {arg26 : Memref sig .tc .vmem S5x16x128 .f32} {harg26 : arg26.IsWhole} [Stores c P arg26]
variable {arg27 : Memref sig .tc .vmem S3x16x128 .f32} {harg27 : arg27.IsWhole} [Stores c P arg27]
variable {arg28 : Memref sig .tc .vmem S16x128 .f32} {harg28 : arg28.IsWhole} [Stores c P arg28]
variable {arg29 : Memref sig .tc .vmem S16x128 .f32} {harg29 : arg29.IsWhole} [Stores c P arg29]
variable {arg30 : Memref sig .tc .vmem S128x128 .f32} {harg30 : arg30.IsWhole} [Stores c P arg30]
variable {arg31 : Memref sig .tc .vmem S128x128 .f32} {harg31 : arg31.IsWhole} [Stores c P arg31]
variable {arg32 : Memref sig .tc .vmem S128x128 .f32} {harg32 : arg32.IsWhole} [Stores c P arg32]

theorem part1_runs (c0_i32_49 : BitVec 32) (c1_i32 : BitVec 32) (k0_t1 : Fin k0_t1_loop.trips) :
    P ⊢ wp frame (wpE (defs₀ (F := F)) 𝒱 (c : Thread nD τ) bd) E (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 c0_i32_49 c1_i32 k0_t1) fun _ => P := by
  rw [k0_part1_eq_skeleton]
  unfold k0_part1_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part2_runs (k0_t1 : Fin k0_t1_loop.trips) (arg33 : BitVec 32) (v159 : BitVec 32) (v179 : FVec F S1x128 .f32) :
    P ⊢ wp frame (wpE (defs₀ (F := F)) 𝒱 (c : Thread nD τ) bd) E (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v159 v179) fun _ => P := by
  rw [k0_part2_eq_skeleton]
  unfold k0_part2_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part3_runs (k0_t1 : Fin k0_t1_loop.trips) (v209 : BitVec 32) (v215 : FVec F S128x128 .f32) (v221 : FVec F S128x128 .f32) :
    P ⊢ wp frame (wpE (defs₀ (F := F)) 𝒱 (c : Thread nD τ) bd) E (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v209 v215 v221) fun _ => P := by
  rw [k0_part3_eq_skeleton]
  unfold k0_part3_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part4_runs (k0_t1 : Fin k0_t1_loop.trips) (arg33 : BitVec 32) (v223 : BitVec 32) (v255 : FVec F S128x128 .f32) (v258 : FVec F S1x128 .f32) :
    P ⊢ wp frame (wpE (defs₀ (F := F)) 𝒱 (c : Thread nD τ) bd) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v223 v255 v258) fun _ => P := by
  rw [k0_part4_eq_skeleton]
  unfold k0_part4_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part5_runs (k0_t1 : Fin k0_t1_loop.trips) (arg33 : BitVec 32) (v284 : FVec F S8x128 .f32) (v287 : BitVec 32) (v299 : FVec F S32x128 .f32) :
    P ⊢ wp frame (wpE (defs₀ (F := F)) 𝒱 (c : Thread nD τ) bd) E (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v284 v287 v299) fun _ => P := by
  rw [k0_part5_eq_skeleton]
  unfold k0_part5_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part6_runs (k0_t1 : Fin k0_t1_loop.trips) (v277 : FVec F S128x128 .f32) (v284 : FVec F S8x128 .f32) (v337 : BitVec 32) :
    P ⊢ wp frame (wpE (defs₀ (F := F)) 𝒱 (c : Thread nD τ) bd) E (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v277 v284 v337) fun _ => P := by
  rw [k0_part6_eq_skeleton]
  unfold k0_part6_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part7_runs (k0_t1 : Fin k0_t1_loop.trips) (v207 : FVec F S128x128 .f32) (v271 : FVec F S128x128 .f32) (v335 : FVec F S128x128 .f32) (v339 : BitVec 32) (v371 : FVec F S128x128 .f32) (v374 : FVec F S1x128 .f32) :
    P ⊢ wp frame (wpE (defs₀ (F := F)) 𝒱 (c : Thread nD τ) bd) E (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v207 v271 v335 v339 v371 v374) fun _ => P := by
  rw [k0_part7_eq_skeleton]
  unfold k0_part7_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part8_runs (v1 : IVec S128x128 32) (v2 : IVec S128x128 32) (v3 : IVec S128x128 1) (k0_t1 : Fin k0_t1_loop.trips) (arg33 : BitVec 32) (v416 : FVec F S128x128 .f32) (v417 : FVec F S128x128 .f32) :
    P ⊢ wp frame (wpE (defs₀ (F := F)) 𝒱 (c : Thread nD τ) bd) E (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v3 k0_t1 arg33 v416 v417) fun _ => P := by
  rw [k0_part8_eq_skeleton]
  unfold k0_part8_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part9_runs (v1 : IVec S128x128 32) (v2 : IVec S128x128 32) (v468 : IVec S128x128 1) :
    P ⊢ wp frame (wpE (defs₀ (F := F)) 𝒱 (c : Thread nD τ) bd) E (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v468) fun _ => P := by
  rw [k0_part9_eq_skeleton]
  unfold k0_part9_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part10_runs (v1 : IVec S128x128 32) (v2 : IVec S128x128 32) (v495 : IVec S128x128 32) (v497 : IVec S128x128 32) (v511 : IVec S128x128 1) (v513 : IVec S128x128 32) (c0_i32_227 : BitVec 32) :
    P ⊢ wp frame (wpE (defs₀ (F := F)) 𝒱 (c : Thread nD τ) bd) E (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v495 v497 v511 v513 c0_i32_227) fun _ => P := by
  rw [k0_part10_eq_skeleton]
  unfold k0_part10_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part11_runs (v1 : IVec S128x128 32) (v2 : IVec S128x128 32) (v467 : FVec F S128x128 .f32) (v471 : FVec F S128x128 .f32) (v520 : IVec S128x128 1) (v544 : IVec S128x128 32) (c1_i32_236 : BitVec 32) (v546 : IVec S128x128 32) (v560 : IVec S128x128 1) :
    P ⊢ wp frame (wpE (defs₀ (F := F)) 𝒱 (c : Thread nD τ) bd) E (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v467 v471 v520 v544 c1_i32_236 v546 v560) fun _ => P := by
  rw [k0_part11_eq_skeleton]
  unfold k0_part11_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part12_runs (v1 : IVec S128x128 32) (v2 : IVec S128x128 32) (v597 : IVec S128x128 32) (c4_i32_250 : BitVec 32) (v599 : IVec S128x128 32) (v606 : IVec S128x128 32) (c0_i32_253 : BitVec 32) :
    P ⊢ wp frame (wpE (defs₀ (F := F)) 𝒱 (c : Thread nD τ) bd) E (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v597 c4_i32_250 v599 v606 c0_i32_253) fun _ => P := by
  rw [k0_part12_eq_skeleton]
  unfold k0_part12_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part13_runs (v1 : IVec S128x128 32) (v2 : IVec S128x128 32) (v467 : FVec F S128x128 .f32) (v573 : FVec F S128x128 .f32) (v622 : IVec S128x128 1) (v646 : IVec S128x128 32) (c2_i32_264 : BitVec 32) (v648 : IVec S128x128 32) (v651 : IVec S128x128 32) (v653 : IVec S128x128 1) :
    P ⊢ wp frame (wpE (defs₀ (F := F)) 𝒱 (c : Thread nD τ) bd) E (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v467 v573 v622 v646 c2_i32_264 v648 v651 v653) fun _ => P := by
  rw [k0_part13_eq_skeleton]
  unfold k0_part13_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part14_runs (v1 : IVec S128x128 32) (v2 : IVec S128x128 32) (v679 : IVec S128x128 32) (v698 : IVec S128x128 1) (v699 : IVec S128x128 32) :
    P ⊢ wp frame (wpE (defs₀ (F := F)) 𝒱 (c : Thread nD τ) bd) E (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v679 v698 v699) fun _ => P := by
  rw [k0_part14_eq_skeleton]
  unfold k0_part14_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part15_runs (v1 : IVec S128x128 32) (v2 : IVec S128x128 32) (v467 : FVec F S128x128 .f32) (v677 : FVec F S128x128 .f32) (v726 : IVec S128x128 1) (v728 : IVec S128x128 32) (v742 : IVec S128x128 1) (v746 : IVec S128x128 1) :
    P ⊢ wp frame (wpE (defs₀ (F := F)) 𝒱 (c : Thread nD τ) bd) E (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v467 v677 v726 v728 v742 v746) fun _ => P := by
  rw [k0_part15_eq_skeleton]
  unfold k0_part15_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part16_runs (v1 : IVec S128x128 32) (v2 : IVec S128x128 32) (c16_i32_304 : BitVec 32) (v783 : IVec S128x128 32) (v790 : IVec S128x128 32) (v791 : BitVec 1) :
    P ⊢ wp frame (wpE (defs₀ (F := F)) 𝒱 (c : Thread nD τ) bd) E (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 c16_i32_304 v783 v790 v791) fun _ => P := by
  rw [k0_part16_eq_skeleton]
  unfold k0_part16_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part17_runs (v1 : IVec S128x128 32) (v2 : IVec S128x128 32) (v467 : FVec F S128x128 .f32) (v781 : FVec F S128x128 .f32) (v830 : IVec S128x128 1) (c8_i32_318 : BitVec 32) (v832 : IVec S128x128 32) (v835 : IVec S128x128 32) (v838 : IVec S128x128 32) :
    P ⊢ wp frame (wpE (defs₀ (F := F)) 𝒱 (c : Thread nD τ) bd) E (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v467 v781 v830 c8_i32_318 v832 v835 v838) fun _ => P := by
  rw [k0_part17_eq_skeleton]
  unfold k0_part17_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part18_runs (v1 : IVec S128x128 32) (v2 : IVec S128x128 32) (v781 : FVec F S128x128 .f32) (v884 : FVec F S128x128 .f32) :
    P ⊢ wp frame (wpE (defs₀ (F := F)) 𝒱 (c : Thread nD τ) bd) E (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v781 v884) fun _ => P := by
  rw [k0_part18_eq_skeleton]
  unfold k0_part18_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part19_runs (v1 : IVec S128x128 32) (v2 : IVec S128x128 32) (v909 : IVec S128x128 32) (v911 : IVec S128x128 32) (v930 : IVec S128x128 1) (c1_i32_348 : BitVec 32) :
    P ⊢ wp frame (wpE (defs₀ (F := F)) 𝒱 (c : Thread nD τ) bd) E (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v909 v911 v930 c1_i32_348) fun _ => P := by
  rw [k0_part19_eq_skeleton]
  unfold k0_part19_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part20_runs (v1 : IVec S128x128 32) (v2 : IVec S128x128 32) (v467 : FVec F S128x128 .f32) (v885 : FVec F S128x128 .f32) (v934 : IVec S128x128 1) (v958 : IVec S128x128 32) (v960 : IVec S128x128 32) (v974 : IVec S128x128 1) (v976 : IVec S128x128 32) (v977 : IVec S128x128 32) :
    P ⊢ wp frame (wpE (defs₀ (F := F)) 𝒱 (c : Thread nD τ) bd) E (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v467 v885 v934 v958 v960 v974 v976 v977) fun _ => P := by
  rw [k0_part20_eq_skeleton]
  unfold k0_part20_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part21_runs (v1 : IVec S128x128 32) (v2 : IVec S128x128 32) (v1013 : IVec S128x128 32) (c64_i32_373 : BitVec 32) (v1015 : IVec S128x128 32) (v1022 : IVec S128x128 32) (c0_i32_376 : BitVec 32) :
    P ⊢ wp frame (wpE (defs₀ (F := F)) 𝒱 (c : Thread nD τ) bd) E (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v1013 c64_i32_373 v1015 v1022 c0_i32_376) fun _ => P := by
  rw [k0_part21_eq_skeleton]
  unfold k0_part21_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part22_runs (v1 : IVec S128x128 32) (v2 : IVec S128x128 32) (v467 : FVec F S128x128 .f32) (v989 : FVec F S128x128 .f32) (v1038 : IVec S128x128 1) (v1062 : IVec S128x128 32) (c32_i32_387 : BitVec 32) (v1064 : IVec S128x128 32) (v1067 : IVec S128x128 32) (v1069 : IVec S128x128 1) :
    P ⊢ wp frame (wpE (defs₀ (F := F)) 𝒱 (c : Thread nD τ) bd) E (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v467 v989 v1038 v1062 c32_i32_387 v1064 v1067 v1069) fun _ => P := by
  rw [k0_part22_eq_skeleton]
  unfold k0_part22_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part23_runs (v1 : IVec S128x128 32) (v2 : IVec S128x128 32) (v1095 : IVec S128x128 32) (v1114 : IVec S128x128 1) (v1115 : IVec S128x128 32) :
    P ⊢ wp frame (wpE (defs₀ (F := F)) 𝒱 (c : Thread nD τ) bd) E (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v2 v1095 v1114 v1115) fun _ => P := by
  rw [k0_part23_eq_skeleton]
  unfold k0_part23_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part24_runs (v2 : IVec S128x128 32) (k0_t1 : Fin k0_t1_loop.trips) (arg33 : BitVec 32) (v436 : FVec F S128x128 .f32) (v438 : FVec F S128x128 .f32) (v450 : FVec F S128x128 .f32) (v453 : FVec F S128x128 .f32) (v457 : FVec F S128x128 .f32) (v464 : FVec F S128x128 .f32) (v467 : FVec F S128x128 .f32) (v1093 : FVec F S128x128 .f32) (v1142 : IVec S128x128 1) (v1144 : IVec S128x128 32) (v1158 : IVec S128x128 1) (v1162 : IVec S128x128 1) :
    P ⊢ wp frame (wpE (defs₀ (F := F)) 𝒱 (c : Thread nD τ) bd) E (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2 k0_t1 arg33 v436 v438 v450 v453 v457 v464 v467 v1093 v1142 v1144 v1158 v1162) fun _ => P := by
  rw [k0_part24_eq_skeleton]
  unfold k0_part24_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part25_runs (arg0 : BitVec 32) (v0 : BitVec 32) (k0_t1 : Fin k0_t1_loop.trips) (arg33 : BitVec 32) (v144 : BitVec 32) (v420 : FVec F S128x256 .f32) (v451 : FVec F S128x256 .f32) (v1197 : FVec F S128x128 .f32) (v1199 : FVec F S128x128 .f32) (v1200 : FVec F S128x128 .f32) (v1203 : FVec F S128x128 .f32) (v1206 : FVec F S128x256 .fp8e4m3) :
    P ⊢ wp frame (wpE (defs₀ (F := F)) 𝒱 (c : Thread nD τ) bd) E (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 v0 k0_t1 arg33 v144 v420 v451 v1197 v1199 v1200 v1203 v1206) fun _ => P := by
  rw [k0_part25_eq_skeleton]
  unfold k0_part25_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part26_runs (k0_t1 : Fin k0_t1_loop.trips) (v144 : BitVec 32) (v1224 : FVec F S128x256 .f32) (v1236 : FVec F S128x256 .f32) (v1238 : FVec F S1x256 .f32) (v1240 : FVec F S128x256 .f32) (v1244 : FVec F S128x256 .f32) (v1245 : FVec F S128x256 .f32) (v1246 : FVec F S128x256 .f32) (v1247 : FVec F S128x256 .f32) (v1249 : Vec F S1x128x256 .f32) :
    P ⊢ wp frame (wpE (defs₀ (F := F)) 𝒱 (c : Thread nD τ) bd) E (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v144 v1224 v1236 v1238 v1240 v1244 v1245 v1246 v1247 v1249) fun _ => P := by
  rw [k0_part26_eq_skeleton]
  unfold k0_part26_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part27_runs (v4 : IVec S128x128 1) (k0_t1 : Fin k0_t1_loop.trips) (arg33 : BitVec 32) (v436 : FVec F S128x128 .f32) (v438 : FVec F S128x128 .f32) (v450 : FVec F S128x128 .f32) (v453 : FVec F S128x128 .f32) (v454 : FVec F S1x128 .f32) (v464 : FVec F S128x128 .f32) (v1197 : FVec F S128x128 .f32) (v1199 : FVec F S128x128 .f32) (v1200 : FVec F S128x128 .f32) (v1201 : FVec F S128x128 .f32) (v1203 : FVec F S128x128 .f32) (v1214 : FVec F S128x256 .f32) (v1218 : FVec F S128x256 .f32) (v1234 : FVec F S128x1 .f32) (v1291 : FVec F S128x256 .f32) :
    P ⊢ wp frame (wpE (defs₀ (F := F)) 𝒱 (c : Thread nD τ) bd) E (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v4 k0_t1 arg33 v436 v438 v450 v453 v454 v464 v1197 v1199 v1200 v1201 v1203 v1214 v1218 v1234 v1291) fun _ => P := by
  rw [k0_part27_eq_skeleton]
  unfold k0_part27_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part28_runs (k0_t1 : Fin k0_t1_loop.trips) (arg33 : BitVec 32) (v420 : FVec F S128x256 .f32) (v436 : FVec F S128x128 .f32) (v450 : FVec F S128x128 .f32) (v453 : FVec F S128x128 .f32) (v454 : FVec F S1x128 .f32) (v457 : FVec F S128x128 .f32) (v465 : FVec F S128x128 .f32) (v467 : FVec F S128x128 .f32) (v1200 : FVec F S128x128 .f32) (v1201 : FVec F S128x128 .f32) (v1203 : FVec F S128x128 .f32) (v1214 : FVec F S128x256 .f32) (v1296 : FVec F S128x256 .f32) (v1300 : FVec F S128x256 .f32) (v1312 : FVec F S128x128 .f32) (v1317 : FVec F S128x128 .f32) (v1318 : FVec F S128x128 .f32) (v1321 : FVec F S128x128 .f32) (v1322 : FVec F S128x128 .f32) (v1323 : FVec F S128x128 .f32) (v1324 : FVec F S128x128 .f32) (v1329 : FVec F S128x128 .f32) :
    P ⊢ wp frame (wpE (defs₀ (F := F)) 𝒱 (c : Thread nD τ) bd) E (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v420 v436 v450 v453 v454 v457 v465 v467 v1200 v1201 v1203 v1214 v1296 v1300 v1312 v1317 v1318 v1321 v1322 v1323 v1324 v1329) fun _ => P := by
  rw [k0_part28_eq_skeleton]
  unfold k0_part28_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part29_runs (v2 : IVec S128x128 32) (k0_t1 : Fin k0_t1_loop.trips) (arg33 : BitVec 32) (v397 : FVec F S128x128 .f32) (v426 : FVec F S128x1 .f32) (v432 : FVec F S128x1 .f32) (v434 : FVec F S128x128 .f32) (v436 : FVec F S128x128 .f32) (v451 : FVec F S128x256 .f32) (v1300 : FVec F S128x256 .f32) (v1328 : FVec F S128x128 .f32) (v1338 : FVec F S128x128 .f32) (v1353 : FVec F S128x1 .f32) (v1360 : FVec F S128x1 .f32) (v1380 : FVec F S1x128 .f32) :
    P ⊢ wp frame (wpE (defs₀ (F := F)) 𝒱 (c : Thread nD τ) bd) E (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2 k0_t1 arg33 v397 v426 v432 v434 v436 v451 v1300 v1328 v1338 v1353 v1360 v1380) fun _ => P := by
  rw [k0_part29_eq_skeleton]
  unfold k0_part29_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part30_runs (k0_t1 : Fin k0_t1_loop.trips) (v1417 : BitVec 32) (v1418 : FVec F S128x128 .f32) :
    P ⊢ wp frame (wpE (defs₀ (F := F)) 𝒱 (c : Thread nD τ) bd) E (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1417 v1418) fun _ => P := by
  rw [k0_part30_eq_skeleton]
  unfold k0_part30_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part31_runs (k0_t1 : Fin k0_t1_loop.trips) (v1417 : BitVec 32) (v1418 : FVec F S128x128 .f32) :
    P ⊢ wp frame (wpE (defs₀ (F := F)) 𝒱 (c : Thread nD τ) bd) E (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1417 v1418) fun _ => P := by
  rw [k0_part31_eq_skeleton]
  unfold k0_part31_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part32_runs (k0_t1 : Fin k0_t1_loop.trips) (arg33 : BitVec 32) (v1417 : BitVec 32) (v1418 : FVec F S128x128 .f32) (v1460 : FVec F S128x128 .f32) (v1495 : FVec F S8x128 .f32) :
    P ⊢ wp frame (wpE (defs₀ (F := F)) 𝒱 (c : Thread nD τ) bd) E (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v1417 v1418 v1460 v1495) fun _ => P := by
  rw [k0_part32_eq_skeleton]
  unfold k0_part32_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part33_runs (k0_t1 : Fin k0_t1_loop.trips) (v403 : FVec F S128x128 .f32) (v1414 : FVec F S128x128 .f32) (v1531 : BitVec 32) (c2048_i32_566 : BitVec 32) :
    P ⊢ wp frame (wpE (defs₀ (F := F)) 𝒱 (c : Thread nD τ) bd) E (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v403 v1414 v1531 c2048_i32_566) fun _ => P := by
  rw [k0_part33_eq_skeleton]
  unfold k0_part33_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part34_runs (k0_t1 : Fin k0_t1_loop.trips) (v1533 : BitVec 32) (v1534 : FVec F S128x128 .f32) (v1568 : FVec F S128x128 .f32) (v1570 : Vec F S1x128 .f32) :
    P ⊢ wp frame (wpE (defs₀ (F := F)) 𝒱 (c : Thread nD τ) bd) E (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1533 v1534 v1568 v1570) fun _ => P := by
  rw [k0_part34_eq_skeleton]
  unfold k0_part34_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part35_runs (k0_t1 : Fin k0_t1_loop.trips) (v1533 : BitVec 32) (v1534 : FVec F S128x128 .f32) (v1576 : FVec F S128x128 .f32) (v1606 : FVec F S16x8x128 .f32) :
    P ⊢ wp frame (wpE (defs₀ (F := F)) 𝒱 (c : Thread nD τ) bd) E (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1533 v1534 v1576 v1606) fun _ => P := by
  rw [k0_part35_eq_skeleton]
  unfold k0_part35_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part36_runs (k0_t1 : Fin k0_t1_loop.trips) (arg33 : BitVec 32) (v409 : FVec F S128x128 .f32) (v1415 : FVec F S128x256 .f32) (v1533 : BitVec 32) (v1641 : FVec F S8x128 .f32) (v1642 : FVec F S16x8x128 .f32) :
    P ⊢ wp frame (wpE (defs₀ (F := F)) 𝒱 (c : Thread nD τ) bd) E (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v409 v1415 v1533 v1641 v1642) fun _ => P := by
  rw [k0_part36_eq_skeleton]
  unfold k0_part36_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part37_runs (k0_t1 : Fin k0_t1_loop.trips) (v1650 : BitVec 32) (v1651 : FVec F S128x128 .f32) (v1677 : FVec F S128x128 .f32) (v1680 : FVec F S1x128 .f32) :
    P ⊢ wp frame (wpE (defs₀ (F := F)) 𝒱 (c : Thread nD τ) bd) E (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1650 v1651 v1677 v1680) fun _ => P := by
  rw [k0_part37_eq_skeleton]
  unfold k0_part37_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part38_runs (k0_t1 : Fin k0_t1_loop.trips) (v1650 : BitVec 32) (v1651 : FVec F S128x128 .f32) (v1693 : FVec F S128x128 .f32) (v1715 : FVec F S8x128 .f32) :
    P ⊢ wp frame (wpE (defs₀ (F := F)) 𝒱 (c : Thread nD τ) bd) E (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1650 v1651 v1693 v1715) fun _ => P := by
  rw [k0_part38_eq_skeleton]
  unfold k0_part38_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part39_runs (k0_t1 : Fin k0_t1_loop.trips) (arg33 : BitVec 32) (v415 : FVec F S128x128 .f32) (v1415 : FVec F S128x256 .f32) (v1650 : BitVec 32) (v1750 : FVec F S128x128 .f32) (v1752 : FVec F S128x128 .f32) :
    P ⊢ wp frame (wpE (defs₀ (F := F)) 𝒱 (c : Thread nD τ) bd) E (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 arg33 v415 v1415 v1650 v1750 v1752) fun _ => P := by
  rw [k0_part39_eq_skeleton]
  unfold k0_part39_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part40_runs (k0_t1 : Fin k0_t1_loop.trips) (v1768 : BitVec 32) (v1769 : FVec F S128x128 .f32) (v1787 : FVec F S128x128 .f32) (v1789 : Vec F S1x128 .f32) :
    P ⊢ wp frame (wpE (defs₀ (F := F)) 𝒱 (c : Thread nD τ) bd) E (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1768 v1769 v1787 v1789) fun _ => P := by
  rw [k0_part40_eq_skeleton]
  unfold k0_part40_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part41_runs (k0_t1 : Fin k0_t1_loop.trips) (v1768 : BitVec 32) (v1769 : FVec F S128x128 .f32) (v1826 : FVec F S128x128 .f32) :
    P ⊢ wp frame (wpE (defs₀ (F := F)) 𝒱 (c : Thread nD τ) bd) E (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1768 v1769 v1826) fun _ => P := by
  rw [k0_part41_eq_skeleton]
  unfold k0_part41_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part42_runs (arg0 : BitVec 32) (v0 : BitVec 32) (v1 : IVec S128x128 32) (v2 : IVec S128x128 32) (v3 : IVec S128x128 1) (v4 : IVec S128x128 1) (c0_i32_49 : BitVec 32) (c1_i32 : BitVec 32) (k0_t1 : Fin k0_t1_loop.trips) :
    P ⊢ wp frame (wpE (defs₀ (F := F)) 𝒱 (c : Thread nD τ) bd) E (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 v0 v1 v2 v3 v4 c0_i32_49 c1_i32 k0_t1) fun _ => P := by
  rw [k0_part42_eq_skeleton]
  unfold k0_part42_skel
  repeat first | (with_reducible apply step_bind) | (with_reducible apply step_dite) | with_reducible intro _ | (with_reducible apply part1_runs) | (with_reducible apply part2_runs) | (with_reducible apply part3_runs) | (with_reducible apply part4_runs) | (with_reducible apply part5_runs) | (with_reducible apply part6_runs) | (with_reducible apply part7_runs) | (with_reducible apply part8_runs) | (with_reducible apply part9_runs) | (with_reducible apply part10_runs) | (with_reducible apply part11_runs) | (with_reducible apply part12_runs) | (with_reducible apply part13_runs) | (with_reducible apply part14_runs) | (with_reducible apply part15_runs) | (with_reducible apply part16_runs) | (with_reducible apply part17_runs) | (with_reducible apply part18_runs) | (with_reducible apply part19_runs) | (with_reducible apply part20_runs) | (with_reducible apply part21_runs) | (with_reducible apply part22_runs) | (with_reducible apply part23_runs) | (with_reducible apply part24_runs) | (with_reducible apply part25_runs) | (with_reducible apply part26_runs) | (with_reducible apply part27_runs) | (with_reducible apply part28_runs) | (with_reducible apply part29_runs) | (with_reducible apply part30_runs) | (with_reducible apply part31_runs) | (with_reducible apply part32_runs) | (with_reducible apply part33_runs) | (with_reducible apply part34_runs) | (with_reducible apply part35_runs) | (with_reducible apply part36_runs) | (with_reducible apply part37_runs) | (with_reducible apply part38_runs) | (with_reducible apply part39_runs) | (with_reducible apply part40_runs) | (with_reducible apply part41_runs) | (with_reducible apply step_ret) | (with_reducible apply step_lift) | exact step_load _ _ _ _ | exact step_store _ _ _ _ | exact step_smemLoad _ _ _ _

theorem part43_runs  :
    P ⊢ wp frame (wpE (defs₀ (F := F)) 𝒱 (c : Thread nD τ) bd) E (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 ) fun _ => P := by
  rw [k0_part43_eq_skeleton]
  unfold k0_part43_skel
  repeat first | (with_reducible apply step_bind) | (with_reducible apply step_dite) | with_reducible intro _ | (with_reducible apply step_ret) | (with_reducible apply step_lift) | exact step_load _ _ _ _ | exact step_store _ _ _ _ | exact step_smemLoad _ _ _ _

theorem part44_runs (v0 : BitVec 32) (v15 : FVec F S128x128 .f32) (v24 : FVec F S16x128 .f32) (v26 : FVec F S16x128 .f32) (v30 : FVec F S128x128 .f32) (v32 : FVec F S16x128 .f32) (v35 : IVec S16x128 1) (v37 : FVec F S16x128 .f32) (v38 : FVec F S16x128 .f32) :
    P ⊢ wp frame (wpE (defs₀ (F := F)) 𝒱 (c : Thread nD τ) bd) E (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v0 v15 v24 v26 v30 v32 v35 v37 v38) fun _ => P := by
  rw [k0_part44_eq_skeleton]
  unfold k0_part44_skel
  repeat first | (with_reducible apply step_bind) | (with_reducible apply step_dite) | with_reducible intro _ | (with_reducible apply step_ret) | (with_reducible apply step_lift) | exact step_load _ _ _ _ | exact step_store _ _ _ _ | exact step_smemLoad _ _ _ _

theorem trip1_runs (arg0 : BitVec 32) (v0 : BitVec 32) (v1 : IVec S128x128 32) (v2 : IVec S128x128 32) (v3 : IVec S128x128 1) (v4 : IVec S128x128 1) (v69 : FVec F S128x128 .f32) (v70 : BitVec 1) (cst_30 : F .f32) (k : Fin k0_t1_loop.trips) (acc : Unit) :
    P ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 v0 v1 v2 v3 v4 v69 v70 cst_30 k acc) fun _ => P := by
  unfold k0_t1_body
  repeat first | (with_reducible apply step_bind) | (with_reducible apply step_dite) | with_reducible intro _ | (with_reducible apply part42_runs) | (with_reducible apply step_ret) | (with_reducible apply step_lift) | exact step_load _ _ _ _ | exact step_store _ _ _ _ | exact step_smemLoad _ _ _ _

theorem part45_runs (arg0 : BitVec 32) (v0 : BitVec 32) (v1 : IVec S128x128 32) (v2 : IVec S128x128 32) (v3 : IVec S128x128 1) (v4 : IVec S128x128 1) (v69 : FVec F S128x128 .f32) (v70 : BitVec 1) (cst_30 : F .f32) :
    P ⊢ wp frame (wpE (defs₀ (F := F)) 𝒱 (c : Thread nD τ) bd) E (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg0 v0 v1 v2 v3 v4 v69 v70 cst_30) fun _ => P := by
  rw [k0_part45_eq_skeleton]
  unfold k0_part45_skel
  repeat first | (with_reducible apply step_bind) | (with_reducible apply step_dite) | with_reducible intro _ | (with_reducible apply step_for) | (with_reducible apply trip1_runs) | (with_reducible apply step_ret) | (with_reducible apply step_lift) | exact step_load _ _ _ _ | exact step_store _ _ _ _ | exact step_smemLoad _ _ _ _

theorem part46_runs (v2 : IVec S128x128 32) (v3 : IVec S128x128 1) (v19 : FVec F S16x128 .f32) (v24 : FVec F S16x128 .f32) (v26 : FVec F S16x128 .f32) (v98 : FVec F S128x128 .f32) (v99 : FVec F S128x128 .f32) :
    P ⊢ wp frame (wpE (defs₀ (F := F)) 𝒱 (c : Thread nD τ) bd) E (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2 v3 v19 v24 v26 v98 v99) fun _ => P := by
  rw [k0_part46_eq_skeleton]
  unfold k0_part46_skel
  repeat first | (with_reducible apply step_bind) | (with_reducible apply step_dite) | with_reducible intro _ | (with_reducible apply step_ret) | (with_reducible apply step_lift) | exact step_load _ _ _ _ | exact step_store _ _ _ _ | exact step_smemLoad _ _ _ _

theorem trip2_runs (v132 : FVec F S128x128 .f32) (k : Fin k0_t2_loop.trips) (acc : Unit) :
    P ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v132 k acc) fun _ => P := by
  unfold k0_t2_body
  repeat first | (with_reducible apply step_bind) | (with_reducible apply step_dite) | with_reducible intro _ | (with_reducible apply step_ret) | (with_reducible apply step_lift) | exact step_load _ _ _ _ | exact step_store _ _ _ _ | exact step_smemLoad _ _ _ _

theorem body_runs  :
    P ⊢ wp frame (wpE (defs₀ (F := F)) 𝒱 (c : Thread nD τ) bd) E (cc0_gdn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 ) fun _ => P := by
  rw [cc0_gdn_eq_skeleton]
  unfold cc0_gdn_skel
  repeat first | (with_reducible apply step_bind) | (with_reducible apply step_dite) | with_reducible intro _ | (with_reducible apply part43_runs) | (with_reducible apply part44_runs) | (with_reducible apply part45_runs) | (with_reducible apply part46_runs) | (with_reducible apply step_for) | (with_reducible apply trip2_runs) | (with_reducible apply step_ret) | (with_reducible apply step_lift) | exact step_load _ _ _ _ | exact step_store _ _ _ _ | exact step_smemLoad _ _ _ _

end Cert.GdnIdeal.Run

end
-- ==== Proof.GdnIdealRun.lean ====
module

public import proofs.«01_k».proof.Proof.GdnIdealBody
public import proofs.«01_k».proof.Proof.Gen.GdnIdeal.Frame
public import Idealize.ShloMosaic.Lib.Pipeline.FrameBody
public import Idealize.ShloMosaic.Lib.Pipeline.Frame
public import Idealize.ShloMosaic.Lib.Tactic
public import Idealize.ShloMosaic.Lib.Claim

@[expose] public section

set_option maxRecDepth 16384

noncomputable section

/-! # The run of the gated delta rule's call

The input windows keep their blocks; what the output windows and the scratch hold is not named. -/

namespace Cert.GdnIdeal.Run

open Cert.GdnIdeal Cert.GdnIdeal.Gen Cert.Bodies
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data; an output window's contents are forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨_ + 21, h⟩ => absurd h (Nat.not_lt.2 (Nat.le_add_left _ _))
  Φ _ := Pipeline.ΦA spec0 c
  q w := Pipeline.shareOf spec0 w
  owed _ := 0

/-- The windows forgotten: the outputs. -/
abbrev fgt (w : Fin 21) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨_ + 21, h⟩ => absurd h (Nat.not_lt.2 (Nat.le_add_left _ _))

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body holds at point `t`, before it and after it. -/
abbrev held (c : Dev nD) (t : Fin cfg0.N) : sProp (MT nD τ sig Unit (Elt F) ℕ (UR sig nD τ) ℕ) :=
  iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f))
    ∗ (∃ r, prngReg c r) ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (iblk m c 9 t)
    ∗ owns (c : Thread nD τ) (win0_10.stage (cfg0.slots t 10)) fullShare (iblk m c 10 t)
    ∗ (∃ X, owns (c : Thread nD τ) (win0_11.stage (cfg0.slots t 11)) fullShare X)
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X)
    ∗ (∃ X, owns (c : Thread nD τ) (win0_16.stage (cfg0.slots t 16)) fullShare X)
    ∗ (∃ X, owns (c : Thread nD τ) (win0_17.stage (cfg0.slots t 17)) fullShare X)
    ∗ (∃ X, owns (c : Thread nD τ) (win0_18.stage (cfg0.slots t 18)) fullShare X)
    ∗ (∃ X, owns (c : Thread nD τ) (win0_19.stage (cfg0.slots t 19)) fullShare X)
    ∗ (∃ X, owns (c : Thread nD τ) (win0_20.stage (cfg0.slots t 20)) fullShare X))

instance stores_scratch0 (c : Dev nD) : Stores (sp := .vmem) (s := S4x136x128) (e := .f32) c (iprop((∃ f : Buf (Elt F) ((c : Thread nD τ).loc cc0_scratch0), ((c : Thread nD τ).loc cc0_scratch0) ↦{fullShare} f)) : sProp (MT nD τ sig Unit (Elt F) ℕ (UR sig nD τ) ℕ)) (Memref.whole cc0_scratch0) :=
  stores_whole c cc0_scratch0
instance stores_scratch1 (c : Dev nD) : Stores (sp := .vmem) (s := S4x136x128) (e := .f32) c (iprop((∃ f : Buf (Elt F) ((c : Thread nD τ).loc cc0_scratch1), ((c : Thread nD τ).loc cc0_scratch1) ↦{fullShare} f)) : sProp (MT nD τ sig Unit (Elt F) ℕ (UR sig nD τ) ℕ)) (Memref.whole cc0_scratch1) :=
  stores_whole c cc0_scratch1
instance stores_scratch2 (c : Dev nD) : Stores (sp := .vmem) (s := S8x8192) (e := .f32) c (iprop((∃ f : Buf (Elt F) ((c : Thread nD τ).loc cc0_scratch2), ((c : Thread nD τ).loc cc0_scratch2) ↦{fullShare} f)) : sProp (MT nD τ sig Unit (Elt F) ℕ (UR sig nD τ) ℕ)) (Memref.whole cc0_scratch2) :=
  stores_whole c cc0_scratch2
instance stores_scratch3 (c : Dev nD) : Stores (sp := .vmem) (s := S5x16x128) (e := .f32) c (iprop((∃ f : Buf (Elt F) ((c : Thread nD τ).loc cc0_scratch3), ((c : Thread nD τ).loc cc0_scratch3) ↦{fullShare} f)) : sProp (MT nD τ sig Unit (Elt F) ℕ (UR sig nD τ) ℕ)) (Memref.whole cc0_scratch3) :=
  stores_whole c cc0_scratch3
instance stores_scratch4 (c : Dev nD) : Stores (sp := .vmem) (s := S3x16x128) (e := .f32) c (iprop((∃ f : Buf (Elt F) ((c : Thread nD τ).loc cc0_scratch4), ((c : Thread nD τ).loc cc0_scratch4) ↦{fullShare} f)) : sProp (MT nD τ sig Unit (Elt F) ℕ (UR sig nD τ) ℕ)) (Memref.whole cc0_scratch4) :=
  stores_whole c cc0_scratch4
instance stores_scratch5 (c : Dev nD) : Stores (sp := .vmem) (s := S16x128) (e := .f32) c (iprop((∃ f : Buf (Elt F) ((c : Thread nD τ).loc cc0_scratch5), ((c : Thread nD τ).loc cc0_scratch5) ↦{fullShare} f)) : sProp (MT nD τ sig Unit (Elt F) ℕ (UR sig nD τ) ℕ)) (Memref.whole cc0_scratch5) :=
  stores_whole c cc0_scratch5
instance stores_scratch6 (c : Dev nD) : Stores (sp := .vmem) (s := S16x128) (e := .f32) c (iprop((∃ f : Buf (Elt F) ((c : Thread nD τ).loc cc0_scratch6), ((c : Thread nD τ).loc cc0_scratch6) ↦{fullShare} f)) : sProp (MT nD τ sig Unit (Elt F) ℕ (UR sig nD τ) ℕ)) (Memref.whole cc0_scratch6) :=
  stores_whole c cc0_scratch6
instance stores_scratch7 (c : Dev nD) : Stores (sp := .vmem) (s := S128x128) (e := .f32) c (iprop((∃ f : Buf (Elt F) ((c : Thread nD τ).loc cc0_scratch7), ((c : Thread nD τ).loc cc0_scratch7) ↦{fullShare} f)) : sProp (MT nD τ sig Unit (Elt F) ℕ (UR sig nD τ) ℕ)) (Memref.whole cc0_scratch7) :=
  stores_whole c cc0_scratch7
instance stores_scratch8 (c : Dev nD) : Stores (sp := .vmem) (s := S128x128) (e := .f32) c (iprop((∃ f : Buf (Elt F) ((c : Thread nD τ).loc cc0_scratch8), ((c : Thread nD τ).loc cc0_scratch8) ↦{fullShare} f)) : sProp (MT nD τ sig Unit (Elt F) ℕ (UR sig nD τ) ℕ)) (Memref.whole cc0_scratch8) :=
  stores_whole c cc0_scratch8
instance stores_scratch9 (c : Dev nD) : Stores (sp := .vmem) (s := S128x128) (e := .f32) c (iprop((∃ f : Buf (Elt F) ((c : Thread nD τ).loc cc0_scratch9), ((c : Thread nD τ).loc cc0_scratch9) ↦{fullShare} f)) : sProp (MT nD τ sig Unit (Elt F) ℕ (UR sig nD τ) ℕ)) (Memref.whole cc0_scratch9) :=
  stores_whole c cc0_scratch9

theorem sound_body (c : Dev nD) (t : Fin cfg0.N) :
    held m c t ⊢ wp frame (wpE (defs₀ (F := F)) Variants.none (c : Thread nD τ) none) Set.univ (bodyAt0 t) fun _ => held m c t :=
  body_runs

theorem defs₀_row (t : Fin cfg0.N) :
    defs₀ (F := F) .tc cfg0.body (cfg0.bodyArgs t (cfg0.slots t)) = bodyAt0 t := by
  unfold defs₀; rw [Defs.onTc_tc]

theorem held_in (c : Dev nD) (t : Fin cfg0.N) :
    iprop(Pipeline.ΦA spec0 c ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ X, owns (c : Thread nD τ) (win0_11.stage (cfg0.slots t 11)) fullShare X)
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X)
    ∗ (∃ X, owns (c : Thread nD τ) (win0_16.stage (cfg0.slots t 16)) fullShare X)
    ∗ (∃ X, owns (c : Thread nD τ) (win0_17.stage (cfg0.slots t 17)) fullShare X)
    ∗ (∃ X, owns (c : Thread nD τ) (win0_18.stage (cfg0.slots t 18)) fullShare X)
    ∗ (∃ X, owns (c : Thread nD τ) (win0_19.stage (cfg0.slots t 19)) fullShare X)
    ∗ (∃ X, owns (c : Thread nD τ) (win0_20.stage (cfg0.slots t 20)) fullShare X)) ⊢ held m c t := by
  unfold Pipeline.ΦA
  rw [scopedRest0_eq]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16, H17, H18, H19, H20⟩
  rw [before0_0 m c t d0, before0_1 m c t d1, before0_2 m c t d2, before0_3 m c t d3, before0_4 m c t d4, before0_5 m c t d5, before0_6 m c t d6, before0_7 m c t d7, before0_8 m c t d8, before0_9 m c t d9, before0_10 m c t d10]
  isplitl [Hs]; · iexact Hs
  isplitl [Hr]; · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem body_obligation (c : Dev nD) : BodyObligationLoose (dats (F := F) m 0 c) (defs₀ (F := F)) Variants.none () Set.univ fgt := fun t => by
  rw [bigSep_W0, bigSep_W0, defs₀_row]
  refine triple_restated (sound_body m c t) rfl (held_in m c t) fun _ => ?_
  iintro ⟨Hs, Hr, Ho, H0, H1, H2, H3, H4, H5, H6, H7, H8, H9, H10, H11, H12, H13, H14, H15, H16, H17, H18, H19, H20⟩
  isplitl [Hs Hr]
  · rw [show (dats m 0 c).Φ t.succ = Pipeline.ΦA spec0 c from rfl]
    unfold Pipeline.ΦA
    rw [scopedRest0_eq]
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

set_option backward.isDefEq.respectTransparency.types false in
/-- The launch: what the run leaves, and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := body_obligation m) (hq := fun _ _ _ => rfl) (howed := fun _ _ => rfl) (V := V m) (hmain := hmain m Variants.none)
    (hA := A_eq m) (hΦ := fun _ _ => rfl) (hQ' := fun _ h => h)

/-- The frame: every run ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((Pipeline.RDat.FramePost.arr_in h.1 c 2 rfl).trans (V_main_arg0 m c)),
      ((Pipeline.RDat.FramePost.arr_in h.1 c 4 rfl).trans (V_main_arg1 m c)),
      (((h.1 c).2 main_arg2 (Pipeline.mem_restRefs_of main_arg2 (by decide) (by decide))).trans (V_main_arg2 m c)),
      (((h.1 c).2 main_arg3 (Pipeline.mem_restRefs_of main_arg3 (by decide) (by decide))).trans (V_main_arg3 m c)),
      (((h.1 c).2 main_arg4 (Pipeline.mem_restRefs_of main_arg4 (by decide) (by decide))).trans (V_main_arg4 m c)),
      ((Pipeline.RDat.FramePost.arr_in h.1 c 7 rfl).trans (V_main_arg5 m c)),
      (((h.1 c).2 main_arg6 (Pipeline.mem_restRefs_of main_arg6 (by decide) (by decide))).trans (V_main_arg6 m c)),
      (((h.1 c).2 main_arg7 (Pipeline.mem_restRefs_of main_arg7 (by decide) (by decide))).trans (V_main_arg7 m c)),
      (((h.1 c).2 main_arg8 (Pipeline.mem_restRefs_of main_arg8 (by decide) (by decide))).trans (V_main_arg8 m c)),
      (((h.1 c).2 main_arg9 (Pipeline.mem_restRefs_of main_arg9 (by decide) (by decide))).trans (V_main_arg9 m c))⟩, h.2⟩) (run_main m ρ)

end Cert.GdnIdeal.Run

end
-- ==== Proof.lean ====
module

public import proofs.«01_k».proof.Defs
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import proofs.«01_k».proof.Proof.Gen.Dwout
public import proofs.«01_k».proof.Proof.Gen.Dwout.Skeleton
public import proofs.«01_k».proof.Proof.Gen.Dwout.Loops
public import proofs.«01_k».proof.Proof.Gen.Dwout.Launch
public import proofs.«01_k».proof.Proof.Gen.Dwout.Points
public import proofs.«01_k».proof.Proof.Gen.Dwout.Frame
public import proofs.«01_k».proof.Proof.Gen.DwoutIdeal
public import proofs.«01_k».proof.Proof.Gen.DwoutIdeal.Skeleton
public import proofs.«01_k».proof.Proof.Gen.DwoutIdeal.Loops
public import proofs.«01_k».proof.Proof.Gen.DwoutIdeal.Launch
public import proofs.«01_k».proof.Proof.Gen.DwoutIdeal.Points
public import proofs.«01_k».proof.Proof.Gen.DwoutIdeal.Frame
public import proofs.«01_k».proof.Proof.Gen.DwoutRefIdeal
public import proofs.«01_k».proof.Proof.Gen.DxIdeal.Value
public import proofs.«01_k».proof.Proof.Gen.DxRefIdeal.Value
public import proofs.«01_k».proof.Proof.Gen.DwoutRefIdeal.Value
public import proofs.«01_k».proof.Proof.Gen.DwoutRefIdeal.Skeleton
public import proofs.«01_k».proof.Proof.Gen.DwoutRefIdeal.Launch
public import proofs.«01_k».proof.Proof.Gen.DwoutRefIdeal.Points
public import proofs.«01_k».proof.Proof.Gen.DwoutRefIdeal.Frame
public import proofs.«01_k».proof.Proof.Gen.Dwqkv
public import proofs.«01_k».proof.Proof.Gen.Dwqkv.Skeleton
public import proofs.«01_k».proof.Proof.Gen.Dwqkv.Loops
public import proofs.«01_k».proof.Proof.Gen.Dwqkv.Launch
public import proofs.«01_k».proof.Proof.Gen.Dwqkv.Points
public import proofs.«01_k».proof.Proof.Gen.Dwqkv.Frame
public import proofs.«01_k».proof.Proof.Gen.DwqkvIdeal
public import proofs.«01_k».proof.Proof.Gen.DwqkvIdeal.Skeleton
public import proofs.«01_k».proof.Proof.Gen.DwqkvIdeal.Loops
public import proofs.«01_k».proof.Proof.Gen.DwqkvIdeal.Launch
public import proofs.«01_k».proof.Proof.Gen.DwqkvIdeal.Points
public import proofs.«01_k».proof.Proof.Gen.DwqkvIdeal.Frame
public import proofs.«01_k».proof.Proof.Gen.DwqkvRefIdeal
public import proofs.«01_k».proof.Proof.Gen.DwqkvRefIdeal.Skeleton
public import proofs.«01_k».proof.Proof.Gen.DwqkvRefIdeal.Launch
public import proofs.«01_k».proof.Proof.Gen.DwqkvRefIdeal.Points
public import proofs.«01_k».proof.Proof.Gen.DwqkvRefIdeal.Frame
public import proofs.«01_k».proof.Proof.Gen.DwqkvRefIdeal.Value
public import proofs.«01_k».proof.Proof.Gen.Dyn
public import proofs.«01_k».proof.Proof.Gen.Dyn.Skeleton
public import proofs.«01_k».proof.Proof.Gen.Dyn.Launch
public import proofs.«01_k».proof.Proof.Gen.Dyn.Points
public import proofs.«01_k».proof.Proof.Gen.Dyn.Frame
public import proofs.«01_k».proof.Proof.Gen.DynIdeal
public import proofs.«01_k».proof.Proof.Gen.DynIdeal.Skeleton
public import proofs.«01_k».proof.Proof.Gen.DynIdeal.Launch
public import proofs.«01_k».proof.Proof.Gen.DynIdeal.Points
public import proofs.«01_k».proof.Proof.Gen.DynIdeal.Frame
public import proofs.«01_k».proof.Proof.Gen.DynIdeal.Value
public import proofs.«01_k».proof.Proof.Gen.DynRefIdeal
public import proofs.«01_k».proof.Proof.Gen.DynRefIdeal.Skeleton
public import proofs.«01_k».proof.Proof.Gen.DynRefIdeal.Launch
public import proofs.«01_k».proof.Proof.Gen.DynRefIdeal.Points
public import proofs.«01_k».proof.Proof.Gen.DynRefIdeal.Frame
public import proofs.«01_k».proof.Proof.DxClaim
public import proofs.«01_k».proof.Proof.DwoutBits
public import proofs.«01_k».proof.Proof.DwoutClaim
public import proofs.«01_k».proof.Proof.DwqkvBits
public import proofs.«01_k».proof.Proof.DwqkvClaim
public import proofs.«01_k».proof.Proof.DynClaim
public import proofs.«01_k».proof.Proof.GdnRun
public import proofs.«01_k».proof.Proof.GdnIdealRun
public import proofs.«01_k».proof.Proof.Gen.Gdn
public import proofs.«01_k».proof.Proof.Gen.Gdn.Skeleton
public import proofs.«01_k».proof.Proof.Gen.Gdn.Loops
public import proofs.«01_k».proof.Proof.Gen.Gdn.Launch
public import proofs.«01_k».proof.Proof.Gen.Gdn.Points
public import proofs.«01_k».proof.Proof.Gen.Gdn.Frame
public import proofs.«01_k».proof.Proof.Gen.GdnIdeal
public import proofs.«01_k».proof.Proof.Gen.GdnIdeal.Skeleton
public import proofs.«01_k».proof.Proof.Gen.GdnIdeal.Loops
public import proofs.«01_k».proof.Proof.Gen.GdnIdeal.Launch
public import proofs.«01_k».proof.Proof.Gen.GdnIdeal.Points
public import proofs.«01_k».proof.Proof.Gen.GdnIdeal.Frame
public import Idealize.ShloMosaic.Adequacy
public import Idealize.ShloMosaic.Init

@[expose] public section

noncomputable section

namespace Cert.Proof

open Idealize.ShloMosaic Idealize.SL.Sem Cert.Dx

theorem claim : Cert.Claim :=
  ⟨Cert.Dx.Gen.facts, Cert.DxIdeal.Gen.facts, Cert.DxRefIdeal.Gen.facts,
   Cert.Dwout.Gen.facts, Cert.DwoutIdeal.Gen.facts, Cert.DwoutRefIdeal.Gen.facts,
   Cert.Dwqkv.Gen.facts, Cert.DwqkvIdeal.Gen.facts, Cert.DwqkvRefIdeal.Gen.facts,
   Cert.Dyn.Gen.facts, Cert.DynIdeal.Gen.facts, Cert.DynRefIdeal.Gen.facts,
   Cert.Gdn.Gen.facts, Cert.GdnIdeal.Gen.facts, Cert.DynClaim.facts,
   fun m g _ => Cert.Dx.Gen.frame m g, fun m g _ => Cert.DxIdeal.Gen.frame m g, fun m g _ => Cert.DxRefIdeal.Gen.frame m g,
   fun m g _ => Cert.Dwout.Run.frame m g, fun m g _ => Cert.DwoutIdeal.Run.frame m g, fun m g _ => Cert.DwoutRefIdeal.Gen.frame m g,
   fun m g _ => Cert.Dwqkv.Run.frame m g, fun m g _ => Cert.DwqkvIdeal.Run.frame m g, fun m g _ => Cert.DwqkvRefIdeal.Gen.frame m g,
   fun m g _ => Cert.Dyn.Gen.frame m g, fun m g _ => Cert.DynIdeal.Gen.frame m g, fun m g _ => Cert.DynIdeal.Gen.frame m g,
   fun m g _ => Cert.DynRefIdeal.Gen.frame m g, fun m g _ => Cert.DynRefIdeal.Gen.frame m g,
   fun m g _ => Cert.Gdn.Run.frame m g, fun m g _ => Cert.GdnIdeal.Run.frame m g,
   trivial, Cert.DxClaim.algebraic, trivial, Cert.DwoutClaim.algebraic, trivial, Cert.DwqkvClaim.algebraic,
   trivial, Cert.DynClaim.algebraic, trivial⟩

end Cert.Proof

end
